-- ==== Defs.lean ====
def Pre_Sim (m : (ℓ : Loc Cert.Sim.nD Cert.Sim.τ Cert.Sim.sig) → Buf (Elt Bits) ℓ) : Prop :=
  True

def Pre_Gather [hPre_named_rows : Cert.Pre_named_rows.Facts] (m : (ℓ : Loc Cert.Gather.nD Cert.Gather.τ Cert.Gather.sig) → Buf (Elt Bits) ℓ) : Prop :=
  ∀ c : Dev Cert.Gather.nD,
    (Cert.Pre_named_rows.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Sim [hSim : Cert.Sim.Facts] : Prop :=
  ∀ (m : (ℓ : Loc Cert.Sim.nD Cert.Sim.τ Cert.Sim.sig) → Buf (Elt Bits) ℓ) (g : Dev Cert.Sim.nD → PrngReg), Pre_Sim m →
    θ_run (Cert.Sim.defs (F := Bits)) (onTc (τ := Cert.Sim.τ) (Cert.Sim.main (F := Bits))) ⟨m, fun _ => 0, g⟩ (fun r => (∀ c : Dev Cert.Sim.nD,
      r.2.mem ((c.tc : Thread Cert.Sim.nD Cert.Sim.τ).loc Cert.Sim.main_arg0) = m ((c.tc : Thread Cert.Sim.nD Cert.Sim.τ).loc Cert.Sim.main_arg0)
      ∧ r.2.mem ((c.tc : Thread Cert.Sim.nD Cert.Sim.τ).loc Cert.Sim.main_arg1) = m ((c.tc : Thread Cert.Sim.nD Cert.Sim.τ).loc Cert.Sim.main_arg1))
      ∧ r.2.sem = fun _ => 0)

def quiescent_Gather [hGather : Cert.Gather.Facts] [hPre_named_rows : Cert.Pre_named_rows.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hSim : Cert.Sim.Facts) (hGather : Cert.Gather.Facts) (hKernelIdeal : Cert.KernelIdeal.Facts) (hReferenceIdeal : Cert.ReferenceIdeal.Facts) (hPre_named_rows : Cert.Pre_named_rows.Facts),
    quiescent_Sim (hSim := hSim)
    ∧ quiescent_Gather (hGather := hGather) (hPre_named_rows := hPre_named_rows)
    ∧ quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== Pre_named_rows.lean ====
abbrev S128 : Shape := ⟨1, ![128]⟩
abbrev S128x196x768 : Shape := ⟨3, ![128, 196, 768]⟩
abbrev S_ : Shape := ⟨0, ![]⟩

class Facts : Prop where
  bcast_S_S128 : S_.BroadcastsInDim S128 (![] : Fin 0 → Fin S128.rank)

variable [Facts]

def fn {F : FTy → Type} [FloatOps F] (main_arg0 : IVec S128 32) (main_arg1 : FVec F S128x196x768 .f32) : IVec S128 1 :=
  let main_c : IVec S_ 32 := constantI S_ 32 0#32
  let main_v0 : IVec S128 32 := broadcastInDim S128 ![] bcast_S_S128 main_c
  let main_v1 : IVec S128 1 := cmpi .sge main_arg0 main_v0
  let main_c_0 : IVec S_ 32 := constantI S_ 32 196#32
  let main_v2 : IVec S128 32 := broadcastInDim S128 ![] bcast_S_S128 main_c_0
  let main_v3 : IVec S128 1 := cmpi .slt main_arg0 main_v2
  let main_v4 : IVec S128 1 := andi main_v1 main_v3
  main_v4
-- ==== Sim.lean ====
abbrev S128x196x768 : Shape := ⟨3, ![128, 196, 768]⟩
abbrev S128x1x768 : Shape := ⟨3, ![128, 1, 768]⟩
abbrev S196x128x768 : Shape := ⟨3, ![196, 128, 768]⟩
abbrev S128x768 : Shape := ⟨2, ![128, 768]⟩
abbrev S1x1 : Shape := ⟨2, ![1, 1]⟩
abbrev S1x128 : Shape := ⟨2, ![1, 128]⟩
abbrev S24x128x768 : Shape := ⟨3, ![24, 128, 768]⟩
abbrev S128x128 : Shape := ⟨2, ![128, 128]⟩
abbrev S216x768 : Shape := ⟨2, ![216, 768]⟩
abbrev S24x768 : Shape := ⟨2, ![24, 768]⟩
abbrev S1x128x768 : Shape := ⟨3, ![1, 128, 768]⟩
abbrev S216x128 : Shape := ⟨2, ![216, 128]⟩
abbrev S128 : Shape := ⟨1, ![128]⟩
abbrev S1 : Shape := ⟨1, ![1]⟩
abbrev S_ : Shape := ⟨0, ![]⟩

abbrev nBuf : Space → Nat
  | .hbm => 8
  | .vmem => 8
  | .smem => 0
  | _ => 0

abbrev bufTy : (tb : Table) → Fin (tcTables nBuf tb) → BufTy
  | .hbm, ⟨0, _⟩ => ⟨S128x196x768, .f32⟩
  | .hbm, ⟨1, _⟩ => ⟨S128x1x768, .f32⟩
  | .hbm, ⟨2, _⟩ => ⟨S196x128x768, .f32⟩
  | .hbm, ⟨3, _⟩ => ⟨S128x768, .f32⟩
  | .hbm, ⟨4, _⟩ => ⟨S1x1, .f32⟩
  | .hbm, ⟨5, _⟩ => ⟨S1x128, .i32⟩
  | .hbm, ⟨6, _⟩ => ⟨S_, .f32⟩
  | .hbm, ⟨7, _⟩ => ⟨S128, .i32⟩
  | .local _ .vmem, ⟨0, _⟩ => ⟨S128x768, .f32⟩
  | .local _ .vmem, ⟨1, _⟩ => ⟨S24x128x768, .f32⟩
  | .local _ .vmem, ⟨2, _⟩ => ⟨S24x128x768, .f32⟩
  | .local _ .vmem, ⟨3, _⟩ => ⟨S1x1, .f32⟩
  | .local _ .vmem, ⟨4, _⟩ => ⟨S1x128, .i32⟩
  | .local _ .vmem, ⟨5, _⟩ => ⟨S128x128, .f32⟩
  | .local _ .vmem, ⟨6, _⟩ => ⟨S128x128, .f32⟩
  | .local _ .vmem, ⟨7, _⟩ => ⟨S216x768, .f32⟩
  | _, _ => ⟨S128x196x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![9], ![false]⟩

def k0_off1 (i : grid0.Coords) : Fin 2 → Nat :=
  let arg0 : BitVec 32 := BitVec.ofNat 32 (i 0).val
  let c24_i32 : BitVec 32 := 24#32
  let v8 : BitVec 32 := Scalar.muli arg0 c24_i32
  let v9 : Index := Scalar.indexCast v8
  let c0_5 : Index := 0#32
  ![v9.toNat, 0]
def k0_cond2 (i : grid0.Coords) : BitVec 1 :=
  let arg0 : BitVec 32 := BitVec.ofNat 32 (i 0).val
  let c8_i32_159 : BitVec 32 := 8#32
  let v285 : BitVec 1 := Scalar.cmpi .eq arg0 c8_i32_159
  let v286 : BitVec 32 := Scalar.extui v285
  let c0_i32_160 : BitVec 32 := 0#32
  let v287 : BitVec 1 := Scalar.cmpi .ne v286 c0_i32_160
  v287

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S24x128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Gather.lean ====
abbrev S128 : Shape := ⟨1, ![128]⟩
abbrev S128x196x768 : Shape := ⟨3, ![128, 196, 768]⟩
abbrev S196x128x768 : Shape := ⟨3, ![196, 128, 768]⟩
abbrev S128x1x768 : Shape := ⟨3, ![128, 1, 768]⟩
abbrev S_ : Shape := ⟨0, ![]⟩
abbrev S1 : Shape := ⟨1, ![1]⟩
abbrev S1x1x768 : Shape := ⟨3, ![1, 1, 768]⟩
abbrev S1x768 : Shape := ⟨2, ![1, 768]⟩

abbrev nBuf : Space → Nat
  | .hbm => 3
  | .vmem => 1
  | .smem => 1
  | _ => 0

abbrev bufTy : (tb : Table) → Fin (tcTables nBuf tb) → BufTy
  | .hbm, ⟨0, _⟩ => ⟨S128x196x768, .f32⟩
  | .hbm, ⟨1, _⟩ => ⟨S196x128x768, .f32⟩
  | .hbm, ⟨2, _⟩ => ⟨S128x1x768, .f32⟩
  | .local _ .vmem, ⟨0, _⟩ => ⟨S128x1x768, .f32⟩
  | .local _ .smem, ⟨0, _⟩ => ⟨S128, .i32⟩
  | _, _ => ⟨S128x196x768, .f32⟩

abbrev bufScoped : (cs : CoreSpace) → Fin (nBuf (.core cs)) → Bool
  | .vmem, ⟨0, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg1 : Ref sig .tc := ⟨.hbm, 0, rfl⟩
abbrev main_v0 : Ref sig .tc := ⟨.hbm, 1, rfl⟩
abbrev main_v1 : Ref sig .tc := ⟨.hbm, 2, rfl⟩
abbrev main_arg0 : Ref sig .tc := ⟨.smem, 0, rfl⟩
abbrev cc0_stg0_0 : Ref sig .tc := ⟨.vmem, 0, rfl⟩
abbrev cc0_sem0_0 : DmaSem sig := 0

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (v0 : BitVec 32) : Fin 3 → Nat :=
  let c0_i32 : BitVec 32 := 0#32
  let c0_i32_3 : BitVec 32 := 0#32
  ![v0.toNat, 0, 0]

def k0_off2 (v5 : BitVec 32) : Fin 3 → Nat :=
  let c1_i32 : BitVec 32 := 1#32
  let c0_i32_7 : BitVec 32 := 0#32
  ![v5.toNat, 1, 0]

def k0_off3 (v10 : BitVec 32) : Fin 3 → Nat :=
  let c2_i32 : BitVec 32 := 2#32
  let c0_i32_11 : BitVec 32 := 0#32
  ![v10.toNat, 2, 0]

def k0_off4 (v15 : BitVec 32) : Fin 3 → Nat :=
  let c3_i32 : BitVec 32 := 3#32
  let c0_i32_15 : BitVec 32 := 0#32
  ![v15.toNat, 3, 0]

def k0_off5 (v20 : BitVec 32) : Fin 3 → Nat :=
  let c4_i32 : BitVec 32 := 4#32
  let c0_i32_19 : BitVec 32 := 0#32
  ![v20.toNat, 4, 0]

def k0_off6 (v25 : BitVec 32) : Fin 3 → Nat :=
  let c5_i32 : BitVec 32 := 5#32
  let c0_i32_23 : BitVec 32 := 0#32
  ![v25.toNat, 5, 0]

def k0_off7 (v30 : BitVec 32) : Fin 3 → Nat :=
  let c6_i32 : BitVec 32 := 6#32
  let c0_i32_27 : BitVec 32 := 0#32
  ![v30.toNat, 6, 0]

def k0_off8 (v35 : BitVec 32) : Fin 3 → Nat :=
  let c7_i32 : BitVec 32 := 7#32
  let c0_i32_31 : BitVec 32 := 0#32
  ![v35.toNat, 7, 0]

def k0_off9 (v40 : BitVec 32) : Fin 3 → Nat :=
  let c8_i32 : BitVec 32 := 8#32
  let c0_i32_35 : BitVec 32 := 0#32
  ![v40.toNat, 8, 0]

def k0_off10 (v45 : BitVec 32) : Fin 3 → Nat :=
  let c9_i32 : BitVec 32 := 9#32
  let c0_i32_39 : BitVec 32 := 0#32
  ![v45.toNat, 9, 0]

def k0_off11 (v50 : BitVec 32) : Fin 3 → Nat :=
  let c10_i32 : BitVec 32 := 10#32
  let c0_i32_43 : BitVec 32 := 0#32
  ![v50.toNat, 10, 0]

def k0_off12 (v55 : BitVec 32) : Fin 3 → Nat :=
  let c11_i32 : BitVec 32 := 11#32
  let c0_i32_47 : BitVec 32 := 0#32
  ![v55.toNat, 11, 0]

def k0_off13 (v60 : BitVec 32) : Fin 3 → Nat :=
  let c12_i32 : BitVec 32 := 12#32
  let c0_i32_51 : BitVec 32 := 0#32
  ![v60.toNat, 12, 0]

def k0_off14 (v65 : BitVec 32) : Fin 3 → Nat :=
  let c13_i32 : BitVec 32 := 13#32
  let c0_i32_55 : BitVec 32 := 0#32
  ![v65.toNat, 13, 0]

def k0_off15 (v70 : BitVec 32) : Fin 3 → Nat :=
  let c14_i32 : BitVec 32 := 14#32
  let c0_i32_59 : BitVec 32 := 0#32
  ![v70.toNat, 14, 0]

def k0_off16 (v75 : BitVec 32) : Fin 3 → Nat :=
  let c15_i32 : BitVec 32 := 15#32
  let c0_i32_63 : BitVec 32 := 0#32
  ![v75.toNat, 15, 0]

def k0_off17 (v80 : BitVec 32) : Fin 3 → Nat :=
  let c16_i32 : BitVec 32 := 16#32
  let c0_i32_67 : BitVec 32 := 0#32
  ![v80.toNat, 16, 0]

def k0_off18 (v85 : BitVec 32) : Fin 3 → Nat :=
  let c17_i32 : BitVec 32 := 17#32
  let c0_i32_71 : BitVec 32 := 0#32
  ![v85.toNat, 17, 0]

def k0_off19 (v90 : BitVec 32) : Fin 3 → Nat :=
  let c18_i32 : BitVec 32 := 18#32
  let c0_i32_75 : BitVec 32 := 0#32
  ![v90.toNat, 18, 0]

def k0_off20 (v95 : BitVec 32) : Fin 3 → Nat :=
  let c19_i32 : BitVec 32 := 19#32
  let c0_i32_79 : BitVec 32 := 0#32
  ![v95.toNat, 19, 0]

def k0_off21 (v100 : BitVec 32) : Fin 3 → Nat :=
  let c20_i32 : BitVec 32 := 20#32
  let c0_i32_83 : BitVec 32 := 0#32
  ![v100.toNat, 20, 0]

def k0_off22 (v105 : BitVec 32) : Fin 3 → Nat :=
  let c21_i32 : BitVec 32 := 21#32
  let c0_i32_87 : BitVec 32 := 0#32
  ![v105.toNat, 21, 0]

def k0_off23 (v110 : BitVec 32) : Fin 3 → Nat :=
  let c22_i32 : BitVec 32 := 22#32
  let c0_i32_91 : BitVec 32 := 0#32
  ![v110.toNat, 22, 0]

def k0_off24 (v115 : BitVec 32) : Fin 3 → Nat :=
  let c23_i32 : BitVec 32 := 23#32
  let c0_i32_95 : BitVec 32 := 0#32
  ![v115.toNat, 23, 0]

def k0_off25 (v120 : BitVec 32) : Fin 3 → Nat :=
  let c24_i32 : BitVec 32 := 24#32
  let c0_i32_99 : BitVec 32 := 0#32
  ![v120.toNat, 24, 0]

def k0_off26 (v125 : BitVec 32) : Fin 3 → Nat :=
  let c25_i32 : BitVec 32 := 25#32
  let c0_i32_103 : BitVec 32 := 0#32
  ![v125.toNat, 25, 0]

def k0_off27 (v130 : BitVec 32) : Fin 3 → Nat :=
  let c26_i32 : BitVec 32 := 26#32
  let c0_i32_107 : BitVec 32 := 0#32
  ![v130.toNat, 26, 0]

def k0_off28 (v135 : BitVec 32) : Fin 3 → Nat :=
  let c27_i32 : BitVec 32 := 27#32
  let c0_i32_111 : BitVec 32 := 0#32
  ![v135.toNat, 27, 0]

def k0_off29 (v140 : BitVec 32) : Fin 3 → Nat :=
  let c28_i32 : BitVec 32 := 28#32
  let c0_i32_115 : BitVec 32 := 0#32
  ![v140.toNat, 28, 0]

def k0_off30 (v145 : BitVec 32) : Fin 3 → Nat :=
  let c29_i32 : BitVec 32 := 29#32
  let c0_i32_119 : BitVec 32 := 0#32
  ![v145.toNat, 29, 0]

def k0_off31 (v150 : BitVec 32) : Fin 3 → Nat :=
  let c30_i32 : BitVec 32 := 30#32
  let c0_i32_123 : BitVec 32 := 0#32
  ![v150.toNat, 30, 0]

def k0_off32 (v155 : BitVec 32) : Fin 3 → Nat :=
  let c31_i32 : BitVec 32 := 31#32
  let c0_i32_127 : BitVec 32 := 0#32
  ![v155.toNat, 31, 0]

def k0_off33 (v160 : BitVec 32) : Fin 3 → Nat :=
  let c32_i32 : BitVec 32 := 32#32
  let c0_i32_131 : BitVec 32 := 0#32
  ![v160.toNat, 32, 0]

def k0_off34 (v165 : BitVec 32) : Fin 3 → Nat :=
  let c33_i32 : BitVec 32 := 33#32
  let c0_i32_135 : BitVec 32 := 0#32
  ![v165.toNat, 33, 0]

def k0_off35 (v170 : BitVec 32) : Fin 3 → Nat :=
  let c34_i32 : BitVec 32 := 34#32
  let c0_i32_139 : BitVec 32 := 0#32
  ![v170.toNat, 34, 0]

def k0_off36 (v175 : BitVec 32) : Fin 3 → Nat :=
  let c35_i32 : BitVec 32 := 35#32
  let c0_i32_143 : BitVec 32 := 0#32
  ![v175.toNat, 35, 0]

def k0_off37 (v180 : BitVec 32) : Fin 3 → Nat :=
  let c36_i32 : BitVec 32 := 36#32
  let c0_i32_147 : BitVec 32 := 0#32
  ![v180.toNat, 36, 0]

def k0_off38 (v185 : BitVec 32) : Fin 3 → Nat :=
  let c37_i32 : BitVec 32 := 37#32
  let c0_i32_151 : BitVec 32 := 0#32
  ![v185.toNat, 37, 0]

def k0_off39 (v190 : BitVec 32) : Fin 3 → Nat :=
  let c38_i32 : BitVec 32 := 38#32
  let c0_i32_155 : BitVec 32 := 0#32
  ![v190.toNat, 38, 0]

def k0_off40 (v195 : BitVec 32) : Fin 3 → Nat :=
  let c39_i32 : BitVec 32 := 39#32
  let c0_i32_159 : BitVec 32 := 0#32
  ![v195.toNat, 39, 0]

def k0_off41 (v200 : BitVec 32) : Fin 3 → Nat :=
  let c40_i32 : BitVec 32 := 40#32
  let c0_i32_163 : BitVec 32 := 0#32
  ![v200.toNat, 40, 0]

def k0_off42 (v205 : BitVec 32) : Fin 3 → Nat :=
  let c41_i32 : BitVec 32 := 41#32
  let c0_i32_167 : BitVec 32 := 0#32
  ![v205.toNat, 41, 0]

def k0_off43 (v210 : BitVec 32) : Fin 3 → Nat :=
  let c42_i32 : BitVec 32 := 42#32
  let c0_i32_171 : BitVec 32 := 0#32
  ![v210.toNat, 42, 0]

def k0_off44 (v215 : BitVec 32) : Fin 3 → Nat :=
  let c43_i32 : BitVec 32 := 43#32
  let c0_i32_175 : BitVec 32 := 0#32
  ![v215.toNat, 43, 0]

def k0_off45 (v220 : BitVec 32) : Fin 3 → Nat :=
  let c44_i32 : BitVec 32 := 44#32
  let c0_i32_179 : BitVec 32 := 0#32
  ![v220.toNat, 44, 0]

def k0_off46 (v225 : BitVec 32) : Fin 3 → Nat :=
  let c45_i32 : BitVec 32 := 45#32
  let c0_i32_183 : BitVec 32 := 0#32
  ![v225.toNat, 45, 0]

def k0_off47 (v230 : BitVec 32) : Fin 3 → Nat :=
  let c46_i32 : BitVec 32 := 46#32
  let c0_i32_187 : BitVec 32 := 0#32
  ![v230.toNat, 46, 0]

def k0_off48 (v235 : BitVec 32) : Fin 3 → Nat :=
  let c47_i32 : BitVec 32 := 47#32
  let c0_i32_191 : BitVec 32 := 0#32
  ![v235.toNat, 47, 0]

def k0_off49 (v240 : BitVec 32) : Fin 3 → Nat :=
  let c48_i32 : BitVec 32 := 48#32
  let c0_i32_195 : BitVec 32 := 0#32
  ![v240.toNat, 48, 0]

def k0_off50 (v245 : BitVec 32) : Fin 3 → Nat :=
  let c49_i32 : BitVec 32 := 49#32
  let c0_i32_199 : BitVec 32 := 0#32
  ![v245.toNat, 49, 0]

def k0_off51 (v250 : BitVec 32) : Fin 3 → Nat :=
  let c50_i32 : BitVec 32 := 50#32
  let c0_i32_203 : BitVec 32 := 0#32
  ![v250.toNat, 50, 0]

def k0_off52 (v255 : BitVec 32) : Fin 3 → Nat :=
  let c51_i32 : BitVec 32 := 51#32
  let c0_i32_207 : BitVec 32 := 0#32
  ![v255.toNat, 51, 0]

def k0_off53 (v260 : BitVec 32) : Fin 3 → Nat :=
  let c52_i32 : BitVec 32 := 52#32
  let c0_i32_211 : BitVec 32 := 0#32
  ![v260.toNat, 52, 0]

def k0_off54 (v265 : BitVec 32) : Fin 3 → Nat :=
  let c53_i32 : BitVec 32 := 53#32
  let c0_i32_215 : BitVec 32 := 0#32
  ![v265.toNat, 53, 0]

def k0_off55 (v270 : BitVec 32) : Fin 3 → Nat :=
  let c54_i32 : BitVec 32 := 54#32
  let c0_i32_219 : BitVec 32 := 0#32
  ![v270.toNat, 54, 0]

def k0_off56 (v275 : BitVec 32) : Fin 3 → Nat :=
  let c55_i32 : BitVec 32 := 55#32
  let c0_i32_223 : BitVec 32 := 0#32
  ![v275.toNat, 55, 0]

def k0_off57 (v280 : BitVec 32) : Fin 3 → Nat :=
  let c56_i32 : BitVec 32 := 56#32
  let c0_i32_227 : BitVec 32 := 0#32
  ![v280.toNat, 56, 0]

def k0_off58 (v285 : BitVec 32) : Fin 3 → Nat :=
  let c57_i32 : BitVec 32 := 57#32
  let c0_i32_231 : BitVec 32 := 0#32
  ![v285.toNat, 57, 0]

def k0_off59 (v290 : BitVec 32) : Fin 3 → Nat :=
  let c58_i32 : BitVec 32 := 58#32
  let c0_i32_235 : BitVec 32 := 0#32
  ![v290.toNat, 58, 0]

def k0_off60 (v295 : BitVec 32) : Fin 3 → Nat :=
  let c59_i32 : BitVec 32 := 59#32
  let c0_i32_239 : BitVec 32 := 0#32
  ![v295.toNat, 59, 0]

def k0_off61 (v300 : BitVec 32) : Fin 3 → Nat :=
  let c60_i32 : BitVec 32 := 60#32
  let c0_i32_243 : BitVec 32 := 0#32
  ![v300.toNat, 60, 0]

def k0_off62 (v305 : BitVec 32) : Fin 3 → Nat :=
  let c61_i32 : BitVec 32 := 61#32
  let c0_i32_247 : BitVec 32 := 0#32
  ![v305.toNat, 61, 0]

def k0_off63 (v310 : BitVec 32) : Fin 3 → Nat :=
  let c62_i32 : BitVec 32 := 62#32
  let c0_i32_251 : BitVec 32 := 0#32
  ![v310.toNat, 62, 0]

def k0_off64 (v315 : BitVec 32) : Fin 3 → Nat :=
  let c63_i32 : BitVec 32 := 63#32
  let c0_i32_255 : BitVec 32 := 0#32
  ![v315.toNat, 63, 0]

def k0_off65 (v320 : BitVec 32) : Fin 3 → Nat :=
  let c64_i32 : BitVec 32 := 64#32
  let c0_i32_259 : BitVec 32 := 0#32
  ![v320.toNat, 64, 0]

def k0_off66 (v325 : BitVec 32) : Fin 3 → Nat :=
  let c65_i32 : BitVec 32 := 65#32
  let c0_i32_263 : BitVec 32 := 0#32
  ![v325.toNat, 65, 0]

def k0_off67 (v330 : BitVec 32) : Fin 3 → Nat :=
  let c66_i32 : BitVec 32 := 66#32
  let c0_i32_267 : BitVec 32 := 0#32
  ![v330.toNat, 66, 0]

def k0_off68 (v335 : BitVec 32) : Fin 3 → Nat :=
  let c67_i32 : BitVec 32 := 67#32
  let c0_i32_271 : BitVec 32 := 0#32
  ![v335.toNat, 67, 0]

def k0_off69 (v340 : BitVec 32) : Fin 3 → Nat :=
  let c68_i32 : BitVec 32 := 68#32
  let c0_i32_275 : BitVec 32 := 0#32
  ![v340.toNat, 68, 0]

def k0_off70 (v345 : BitVec 32) : Fin 3 → Nat :=
  let c69_i32 : BitVec 32 := 69#32
  let c0_i32_279 : BitVec 32 := 0#32
  ![v345.toNat, 69, 0]

def k0_off71 (v350 : BitVec 32) : Fin 3 → Nat :=
  let c70_i32 : BitVec 32 := 70#32
  let c0_i32_283 : BitVec 32 := 0#32
  ![v350.toNat, 70, 0]

def k0_off72 (v355 : BitVec 32) : Fin 3 → Nat :=
  let c71_i32 : BitVec 32 := 71#32
  let c0_i32_287 : BitVec 32 := 0#32
  ![v355.toNat, 71, 0]

def k0_off73 (v360 : BitVec 32) : Fin 3 → Nat :=
  let c72_i32 : BitVec 32 := 72#32
  let c0_i32_291 : BitVec 32 := 0#32
  ![v360.toNat, 72, 0]

def k0_off74 (v365 : BitVec 32) : Fin 3 → Nat :=
  let c73_i32 : BitVec 32 := 73#32
  let c0_i32_295 : BitVec 32 := 0#32
  ![v365.toNat, 73, 0]

def k0_off75 (v370 : BitVec 32) : Fin 3 → Nat :=
  let c74_i32 : BitVec 32 := 74#32
  let c0_i32_299 : BitVec 32 := 0#32
  ![v370.toNat, 74, 0]

def k0_off76 (v375 : BitVec 32) : Fin 3 → Nat :=
  let c75_i32 : BitVec 32 := 75#32
  let c0_i32_303 : BitVec 32 := 0#32
  ![v375.toNat, 75, 0]

def k0_off77 (v380 : BitVec 32) : Fin 3 → Nat :=
  let c76_i32 : BitVec 32 := 76#32
  let c0_i32_307 : BitVec 32 := 0#32
  ![v380.toNat, 76, 0]

def k0_off78 (v385 : BitVec 32) : Fin 3 → Nat :=
  let c77_i32 : BitVec 32 := 77#32
  let c0_i32_311 : BitVec 32 := 0#32
  ![v385.toNat, 77, 0]

def k0_off79 (v390 : BitVec 32) : Fin 3 → Nat :=
  let c78_i32 : BitVec 32 := 78#32
  let c0_i32_315 : BitVec 32 := 0#32
  ![v390.toNat, 78, 0]

def k0_off80 (v395 : BitVec 32) : Fin 3 → Nat :=
  let c79_i32 : BitVec 32 := 79#32
  let c0_i32_319 : BitVec 32 := 0#32
  ![v395.toNat, 79, 0]

def k0_off81 (v400 : BitVec 32) : Fin 3 → Nat :=
  let c80_i32 : BitVec 32 := 80#32
  let c0_i32_323 : BitVec 32 := 0#32
  ![v400.toNat, 80, 0]

def k0_off82 (v405 : BitVec 32) : Fin 3 → Nat :=
  let c81_i32 : BitVec 32 := 81#32
  let c0_i32_327 : BitVec 32 := 0#32
  ![v405.toNat, 81, 0]

def k0_off83 (v410 : BitVec 32) : Fin 3 → Nat :=
  let c82_i32 : BitVec 32 := 82#32
  let c0_i32_331 : BitVec 32 := 0#32
  ![v410.toNat, 82, 0]

def k0_off84 (v415 : BitVec 32) : Fin 3 → Nat :=
  let c83_i32 : BitVec 32 := 83#32
  let c0_i32_335 : BitVec 32 := 0#32
  ![v415.toNat, 83, 0]

def k0_off85 (v420 : BitVec 32) : Fin 3 → Nat :=
  let c84_i32 : BitVec 32 := 84#32
  let c0_i32_339 : BitVec 32 := 0#32
  ![v420.toNat, 84, 0]

def k0_off86 (v425 : BitVec 32) : Fin 3 → Nat :=
  let c85_i32 : BitVec 32 := 85#32
  let c0_i32_343 : BitVec 32 := 0#32
  ![v425.toNat, 85, 0]

def k0_off87 (v430 : BitVec 32) : Fin 3 → Nat :=
  let c86_i32 : BitVec 32 := 86#32
  let c0_i32_347 : BitVec 32 := 0#32
  ![v430.toNat, 86, 0]

def k0_off88 (v435 : BitVec 32) : Fin 3 → Nat :=
  let c87_i32 : BitVec 32 := 87#32
  let c0_i32_351 : BitVec 32 := 0#32
  ![v435.toNat, 87, 0]

def k0_off89 (v440 : BitVec 32) : Fin 3 → Nat :=
  let c88_i32 : BitVec 32 := 88#32
  let c0_i32_355 : BitVec 32 := 0#32
  ![v440.toNat, 88, 0]

def k0_off90 (v445 : BitVec 32) : Fin 3 → Nat :=
  let c89_i32 : BitVec 32 := 89#32
  let c0_i32_359 : BitVec 32 := 0#32
  ![v445.toNat, 89, 0]

def k0_off91 (v450 : BitVec 32) : Fin 3 → Nat :=
  let c90_i32 : BitVec 32 := 90#32
  let c0_i32_363 : BitVec 32 := 0#32
  ![v450.toNat, 90, 0]

def k0_off92 (v455 : BitVec 32) : Fin 3 → Nat :=
  let c91_i32 : BitVec 32 := 91#32
  let c0_i32_367 : BitVec 32 := 0#32
  ![v455.toNat, 91, 0]

def k0_off93 (v460 : BitVec 32) : Fin 3 → Nat :=
  let c92_i32 : BitVec 32 := 92#32
  let c0_i32_371 : BitVec 32 := 0#32
  ![v460.toNat, 92, 0]

def k0_off94 (v465 : BitVec 32) : Fin 3 → Nat :=
  let c93_i32 : BitVec 32 := 93#32
  let c0_i32_375 : BitVec 32 := 0#32
  ![v465.toNat, 93, 0]

def k0_off95 (v470 : BitVec 32) : Fin 3 → Nat :=
  let c94_i32 : BitVec 32 := 94#32
  let c0_i32_379 : BitVec 32 := 0#32
  ![v470.toNat, 94, 0]

def k0_off96 (v475 : BitVec 32) : Fin 3 → Nat :=
  let c95_i32 : BitVec 32 := 95#32
  let c0_i32_383 : BitVec 32 := 0#32
  ![v475.toNat, 95, 0]

def k0_off97 (v480 : BitVec 32) : Fin 3 → Nat :=
  let c96_i32 : BitVec 32 := 96#32
  let c0_i32_387 : BitVec 32 := 0#32
  ![v480.toNat, 96, 0]

def k0_off98 (v485 : BitVec 32) : Fin 3 → Nat :=
  let c97_i32 : BitVec 32 := 97#32
  let c0_i32_391 : BitVec 32 := 0#32
  ![v485.toNat, 97, 0]

def k0_off99 (v490 : BitVec 32) : Fin 3 → Nat :=
  let c98_i32 : BitVec 32 := 98#32
  let c0_i32_395 : BitVec 32 := 0#32
  ![v490.toNat, 98, 0]

def k0_off100 (v495 : BitVec 32) : Fin 3 → Nat :=
  let c99_i32 : BitVec 32 := 99#32
  let c0_i32_399 : BitVec 32 := 0#32
  ![v495.toNat, 99, 0]

def k0_off101 (v500 : BitVec 32) : Fin 3 → Nat :=
  let c100_i32 : BitVec 32 := 100#32
  let c0_i32_403 : BitVec 32 := 0#32
  ![v500.toNat, 100, 0]

def k0_off102 (v505 : BitVec 32) : Fin 3 → Nat :=
  let c101_i32 : BitVec 32 := 101#32
  let c0_i32_407 : BitVec 32 := 0#32
  ![v505.toNat, 101, 0]

def k0_off103 (v510 : BitVec 32) : Fin 3 → Nat :=
  let c102_i32 : BitVec 32 := 102#32
  let c0_i32_411 : BitVec 32 := 0#32
  ![v510.toNat, 102, 0]

def k0_off104 (v515 : BitVec 32) : Fin 3 → Nat :=
  let c103_i32 : BitVec 32 := 103#32
  let c0_i32_415 : BitVec 32 := 0#32
  ![v515.toNat, 103, 0]

def k0_off105 (v520 : BitVec 32) : Fin 3 → Nat :=
  let c104_i32 : BitVec 32 := 104#32
  let c0_i32_419 : BitVec 32 := 0#32
  ![v520.toNat, 104, 0]

def k0_off106 (v525 : BitVec 32) : Fin 3 → Nat :=
  let c105_i32 : BitVec 32 := 105#32
  let c0_i32_423 : BitVec 32 := 0#32
  ![v525.toNat, 105, 0]

def k0_off107 (v530 : BitVec 32) : Fin 3 → Nat :=
  let c106_i32 : BitVec 32 := 106#32
  let c0_i32_427 : BitVec 32 := 0#32
  ![v530.toNat, 106, 0]

def k0_off108 (v535 : BitVec 32) : Fin 3 → Nat :=
  let c107_i32 : BitVec 32 := 107#32
  let c0_i32_431 : BitVec 32 := 0#32
  ![v535.toNat, 107, 0]

def k0_off109 (v540 : BitVec 32) : Fin 3 → Nat :=
  let c108_i32 : BitVec 32 := 108#32
  let c0_i32_435 : BitVec 32 := 0#32
  ![v540.toNat, 108, 0]

def k0_off110 (v545 : BitVec 32) : Fin 3 → Nat :=
  let c109_i32 : BitVec 32 := 109#32
  let c0_i32_439 : BitVec 32 := 0#32
  ![v545.toNat, 109, 0]

def k0_off111 (v550 : BitVec 32) : Fin 3 → Nat :=
  let c110_i32 : BitVec 32 := 110#32
  let c0_i32_443 : BitVec 32 := 0#32
  ![v550.toNat, 110, 0]

def k0_off112 (v555 : BitVec 32) : Fin 3 → Nat :=
  let c111_i32 : BitVec 32 := 111#32
  let c0_i32_447 : BitVec 32 := 0#32
  ![v555.toNat, 111, 0]

def k0_off113 (v560 : BitVec 32) : Fin 3 → Nat :=
  let c112_i32 : BitVec 32 := 112#32
  let c0_i32_451 : BitVec 32 := 0#32
  ![v560.toNat, 112, 0]

def k0_off114 (v565 : BitVec 32) : Fin 3 → Nat :=
  let c113_i32 : BitVec 32 := 113#32
  let c0_i32_455 : BitVec 32 := 0#32
  ![v565.toNat, 113, 0]

def k0_off115 (v570 : BitVec 32) : Fin 3 → Nat :=
  let c114_i32 : BitVec 32 := 114#32
  let c0_i32_459 : BitVec 32 := 0#32
  ![v570.toNat, 114, 0]

def k0_off116 (v575 : BitVec 32) : Fin 3 → Nat :=
  let c115_i32 : BitVec 32 := 115#32
  let c0_i32_463 : BitVec 32 := 0#32
  ![v575.toNat, 115, 0]

def k0_off117 (v580 : BitVec 32) : Fin 3 → Nat :=
  let c116_i32 : BitVec 32 := 116#32
  let c0_i32_467 : BitVec 32 := 0#32
  ![v580.toNat, 116, 0]

def k0_off118 (v585 : BitVec 32) : Fin 3 → Nat :=
  let c117_i32 : BitVec 32 := 117#32
  let c0_i32_471 : BitVec 32 := 0#32
  ![v585.toNat, 117, 0]

def k0_off119 (v590 : BitVec 32) : Fin 3 → Nat :=
  let c118_i32 : BitVec 32 := 118#32
  let c0_i32_475 : BitVec 32 := 0#32
  ![v590.toNat, 118, 0]

def k0_off120 (v595 : BitVec 32) : Fin 3 → Nat :=
  let c119_i32 : BitVec 32 := 119#32
  let c0_i32_479 : BitVec 32 := 0#32
  ![v595.toNat, 119, 0]

def k0_off121 (v600 : BitVec 32) : Fin 3 → Nat :=
  let c120_i32 : BitVec 32 := 120#32
  let c0_i32_483 : BitVec 32 := 0#32
  ![v600.toNat, 120, 0]

def k0_off122 (v605 : BitVec 32) : Fin 3 → Nat :=
  let c121_i32 : BitVec 32 := 121#32
  let c0_i32_487 : BitVec 32 := 0#32
  ![v605.toNat, 121, 0]

def k0_off123 (v610 : BitVec 32) : Fin 3 → Nat :=
  let c122_i32 : BitVec 32 := 122#32
  let c0_i32_491 : BitVec 32 := 0#32
  ![v610.toNat, 122, 0]

def k0_off124 (v615 : BitVec 32) : Fin 3 → Nat :=
  let c123_i32 : BitVec 32 := 123#32
  let c0_i32_495 : BitVec 32 := 0#32
  ![v615.toNat, 123, 0]

def k0_off125 (v620 : BitVec 32) : Fin 3 → Nat :=
  let c124_i32 : BitVec 32 := 124#32
  let c0_i32_499 : BitVec 32 := 0#32
  ![v620.toNat, 124, 0]

def k0_off126 (v625 : BitVec 32) : Fin 3 → Nat :=
  let c125_i32 : BitVec 32 := 125#32
  let c0_i32_503 : BitVec 32 := 0#32
  ![v625.toNat, 125, 0]

def k0_off127 (v630 : BitVec 32) : Fin 3 → Nat :=
  let c126_i32 : BitVec 32 := 126#32
  let c0_i32_507 : BitVec 32 := 0#32
  ![v630.toNat, 126, 0]

def k0_off128 (v635 : BitVec 32) : Fin 3 → Nat :=
  let c127_i32 : BitVec 32 := 127#32
  let c0_i32_511 : BitVec 32 := 0#32
  ![v635.toNat, 127, 0]

def k0_chk128 (v635 : BitVec 32) : Prop :=
  (∀ a, (k0_off128 v635) a + S1x1x768.size a ≤ S196x128x768.size a)
theorem k0_off128_inb : ∀ (v635 : BitVec 32) (k0_hw128 : k0_chk128 v635), ∀ a, (k0_off128 v635) a + S1x1x768.size a ≤ S196x128x768.size a := fun v635 k0_hw128 => k0_hw128

def k0_off129 (v0 : BitVec 32) : Fin 3 → Nat :=
  let c0_i32_512 : BitVec 32 := 0#32
  let c0_i32_516 : BitVec 32 := 0#32
  ![v0.toNat, 0, 0]

def k0_chk1 (v0 : BitVec 32) : Prop :=
  (∀ a, (k0_off1 v0) a + S1x1x768.size a ≤ S196x128x768.size a) ∧
  (∀ a, (k0_off129 v0) a + S1x1x768.size a ≤ S196x128x768.size a)
theorem k0_off1_inb : ∀ (v0 : BitVec 32) (k0_hw1 : k0_chk1 v0), ∀ a, (k0_off1 v0) a + S1x1x768.size a ≤ S196x128x768.size a := fun v0 k0_hw1 => k0_hw1.1
theorem k0_off129_inb : ∀ (v0 : BitVec 32) (k0_hw1 : k0_chk1 v0), ∀ a, (k0_off129 v0) a + S1x1x768.size a ≤ S196x128x768.size a := fun v0 k0_hw1 => k0_hw1.2

def k0_off130 (v5 : BitVec 32) : Fin 3 → Nat :=
  let c1_i32_517 : BitVec 32 := 1#32
  let c0_i32_521 : BitVec 32 := 0#32
  ![v5.toNat, 1, 0]

def k0_chk2 (v5 : BitVec 32) : Prop :=
  (∀ a, (k0_off2 v5) a + S1x1x768.size a ≤ S196x128x768.size a) ∧
  (∀ a, (k0_off130 v5) a + S1x1x768.size a ≤ S196x128x768.size a)
theorem k0_off2_inb : ∀ (v5 : BitVec 32) (k0_hw2 : k0_chk2 v5), ∀ a, (k0_off2 v5) a + S1x1x768.size a ≤ S196x128x768.size a := fun v5 k0_hw2 => k0_hw2.1
theorem k0_off130_inb : ∀ (v5 : BitVec 32) (k0_hw2 : k0_chk2 v5), ∀ a, (k0_off130 v5) a + S1x1x768.size a ≤ S196x128x768.size a := fun v5 k0_hw2 => k0_hw2.2

def k0_off131 (v10 : BitVec 32) : Fin 3 → Nat :=
  let c2_i32_522 : BitVec 32 := 2#32
  let c0_i32_526 : BitVec 32 := 0#32
  ![v10.toNat, 2, 0]

def k0_chk3 (v10 : BitVec 32) : Prop :=
  (∀ a, (k0_off3 v10) a + S1x1x768.size a ≤ S196x128x768.size a) ∧
  (∀ a, (k0_off131 v10) a + S1x1x768.size a ≤ S196x128x768.size a)
theorem k0_off3_inb : ∀ (v10 : BitVec 32) (k0_hw3 : k0_chk3 v10), ∀ a, (k0_off3 v10) a + S1x1x768.size a ≤ S196x128x768.size a := fun v10 k0_hw3 => k0_hw3.1
theorem k0_off131_inb : ∀ (v10 : BitVec 32) (k0_hw3 : k0_chk3 v10), ∀ a, (k0_off131 v10) a + S1x1x768.size a ≤ S196x128x768.size a := fun v10 k0_hw3 => k0_hw3.2

def k0_off132 (v15 : BitVec 32) : Fin 3 → Nat :=
  let c3_i32_527 : BitVec 32 := 3#32
  let c0_i32_531 : BitVec 32 := 0#32
  ![v15.toNat, 3, 0]

def k0_chk4 (v15 : BitVec 32) : Prop :=
  (∀ a, (k0_off4 v15) a + S1x1x768.size a ≤ S196x128x768.size a) ∧
  (∀ a, (k0_off132 v15) a + S1x1x768.size a ≤ S196x128x768.size a)
theorem k0_off4_inb : ∀ (v15 : BitVec 32) (k0_hw4 : k0_chk4 v15), ∀ a, (k0_off4 v15) a + S1x1x768.size a ≤ S196x128x768.size a := fun v15 k0_hw4 => k0_hw4.1
theorem k0_off132_inb : ∀ (v15 : BitVec 32) (k0_hw4 : k0_chk4 v15), ∀ a, (k0_off132 v15) a + S1x1x768.size a ≤ S196x128x768.size a := fun v15 k0_hw4 => k0_hw4.2

def k0_off133 (v20 : BitVec 32) : Fin 3 → Nat :=
  let c4_i32_532 : BitVec 32 := 4#32
  let c0_i32_536 : BitVec 32 := 0#32
  ![v20.toNat, 4, 0]

def k0_chk5 (v20 : BitVec 32) : Prop :=
  (∀ a, (k0_off5 v20) a + S1x1x768.size a ≤ S196x128x768.size a) ∧
  (∀ a, (k0_off133 v20) a + S1x1x768.size a ≤ S196x128x768.size a)
theorem k0_off5_inb : ∀ (v20 : BitVec 32) (k0_hw5 : k0_chk5 v20), ∀ a, (k0_off5 v20) a + S1x1x768.size a ≤ S196x128x768.size a := fun v20 k0_hw5 => k0_hw5.1
theorem k0_off133_inb : ∀ (v20 : BitVec 32) (k0_hw5 : k0_chk5 v20), ∀ a, (k0_off133 v20) a + S1x1x768.size a ≤ S196x128x768.size a := fun v20 k0_hw5 => k0_hw5.2

def k0_off134 (v25 : BitVec 32) : Fin 3 → Nat :=
  let c5_i32_537 : BitVec 32 := 5#32
  let c0_i32_541 : BitVec 32 := 0#32
  ![v25.toNat, 5, 0]

def k0_chk6 (v25 : BitVec 32) : Prop :=
  (∀ a, (k0_off6 v25) a + S1x1x768.size a ≤ S196x128x768.size a) ∧
  (∀ a, (k0_off134 v25) a + S1x1x768.size a ≤ S196x128x768.size a)
theorem k0_off6_inb : ∀ (v25 : BitVec 32) (k0_hw6 : k0_chk6 v25), ∀ a, (k0_off6 v25) a + S1x1x768.size a ≤ S196x128x768.size a := fun v25 k0_hw6 => k0_hw6.1
theorem k0_off134_inb : ∀ (v25 : BitVec 32) (k0_hw6 : k0_chk6 v25), ∀ a, (k0_off134 v25) a + S1x1x768.size a ≤ S196x128x768.size a := fun v25 k0_hw6 => k0_hw6.2

def k0_off135 (v30 : BitVec 32) : Fin 3 → Nat :=
  let c6_i32_542 : BitVec 32 := 6#32
  let c0_i32_546 : BitVec 32 := 0#32
  ![v30.toNat, 6, 0]

def k0_chk7 (v30 : BitVec 32) : Prop :=
  (∀ a, (k0_off7 v30) a + S1x1x768.size a ≤ S196x128x768.size a) ∧
  (∀ a, (k0_off135 v30) a + S1x1x768.size a ≤ S196x128x768.size a)
theorem k0_off7_inb : ∀ (v30 : BitVec 32) (k0_hw7 : k0_chk7 v30), ∀ a, (k0_off7 v30) a + S1x1x768.size a ≤ S196x128x768.size a := fun v30 k0_hw7 => k0_hw7.1
theorem k0_off135_inb : ∀ (v30 : BitVec 32) (k0_hw7 : k0_chk7 v30), ∀ a, (k0_off135 v30) a + S1x1x768.size a ≤ S196x128x768.size a := fun v30 k0_hw7 => k0_hw7.2

def k0_off136 (v35 : BitVec 32) : Fin 3 → Nat :=
  let c7_i32_547 : BitVec 32 := 7#32
  let c0_i32_551 : BitVec 32 := 0#32
  ![v35.toNat, 7, 0]

def k0_chk8 (v35 : BitVec 32) : Prop :=
  (∀ a, (k0_off8 v35) a + S1x1x768.size a ≤ S196x128x768.size a) ∧
  (∀ a, (k0_off136 v35) a + S1x1x768.size a ≤ S196x128x768.size a)
theorem k0_off8_inb : ∀ (v35 : BitVec 32) (k0_hw8 : k0_chk8 v35), ∀ a, (k0_off8 v35) a + S1x1x768.size a ≤ S196x128x768.size a := fun v35 k0_hw8 => k0_hw8.1
theorem k0_off136_inb : ∀ (v35 : BitVec 32) (k0_hw8 : k0_chk8 v35), ∀ a, (k0_off136 v35) a + S1x1x768.size a ≤ S196x128x768.size a := fun v35 k0_hw8 => k0_hw8.2

def k0_off137 (v40 : BitVec 32) : Fin 3 → Nat :=
  let c8_i32_552 : BitVec 32 := 8#32
  let c0_i32_556 : BitVec 32 := 0#32
  ![v40.toNat, 8, 0]

def k0_chk9 (v40 : BitVec 32) : Prop :=
  (∀ a, (k0_off9 v40) a + S1x1x768.size a ≤ S196x128x768.size a) ∧
  (∀ a, (k0_off137 v40) a + S1x1x768.size a ≤ S196x128x768.size a)
theorem k0_off9_inb : ∀ (v40 : BitVec 32) (k0_hw9 : k0_chk9 v40), ∀ a, (k0_off9 v40) a + S1x1x768.size a ≤ S196x128x768.size a := fun v40 k0_hw9 => k0_hw9.1
theorem k0_off137_inb : ∀ (v40 : BitVec 32) (k0_hw9 : k0_chk9 v40), ∀ a, (k0_off137 v40) a + S1x1x768.size a ≤ S196x128x768.size a := fun v40 k0_hw9 => k0_hw9.2

def k0_off138 (v45 : BitVec 32) : Fin 3 → Nat :=
  let c9_i32_557 : BitVec 32 := 9#32
  let c0_i32_561 : BitVec 32 := 0#32
  ![v45.toNat, 9, 0]

def k0_chk10 (v45 : BitVec 32) : Prop :=
  (∀ a, (k0_off10 v45) a + S1x1x768.size a ≤ S196x128x768.size a) ∧
  (∀ a, (k0_off138 v45) a + S1x1x768.size a ≤ S196x128x768.size a)
theorem k0_off10_inb : ∀ (v45 : BitVec 32) (k0_hw10 : k0_chk10 v45), ∀ a, (k0_off10 v45) a + S1x1x768.size a ≤ S196x128x768.size a := fun v45 k0_hw10 => k0_hw10.1
theorem k0_off138_inb : ∀ (v45 : BitVec 32) (k0_hw10 : k0_chk10 v45), ∀ a, (k0_off138 v45) a + S1x1x768.size a ≤ S196x128x768.size a := fun v45 k0_hw10 => k0_hw10.2

def k0_off139 (v50 : BitVec 32) : Fin 3 → Nat :=
  let c10_i32_562 : BitVec 32 := 10#32
  let c0_i32_566 : BitVec 32 := 0#32
  ![v50.toNat, 10, 0]

def k0_chk11 (v50 : BitVec 32) : Prop :=
  (∀ a, (k0_off11 v50) a + S1x1x768.size a ≤ S196x128x768.size a) ∧
  (∀ a, (k0_off139 v50) a + S1x1x768.size a ≤ S196x128x768.size a)
theorem k0_off11_inb : ∀ (v50 : BitVec 32) (k0_hw11 : k0_chk11 v50), ∀ a, (k0_off11 v50) a + S1x1x768.size a ≤ S196x128x768.size a := fun v50 k0_hw11 => k0_hw11.1
theorem k0_off139_inb : ∀ (v50 : BitVec 32) (k0_hw11 : k0_chk11 v50), ∀ a, (k0_off139 v50) a + S1x1x768.size a ≤ S196x128x768.size a := fun v50 k0_hw11 => k0_hw11.2

def k0_off140 (v55 : BitVec 32) : Fin 3 → Nat :=
  let c11_i32_567 : BitVec 32 := 11#32
  let c0_i32_571 : BitVec 32 := 0#32
  ![v55.toNat, 11, 0]

def k0_chk12 (v55 : BitVec 32) : Prop :=
  (∀ a, (k0_off12 v55) a + S1x1x768.size a ≤ S196x128x768.size a) ∧
  (∀ a, (k0_off140 v55) a + S1x1x768.size a ≤ S196x128x768.size a)
theorem k0_off12_inb : ∀ (v55 : BitVec 32) (k0_hw12 : k0_chk12 v55), ∀ a, (k0_off12 v55) a + S1x1x768.size a ≤ S196x128x768.size a := fun v55 k0_hw12 => k0_hw12.1
theorem k0_off140_inb : ∀ (v55 : BitVec 32) (k0_hw12 : k0_chk12 v55), ∀ a, (k0_off140 v55) a + S1x1x768.size a ≤ S196x128x768.size a := fun v55 k0_hw12 => k0_hw12.2

def k0_off141 (v60 : BitVec 32) : Fin 3 → Nat :=
  let c12_i32_572 : BitVec 32 := 12#32
  let c0_i32_576 : BitVec 32 := 0#32
  ![v60.toNat, 12, 0]

def k0_chk13 (v60 : BitVec 32) : Prop :=
  (∀ a, (k0_off13 v60) a + S1x1x768.size a ≤ S196x128x768.size a) ∧
  (∀ a, (k0_off141 v60) a + S1x1x768.size a ≤ S196x128x768.size a)
theorem k0_off13_inb : ∀ (v60 : BitVec 32) (k0_hw13 : k0_chk13 v60), ∀ a, (k0_off13 v60) a + S1x1x768.size a ≤ S196x128x768.size a := fun v60 k0_hw13 => k0_hw13.1
theorem k0_off141_inb : ∀ (v60 : BitVec 32) (k0_hw13 : k0_chk13 v60), ∀ a, (k0_off141 v60) a + S1x1x768.size a ≤ S196x128x768.size a := fun v60 k0_hw13 => k0_hw13.2

def k0_off142 (v65 : BitVec 32) : Fin 3 → Nat :=
  let c13_i32_577 : BitVec 32 := 13#32
  let c0_i32_581 : BitVec 32 := 0#32
  ![v65.toNat, 13, 0]

def k0_chk14 (v65 : BitVec 32) : Prop :=
  (∀ a, (k0_off14 v65) a + S1x1x768.size a ≤ S196x128x768.size a) ∧
  (∀ a, (k0_off142 v65) a + S1x1x768.size a ≤ S196x128x768.size a)
theorem k0_off14_inb : ∀ (v65 : BitVec 32) (k0_hw14 : k0_chk14 v65), ∀ a, (k0_off14 v65) a + S1x1x768.size a ≤ S196x128x768.size a := fun v65 k0_hw14 => k0_hw14.1
theorem k0_off142_inb : ∀ (v65 : BitVec 32) (k0_hw14 : k0_chk14 v65), ∀ a, (k0_off142 v65) a + S1x1x768.size a ≤ S196x128x768.size a := fun v65 k0_hw14 => k0_hw14.2

def k0_off143 (v70 : BitVec 32) : Fin 3 → Nat :=
  let c14_i32_582 : BitVec 32 := 14#32
  let c0_i32_586 : BitVec 32 := 0#32
  ![v70.toNat, 14, 0]

def k0_chk15 (v70 : BitVec 32) : Prop :=
  (∀ a, (k0_off15 v70) a + S1x1x768.size a ≤ S196x128x768.size a) ∧
  (∀ a, (k0_off143 v70) a + S1x1x768.size a ≤ S196x128x768.size a)
theorem k0_off15_inb : ∀ (v70 : BitVec 32) (k0_hw15 : k0_chk15 v70), ∀ a, (k0_off15 v70) a + S1x1x768.size a ≤ S196x128x768.size a := fun v70 k0_hw15 => k0_hw15.1
theorem k0_off143_inb : ∀ (v70 : BitVec 32) (k0_hw15 : k0_chk15 v70), ∀ a, (k0_off143 v70) a + S1x1x768.size a ≤ S196x128x768.size a := fun v70 k0_hw15 => k0_hw15.2

def k0_off144 (v75 : BitVec 32) : Fin 3 → Nat :=
  let c15_i32_587 : BitVec 32 := 15#32
  let c0_i32_591 : BitVec 32 := 0#32
  ![v75.toNat, 15, 0]

def k0_chk16 (v75 : BitVec 32) : Prop :=
  (∀ a, (k0_off16 v75) a + S1x1x768.size a ≤ S196x128x768.size a) ∧
  (∀ a, (k0_off144 v75) a + S1x1x768.size a ≤ S196x128x768.size a)
theorem k0_off16_inb : ∀ (v75 : BitVec 32) (k0_hw16 : k0_chk16 v75), ∀ a, (k0_off16 v75) a + S1x1x768.size a ≤ S196x128x768.size a := fun v75 k0_hw16 => k0_hw16.1
theorem k0_off144_inb : ∀ (v75 : BitVec 32) (k0_hw16 : k0_chk16 v75), ∀ a, (k0_off144 v75) a + S1x1x768.size a ≤ S196x128x768.size a := fun v75 k0_hw16 => k0_hw16.2

def k0_off145 (v80 : BitVec 32) : Fin 3 → Nat :=
  let c16_i32_592 : BitVec 32 := 16#32
  let c0_i32_596 : BitVec 32 := 0#32
  ![v80.toNat, 16, 0]

def k0_chk17 (v80 : BitVec 32) : Prop :=
  (∀ a, (k0_off17 v80) a + S1x1x768.size a ≤ S196x128x768.size a) ∧
  (∀ a, (k0_off145 v80) a + S1x1x768.size a ≤ S196x128x768.size a)
theorem k0_off17_inb : ∀ (v80 : BitVec 32) (k0_hw17 : k0_chk17 v80), ∀ a, (k0_off17 v80) a + S1x1x768.size a ≤ S196x128x768.size a := fun v80 k0_hw17 => k0_hw17.1
theorem k0_off145_inb : ∀ (v80 : BitVec 32) (k0_hw17 : k0_chk17 v80), ∀ a, (k0_off145 v80) a + S1x1x768.size a ≤ S196x128x768.size a := fun v80 k0_hw17 => k0_hw17.2

def k0_off146 (v85 : BitVec 32) : Fin 3 → Nat :=
  let c17_i32_597 : BitVec 32 := 17#32
  let c0_i32_601 : BitVec 32 := 0#32
  ![v85.toNat, 17, 0]

def k0_chk18 (v85 : BitVec 32) : Prop :=
  (∀ a, (k0_off18 v85) a + S1x1x768.size a ≤ S196x128x768.size a) ∧
  (∀ a, (k0_off146 v85) a + S1x1x768.size a ≤ S196x128x768.size a)
theorem k0_off18_inb : ∀ (v85 : BitVec 32) (k0_hw18 : k0_chk18 v85), ∀ a, (k0_off18 v85) a + S1x1x768.size a ≤ S196x128x768.size a := fun v85 k0_hw18 => k0_hw18.1
theorem k0_off146_inb : ∀ (v85 : BitVec 32) (k0_hw18 : k0_chk18 v85), ∀ a, (k0_off146 v85) a + S1x1x768.size a ≤ S196x128x768.size a := fun v85 k0_hw18 => k0_hw18.2

def k0_off147 (v90 : BitVec 32) : Fin 3 → Nat :=
  let c18_i32_602 : BitVec 32 := 18#32
  let c0_i32_606 : BitVec 32 := 0#32
  ![v90.toNat, 18, 0]

def k0_chk19 (v90 : BitVec 32) : Prop :=
  (∀ a, (k0_off19 v90) a + S1x1x768.size a ≤ S196x128x768.size a) ∧
  (∀ a, (k0_off147 v90) a + S1x1x768.size a ≤ S196x128x768.size a)
theorem k0_off19_inb : ∀ (v90 : BitVec 32) (k0_hw19 : k0_chk19 v90), ∀ a, (k0_off19 v90) a + S1x1x768.size a ≤ S196x128x768.size a := fun v90 k0_hw19 => k0_hw19.1
theorem k0_off147_inb : ∀ (v90 : BitVec 32) (k0_hw19 : k0_chk19 v90), ∀ a, (k0_off147 v90) a + S1x1x768.size a ≤ S196x128x768.size a := fun v90 k0_hw19 => k0_hw19.2

def k0_off148 (v95 : BitVec 32) : Fin 3 → Nat :=
  let c19_i32_607 : BitVec 32 := 19#32
  let c0_i32_611 : BitVec 32 := 0#32
  ![v95.toNat, 19, 0]

def k0_chk20 (v95 : BitVec 32) : Prop :=
  (∀ a, (k0_off20 v95) a + S1x1x768.size a ≤ S196x128x768.size a) ∧
  (∀ a, (k0_off148 v95) a + S1x1x768.size a ≤ S196x128x768.size a)
theorem k0_off20_inb : ∀ (v95 : BitVec 32) (k0_hw20 : k0_chk20 v95), ∀ a, (k0_off20 v95) a + S1x1x768.size a ≤ S196x128x768.size a := fun v95 k0_hw20 => k0_hw20.1
theorem k0_off148_inb : ∀ (v95 : BitVec 32) (k0_hw20 : k0_chk20 v95), ∀ a, (k0_off148 v95) a + S1x1x768.size a ≤ S196x128x768.size a := fun v95 k0_hw20 => k0_hw20.2

def k0_off149 (v100 : BitVec 32) : Fin 3 → Nat :=
  let c20_i32_612 : BitVec 32 := 20#32
  let c0_i32_616 : BitVec 32 := 0#32
  ![v100.toNat, 20, 0]

def k0_chk21 (v100 : BitVec 32) : Prop :=
  (∀ a, (k0_off21 v100) a + S1x1x768.size a ≤ S196x128x768.size a) ∧
  (∀ a, (k0_off149 v100) a + S1x1x768.size a ≤ S196x128x768.size a)
theorem k0_off21_inb : ∀ (v100 : BitVec 32) (k0_hw21 : k0_chk21 v100), ∀ a, (k0_off21 v100) a + S1x1x768.size a ≤ S196x128x768.size a := fun v100 k0_hw21 => k0_hw21.1
theorem k0_off149_inb : ∀ (v100 : BitVec 32) (k0_hw21 : k0_chk21 v100), ∀ a, (k0_off149 v100) a + S1x1x768.size a ≤ S196x128x768.size a := fun v100 k0_hw21 => k0_hw21.2

def k0_off150 (v105 : BitVec 32) : Fin 3 → Nat :=
  let c21_i32_617 : BitVec 32 := 21#32
  let c0_i32_621 : BitVec 32 := 0#32
  ![v105.toNat, 21, 0]

def k0_chk22 (v105 : BitVec 32) : Prop :=
  (∀ a, (k0_off22 v105) a + S1x1x768.size a ≤ S196x128x768.size a) ∧
  (∀ a, (k0_off150 v105) a + S1x1x768.size a ≤ S196x128x768.size a)
theorem k0_off22_inb : ∀ (v105 : BitVec 32) (k0_hw22 : k0_chk22 v105), ∀ a, (k0_off22 v105) a + S1x1x768.size a ≤ S196x128x768.size a := fun v105 k0_hw22 => k0_hw22.1
theorem k0_off150_inb : ∀ (v105 : BitVec 32) (k0_hw22 : k0_chk22 v105), ∀ a, (k0_off150 v105) a + S1x1x768.size a ≤ S196x128x768.size a := fun v105 k0_hw22 => k0_hw22.2

def k0_off151 (v110 : BitVec 32) : Fin 3 → Nat :=
  let c22_i32_622 : BitVec 32 := 22#32
  let c0_i32_626 : BitVec 32 := 0#32
  ![v110.toNat, 22, 0]

def k0_chk23 (v110 : BitVec 32) : Prop :=
  (∀ a, (k0_off23 v110) a + S1x1x768.size a ≤ S196x128x768.size a) ∧
  (∀ a, (k0_off151 v110) a + S1x1x768.size a ≤ S196x128x768.size a)
theorem k0_off23_inb : ∀ (v110 : BitVec 32) (k0_hw23 : k0_chk23 v110), ∀ a, (k0_off23 v110) a + S1x1x768.size a ≤ S196x128x768.size a := fun v110 k0_hw23 => k0_hw23.1
theorem k0_off151_inb : ∀ (v110 : BitVec 32) (k0_hw23 : k0_chk23 v110), ∀ a, (k0_off151 v110) a + S1x1x768.size a ≤ S196x128x768.size a := fun v110 k0_hw23 => k0_hw23.2

def k0_off152 (v115 : BitVec 32) : Fin 3 → Nat :=
  let c23_i32_627 : BitVec 32 := 23#32
  let c0_i32_631 : BitVec 32 := 0#32
  ![v115.toNat, 23, 0]

def k0_chk24 (v115 : BitVec 32) : Prop :=
  (∀ a, (k0_off24 v115) a + S1x1x768.size a ≤ S196x128x768.size a) ∧
  (∀ a, (k0_off152 v115) a + S1x1x768.size a ≤ S196x128x768.size a)
theorem k0_off24_inb : ∀ (v115 : BitVec 32) (k0_hw24 : k0_chk24 v115), ∀ a, (k0_off24 v115) a + S1x1x768.size a ≤ S196x128x768.size a := fun v115 k0_hw24 => k0_hw24.1
theorem k0_off152_inb : ∀ (v115 : BitVec 32) (k0_hw24 : k0_chk24 v115), ∀ a, (k0_off152 v115) a + S1x1x768.size a ≤ S196x128x768.size a := fun v115 k0_hw24 => k0_hw24.2

def k0_off153 (v120 : BitVec 32) : Fin 3 → Nat :=
  let c24_i32_632 : BitVec 32 := 24#32
  let c0_i32_636 : BitVec 32 := 0#32
  ![v120.toNat, 24, 0]

def k0_chk25 (v120 : BitVec 32) : Prop :=
  (∀ a, (k0_off25 v120) a + S1x1x768.size a ≤ S196x128x768.size a) ∧
  (∀ a, (k0_off153 v120) a + S1x1x768.size a ≤ S196x128x768.size a)
theorem k0_off25_inb : ∀ (v120 : BitVec 32) (k0_hw25 : k0_chk25 v120), ∀ a, (k0_off25 v120) a + S1x1x768.size a ≤ S196x128x768.size a := fun v120 k0_hw25 => k0_hw25.1
theorem k0_off153_inb : ∀ (v120 : BitVec 32) (k0_hw25 : k0_chk25 v120), ∀ a, (k0_off153 v120) a + S1x1x768.size a ≤ S196x128x768.size a := fun v120 k0_hw25 => k0_hw25.2

def k0_off154 (v125 : BitVec 32) : Fin 3 → Nat :=
  let c25_i32_637 : BitVec 32 := 25#32
  let c0_i32_641 : BitVec 32 := 0#32
  ![v125.toNat, 25, 0]

def k0_chk26 (v125 : BitVec 32) : Prop :=
  (∀ a, (k0_off26 v125) a + S1x1x768.size a ≤ S196x128x768.size a) ∧
  (∀ a, (k0_off154 v125) a + S1x1x768.size a ≤ S196x128x768.size a)
theorem k0_off26_inb : ∀ (v125 : BitVec 32) (k0_hw26 : k0_chk26 v125), ∀ a, (k0_off26 v125) a + S1x1x768.size a ≤ S196x128x768.size a := fun v125 k0_hw26 => k0_hw26.1
theorem k0_off154_inb : ∀ (v125 : BitVec 32) (k0_hw26 : k0_chk26 v125), ∀ a, (k0_off154 v125) a + S1x1x768.size a ≤ S196x128x768.size a := fun v125 k0_hw26 => k0_hw26.2

def k0_off155 (v130 : BitVec 32) : Fin 3 → Nat :=
  let c26_i32_642 : BitVec 32 := 26#32
  let c0_i32_646 : BitVec 32 := 0#32
  ![v130.toNat, 26, 0]

def k0_chk27 (v130 : BitVec 32) : Prop :=
  (∀ a, (k0_off27 v130) a + S1x1x768.size a ≤ S196x128x768.size a) ∧
  (∀ a, (k0_off155 v130) a + S1x1x768.size a ≤ S196x128x768.size a)
theorem k0_off27_inb : ∀ (v130 : BitVec 32) (k0_hw27 : k0_chk27 v130), ∀ a, (k0_off27 v130) a + S1x1x768.size a ≤ S196x128x768.size a := fun v130 k0_hw27 => k0_hw27.1
theorem k0_off155_inb : ∀ (v130 : BitVec 32) (k0_hw27 : k0_chk27 v130), ∀ a, (k0_off155 v130) a + S1x1x768.size a ≤ S196x128x768.size a := fun v130 k0_hw27 => k0_hw27.2

def k0_off156 (v135 : BitVec 32) : Fin 3 → Nat :=
  let c27_i32_647 : BitVec 32 := 27#32
  let c0_i32_651 : BitVec 32 := 0#32
  ![v135.toNat, 27, 0]

def k0_chk28 (v135 : BitVec 32) : Prop :=
  (∀ a, (k0_off28 v135) a + S1x1x768.size a ≤ S196x128x768.size a) ∧
  (∀ a, (k0_off156 v135) a + S1x1x768.size a ≤ S196x128x768.size a)
theorem k0_off28_inb : ∀ (v135 : BitVec 32) (k0_hw28 : k0_chk28 v135), ∀ a, (k0_off28 v135) a + S1x1x768.size a ≤ S196x128x768.size a := fun v135 k0_hw28 => k0_hw28.1
theorem k0_off156_inb : ∀ (v135 : BitVec 32) (k0_hw28 : k0_chk28 v135), ∀ a, (k0_off156 v135) a + S1x1x768.size a ≤ S196x128x768.size a := fun v135 k0_hw28 => k0_hw28.2

def k0_off157 (v140 : BitVec 32) : Fin 3 → Nat :=
  let c28_i32_652 : BitVec 32 := 28#32
  let c0_i32_656 : BitVec 32 := 0#32
  ![v140.toNat, 28, 0]

def k0_chk29 (v140 : BitVec 32) : Prop :=
  (∀ a, (k0_off29 v140) a + S1x1x768.size a ≤ S196x128x768.size a) ∧
  (∀ a, (k0_off157 v140) a + S1x1x768.size a ≤ S196x128x768.size a)
theorem k0_off29_inb : ∀ (v140 : BitVec 32) (k0_hw29 : k0_chk29 v140), ∀ a, (k0_off29 v140) a + S1x1x768.size a ≤ S196x128x768.size a := fun v140 k0_hw29 => k0_hw29.1
theorem k0_off157_inb : ∀ (v140 : BitVec 32) (k0_hw29 : k0_chk29 v140), ∀ a, (k0_off157 v140) a + S1x1x768.size a ≤ S196x128x768.size a := fun v140 k0_hw29 => k0_hw29.2

def k0_off158 (v145 : BitVec 32) : Fin 3 → Nat :=
  let c29_i32_657 : BitVec 32 := 29#32
  let c0_i32_661 : BitVec 32 := 0#32
  ![v145.toNat, 29, 0]

def k0_chk30 (v145 : BitVec 32) : Prop :=
  (∀ a, (k0_off30 v145) a + S1x1x768.size a ≤ S196x128x768.size a) ∧
  (∀ a, (k0_off158 v145) a + S1x1x768.size a ≤ S196x128x768.size a)
theorem k0_off30_inb : ∀ (v145 : BitVec 32) (k0_hw30 : k0_chk30 v145), ∀ a, (k0_off30 v145) a + S1x1x768.size a ≤ S196x128x768.size a := fun v145 k0_hw30 => k0_hw30.1
theorem k0_off158_inb : ∀ (v145 : BitVec 32) (k0_hw30 : k0_chk30 v145), ∀ a, (k0_off158 v145) a + S1x1x768.size a ≤ S196x128x768.size a := fun v145 k0_hw30 => k0_hw30.2

def k0_off159 (v150 : BitVec 32) : Fin 3 → Nat :=
  let c30_i32_662 : BitVec 32 := 30#32
  let c0_i32_666 : BitVec 32 := 0#32
  ![v150.toNat, 30, 0]

def k0_chk31 (v150 : BitVec 32) : Prop :=
  (∀ a, (k0_off31 v150) a + S1x1x768.size a ≤ S196x128x768.size a) ∧
  (∀ a, (k0_off159 v150) a + S1x1x768.size a ≤ S196x128x768.size a)
theorem k0_off31_inb : ∀ (v150 : BitVec 32) (k0_hw31 : k0_chk31 v150), ∀ a, (k0_off31 v150) a + S1x1x768.size a ≤ S196x128x768.size a := fun v150 k0_hw31 => k0_hw31.1
theorem k0_off159_inb : ∀ (v150 : BitVec 32) (k0_hw31 : k0_chk31 v150), ∀ a, (k0_off159 v150) a + S1x1x768.size a ≤ S196x128x768.size a := fun v150 k0_hw31 => k0_hw31.2

def k0_off160 (v155 : BitVec 32) : Fin 3 → Nat :=
  let c31_i32_667 : BitVec 32 := 31#32
  let c0_i32_671 : BitVec 32 := 0#32
  ![v155.toNat, 31, 0]

def k0_chk32 (v155 : BitVec 32) : Prop :=
  (∀ a, (k0_off32 v155) a + S1x1x768.size a ≤ S196x128x768.size a) ∧
  (∀ a, (k0_off160 v155) a + S1x1x768.size a ≤ S196x128x768.size a)
theorem k0_off32_inb : ∀ (v155 : BitVec 32) (k0_hw32 : k0_chk32 v155), ∀ a, (k0_off32 v155) a + S1x1x768.size a ≤ S196x128x768.size a := fun v155 k0_hw32 => k0_hw32.1
theorem k0_off160_inb : ∀ (v155 : BitVec 32) (k0_hw32 : k0_chk32 v155), ∀ a, (k0_off160 v155) a + S1x1x768.size a ≤ S196x128x768.size a := fun v155 k0_hw32 => k0_hw32.2

def k0_off161 (v160 : BitVec 32) : Fin 3 → Nat :=
  let c32_i32_672 : BitVec 32 := 32#32
  let c0_i32_676 : BitVec 32 := 0#32
  ![v160.toNat, 32, 0]

def k0_chk33 (v160 : BitVec 32) : Prop :=
  (∀ a, (k0_off33 v160) a + S1x1x768.size a ≤ S196x128x768.size a) ∧
  (∀ a, (k0_off161 v160) a + S1x1x768.size a ≤ S196x128x768.size a)
theorem k0_off33_inb : ∀ (v160 : BitVec 32) (k0_hw33 : k0_chk33 v160), ∀ a, (k0_off33 v160) a + S1x1x768.size a ≤ S196x128x768.size a := fun v160 k0_hw33 => k0_hw33.1
theorem k0_off161_inb : ∀ (v160 : BitVec 32) (k0_hw33 : k0_chk33 v160), ∀ a, (k0_off161 v160) a + S1x1x768.size a ≤ S196x128x768.size a := fun v160 k0_hw33 => k0_hw33.2

def k0_off162 (v165 : BitVec 32) : Fin 3 → Nat :=
  let c33_i32_677 : BitVec 32 := 33#32
  let c0_i32_681 : BitVec 32 := 0#32
  ![v165.toNat, 33, 0]

def k0_chk34 (v165 : BitVec 32) : Prop :=
  (∀ a, (k0_off34 v165) a + S1x1x768.size a ≤ S196x128x768.size a) ∧
  (∀ a, (k0_off162 v165) a + S1x1x768.size a ≤ S196x128x768.size a)
theorem k0_off34_inb : ∀ (v165 : BitVec 32) (k0_hw34 : k0_chk34 v165), ∀ a, (k0_off34 v165) a + S1x1x768.size a ≤ S196x128x768.size a := fun v165 k0_hw34 => k0_hw34.1
theorem k0_off162_inb : ∀ (v165 : BitVec 32) (k0_hw34 : k0_chk34 v165), ∀ a, (k0_off162 v165) a + S1x1x768.size a ≤ S196x128x768.size a := fun v165 k0_hw34 => k0_hw34.2

def k0_off163 (v170 : BitVec 32) : Fin 3 → Nat :=
  let c34_i32_682 : BitVec 32 := 34#32
  let c0_i32_686 : BitVec 32 := 0#32
  ![v170.toNat, 34, 0]

def k0_chk35 (v170 : BitVec 32) : Prop :=
  (∀ a, (k0_off35 v170) a + S1x1x768.size a ≤ S196x128x768.size a) ∧
  (∀ a, (k0_off163 v170) a + S1x1x768.size a ≤ S196x128x768.size a)
theorem k0_off35_inb : ∀ (v170 : BitVec 32) (k0_hw35 : k0_chk35 v170), ∀ a, (k0_off35 v170) a + S1x1x768.size a ≤ S196x128x768.size a := fun v170 k0_hw35 => k0_hw35.1
theorem k0_off163_inb : ∀ (v170 : BitVec 32) (k0_hw35 : k0_chk35 v170), ∀ a, (k0_off163 v170) a + S1x1x768.size a ≤ S196x128x768.size a := fun v170 k0_hw35 => k0_hw35.2

def k0_off164 (v175 : BitVec 32) : Fin 3 → Nat :=
  let c35_i32_687 : BitVec 32 := 35#32
  let c0_i32_691 : BitVec 32 := 0#32
  ![v175.toNat, 35, 0]

def k0_chk36 (v175 : BitVec 32) : Prop :=
  (∀ a, (k0_off36 v175) a + S1x1x768.size a ≤ S196x128x768.size a) ∧
  (∀ a, (k0_off164 v175) a + S1x1x768.size a ≤ S196x128x768.size a)
theorem k0_off36_inb : ∀ (v175 : BitVec 32) (k0_hw36 : k0_chk36 v175), ∀ a, (k0_off36 v175) a + S1x1x768.size a ≤ S196x128x768.size a := fun v175 k0_hw36 => k0_hw36.1
theorem k0_off164_inb : ∀ (v175 : BitVec 32) (k0_hw36 : k0_chk36 v175), ∀ a, (k0_off164 v175) a + S1x1x768.size a ≤ S196x128x768.size a := fun v175 k0_hw36 => k0_hw36.2

def k0_off165 (v180 : BitVec 32) : Fin 3 → Nat :=
  let c36_i32_692 : BitVec 32 := 36#32
  let c0_i32_696 : BitVec 32 := 0#32
  ![v180.toNat, 36, 0]

def k0_chk37 (v180 : BitVec 32) : Prop :=
  (∀ a, (k0_off37 v180) a + S1x1x768.size a ≤ S196x128x768.size a) ∧
  (∀ a, (k0_off165 v180) a + S1x1x768.size a ≤ S196x128x768.size a)
theorem k0_off37_inb : ∀ (v180 : BitVec 32) (k0_hw37 : k0_chk37 v180), ∀ a, (k0_off37 v180) a + S1x1x768.size a ≤ S196x128x768.size a := fun v180 k0_hw37 => k0_hw37.1
theorem k0_off165_inb : ∀ (v180 : BitVec 32) (k0_hw37 : k0_chk37 v180), ∀ a, (k0_off165 v180) a + S1x1x768.size a ≤ S196x128x768.size a := fun v180 k0_hw37 => k0_hw37.2

def k0_off166 (v185 : BitVec 32) : Fin 3 → Nat :=
  let c37_i32_697 : BitVec 32 := 37#32
  let c0_i32_701 : BitVec 32 := 0#32
  ![v185.toNat, 37, 0]

def k0_chk38 (v185 : BitVec 32) : Prop :=
  (∀ a, (k0_off38 v185) a + S1x1x768.size a ≤ S196x128x768.size a) ∧
  (∀ a, (k0_off166 v185) a + S1x1x768.size a ≤ S196x128x768.size a)
theorem k0_off38_inb : ∀ (v185 : BitVec 32) (k0_hw38 : k0_chk38 v185), ∀ a, (k0_off38 v185) a + S1x1x768.size a ≤ S196x128x768.size a := fun v185 k0_hw38 => k0_hw38.1
theorem k0_off166_inb : ∀ (v185 : BitVec 32) (k0_hw38 : k0_chk38 v185), ∀ a, (k0_off166 v185) a + S1x1x768.size a ≤ S196x128x768.size a := fun v185 k0_hw38 => k0_hw38.2

def k0_off167 (v190 : BitVec 32) : Fin 3 → Nat :=
  let c38_i32_702 : BitVec 32 := 38#32
  let c0_i32_706 : BitVec 32 := 0#32
  ![v190.toNat, 38, 0]

def k0_chk39 (v190 : BitVec 32) : Prop :=
  (∀ a, (k0_off39 v190) a + S1x1x768.size a ≤ S196x128x768.size a) ∧
  (∀ a, (k0_off167 v190) a + S1x1x768.size a ≤ S196x128x768.size a)
theorem k0_off39_inb : ∀ (v190 : BitVec 32) (k0_hw39 : k0_chk39 v190), ∀ a, (k0_off39 v190) a + S1x1x768.size a ≤ S196x128x768.size a := fun v190 k0_hw39 => k0_hw39.1
theorem k0_off167_inb : ∀ (v190 : BitVec 32) (k0_hw39 : k0_chk39 v190), ∀ a, (k0_off167 v190) a + S1x1x768.size a ≤ S196x128x768.size a := fun v190 k0_hw39 => k0_hw39.2

def k0_off168 (v195 : BitVec 32) : Fin 3 → Nat :=
  let c39_i32_707 : BitVec 32 := 39#32
  let c0_i32_711 : BitVec 32 := 0#32
  ![v195.toNat, 39, 0]

def k0_chk40 (v195 : BitVec 32) : Prop :=
  (∀ a, (k0_off40 v195) a + S1x1x768.size a ≤ S196x128x768.size a) ∧
  (∀ a, (k0_off168 v195) a + S1x1x768.size a ≤ S196x128x768.size a)
theorem k0_off40_inb : ∀ (v195 : BitVec 32) (k0_hw40 : k0_chk40 v195), ∀ a, (k0_off40 v195) a + S1x1x768.size a ≤ S196x128x768.size a := fun v195 k0_hw40 => k0_hw40.1
theorem k0_off168_inb : ∀ (v195 : BitVec 32) (k0_hw40 : k0_chk40 v195), ∀ a, (k0_off168 v195) a + S1x1x768.size a ≤ S196x128x768.size a := fun v195 k0_hw40 => k0_hw40.2

def k0_off169 (v200 : BitVec 32) : Fin 3 → Nat :=
  let c40_i32_712 : BitVec 32 := 40#32
  let c0_i32_716 : BitVec 32 := 0#32
  ![v200.toNat, 40, 0]

def k0_chk41 (v200 : BitVec 32) : Prop :=
  (∀ a, (k0_off41 v200) a + S1x1x768.size a ≤ S196x128x768.size a) ∧
  (∀ a, (k0_off169 v200) a + S1x1x768.size a ≤ S196x128x768.size a)
theorem k0_off41_inb : ∀ (v200 : BitVec 32) (k0_hw41 : k0_chk41 v200), ∀ a, (k0_off41 v200) a + S1x1x768.size a ≤ S196x128x768.size a := fun v200 k0_hw41 => k0_hw41.1
theorem k0_off169_inb : ∀ (v200 : BitVec 32) (k0_hw41 : k0_chk41 v200), ∀ a, (k0_off169 v200) a + S1x1x768.size a ≤ S196x128x768.size a := fun v200 k0_hw41 => k0_hw41.2

def k0_off170 (v205 : BitVec 32) : Fin 3 → Nat :=
  let c41_i32_717 : BitVec 32 := 41#32
  let c0_i32_721 : BitVec 32 := 0#32
  ![v205.toNat, 41, 0]

def k0_chk42 (v205 : BitVec 32) : Prop :=
  (∀ a, (k0_off42 v205) a + S1x1x768.size a ≤ S196x128x768.size a) ∧
  (∀ a, (k0_off170 v205) a + S1x1x768.size a ≤ S196x128x768.size a)
theorem k0_off42_inb : ∀ (v205 : BitVec 32) (k0_hw42 : k0_chk42 v205), ∀ a, (k0_off42 v205) a + S1x1x768.size a ≤ S196x128x768.size a := fun v205 k0_hw42 => k0_hw42.1
theorem k0_off170_inb : ∀ (v205 : BitVec 32) (k0_hw42 : k0_chk42 v205), ∀ a, (k0_off170 v205) a + S1x1x768.size a ≤ S196x128x768.size a := fun v205 k0_hw42 => k0_hw42.2

def k0_off171 (v210 : BitVec 32) : Fin 3 → Nat :=
  let c42_i32_722 : BitVec 32 := 42#32
  let c0_i32_726 : BitVec 32 := 0#32
  ![v210.toNat, 42, 0]

def k0_chk43 (v210 : BitVec 32) : Prop :=
  (∀ a, (k0_off43 v210) a + S1x1x768.size a ≤ S196x128x768.size a) ∧
  (∀ a, (k0_off171 v210) a + S1x1x768.size a ≤ S196x128x768.size a)
theorem k0_off43_inb : ∀ (v210 : BitVec 32) (k0_hw43 : k0_chk43 v210), ∀ a, (k0_off43 v210) a + S1x1x768.size a ≤ S196x128x768.size a := fun v210 k0_hw43 => k0_hw43.1
theorem k0_off171_inb : ∀ (v210 : BitVec 32) (k0_hw43 : k0_chk43 v210), ∀ a, (k0_off171 v210) a + S1x1x768.size a ≤ S196x128x768.size a := fun v210 k0_hw43 => k0_hw43.2

def k0_off172 (v215 : BitVec 32) : Fin 3 → Nat :=
  let c43_i32_727 : BitVec 32 := 43#32
  let c0_i32_731 : BitVec 32 := 0#32
  ![v215.toNat, 43, 0]

def k0_chk44 (v215 : BitVec 32) : Prop :=
  (∀ a, (k0_off44 v215) a + S1x1x768.size a ≤ S196x128x768.size a) ∧
  (∀ a, (k0_off172 v215) a + S1x1x768.size a ≤ S196x128x768.size a)
theorem k0_off44_inb : ∀ (v215 : BitVec 32) (k0_hw44 : k0_chk44 v215), ∀ a, (k0_off44 v215) a + S1x1x768.size a ≤ S196x128x768.size a := fun v215 k0_hw44 => k0_hw44.1
theorem k0_off172_inb : ∀ (v215 : BitVec 32) (k0_hw44 : k0_chk44 v215), ∀ a, (k0_off172 v215) a + S1x1x768.size a ≤ S196x128x768.size a := fun v215 k0_hw44 => k0_hw44.2

def k0_off173 (v220 : BitVec 32) : Fin 3 → Nat :=
  let c44_i32_732 : BitVec 32 := 44#32
  let c0_i32_736 : BitVec 32 := 0#32
  ![v220.toNat, 44, 0]

def k0_chk45 (v220 : BitVec 32) : Prop :=
  (∀ a, (k0_off45 v220) a + S1x1x768.size a ≤ S196x128x768.size a) ∧
  (∀ a, (k0_off173 v220) a + S1x1x768.size a ≤ S196x128x768.size a)
theorem k0_off45_inb : ∀ (v220 : BitVec 32) (k0_hw45 : k0_chk45 v220), ∀ a, (k0_off45 v220) a + S1x1x768.size a ≤ S196x128x768.size a := fun v220 k0_hw45 => k0_hw45.1
theorem k0_off173_inb : ∀ (v220 : BitVec 32) (k0_hw45 : k0_chk45 v220), ∀ a, (k0_off173 v220) a + S1x1x768.size a ≤ S196x128x768.size a := fun v220 k0_hw45 => k0_hw45.2

def k0_off174 (v225 : BitVec 32) : Fin 3 → Nat :=
  let c45_i32_737 : BitVec 32 := 45#32
  let c0_i32_741 : BitVec 32 := 0#32
  ![v225.toNat, 45, 0]

def k0_chk46 (v225 : BitVec 32) : Prop :=
  (∀ a, (k0_off46 v225) a + S1x1x768.size a ≤ S196x128x768.size a) ∧
  (∀ a, (k0_off174 v225) a + S1x1x768.size a ≤ S196x128x768.size a)
theorem k0_off46_inb : ∀ (v225 : BitVec 32) (k0_hw46 : k0_chk46 v225), ∀ a, (k0_off46 v225) a + S1x1x768.size a ≤ S196x128x768.size a := fun v225 k0_hw46 => k0_hw46.1
theorem k0_off174_inb : ∀ (v225 : BitVec 32) (k0_hw46 : k0_chk46 v225), ∀ a, (k0_off174 v225) a + S1x1x768.size a ≤ S196x128x768.size a := fun v225 k0_hw46 => k0_hw46.2

def k0_off175 (v230 : BitVec 32) : Fin 3 → Nat :=
  let c46_i32_742 : BitVec 32 := 46#32
  let c0_i32_746 : BitVec 32 := 0#32
  ![v230.toNat, 46, 0]

def k0_chk47 (v230 : BitVec 32) : Prop :=
  (∀ a, (k0_off47 v230) a + S1x1x768.size a ≤ S196x128x768.size a) ∧
  (∀ a, (k0_off175 v230) a + S1x1x768.size a ≤ S196x128x768.size a)
theorem k0_off47_inb : ∀ (v230 : BitVec 32) (k0_hw47 : k0_chk47 v230), ∀ a, (k0_off47 v230) a + S1x1x768.size a ≤ S196x128x768.size a := fun v230 k0_hw47 => k0_hw47.1
theorem k0_off175_inb : ∀ (v230 : BitVec 32) (k0_hw47 : k0_chk47 v230), ∀ a, (k0_off175 v230) a + S1x1x768.size a ≤ S196x128x768.size a := fun v230 k0_hw47 => k0_hw47.2

def k0_off176 (v235 : BitVec 32) : Fin 3 → Nat :=
  let c47_i32_747 : BitVec 32 := 47#32
  let c0_i32_751 : BitVec 32 := 0#32
  ![v235.toNat, 47, 0]

def k0_chk48 (v235 : BitVec 32) : Prop :=
  (∀ a, (k0_off48 v235) a + S1x1x768.size a ≤ S196x128x768.size a) ∧
  (∀ a, (k0_off176 v235) a + S1x1x768.size a ≤ S196x128x768.size a)
theorem k0_off48_inb : ∀ (v235 : BitVec 32) (k0_hw48 : k0_chk48 v235), ∀ a, (k0_off48 v235) a + S1x1x768.size a ≤ S196x128x768.size a := fun v235 k0_hw48 => k0_hw48.1
theorem k0_off176_inb : ∀ (v235 : BitVec 32) (k0_hw48 : k0_chk48 v235), ∀ a, (k0_off176 v235) a + S1x1x768.size a ≤ S196x128x768.size a := fun v235 k0_hw48 => k0_hw48.2

def k0_off177 (v240 : BitVec 32) : Fin 3 → Nat :=
  let c48_i32_752 : BitVec 32 := 48#32
  let c0_i32_756 : BitVec 32 := 0#32
  ![v240.toNat, 48, 0]

def k0_chk49 (v240 : BitVec 32) : Prop :=
  (∀ a, (k0_off49 v240) a + S1x1x768.size a ≤ S196x128x768.size a) ∧
  (∀ a, (k0_off177 v240) a + S1x1x768.size a ≤ S196x128x768.size a)
theorem k0_off49_inb : ∀ (v240 : BitVec 32) (k0_hw49 : k0_chk49 v240), ∀ a, (k0_off49 v240) a + S1x1x768.size a ≤ S196x128x768.size a := fun v240 k0_hw49 => k0_hw49.1
theorem k0_off177_inb : ∀ (v240 : BitVec 32) (k0_hw49 : k0_chk49 v240), ∀ a, (k0_off177 v240) a + S1x1x768.size a ≤ S196x128x768.size a := fun v240 k0_hw49 => k0_hw49.2

def k0_off178 (v245 : BitVec 32) : Fin 3 → Nat :=
  let c49_i32_757 : BitVec 32 := 49#32
  let c0_i32_761 : BitVec 32 := 0#32
  ![v245.toNat, 49, 0]

def k0_chk50 (v245 : BitVec 32) : Prop :=
  (∀ a, (k0_off50 v245) a + S1x1x768.size a ≤ S196x128x768.size a) ∧
  (∀ a, (k0_off178 v245) a + S1x1x768.size a ≤ S196x128x768.size a)
theorem k0_off50_inb : ∀ (v245 : BitVec 32) (k0_hw50 : k0_chk50 v245), ∀ a, (k0_off50 v245) a + S1x1x768.size a ≤ S196x128x768.size a := fun v245 k0_hw50 => k0_hw50.1
theorem k0_off178_inb : ∀ (v245 : BitVec 32) (k0_hw50 : k0_chk50 v245), ∀ a, (k0_off178 v245) a + S1x1x768.size a ≤ S196x128x768.size a := fun v245 k0_hw50 => k0_hw50.2

def k0_off179 (v250 : BitVec 32) : Fin 3 → Nat :=
  let c50_i32_762 : BitVec 32 := 50#32
  let c0_i32_766 : BitVec 32 := 0#32
  ![v250.toNat, 50, 0]

def k0_chk51 (v250 : BitVec 32) : Prop :=
  (∀ a, (k0_off51 v250) a + S1x1x768.size a ≤ S196x128x768.size a) ∧
  (∀ a, (k0_off179 v250) a + S1x1x768.size a ≤ S196x128x768.size a)
theorem k0_off51_inb : ∀ (v250 : BitVec 32) (k0_hw51 : k0_chk51 v250), ∀ a, (k0_off51 v250) a + S1x1x768.size a ≤ S196x128x768.size a := fun v250 k0_hw51 => k0_hw51.1
theorem k0_off179_inb : ∀ (v250 : BitVec 32) (k0_hw51 : k0_chk51 v250), ∀ a, (k0_off179 v250) a + S1x1x768.size a ≤ S196x128x768.size a := fun v250 k0_hw51 => k0_hw51.2

def k0_off180 (v255 : BitVec 32) : Fin 3 → Nat :=
  let c51_i32_767 : BitVec 32 := 51#32
  let c0_i32_771 : BitVec 32 := 0#32
  ![v255.toNat, 51, 0]

def k0_chk52 (v255 : BitVec 32) : Prop :=
  (∀ a, (k0_off52 v255) a + S1x1x768.size a ≤ S196x128x768.size a) ∧
  (∀ a, (k0_off180 v255) a + S1x1x768.size a ≤ S196x128x768.size a)
theorem k0_off52_inb : ∀ (v255 : BitVec 32) (k0_hw52 : k0_chk52 v255), ∀ a, (k0_off52 v255) a + S1x1x768.size a ≤ S196x128x768.size a := fun v255 k0_hw52 => k0_hw52.1
theorem k0_off180_inb : ∀ (v255 : BitVec 32) (k0_hw52 : k0_chk52 v255), ∀ a, (k0_off180 v255) a + S1x1x768.size a ≤ S196x128x768.size a := fun v255 k0_hw52 => k0_hw52.2

def k0_off181 (v260 : BitVec 32) : Fin 3 → Nat :=
  let c52_i32_772 : BitVec 32 := 52#32
  let c0_i32_776 : BitVec 32 := 0#32
  ![v260.toNat, 52, 0]

def k0_chk53 (v260 : BitVec 32) : Prop :=
  (∀ a, (k0_off53 v260) a + S1x1x768.size a ≤ S196x128x768.size a) ∧
  (∀ a, (k0_off181 v260) a + S1x1x768.size a ≤ S196x128x768.size a)
theorem k0_off53_inb : ∀ (v260 : BitVec 32) (k0_hw53 : k0_chk53 v260), ∀ a, (k0_off53 v260) a + S1x1x768.size a ≤ S196x128x768.size a := fun v260 k0_hw53 => k0_hw53.1
theorem k0_off181_inb : ∀ (v260 : BitVec 32) (k0_hw53 : k0_chk53 v260), ∀ a, (k0_off181 v260) a + S1x1x768.size a ≤ S196x128x768.size a := fun v260 k0_hw53 => k0_hw53.2

def k0_off182 (v265 : BitVec 32) : Fin 3 → Nat :=
  let c53_i32_777 : BitVec 32 := 53#32
  let c0_i32_781 : BitVec 32 := 0#32
  ![v265.toNat, 53, 0]

def k0_chk54 (v265 : BitVec 32) : Prop :=
  (∀ a, (k0_off54 v265) a + S1x1x768.size a ≤ S196x128x768.size a) ∧
  (∀ a, (k0_off182 v265) a + S1x1x768.size a ≤ S196x128x768.size a)
theorem k0_off54_inb : ∀ (v265 : BitVec 32) (k0_hw54 : k0_chk54 v265), ∀ a, (k0_off54 v265) a + S1x1x768.size a ≤ S196x128x768.size a := fun v265 k0_hw54 => k0_hw54.1
theorem k0_off182_inb : ∀ (v265 : BitVec 32) (k0_hw54 : k0_chk54 v265), ∀ a, (k0_off182 v265) a + S1x1x768.size a ≤ S196x128x768.size a := fun v265 k0_hw54 => k0_hw54.2

def k0_off183 (v270 : BitVec 32) : Fin 3 → Nat :=
  let c54_i32_782 : BitVec 32 := 54#32
  let c0_i32_786 : BitVec 32 := 0#32
  ![v270.toNat, 54, 0]

def k0_chk55 (v270 : BitVec 32) : Prop :=
  (∀ a, (k0_off55 v270) a + S1x1x768.size a ≤ S196x128x768.size a) ∧
  (∀ a, (k0_off183 v270) a + S1x1x768.size a ≤ S196x128x768.size a)
theorem k0_off55_inb : ∀ (v270 : BitVec 32) (k0_hw55 : k0_chk55 v270), ∀ a, (k0_off55 v270) a + S1x1x768.size a ≤ S196x128x768.size a := fun v270 k0_hw55 => k0_hw55.1
theorem k0_off183_inb : ∀ (v270 : BitVec 32) (k0_hw55 : k0_chk55 v270), ∀ a, (k0_off183 v270) a + S1x1x768.size a ≤ S196x128x768.size a := fun v270 k0_hw55 => k0_hw55.2

def k0_off184 (v275 : BitVec 32) : Fin 3 → Nat :=
  let c55_i32_787 : BitVec 32 := 55#32
  let c0_i32_791 : BitVec 32 := 0#32
  ![v275.toNat, 55, 0]

def k0_chk56 (v275 : BitVec 32) : Prop :=
  (∀ a, (k0_off56 v275) a + S1x1x768.size a ≤ S196x128x768.size a) ∧
  (∀ a, (k0_off184 v275) a + S1x1x768.size a ≤ S196x128x768.size a)
theorem k0_off56_inb : ∀ (v275 : BitVec 32) (k0_hw56 : k0_chk56 v275), ∀ a, (k0_off56 v275) a + S1x1x768.size a ≤ S196x128x768.size a := fun v275 k0_hw56 => k0_hw56.1
theorem k0_off184_inb : ∀ (v275 : BitVec 32) (k0_hw56 : k0_chk56 v275), ∀ a, (k0_off184 v275) a + S1x1x768.size a ≤ S196x128x768.size a := fun v275 k0_hw56 => k0_hw56.2

def k0_off185 (v280 : BitVec 32) : Fin 3 → Nat :=
  let c56_i32_792 : BitVec 32 := 56#32
  let c0_i32_796 : BitVec 32 := 0#32
  ![v280.toNat, 56, 0]

def k0_chk57 (v280 : BitVec 32) : Prop :=
  (∀ a, (k0_off57 v280) a + S1x1x768.size a ≤ S196x128x768.size a) ∧
  (∀ a, (k0_off185 v280) a + S1x1x768.size a ≤ S196x128x768.size a)
theorem k0_off57_inb : ∀ (v280 : BitVec 32) (k0_hw57 : k0_chk57 v280), ∀ a, (k0_off57 v280) a + S1x1x768.size a ≤ S196x128x768.size a := fun v280 k0_hw57 => k0_hw57.1
theorem k0_off185_inb : ∀ (v280 : BitVec 32) (k0_hw57 : k0_chk57 v280), ∀ a, (k0_off185 v280) a + S1x1x768.size a ≤ S196x128x768.size a := fun v280 k0_hw57 => k0_hw57.2

def k0_off186 (v285 : BitVec 32) : Fin 3 → Nat :=
  let c57_i32_797 : BitVec 32 := 57#32
  let c0_i32_801 : BitVec 32 := 0#32
  ![v285.toNat, 57, 0]

def k0_chk58 (v285 : BitVec 32) : Prop :=
  (∀ a, (k0_off58 v285) a + S1x1x768.size a ≤ S196x128x768.size a) ∧
  (∀ a, (k0_off186 v285) a + S1x1x768.size a ≤ S196x128x768.size a)
theorem k0_off58_inb : ∀ (v285 : BitVec 32) (k0_hw58 : k0_chk58 v285), ∀ a, (k0_off58 v285) a + S1x1x768.size a ≤ S196x128x768.size a := fun v285 k0_hw58 => k0_hw58.1
theorem k0_off186_inb : ∀ (v285 : BitVec 32) (k0_hw58 : k0_chk58 v285), ∀ a, (k0_off186 v285) a + S1x1x768.size a ≤ S196x128x768.size a := fun v285 k0_hw58 => k0_hw58.2

def k0_off187 (v290 : BitVec 32) : Fin 3 → Nat :=
  let c58_i32_802 : BitVec 32 := 58#32
  let c0_i32_806 : BitVec 32 := 0#32
  ![v290.toNat, 58, 0]

def k0_chk59 (v290 : BitVec 32) : Prop :=
  (∀ a, (k0_off59 v290) a + S1x1x768.size a ≤ S196x128x768.size a) ∧
  (∀ a, (k0_off187 v290) a + S1x1x768.size a ≤ S196x128x768.size a)
theorem k0_off59_inb : ∀ (v290 : BitVec 32) (k0_hw59 : k0_chk59 v290), ∀ a, (k0_off59 v290) a + S1x1x768.size a ≤ S196x128x768.size a := fun v290 k0_hw59 => k0_hw59.1
theorem k0_off187_inb : ∀ (v290 : BitVec 32) (k0_hw59 : k0_chk59 v290), ∀ a, (k0_off187 v290) a + S1x1x768.size a ≤ S196x128x768.size a := fun v290 k0_hw59 => k0_hw59.2

def k0_off188 (v295 : BitVec 32) : Fin 3 → Nat :=
  let c59_i32_807 : BitVec 32 := 59#32
  let c0_i32_811 : BitVec 32 := 0#32
  ![v295.toNat, 59, 0]

def k0_chk60 (v295 : BitVec 32) : Prop :=
  (∀ a, (k0_off60 v295) a + S1x1x768.size a ≤ S196x128x768.size a) ∧
  (∀ a, (k0_off188 v295) a + S1x1x768.size a ≤ S196x128x768.size a)
theorem k0_off60_inb : ∀ (v295 : BitVec 32) (k0_hw60 : k0_chk60 v295), ∀ a, (k0_off60 v295) a + S1x1x768.size a ≤ S196x128x768.size a := fun v295 k0_hw60 => k0_hw60.1
theorem k0_off188_inb : ∀ (v295 : BitVec 32) (k0_hw60 : k0_chk60 v295), ∀ a, (k0_off188 v295) a + S1x1x768.size a ≤ S196x128x768.size a := fun v295 k0_hw60 => k0_hw60.2

def k0_off189 (v300 : BitVec 32) : Fin 3 → Nat :=
  let c60_i32_812 : BitVec 32 := 60#32
  let c0_i32_816 : BitVec 32 := 0#32
  ![v300.toNat, 60, 0]

def k0_chk61 (v300 : BitVec 32) : Prop :=
  (∀ a, (k0_off61 v300) a + S1x1x768.size a ≤ S196x128x768.size a) ∧
  (∀ a, (k0_off189 v300) a + S1x1x768.size a ≤ S196x128x768.size a)
theorem k0_off61_inb : ∀ (v300 : BitVec 32) (k0_hw61 : k0_chk61 v300), ∀ a, (k0_off61 v300) a + S1x1x768.size a ≤ S196x128x768.size a := fun v300 k0_hw61 => k0_hw61.1
theorem k0_off189_inb : ∀ (v300 : BitVec 32) (k0_hw61 : k0_chk61 v300), ∀ a, (k0_off189 v300) a + S1x1x768.size a ≤ S196x128x768.size a := fun v300 k0_hw61 => k0_hw61.2

def k0_off190 (v305 : BitVec 32) : Fin 3 → Nat :=
  let c61_i32_817 : BitVec 32 := 61#32
  let c0_i32_821 : BitVec 32 := 0#32
  ![v305.toNat, 61, 0]

def k0_chk62 (v305 : BitVec 32) : Prop :=
  (∀ a, (k0_off62 v305) a + S1x1x768.size a ≤ S196x128x768.size a) ∧
  (∀ a, (k0_off190 v305) a + S1x1x768.size a ≤ S196x128x768.size a)
theorem k0_off62_inb : ∀ (v305 : BitVec 32) (k0_hw62 : k0_chk62 v305), ∀ a, (k0_off62 v305) a + S1x1x768.size a ≤ S196x128x768.size a := fun v305 k0_hw62 => k0_hw62.1
theorem k0_off190_inb : ∀ (v305 : BitVec 32) (k0_hw62 : k0_chk62 v305), ∀ a, (k0_off190 v305) a + S1x1x768.size a ≤ S196x128x768.size a := fun v305 k0_hw62 => k0_hw62.2

def k0_off191 (v310 : BitVec 32) : Fin 3 → Nat :=
  let c62_i32_822 : BitVec 32 := 62#32
  let c0_i32_826 : BitVec 32 := 0#32
  ![v310.toNat, 62, 0]

def k0_chk63 (v310 : BitVec 32) : Prop :=
  (∀ a, (k0_off63 v310) a + S1x1x768.size a ≤ S196x128x768.size a) ∧
  (∀ a, (k0_off191 v310) a + S1x1x768.size a ≤ S196x128x768.size a)
theorem k0_off63_inb : ∀ (v310 : BitVec 32) (k0_hw63 : k0_chk63 v310), ∀ a, (k0_off63 v310) a + S1x1x768.size a ≤ S196x128x768.size a := fun v310 k0_hw63 => k0_hw63.1
theorem k0_off191_inb : ∀ (v310 : BitVec 32) (k0_hw63 : k0_chk63 v310), ∀ a, (k0_off191 v310) a + S1x1x768.size a ≤ S196x128x768.size a := fun v310 k0_hw63 => k0_hw63.2

def k0_off192 (v315 : BitVec 32) : Fin 3 → Nat :=
  let c63_i32_827 : BitVec 32 := 63#32
  let c0_i32_831 : BitVec 32 := 0#32
  ![v315.toNat, 63, 0]

def k0_chk64 (v315 : BitVec 32) : Prop :=
  (∀ a, (k0_off64 v315) a + S1x1x768.size a ≤ S196x128x768.size a) ∧
  (∀ a, (k0_off192 v315) a + S1x1x768.size a ≤ S196x128x768.size a)
theorem k0_off64_inb : ∀ (v315 : BitVec 32) (k0_hw64 : k0_chk64 v315), ∀ a, (k0_off64 v315) a + S1x1x768.size a ≤ S196x128x768.size a := fun v315 k0_hw64 => k0_hw64.1
theorem k0_off192_inb : ∀ (v315 : BitVec 32) (k0_hw64 : k0_chk64 v315), ∀ a, (k0_off192 v315) a + S1x1x768.size a ≤ S196x128x768.size a := fun v315 k0_hw64 => k0_hw64.2

def k0_off193 (v320 : BitVec 32) : Fin 3 → Nat :=
  let c64_i32_832 : BitVec 32 := 64#32
  let c0_i32_836 : BitVec 32 := 0#32
  ![v320.toNat, 64, 0]

def k0_chk65 (v320 : BitVec 32) : Prop :=
  (∀ a, (k0_off65 v320) a + S1x1x768.size a ≤ S196x128x768.size a) ∧
  (∀ a, (k0_off193 v320) a + S1x1x768.size a ≤ S196x128x768.size a)
theorem k0_off65_inb : ∀ (v320 : BitVec 32) (k0_hw65 : k0_chk65 v320), ∀ a, (k0_off65 v320) a + S1x1x768.size a ≤ S196x128x768.size a := fun v320 k0_hw65 => k0_hw65.1
theorem k0_off193_inb : ∀ (v320 : BitVec 32) (k0_hw65 : k0_chk65 v320), ∀ a, (k0_off193 v320) a + S1x1x768.size a ≤ S196x128x768.size a := fun v320 k0_hw65 => k0_hw65.2

def k0_off194 (v325 : BitVec 32) : Fin 3 → Nat :=
  let c65_i32_837 : BitVec 32 := 65#32
  let c0_i32_841 : BitVec 32 := 0#32
  ![v325.toNat, 65, 0]

def k0_chk66 (v325 : BitVec 32) : Prop :=
  (∀ a, (k0_off66 v325) a + S1x1x768.size a ≤ S196x128x768.size a) ∧
  (∀ a, (k0_off194 v325) a + S1x1x768.size a ≤ S196x128x768.size a)
theorem k0_off66_inb : ∀ (v325 : BitVec 32) (k0_hw66 : k0_chk66 v325), ∀ a, (k0_off66 v325) a + S1x1x768.size a ≤ S196x128x768.size a := fun v325 k0_hw66 => k0_hw66.1
theorem k0_off194_inb : ∀ (v325 : BitVec 32) (k0_hw66 : k0_chk66 v325), ∀ a, (k0_off194 v325) a + S1x1x768.size a ≤ S196x128x768.size a := fun v325 k0_hw66 => k0_hw66.2

def k0_off195 (v330 : BitVec 32) : Fin 3 → Nat :=
  let c66_i32_842 : BitVec 32 := 66#32
  let c0_i32_846 : BitVec 32 := 0#32
  ![v330.toNat, 66, 0]

def k0_chk67 (v330 : BitVec 32) : Prop :=
  (∀ a, (k0_off67 v330) a + S1x1x768.size a ≤ S196x128x768.size a) ∧
  (∀ a, (k0_off195 v330) a + S1x1x768.size a ≤ S196x128x768.size a)
theorem k0_off67_inb : ∀ (v330 : BitVec 32) (k0_hw67 : k0_chk67 v330), ∀ a, (k0_off67 v330) a + S1x1x768.size a ≤ S196x128x768.size a := fun v330 k0_hw67 => k0_hw67.1
theorem k0_off195_inb : ∀ (v330 : BitVec 32) (k0_hw67 : k0_chk67 v330), ∀ a, (k0_off195 v330) a + S1x1x768.size a ≤ S196x128x768.size a := fun v330 k0_hw67 => k0_hw67.2

def k0_off196 (v335 : BitVec 32) : Fin 3 → Nat :=
  let c67_i32_847 : BitVec 32 := 67#32
  let c0_i32_851 : BitVec 32 := 0#32
  ![v335.toNat, 67, 0]

def k0_chk68 (v335 : BitVec 32) : Prop :=
  (∀ a, (k0_off68 v335) a + S1x1x768.size a ≤ S196x128x768.size a) ∧
  (∀ a, (k0_off196 v335) a + S1x1x768.size a ≤ S196x128x768.size a)
theorem k0_off68_inb : ∀ (v335 : BitVec 32) (k0_hw68 : k0_chk68 v335), ∀ a, (k0_off68 v335) a + S1x1x768.size a ≤ S196x128x768.size a := fun v335 k0_hw68 => k0_hw68.1
theorem k0_off196_inb : ∀ (v335 : BitVec 32) (k0_hw68 : k0_chk68 v335), ∀ a, (k0_off196 v335) a + S1x1x768.size a ≤ S196x128x768.size a := fun v335 k0_hw68 => k0_hw68.2

def k0_off197 (v340 : BitVec 32) : Fin 3 → Nat :=
  let c68_i32_852 : BitVec 32 := 68#32
  let c0_i32_856 : BitVec 32 := 0#32
  ![v340.toNat, 68, 0]

def k0_chk69 (v340 : BitVec 32) : Prop :=
  (∀ a, (k0_off69 v340) a + S1x1x768.size a ≤ S196x128x768.size a) ∧
  (∀ a, (k0_off197 v340) a + S1x1x768.size a ≤ S196x128x768.size a)
theorem k0_off69_inb : ∀ (v340 : BitVec 32) (k0_hw69 : k0_chk69 v340), ∀ a, (k0_off69 v340) a + S1x1x768.size a ≤ S196x128x768.size a := fun v340 k0_hw69 => k0_hw69.1
theorem k0_off197_inb : ∀ (v340 : BitVec 32) (k0_hw69 : k0_chk69 v340), ∀ a, (k0_off197 v340) a + S1x1x768.size a ≤ S196x128x768.size a := fun v340 k0_hw69 => k0_hw69.2

def k0_off198 (v345 : BitVec 32) : Fin 3 → Nat :=
  let c69_i32_857 : BitVec 32 := 69#32
  let c0_i32_861 : BitVec 32 := 0#32
  ![v345.toNat, 69, 0]

def k0_chk70 (v345 : BitVec 32) : Prop :=
  (∀ a, (k0_off70 v345) a + S1x1x768.size a ≤ S196x128x768.size a) ∧
  (∀ a, (k0_off198 v345) a + S1x1x768.size a ≤ S196x128x768.size a)
theorem k0_off70_inb : ∀ (v345 : BitVec 32) (k0_hw70 : k0_chk70 v345), ∀ a, (k0_off70 v345) a + S1x1x768.size a ≤ S196x128x768.size a := fun v345 k0_hw70 => k0_hw70.1
theorem k0_off198_inb : ∀ (v345 : BitVec 32) (k0_hw70 : k0_chk70 v345), ∀ a, (k0_off198 v345) a + S1x1x768.size a ≤ S196x128x768.size a := fun v345 k0_hw70 => k0_hw70.2

def k0_off199 (v350 : BitVec 32) : Fin 3 → Nat :=
  let c70_i32_862 : BitVec 32 := 70#32
  let c0_i32_866 : BitVec 32 := 0#32
  ![v350.toNat, 70, 0]

def k0_chk71 (v350 : BitVec 32) : Prop :=
  (∀ a, (k0_off71 v350) a + S1x1x768.size a ≤ S196x128x768.size a) ∧
  (∀ a, (k0_off199 v350) a + S1x1x768.size a ≤ S196x128x768.size a)
theorem k0_off71_inb : ∀ (v350 : BitVec 32) (k0_hw71 : k0_chk71 v350), ∀ a, (k0_off71 v350) a + S1x1x768.size a ≤ S196x128x768.size a := fun v350 k0_hw71 => k0_hw71.1
theorem k0_off199_inb : ∀ (v350 : BitVec 32) (k0_hw71 : k0_chk71 v350), ∀ a, (k0_off199 v350) a + S1x1x768.size a ≤ S196x128x768.size a := fun v350 k0_hw71 => k0_hw71.2

def k0_off200 (v355 : BitVec 32) : Fin 3 → Nat :=
  let c71_i32_867 : BitVec 32 := 71#32
  let c0_i32_871 : BitVec 32 := 0#32
  ![v355.toNat, 71, 0]

def k0_chk72 (v355 : BitVec 32) : Prop :=
  (∀ a, (k0_off72 v355) a + S1x1x768.size a ≤ S196x128x768.size a) ∧
  (∀ a, (k0_off200 v355) a + S1x1x768.size a ≤ S196x128x768.size a)
theorem k0_off72_inb : ∀ (v355 : BitVec 32) (k0_hw72 : k0_chk72 v355), ∀ a, (k0_off72 v355) a + S1x1x768.size a ≤ S196x128x768.size a := fun v355 k0_hw72 => k0_hw72.1
theorem k0_off200_inb : ∀ (v355 : BitVec 32) (k0_hw72 : k0_chk72 v355), ∀ a, (k0_off200 v355) a + S1x1x768.size a ≤ S196x128x768.size a := fun v355 k0_hw72 => k0_hw72.2

def k0_off201 (v360 : BitVec 32) : Fin 3 → Nat :=
  let c72_i32_872 : BitVec 32 := 72#32
  let c0_i32_876 : BitVec 32 := 0#32
  ![v360.toNat, 72, 0]

def k0_chk73 (v360 : BitVec 32) : Prop :=
  (∀ a, (k0_off73 v360) a + S1x1x768.size a ≤ S196x128x768.size a) ∧
  (∀ a, (k0_off201 v360) a + S1x1x768.size a ≤ S196x128x768.size a)
theorem k0_off73_inb : ∀ (v360 : BitVec 32) (k0_hw73 : k0_chk73 v360), ∀ a, (k0_off73 v360) a + S1x1x768.size a ≤ S196x128x768.size a := fun v360 k0_hw73 => k0_hw73.1
theorem k0_off201_inb : ∀ (v360 : BitVec 32) (k0_hw73 : k0_chk73 v360), ∀ a, (k0_off201 v360) a + S1x1x768.size a ≤ S196x128x768.size a := fun v360 k0_hw73 => k0_hw73.2

def k0_off202 (v365 : BitVec 32) : Fin 3 → Nat :=
  let c73_i32_877 : BitVec 32 := 73#32
  let c0_i32_881 : BitVec 32 := 0#32
  ![v365.toNat, 73, 0]

def k0_chk74 (v365 : BitVec 32) : Prop :=
  (∀ a, (k0_off74 v365) a + S1x1x768.size a ≤ S196x128x768.size a) ∧
  (∀ a, (k0_off202 v365) a + S1x1x768.size a ≤ S196x128x768.size a)
theorem k0_off74_inb : ∀ (v365 : BitVec 32) (k0_hw74 : k0_chk74 v365), ∀ a, (k0_off74 v365) a + S1x1x768.size a ≤ S196x128x768.size a := fun v365 k0_hw74 => k0_hw74.1
theorem k0_off202_inb : ∀ (v365 : BitVec 32) (k0_hw74 : k0_chk74 v365), ∀ a, (k0_off202 v365) a + S1x1x768.size a ≤ S196x128x768.size a := fun v365 k0_hw74 => k0_hw74.2

def k0_off203 (v370 : BitVec 32) : Fin 3 → Nat :=
  let c74_i32_882 : BitVec 32 := 74#32
  let c0_i32_886 : BitVec 32 := 0#32
  ![v370.toNat, 74, 0]

def k0_chk75 (v370 : BitVec 32) : Prop :=
  (∀ a, (k0_off75 v370) a + S1x1x768.size a ≤ S196x128x768.size a) ∧
  (∀ a, (k0_off203 v370) a + S1x1x768.size a ≤ S196x128x768.size a)
theorem k0_off75_inb : ∀ (v370 : BitVec 32) (k0_hw75 : k0_chk75 v370), ∀ a, (k0_off75 v370) a + S1x1x768.size a ≤ S196x128x768.size a := fun v370 k0_hw75 => k0_hw75.1
theorem k0_off203_inb : ∀ (v370 : BitVec 32) (k0_hw75 : k0_chk75 v370), ∀ a, (k0_off203 v370) a + S1x1x768.size a ≤ S196x128x768.size a := fun v370 k0_hw75 => k0_hw75.2

def k0_off204 (v375 : BitVec 32) : Fin 3 → Nat :=
  let c75_i32_887 : BitVec 32 := 75#32
  let c0_i32_891 : BitVec 32 := 0#32
  ![v375.toNat, 75, 0]

def k0_chk76 (v375 : BitVec 32) : Prop :=
  (∀ a, (k0_off76 v375) a + S1x1x768.size a ≤ S196x128x768.size a) ∧
  (∀ a, (k0_off204 v375) a + S1x1x768.size a ≤ S196x128x768.size a)
theorem k0_off76_inb : ∀ (v375 : BitVec 32) (k0_hw76 : k0_chk76 v375), ∀ a, (k0_off76 v375) a + S1x1x768.size a ≤ S196x128x768.size a := fun v375 k0_hw76 => k0_hw76.1
theorem k0_off204_inb : ∀ (v375 : BitVec 32) (k0_hw76 : k0_chk76 v375), ∀ a, (k0_off204 v375) a + S1x1x768.size a ≤ S196x128x768.size a := fun v375 k0_hw76 => k0_hw76.2

def k0_off205 (v380 : BitVec 32) : Fin 3 → Nat :=
  let c76_i32_892 : BitVec 32 := 76#32
  let c0_i32_896 : BitVec 32 := 0#32
  ![v380.toNat, 76, 0]

def k0_chk77 (v380 : BitVec 32) : Prop :=
  (∀ a, (k0_off77 v380) a + S1x1x768.size a ≤ S196x128x768.size a) ∧
  (∀ a, (k0_off205 v380) a + S1x1x768.size a ≤ S196x128x768.size a)
theorem k0_off77_inb : ∀ (v380 : BitVec 32) (k0_hw77 : k0_chk77 v380), ∀ a, (k0_off77 v380) a + S1x1x768.size a ≤ S196x128x768.size a := fun v380 k0_hw77 => k0_hw77.1
theorem k0_off205_inb : ∀ (v380 : BitVec 32) (k0_hw77 : k0_chk77 v380), ∀ a, (k0_off205 v380) a + S1x1x768.size a ≤ S196x128x768.size a := fun v380 k0_hw77 => k0_hw77.2

def k0_off206 (v385 : BitVec 32) : Fin 3 → Nat :=
  let c77_i32_897 : BitVec 32 := 77#32
  let c0_i32_901 : BitVec 32 := 0#32
  ![v385.toNat, 77, 0]

def k0_chk78 (v385 : BitVec 32) : Prop :=
  (∀ a, (k0_off78 v385) a + S1x1x768.size a ≤ S196x128x768.size a) ∧
  (∀ a, (k0_off206 v385) a + S1x1x768.size a ≤ S196x128x768.size a)
theorem k0_off78_inb : ∀ (v385 : BitVec 32) (k0_hw78 : k0_chk78 v385), ∀ a, (k0_off78 v385) a + S1x1x768.size a ≤ S196x128x768.size a := fun v385 k0_hw78 => k0_hw78.1
theorem k0_off206_inb : ∀ (v385 : BitVec 32) (k0_hw78 : k0_chk78 v385), ∀ a, (k0_off206 v385) a + S1x1x768.size a ≤ S196x128x768.size a := fun v385 k0_hw78 => k0_hw78.2

def k0_off207 (v390 : BitVec 32) : Fin 3 → Nat :=
  let c78_i32_902 : BitVec 32 := 78#32
  let c0_i32_906 : BitVec 32 := 0#32
  ![v390.toNat, 78, 0]

def k0_chk79 (v390 : BitVec 32) : Prop :=
  (∀ a, (k0_off79 v390) a + S1x1x768.size a ≤ S196x128x768.size a) ∧
  (∀ a, (k0_off207 v390) a + S1x1x768.size a ≤ S196x128x768.size a)
theorem k0_off79_inb : ∀ (v390 : BitVec 32) (k0_hw79 : k0_chk79 v390), ∀ a, (k0_off79 v390) a + S1x1x768.size a ≤ S196x128x768.size a := fun v390 k0_hw79 => k0_hw79.1
theorem k0_off207_inb : ∀ (v390 : BitVec 32) (k0_hw79 : k0_chk79 v390), ∀ a, (k0_off207 v390) a + S1x1x768.size a ≤ S196x128x768.size a := fun v390 k0_hw79 => k0_hw79.2

def k0_off208 (v395 : BitVec 32) : Fin 3 → Nat :=
  let c79_i32_907 : BitVec 32 := 79#32
  let c0_i32_911 : BitVec 32 := 0#32
  ![v395.toNat, 79, 0]

def k0_chk80 (v395 : BitVec 32) : Prop :=
  (∀ a, (k0_off80 v395) a + S1x1x768.size a ≤ S196x128x768.size a) ∧
  (∀ a, (k0_off208 v395) a + S1x1x768.size a ≤ S196x128x768.size a)
theorem k0_off80_inb : ∀ (v395 : BitVec 32) (k0_hw80 : k0_chk80 v395), ∀ a, (k0_off80 v395) a + S1x1x768.size a ≤ S196x128x768.size a := fun v395 k0_hw80 => k0_hw80.1
theorem k0_off208_inb : ∀ (v395 : BitVec 32) (k0_hw80 : k0_chk80 v395), ∀ a, (k0_off208 v395) a + S1x1x768.size a ≤ S196x128x768.size a := fun v395 k0_hw80 => k0_hw80.2

def k0_off209 (v400 : BitVec 32) : Fin 3 → Nat :=
  let c80_i32_912 : BitVec 32 := 80#32
  let c0_i32_916 : BitVec 32 := 0#32
  ![v400.toNat, 80, 0]

def k0_chk81 (v400 : BitVec 32) : Prop :=
  (∀ a, (k0_off81 v400) a + S1x1x768.size a ≤ S196x128x768.size a) ∧
  (∀ a, (k0_off209 v400) a + S1x1x768.size a ≤ S196x128x768.size a)
theorem k0_off81_inb : ∀ (v400 : BitVec 32) (k0_hw81 : k0_chk81 v400), ∀ a, (k0_off81 v400) a + S1x1x768.size a ≤ S196x128x768.size a := fun v400 k0_hw81 => k0_hw81.1
theorem k0_off209_inb : ∀ (v400 : BitVec 32) (k0_hw81 : k0_chk81 v400), ∀ a, (k0_off209 v400) a + S1x1x768.size a ≤ S196x128x768.size a := fun v400 k0_hw81 => k0_hw81.2

def k0_off210 (v405 : BitVec 32) : Fin 3 → Nat :=
  let c81_i32_917 : BitVec 32 := 81#32
  let c0_i32_921 : BitVec 32 := 0#32
  ![v405.toNat, 81, 0]

def k0_chk82 (v405 : BitVec 32) : Prop :=
  (∀ a, (k0_off82 v405) a + S1x1x768.size a ≤ S196x128x768.size a) ∧
  (∀ a, (k0_off210 v405) a + S1x1x768.size a ≤ S196x128x768.size a)
theorem k0_off82_inb : ∀ (v405 : BitVec 32) (k0_hw82 : k0_chk82 v405), ∀ a, (k0_off82 v405) a + S1x1x768.size a ≤ S196x128x768.size a := fun v405 k0_hw82 => k0_hw82.1
theorem k0_off210_inb : ∀ (v405 : BitVec 32) (k0_hw82 : k0_chk82 v405), ∀ a, (k0_off210 v405) a + S1x1x768.size a ≤ S196x128x768.size a := fun v405 k0_hw82 => k0_hw82.2

def k0_off211 (v410 : BitVec 32) : Fin 3 → Nat :=
  let c82_i32_922 : BitVec 32 := 82#32
  let c0_i32_926 : BitVec 32 := 0#32
  ![v410.toNat, 82, 0]

def k0_chk83 (v410 : BitVec 32) : Prop :=
  (∀ a, (k0_off83 v410) a + S1x1x768.size a ≤ S196x128x768.size a) ∧
  (∀ a, (k0_off211 v410) a + S1x1x768.size a ≤ S196x128x768.size a)
theorem k0_off83_inb : ∀ (v410 : BitVec 32) (k0_hw83 : k0_chk83 v410), ∀ a, (k0_off83 v410) a + S1x1x768.size a ≤ S196x128x768.size a := fun v410 k0_hw83 => k0_hw83.1
theorem k0_off211_inb : ∀ (v410 : BitVec 32) (k0_hw83 : k0_chk83 v410), ∀ a, (k0_off211 v410) a + S1x1x768.size a ≤ S196x128x768.size a := fun v410 k0_hw83 => k0_hw83.2

def k0_off212 (v415 : BitVec 32) : Fin 3 → Nat :=
  let c83_i32_927 : BitVec 32 := 83#32
  let c0_i32_931 : BitVec 32 := 0#32
  ![v415.toNat, 83, 0]

def k0_chk84 (v415 : BitVec 32) : Prop :=
  (∀ a, (k0_off84 v415) a + S1x1x768.size a ≤ S196x128x768.size a) ∧
  (∀ a, (k0_off212 v415) a + S1x1x768.size a ≤ S196x128x768.size a)
theorem k0_off84_inb : ∀ (v415 : BitVec 32) (k0_hw84 : k0_chk84 v415), ∀ a, (k0_off84 v415) a + S1x1x768.size a ≤ S196x128x768.size a := fun v415 k0_hw84 => k0_hw84.1
theorem k0_off212_inb : ∀ (v415 : BitVec 32) (k0_hw84 : k0_chk84 v415), ∀ a, (k0_off212 v415) a + S1x1x768.size a ≤ S196x128x768.size a := fun v415 k0_hw84 => k0_hw84.2

def k0_off213 (v420 : BitVec 32) : Fin 3 → Nat :=
  let c84_i32_932 : BitVec 32 := 84#32
  let c0_i32_936 : BitVec 32 := 0#32
  ![v420.toNat, 84, 0]

def k0_chk85 (v420 : BitVec 32) : Prop :=
  (∀ a, (k0_off85 v420) a + S1x1x768.size a ≤ S196x128x768.size a) ∧
  (∀ a, (k0_off213 v420) a + S1x1x768.size a ≤ S196x128x768.size a)
theorem k0_off85_inb : ∀ (v420 : BitVec 32) (k0_hw85 : k0_chk85 v420), ∀ a, (k0_off85 v420) a + S1x1x768.size a ≤ S196x128x768.size a := fun v420 k0_hw85 => k0_hw85.1
theorem k0_off213_inb : ∀ (v420 : BitVec 32) (k0_hw85 : k0_chk85 v420), ∀ a, (k0_off213 v420) a + S1x1x768.size a ≤ S196x128x768.size a := fun v420 k0_hw85 => k0_hw85.2

def k0_off214 (v425 : BitVec 32) : Fin 3 → Nat :=
  let c85_i32_937 : BitVec 32 := 85#32
  let c0_i32_941 : BitVec 32 := 0#32
  ![v425.toNat, 85, 0]

def k0_chk86 (v425 : BitVec 32) : Prop :=
  (∀ a, (k0_off86 v425) a + S1x1x768.size a ≤ S196x128x768.size a) ∧
  (∀ a, (k0_off214 v425) a + S1x1x768.size a ≤ S196x128x768.size a)
theorem k0_off86_inb : ∀ (v425 : BitVec 32) (k0_hw86 : k0_chk86 v425), ∀ a, (k0_off86 v425) a + S1x1x768.size a ≤ S196x128x768.size a := fun v425 k0_hw86 => k0_hw86.1
theorem k0_off214_inb : ∀ (v425 : BitVec 32) (k0_hw86 : k0_chk86 v425), ∀ a, (k0_off214 v425) a + S1x1x768.size a ≤ S196x128x768.size a := fun v425 k0_hw86 => k0_hw86.2

def k0_off215 (v430 : BitVec 32) : Fin 3 → Nat :=
  let c86_i32_942 : BitVec 32 := 86#32
  let c0_i32_946 : BitVec 32 := 0#32
  ![v430.toNat, 86, 0]

def k0_chk87 (v430 : BitVec 32) : Prop :=
  (∀ a, (k0_off87 v430) a + S1x1x768.size a ≤ S196x128x768.size a) ∧
  (∀ a, (k0_off215 v430) a + S1x1x768.size a ≤ S196x128x768.size a)
theorem k0_off87_inb : ∀ (v430 : BitVec 32) (k0_hw87 : k0_chk87 v430), ∀ a, (k0_off87 v430) a + S1x1x768.size a ≤ S196x128x768.size a := fun v430 k0_hw87 => k0_hw87.1
theorem k0_off215_inb : ∀ (v430 : BitVec 32) (k0_hw87 : k0_chk87 v430), ∀ a, (k0_off215 v430) a + S1x1x768.size a ≤ S196x128x768.size a := fun v430 k0_hw87 => k0_hw87.2

def k0_off216 (v435 : BitVec 32) : Fin 3 → Nat :=
  let c87_i32_947 : BitVec 32 := 87#32
  let c0_i32_951 : BitVec 32 := 0#32
  ![v435.toNat, 87, 0]

def k0_chk88 (v435 : BitVec 32) : Prop :=
  (∀ a, (k0_off88 v435) a + S1x1x768.size a ≤ S196x128x768.size a) ∧
  (∀ a, (k0_off216 v435) a + S1x1x768.size a ≤ S196x128x768.size a)
theorem k0_off88_inb : ∀ (v435 : BitVec 32) (k0_hw88 : k0_chk88 v435), ∀ a, (k0_off88 v435) a + S1x1x768.size a ≤ S196x128x768.size a := fun v435 k0_hw88 => k0_hw88.1
theorem k0_off216_inb : ∀ (v435 : BitVec 32) (k0_hw88 : k0_chk88 v435), ∀ a, (k0_off216 v435) a + S1x1x768.size a ≤ S196x128x768.size a := fun v435 k0_hw88 => k0_hw88.2

def k0_off217 (v440 : BitVec 32) : Fin 3 → Nat :=
  let c88_i32_952 : BitVec 32 := 88#32
  let c0_i32_956 : BitVec 32 := 0#32
  ![v440.toNat, 88, 0]

def k0_chk89 (v440 : BitVec 32) : Prop :=
  (∀ a, (k0_off89 v440) a + S1x1x768.size a ≤ S196x128x768.size a) ∧
  (∀ a, (k0_off217 v440) a + S1x1x768.size a ≤ S196x128x768.size a)
theorem k0_off89_inb : ∀ (v440 : BitVec 32) (k0_hw89 : k0_chk89 v440), ∀ a, (k0_off89 v440) a + S1x1x768.size a ≤ S196x128x768.size a := fun v440 k0_hw89 => k0_hw89.1
theorem k0_off217_inb : ∀ (v440 : BitVec 32) (k0_hw89 : k0_chk89 v440), ∀ a, (k0_off217 v440) a + S1x1x768.size a ≤ S196x128x768.size a := fun v440 k0_hw89 => k0_hw89.2

def k0_off218 (v445 : BitVec 32) : Fin 3 → Nat :=
  let c89_i32_957 : BitVec 32 := 89#32
  let c0_i32_961 : BitVec 32 := 0#32
  ![v445.toNat, 89, 0]

def k0_chk90 (v445 : BitVec 32) : Prop :=
  (∀ a, (k0_off90 v445) a + S1x1x768.size a ≤ S196x128x768.size a) ∧
  (∀ a, (k0_off218 v445) a + S1x1x768.size a ≤ S196x128x768.size a)
theorem k0_off90_inb : ∀ (v445 : BitVec 32) (k0_hw90 : k0_chk90 v445), ∀ a, (k0_off90 v445) a + S1x1x768.size a ≤ S196x128x768.size a := fun v445 k0_hw90 => k0_hw90.1
theorem k0_off218_inb : ∀ (v445 : BitVec 32) (k0_hw90 : k0_chk90 v445), ∀ a, (k0_off218 v445) a + S1x1x768.size a ≤ S196x128x768.size a := fun v445 k0_hw90 => k0_hw90.2

def k0_off219 (v450 : BitVec 32) : Fin 3 → Nat :=
  let c90_i32_962 : BitVec 32 := 90#32
  let c0_i32_966 : BitVec 32 := 0#32
  ![v450.toNat, 90, 0]

def k0_chk91 (v450 : BitVec 32) : Prop :=
  (∀ a, (k0_off91 v450) a + S1x1x768.size a ≤ S196x128x768.size a) ∧
  (∀ a, (k0_off219 v450) a + S1x1x768.size a ≤ S196x128x768.size a)
theorem k0_off91_inb : ∀ (v450 : BitVec 32) (k0_hw91 : k0_chk91 v450), ∀ a, (k0_off91 v450) a + S1x1x768.size a ≤ S196x128x768.size a := fun v450 k0_hw91 => k0_hw91.1
theorem k0_off219_inb : ∀ (v450 : BitVec 32) (k0_hw91 : k0_chk91 v450), ∀ a, (k0_off219 v450) a + S1x1x768.size a ≤ S196x128x768.size a := fun v450 k0_hw91 => k0_hw91.2

def k0_off220 (v455 : BitVec 32) : Fin 3 → Nat :=
  let c91_i32_967 : BitVec 32 := 91#32
  let c0_i32_971 : BitVec 32 := 0#32
  ![v455.toNat, 91, 0]

def k0_chk92 (v455 : BitVec 32) : Prop :=
  (∀ a, (k0_off92 v455) a + S1x1x768.size a ≤ S196x128x768.size a) ∧
  (∀ a, (k0_off220 v455) a + S1x1x768.size a ≤ S196x128x768.size a)
theorem k0_off92_inb : ∀ (v455 : BitVec 32) (k0_hw92 : k0_chk92 v455), ∀ a, (k0_off92 v455) a + S1x1x768.size a ≤ S196x128x768.size a := fun v455 k0_hw92 => k0_hw92.1
theorem k0_off220_inb : ∀ (v455 : BitVec 32) (k0_hw92 : k0_chk92 v455), ∀ a, (k0_off220 v455) a + S1x1x768.size a ≤ S196x128x768.size a := fun v455 k0_hw92 => k0_hw92.2

def k0_off221 (v460 : BitVec 32) : Fin 3 → Nat :=
  let c92_i32_972 : BitVec 32 := 92#32
  let c0_i32_976 : BitVec 32 := 0#32
  ![v460.toNat, 92, 0]

def k0_chk93 (v460 : BitVec 32) : Prop :=
  (∀ a, (k0_off93 v460) a + S1x1x768.size a ≤ S196x128x768.size a) ∧
  (∀ a, (k0_off221 v460) a + S1x1x768.size a ≤ S196x128x768.size a)
theorem k0_off93_inb : ∀ (v460 : BitVec 32) (k0_hw93 : k0_chk93 v460), ∀ a, (k0_off93 v460) a + S1x1x768.size a ≤ S196x128x768.size a := fun v460 k0_hw93 => k0_hw93.1
theorem k0_off221_inb : ∀ (v460 : BitVec 32) (k0_hw93 : k0_chk93 v460), ∀ a, (k0_off221 v460) a + S1x1x768.size a ≤ S196x128x768.size a := fun v460 k0_hw93 => k0_hw93.2

def k0_off222 (v465 : BitVec 32) : Fin 3 → Nat :=
  let c93_i32_977 : BitVec 32 := 93#32
  let c0_i32_981 : BitVec 32 := 0#32
  ![v465.toNat, 93, 0]

def k0_chk94 (v465 : BitVec 32) : Prop :=
  (∀ a, (k0_off94 v465) a + S1x1x768.size a ≤ S196x128x768.size a) ∧
  (∀ a, (k0_off222 v465) a + S1x1x768.size a ≤ S196x128x768.size a)
theorem k0_off94_inb : ∀ (v465 : BitVec 32) (k0_hw94 : k0_chk94 v465), ∀ a, (k0_off94 v465) a + S1x1x768.size a ≤ S196x128x768.size a := fun v465 k0_hw94 => k0_hw94.1
theorem k0_off222_inb : ∀ (v465 : BitVec 32) (k0_hw94 : k0_chk94 v465), ∀ a, (k0_off222 v465) a + S1x1x768.size a ≤ S196x128x768.size a := fun v465 k0_hw94 => k0_hw94.2

def k0_off223 (v470 : BitVec 32) : Fin 3 → Nat :=
  let c94_i32_982 : BitVec 32 := 94#32
  let c0_i32_986 : BitVec 32 := 0#32
  ![v470.toNat, 94, 0]

def k0_chk95 (v470 : BitVec 32) : Prop :=
  (∀ a, (k0_off95 v470) a + S1x1x768.size a ≤ S196x128x768.size a) ∧
  (∀ a, (k0_off223 v470) a + S1x1x768.size a ≤ S196x128x768.size a)
theorem k0_off95_inb : ∀ (v470 : BitVec 32) (k0_hw95 : k0_chk95 v470), ∀ a, (k0_off95 v470) a + S1x1x768.size a ≤ S196x128x768.size a := fun v470 k0_hw95 => k0_hw95.1
theorem k0_off223_inb : ∀ (v470 : BitVec 32) (k0_hw95 : k0_chk95 v470), ∀ a, (k0_off223 v470) a + S1x1x768.size a ≤ S196x128x768.size a := fun v470 k0_hw95 => k0_hw95.2

def k0_off224 (v475 : BitVec 32) : Fin 3 → Nat :=
  let c95_i32_987 : BitVec 32 := 95#32
  let c0_i32_991 : BitVec 32 := 0#32
  ![v475.toNat, 95, 0]

def k0_chk96 (v475 : BitVec 32) : Prop :=
  (∀ a, (k0_off96 v475) a + S1x1x768.size a ≤ S196x128x768.size a) ∧
  (∀ a, (k0_off224 v475) a + S1x1x768.size a ≤ S196x128x768.size a)
theorem k0_off96_inb : ∀ (v475 : BitVec 32) (k0_hw96 : k0_chk96 v475), ∀ a, (k0_off96 v475) a + S1x1x768.size a ≤ S196x128x768.size a := fun v475 k0_hw96 => k0_hw96.1
theorem k0_off224_inb : ∀ (v475 : BitVec 32) (k0_hw96 : k0_chk96 v475), ∀ a, (k0_off224 v475) a + S1x1x768.size a ≤ S196x128x768.size a := fun v475 k0_hw96 => k0_hw96.2

def k0_off225 (v480 : BitVec 32) : Fin 3 → Nat :=
  let c96_i32_992 : BitVec 32 := 96#32
  let c0_i32_996 : BitVec 32 := 0#32
  ![v480.toNat, 96, 0]

def k0_chk97 (v480 : BitVec 32) : Prop :=
  (∀ a, (k0_off97 v480) a + S1x1x768.size a ≤ S196x128x768.size a) ∧
  (∀ a, (k0_off225 v480) a + S1x1x768.size a ≤ S196x128x768.size a)
theorem k0_off97_inb : ∀ (v480 : BitVec 32) (k0_hw97 : k0_chk97 v480), ∀ a, (k0_off97 v480) a + S1x1x768.size a ≤ S196x128x768.size a := fun v480 k0_hw97 => k0_hw97.1
theorem k0_off225_inb : ∀ (v480 : BitVec 32) (k0_hw97 : k0_chk97 v480), ∀ a, (k0_off225 v480) a + S1x1x768.size a ≤ S196x128x768.size a := fun v480 k0_hw97 => k0_hw97.2

def k0_off226 (v485 : BitVec 32) : Fin 3 → Nat :=
  let c97_i32_997 : BitVec 32 := 97#32
  let c0_i32_1001 : BitVec 32 := 0#32
  ![v485.toNat, 97, 0]

def k0_chk98 (v485 : BitVec 32) : Prop :=
  (∀ a, (k0_off98 v485) a + S1x1x768.size a ≤ S196x128x768.size a) ∧
  (∀ a, (k0_off226 v485) a + S1x1x768.size a ≤ S196x128x768.size a)
theorem k0_off98_inb : ∀ (v485 : BitVec 32) (k0_hw98 : k0_chk98 v485), ∀ a, (k0_off98 v485) a + S1x1x768.size a ≤ S196x128x768.size a := fun v485 k0_hw98 => k0_hw98.1
theorem k0_off226_inb : ∀ (v485 : BitVec 32) (k0_hw98 : k0_chk98 v485), ∀ a, (k0_off226 v485) a + S1x1x768.size a ≤ S196x128x768.size a := fun v485 k0_hw98 => k0_hw98.2

def k0_off227 (v490 : BitVec 32) : Fin 3 → Nat :=
  let c98_i32_1002 : BitVec 32 := 98#32
  let c0_i32_1006 : BitVec 32 := 0#32
  ![v490.toNat, 98, 0]

def k0_chk99 (v490 : BitVec 32) : Prop :=
  (∀ a, (k0_off99 v490) a + S1x1x768.size a ≤ S196x128x768.size a) ∧
  (∀ a, (k0_off227 v490) a + S1x1x768.size a ≤ S196x128x768.size a)
theorem k0_off99_inb : ∀ (v490 : BitVec 32) (k0_hw99 : k0_chk99 v490), ∀ a, (k0_off99 v490) a + S1x1x768.size a ≤ S196x128x768.size a := fun v490 k0_hw99 => k0_hw99.1
theorem k0_off227_inb : ∀ (v490 : BitVec 32) (k0_hw99 : k0_chk99 v490), ∀ a, (k0_off227 v490) a + S1x1x768.size a ≤ S196x128x768.size a := fun v490 k0_hw99 => k0_hw99.2

def k0_off228 (v495 : BitVec 32) : Fin 3 → Nat :=
  let c99_i32_1007 : BitVec 32 := 99#32
  let c0_i32_1011 : BitVec 32 := 0#32
  ![v495.toNat, 99, 0]

def k0_chk100 (v495 : BitVec 32) : Prop :=
  (∀ a, (k0_off100 v495) a + S1x1x768.size a ≤ S196x128x768.size a) ∧
  (∀ a, (k0_off228 v495) a + S1x1x768.size a ≤ S196x128x768.size a)
theorem k0_off100_inb : ∀ (v495 : BitVec 32) (k0_hw100 : k0_chk100 v495), ∀ a, (k0_off100 v495) a + S1x1x768.size a ≤ S196x128x768.size a := fun v495 k0_hw100 => k0_hw100.1
theorem k0_off228_inb : ∀ (v495 : BitVec 32) (k0_hw100 : k0_chk100 v495), ∀ a, (k0_off228 v495) a + S1x1x768.size a ≤ S196x128x768.size a := fun v495 k0_hw100 => k0_hw100.2

def k0_off229 (v500 : BitVec 32) : Fin 3 → Nat :=
  let c100_i32_1012 : BitVec 32 := 100#32
  let c0_i32_1016 : BitVec 32 := 0#32
  ![v500.toNat, 100, 0]

def k0_chk101 (v500 : BitVec 32) : Prop :=
  (∀ a, (k0_off101 v500) a + S1x1x768.size a ≤ S196x128x768.size a) ∧
  (∀ a, (k0_off229 v500) a + S1x1x768.size a ≤ S196x128x768.size a)
theorem k0_off101_inb : ∀ (v500 : BitVec 32) (k0_hw101 : k0_chk101 v500), ∀ a, (k0_off101 v500) a + S1x1x768.size a ≤ S196x128x768.size a := fun v500 k0_hw101 => k0_hw101.1
theorem k0_off229_inb : ∀ (v500 : BitVec 32) (k0_hw101 : k0_chk101 v500), ∀ a, (k0_off229 v500) a + S1x1x768.size a ≤ S196x128x768.size a := fun v500 k0_hw101 => k0_hw101.2

def k0_off230 (v505 : BitVec 32) : Fin 3 → Nat :=
  let c101_i32_1017 : BitVec 32 := 101#32
  let c0_i32_1021 : BitVec 32 := 0#32
  ![v505.toNat, 101, 0]

def k0_chk102 (v505 : BitVec 32) : Prop :=
  (∀ a, (k0_off102 v505) a + S1x1x768.size a ≤ S196x128x768.size a) ∧
  (∀ a, (k0_off230 v505) a + S1x1x768.size a ≤ S196x128x768.size a)
theorem k0_off102_inb : ∀ (v505 : BitVec 32) (k0_hw102 : k0_chk102 v505), ∀ a, (k0_off102 v505) a + S1x1x768.size a ≤ S196x128x768.size a := fun v505 k0_hw102 => k0_hw102.1
theorem k0_off230_inb : ∀ (v505 : BitVec 32) (k0_hw102 : k0_chk102 v505), ∀ a, (k0_off230 v505) a + S1x1x768.size a ≤ S196x128x768.size a := fun v505 k0_hw102 => k0_hw102.2

def k0_off231 (v510 : BitVec 32) : Fin 3 → Nat :=
  let c102_i32_1022 : BitVec 32 := 102#32
  let c0_i32_1026 : BitVec 32 := 0#32
  ![v510.toNat, 102, 0]

def k0_chk103 (v510 : BitVec 32) : Prop :=
  (∀ a, (k0_off103 v510) a + S1x1x768.size a ≤ S196x128x768.size a) ∧
  (∀ a, (k0_off231 v510) a + S1x1x768.size a ≤ S196x128x768.size a)
theorem k0_off103_inb : ∀ (v510 : BitVec 32) (k0_hw103 : k0_chk103 v510), ∀ a, (k0_off103 v510) a + S1x1x768.size a ≤ S196x128x768.size a := fun v510 k0_hw103 => k0_hw103.1
theorem k0_off231_inb : ∀ (v510 : BitVec 32) (k0_hw103 : k0_chk103 v510), ∀ a, (k0_off231 v510) a + S1x1x768.size a ≤ S196x128x768.size a := fun v510 k0_hw103 => k0_hw103.2

def k0_off232 (v515 : BitVec 32) : Fin 3 → Nat :=
  let c103_i32_1027 : BitVec 32 := 103#32
  let c0_i32_1031 : BitVec 32 := 0#32
  ![v515.toNat, 103, 0]

def k0_chk104 (v515 : BitVec 32) : Prop :=
  (∀ a, (k0_off104 v515) a + S1x1x768.size a ≤ S196x128x768.size a) ∧
  (∀ a, (k0_off232 v515) a + S1x1x768.size a ≤ S196x128x768.size a)
theorem k0_off104_inb : ∀ (v515 : BitVec 32) (k0_hw104 : k0_chk104 v515), ∀ a, (k0_off104 v515) a + S1x1x768.size a ≤ S196x128x768.size a := fun v515 k0_hw104 => k0_hw104.1
theorem k0_off232_inb : ∀ (v515 : BitVec 32) (k0_hw104 : k0_chk104 v515), ∀ a, (k0_off232 v515) a + S1x1x768.size a ≤ S196x128x768.size a := fun v515 k0_hw104 => k0_hw104.2

def k0_off233 (v520 : BitVec 32) : Fin 3 → Nat :=
  let c104_i32_1032 : BitVec 32 := 104#32
  let c0_i32_1036 : BitVec 32 := 0#32
  ![v520.toNat, 104, 0]

def k0_chk105 (v520 : BitVec 32) : Prop :=
  (∀ a, (k0_off105 v520) a + S1x1x768.size a ≤ S196x128x768.size a) ∧
  (∀ a, (k0_off233 v520) a + S1x1x768.size a ≤ S196x128x768.size a)
theorem k0_off105_inb : ∀ (v520 : BitVec 32) (k0_hw105 : k0_chk105 v520), ∀ a, (k0_off105 v520) a + S1x1x768.size a ≤ S196x128x768.size a := fun v520 k0_hw105 => k0_hw105.1
theorem k0_off233_inb : ∀ (v520 : BitVec 32) (k0_hw105 : k0_chk105 v520), ∀ a, (k0_off233 v520) a + S1x1x768.size a ≤ S196x128x768.size a := fun v520 k0_hw105 => k0_hw105.2

def k0_off234 (v525 : BitVec 32) : Fin 3 → Nat :=
  let c105_i32_1037 : BitVec 32 := 105#32
  let c0_i32_1041 : BitVec 32 := 0#32
  ![v525.toNat, 105, 0]

def k0_chk106 (v525 : BitVec 32) : Prop :=
  (∀ a, (k0_off106 v525) a + S1x1x768.size a ≤ S196x128x768.size a) ∧
  (∀ a, (k0_off234 v525) a + S1x1x768.size a ≤ S196x128x768.size a)
theorem k0_off106_inb : ∀ (v525 : BitVec 32) (k0_hw106 : k0_chk106 v525), ∀ a, (k0_off106 v525) a + S1x1x768.size a ≤ S196x128x768.size a := fun v525 k0_hw106 => k0_hw106.1
theorem k0_off234_inb : ∀ (v525 : BitVec 32) (k0_hw106 : k0_chk106 v525), ∀ a, (k0_off234 v525) a + S1x1x768.size a ≤ S196x128x768.size a := fun v525 k0_hw106 => k0_hw106.2

def k0_off235 (v530 : BitVec 32) : Fin 3 → Nat :=
  let c106_i32_1042 : BitVec 32 := 106#32
  let c0_i32_1046 : BitVec 32 := 0#32
  ![v530.toNat, 106, 0]

def k0_chk107 (v530 : BitVec 32) : Prop :=
  (∀ a, (k0_off107 v530) a + S1x1x768.size a ≤ S196x128x768.size a) ∧
  (∀ a, (k0_off235 v530) a + S1x1x768.size a ≤ S196x128x768.size a)
theorem k0_off107_inb : ∀ (v530 : BitVec 32) (k0_hw107 : k0_chk107 v530), ∀ a, (k0_off107 v530) a + S1x1x768.size a ≤ S196x128x768.size a := fun v530 k0_hw107 => k0_hw107.1
theorem k0_off235_inb : ∀ (v530 : BitVec 32) (k0_hw107 : k0_chk107 v530), ∀ a, (k0_off235 v530) a + S1x1x768.size a ≤ S196x128x768.size a := fun v530 k0_hw107 => k0_hw107.2

def k0_off236 (v535 : BitVec 32) : Fin 3 → Nat :=
  let c107_i32_1047 : BitVec 32 := 107#32
  let c0_i32_1051 : BitVec 32 := 0#32
  ![v535.toNat, 107, 0]

def k0_chk108 (v535 : BitVec 32) : Prop :=
  (∀ a, (k0_off108 v535) a + S1x1x768.size a ≤ S196x128x768.size a) ∧
  (∀ a, (k0_off236 v535) a + S1x1x768.size a ≤ S196x128x768.size a)
theorem k0_off108_inb : ∀ (v535 : BitVec 32) (k0_hw108 : k0_chk108 v535), ∀ a, (k0_off108 v535) a + S1x1x768.size a ≤ S196x128x768.size a := fun v535 k0_hw108 => k0_hw108.1
theorem k0_off236_inb : ∀ (v535 : BitVec 32) (k0_hw108 : k0_chk108 v535), ∀ a, (k0_off236 v535) a + S1x1x768.size a ≤ S196x128x768.size a := fun v535 k0_hw108 => k0_hw108.2

def k0_off237 (v540 : BitVec 32) : Fin 3 → Nat :=
  let c108_i32_1052 : BitVec 32 := 108#32
  let c0_i32_1056 : BitVec 32 := 0#32
  ![v540.toNat, 108, 0]

def k0_chk109 (v540 : BitVec 32) : Prop :=
  (∀ a, (k0_off109 v540) a + S1x1x768.size a ≤ S196x128x768.size a) ∧
  (∀ a, (k0_off237 v540) a + S1x1x768.size a ≤ S196x128x768.size a)
theorem k0_off109_inb : ∀ (v540 : BitVec 32) (k0_hw109 : k0_chk109 v540), ∀ a, (k0_off109 v540) a + S1x1x768.size a ≤ S196x128x768.size a := fun v540 k0_hw109 => k0_hw109.1
theorem k0_off237_inb : ∀ (v540 : BitVec 32) (k0_hw109 : k0_chk109 v540), ∀ a, (k0_off237 v540) a + S1x1x768.size a ≤ S196x128x768.size a := fun v540 k0_hw109 => k0_hw109.2

def k0_off238 (v545 : BitVec 32) : Fin 3 → Nat :=
  let c109_i32_1057 : BitVec 32 := 109#32
  let c0_i32_1061 : BitVec 32 := 0#32
  ![v545.toNat, 109, 0]

def k0_chk110 (v545 : BitVec 32) : Prop :=
  (∀ a, (k0_off110 v545) a + S1x1x768.size a ≤ S196x128x768.size a) ∧
  (∀ a, (k0_off238 v545) a + S1x1x768.size a ≤ S196x128x768.size a)
theorem k0_off110_inb : ∀ (v545 : BitVec 32) (k0_hw110 : k0_chk110 v545), ∀ a, (k0_off110 v545) a + S1x1x768.size a ≤ S196x128x768.size a := fun v545 k0_hw110 => k0_hw110.1
theorem k0_off238_inb : ∀ (v545 : BitVec 32) (k0_hw110 : k0_chk110 v545), ∀ a, (k0_off238 v545) a + S1x1x768.size a ≤ S196x128x768.size a := fun v545 k0_hw110 => k0_hw110.2

def k0_off239 (v550 : BitVec 32) : Fin 3 → Nat :=
  let c110_i32_1062 : BitVec 32 := 110#32
  let c0_i32_1066 : BitVec 32 := 0#32
  ![v550.toNat, 110, 0]

def k0_chk111 (v550 : BitVec 32) : Prop :=
  (∀ a, (k0_off111 v550) a + S1x1x768.size a ≤ S196x128x768.size a) ∧
  (∀ a, (k0_off239 v550) a + S1x1x768.size a ≤ S196x128x768.size a)
theorem k0_off111_inb : ∀ (v550 : BitVec 32) (k0_hw111 : k0_chk111 v550), ∀ a, (k0_off111 v550) a + S1x1x768.size a ≤ S196x128x768.size a := fun v550 k0_hw111 => k0_hw111.1
theorem k0_off239_inb : ∀ (v550 : BitVec 32) (k0_hw111 : k0_chk111 v550), ∀ a, (k0_off239 v550) a + S1x1x768.size a ≤ S196x128x768.size a := fun v550 k0_hw111 => k0_hw111.2

def k0_off240 (v555 : BitVec 32) : Fin 3 → Nat :=
  let c111_i32_1067 : BitVec 32 := 111#32
  let c0_i32_1071 : BitVec 32 := 0#32
  ![v555.toNat, 111, 0]

def k0_chk112 (v555 : BitVec 32) : Prop :=
  (∀ a, (k0_off112 v555) a + S1x1x768.size a ≤ S196x128x768.size a) ∧
  (∀ a, (k0_off240 v555) a + S1x1x768.size a ≤ S196x128x768.size a)
theorem k0_off112_inb : ∀ (v555 : BitVec 32) (k0_hw112 : k0_chk112 v555), ∀ a, (k0_off112 v555) a + S1x1x768.size a ≤ S196x128x768.size a := fun v555 k0_hw112 => k0_hw112.1
theorem k0_off240_inb : ∀ (v555 : BitVec 32) (k0_hw112 : k0_chk112 v555), ∀ a, (k0_off240 v555) a + S1x1x768.size a ≤ S196x128x768.size a := fun v555 k0_hw112 => k0_hw112.2

def k0_off241 (v560 : BitVec 32) : Fin 3 → Nat :=
  let c112_i32_1072 : BitVec 32 := 112#32
  let c0_i32_1076 : BitVec 32 := 0#32
  ![v560.toNat, 112, 0]

def k0_chk113 (v560 : BitVec 32) : Prop :=
  (∀ a, (k0_off113 v560) a + S1x1x768.size a ≤ S196x128x768.size a) ∧
  (∀ a, (k0_off241 v560) a + S1x1x768.size a ≤ S196x128x768.size a)
theorem k0_off113_inb : ∀ (v560 : BitVec 32) (k0_hw113 : k0_chk113 v560), ∀ a, (k0_off113 v560) a + S1x1x768.size a ≤ S196x128x768.size a := fun v560 k0_hw113 => k0_hw113.1
theorem k0_off241_inb : ∀ (v560 : BitVec 32) (k0_hw113 : k0_chk113 v560), ∀ a, (k0_off241 v560) a + S1x1x768.size a ≤ S196x128x768.size a := fun v560 k0_hw113 => k0_hw113.2

def k0_off242 (v565 : BitVec 32) : Fin 3 → Nat :=
  let c113_i32_1077 : BitVec 32 := 113#32
  let c0_i32_1081 : BitVec 32 := 0#32
  ![v565.toNat, 113, 0]

def k0_chk114 (v565 : BitVec 32) : Prop :=
  (∀ a, (k0_off114 v565) a + S1x1x768.size a ≤ S196x128x768.size a) ∧
  (∀ a, (k0_off242 v565) a + S1x1x768.size a ≤ S196x128x768.size a)
theorem k0_off114_inb : ∀ (v565 : BitVec 32) (k0_hw114 : k0_chk114 v565), ∀ a, (k0_off114 v565) a + S1x1x768.size a ≤ S196x128x768.size a := fun v565 k0_hw114 => k0_hw114.1
theorem k0_off242_inb : ∀ (v565 : BitVec 32) (k0_hw114 : k0_chk114 v565), ∀ a, (k0_off242 v565) a + S1x1x768.size a ≤ S196x128x768.size a := fun v565 k0_hw114 => k0_hw114.2

def k0_off243 (v570 : BitVec 32) : Fin 3 → Nat :=
  let c114_i32_1082 : BitVec 32 := 114#32
  let c0_i32_1086 : BitVec 32 := 0#32
  ![v570.toNat, 114, 0]

def k0_chk115 (v570 : BitVec 32) : Prop :=
  (∀ a, (k0_off115 v570) a + S1x1x768.size a ≤ S196x128x768.size a) ∧
  (∀ a, (k0_off243 v570) a + S1x1x768.size a ≤ S196x128x768.size a)
theorem k0_off115_inb : ∀ (v570 : BitVec 32) (k0_hw115 : k0_chk115 v570), ∀ a, (k0_off115 v570) a + S1x1x768.size a ≤ S196x128x768.size a := fun v570 k0_hw115 => k0_hw115.1
theorem k0_off243_inb : ∀ (v570 : BitVec 32) (k0_hw115 : k0_chk115 v570), ∀ a, (k0_off243 v570) a + S1x1x768.size a ≤ S196x128x768.size a := fun v570 k0_hw115 => k0_hw115.2

def k0_off244 (v575 : BitVec 32) : Fin 3 → Nat :=
  let c115_i32_1087 : BitVec 32 := 115#32
  let c0_i32_1091 : BitVec 32 := 0#32
  ![v575.toNat, 115, 0]

def k0_chk116 (v575 : BitVec 32) : Prop :=
  (∀ a, (k0_off116 v575) a + S1x1x768.size a ≤ S196x128x768.size a) ∧
  (∀ a, (k0_off244 v575) a + S1x1x768.size a ≤ S196x128x768.size a)
theorem k0_off116_inb : ∀ (v575 : BitVec 32) (k0_hw116 : k0_chk116 v575), ∀ a, (k0_off116 v575) a + S1x1x768.size a ≤ S196x128x768.size a := fun v575 k0_hw116 => k0_hw116.1
theorem k0_off244_inb : ∀ (v575 : BitVec 32) (k0_hw116 : k0_chk116 v575), ∀ a, (k0_off244 v575) a + S1x1x768.size a ≤ S196x128x768.size a := fun v575 k0_hw116 => k0_hw116.2

def k0_off245 (v580 : BitVec 32) : Fin 3 → Nat :=
  let c116_i32_1092 : BitVec 32 := 116#32
  let c0_i32_1096 : BitVec 32 := 0#32
  ![v580.toNat, 116, 0]

def k0_chk117 (v580 : BitVec 32) : Prop :=
  (∀ a, (k0_off117 v580) a + S1x1x768.size a ≤ S196x128x768.size a) ∧
  (∀ a, (k0_off245 v580) a + S1x1x768.size a ≤ S196x128x768.size a)
theorem k0_off117_inb : ∀ (v580 : BitVec 32) (k0_hw117 : k0_chk117 v580), ∀ a, (k0_off117 v580) a + S1x1x768.size a ≤ S196x128x768.size a := fun v580 k0_hw117 => k0_hw117.1
theorem k0_off245_inb : ∀ (v580 : BitVec 32) (k0_hw117 : k0_chk117 v580), ∀ a, (k0_off245 v580) a + S1x1x768.size a ≤ S196x128x768.size a := fun v580 k0_hw117 => k0_hw117.2

def k0_off246 (v585 : BitVec 32) : Fin 3 → Nat :=
  let c117_i32_1097 : BitVec 32 := 117#32
  let c0_i32_1101 : BitVec 32 := 0#32
  ![v585.toNat, 117, 0]

def k0_chk118 (v585 : BitVec 32) : Prop :=
  (∀ a, (k0_off118 v585) a + S1x1x768.size a ≤ S196x128x768.size a) ∧
  (∀ a, (k0_off246 v585) a + S1x1x768.size a ≤ S196x128x768.size a)
theorem k0_off118_inb : ∀ (v585 : BitVec 32) (k0_hw118 : k0_chk118 v585), ∀ a, (k0_off118 v585) a + S1x1x768.size a ≤ S196x128x768.size a := fun v585 k0_hw118 => k0_hw118.1
theorem k0_off246_inb : ∀ (v585 : BitVec 32) (k0_hw118 : k0_chk118 v585), ∀ a, (k0_off246 v585) a + S1x1x768.size a ≤ S196x128x768.size a := fun v585 k0_hw118 => k0_hw118.2

def k0_off247 (v590 : BitVec 32) : Fin 3 → Nat :=
  let c118_i32_1102 : BitVec 32 := 118#32
  let c0_i32_1106 : BitVec 32 := 0#32
  ![v590.toNat, 118, 0]

def k0_chk119 (v590 : BitVec 32) : Prop :=
  (∀ a, (k0_off119 v590) a + S1x1x768.size a ≤ S196x128x768.size a) ∧
  (∀ a, (k0_off247 v590) a + S1x1x768.size a ≤ S196x128x768.size a)
theorem k0_off119_inb : ∀ (v590 : BitVec 32) (k0_hw119 : k0_chk119 v590), ∀ a, (k0_off119 v590) a + S1x1x768.size a ≤ S196x128x768.size a := fun v590 k0_hw119 => k0_hw119.1
theorem k0_off247_inb : ∀ (v590 : BitVec 32) (k0_hw119 : k0_chk119 v590), ∀ a, (k0_off247 v590) a + S1x1x768.size a ≤ S196x128x768.size a := fun v590 k0_hw119 => k0_hw119.2

def k0_off248 (v595 : BitVec 32) : Fin 3 → Nat :=
  let c119_i32_1107 : BitVec 32 := 119#32
  let c0_i32_1111 : BitVec 32 := 0#32
  ![v595.toNat, 119, 0]

def k0_chk120 (v595 : BitVec 32) : Prop :=
  (∀ a, (k0_off120 v595) a + S1x1x768.size a ≤ S196x128x768.size a) ∧
  (∀ a, (k0_off248 v595) a + S1x1x768.size a ≤ S196x128x768.size a)
theorem k0_off120_inb : ∀ (v595 : BitVec 32) (k0_hw120 : k0_chk120 v595), ∀ a, (k0_off120 v595) a + S1x1x768.size a ≤ S196x128x768.size a := fun v595 k0_hw120 => k0_hw120.1
theorem k0_off248_inb : ∀ (v595 : BitVec 32) (k0_hw120 : k0_chk120 v595), ∀ a, (k0_off248 v595) a + S1x1x768.size a ≤ S196x128x768.size a := fun v595 k0_hw120 => k0_hw120.2

def k0_off249 (v600 : BitVec 32) : Fin 3 → Nat :=
  let c120_i32_1112 : BitVec 32 := 120#32
  let c0_i32_1116 : BitVec 32 := 0#32
  ![v600.toNat, 120, 0]

def k0_chk121 (v600 : BitVec 32) : Prop :=
  (∀ a, (k0_off121 v600) a + S1x1x768.size a ≤ S196x128x768.size a) ∧
  (∀ a, (k0_off249 v600) a + S1x1x768.size a ≤ S196x128x768.size a)
theorem k0_off121_inb : ∀ (v600 : BitVec 32) (k0_hw121 : k0_chk121 v600), ∀ a, (k0_off121 v600) a + S1x1x768.size a ≤ S196x128x768.size a := fun v600 k0_hw121 => k0_hw121.1
theorem k0_off249_inb : ∀ (v600 : BitVec 32) (k0_hw121 : k0_chk121 v600), ∀ a, (k0_off249 v600) a + S1x1x768.size a ≤ S196x128x768.size a := fun v600 k0_hw121 => k0_hw121.2

def k0_off250 (v605 : BitVec 32) : Fin 3 → Nat :=
  let c121_i32_1117 : BitVec 32 := 121#32
  let c0_i32_1121 : BitVec 32 := 0#32
  ![v605.toNat, 121, 0]

def k0_chk122 (v605 : BitVec 32) : Prop :=
  (∀ a, (k0_off122 v605) a + S1x1x768.size a ≤ S196x128x768.size a) ∧
  (∀ a, (k0_off250 v605) a + S1x1x768.size a ≤ S196x128x768.size a)
theorem k0_off122_inb : ∀ (v605 : BitVec 32) (k0_hw122 : k0_chk122 v605), ∀ a, (k0_off122 v605) a + S1x1x768.size a ≤ S196x128x768.size a := fun v605 k0_hw122 => k0_hw122.1
theorem k0_off250_inb : ∀ (v605 : BitVec 32) (k0_hw122 : k0_chk122 v605), ∀ a, (k0_off250 v605) a + S1x1x768.size a ≤ S196x128x768.size a := fun v605 k0_hw122 => k0_hw122.2

def k0_off251 (v610 : BitVec 32) : Fin 3 → Nat :=
  let c122_i32_1122 : BitVec 32 := 122#32
  let c0_i32_1126 : BitVec 32 := 0#32
  ![v610.toNat, 122, 0]

def k0_chk123 (v610 : BitVec 32) : Prop :=
  (∀ a, (k0_off123 v610) a + S1x1x768.size a ≤ S196x128x768.size a) ∧
  (∀ a, (k0_off251 v610) a + S1x1x768.size a ≤ S196x128x768.size a)
theorem k0_off123_inb : ∀ (v610 : BitVec 32) (k0_hw123 : k0_chk123 v610), ∀ a, (k0_off123 v610) a + S1x1x768.size a ≤ S196x128x768.size a := fun v610 k0_hw123 => k0_hw123.1
theorem k0_off251_inb : ∀ (v610 : BitVec 32) (k0_hw123 : k0_chk123 v610), ∀ a, (k0_off251 v610) a + S1x1x768.size a ≤ S196x128x768.size a := fun v610 k0_hw123 => k0_hw123.2

def k0_off252 (v615 : BitVec 32) : Fin 3 → Nat :=
  let c123_i32_1127 : BitVec 32 := 123#32
  let c0_i32_1131 : BitVec 32 := 0#32
  ![v615.toNat, 123, 0]

def k0_chk124 (v615 : BitVec 32) : Prop :=
  (∀ a, (k0_off124 v615) a + S1x1x768.size a ≤ S196x128x768.size a) ∧
  (∀ a, (k0_off252 v615) a + S1x1x768.size a ≤ S196x128x768.size a)
theorem k0_off124_inb : ∀ (v615 : BitVec 32) (k0_hw124 : k0_chk124 v615), ∀ a, (k0_off124 v615) a + S1x1x768.size a ≤ S196x128x768.size a := fun v615 k0_hw124 => k0_hw124.1
theorem k0_off252_inb : ∀ (v615 : BitVec 32) (k0_hw124 : k0_chk124 v615), ∀ a, (k0_off252 v615) a + S1x1x768.size a ≤ S196x128x768.size a := fun v615 k0_hw124 => k0_hw124.2

def k0_off253 (v620 : BitVec 32) : Fin 3 → Nat :=
  let c124_i32_1132 : BitVec 32 := 124#32
  let c0_i32_1136 : BitVec 32 := 0#32
  ![v620.toNat, 124, 0]

def k0_chk125 (v620 : BitVec 32) : Prop :=
  (∀ a, (k0_off125 v620) a + S1x1x768.size a ≤ S196x128x768.size a) ∧
  (∀ a, (k0_off253 v620) a + S1x1x768.size a ≤ S196x128x768.size a)
theorem k0_off125_inb : ∀ (v620 : BitVec 32) (k0_hw125 : k0_chk125 v620), ∀ a, (k0_off125 v620) a + S1x1x768.size a ≤ S196x128x768.size a := fun v620 k0_hw125 => k0_hw125.1
theorem k0_off253_inb : ∀ (v620 : BitVec 32) (k0_hw125 : k0_chk125 v620), ∀ a, (k0_off253 v620) a + S1x1x768.size a ≤ S196x128x768.size a := fun v620 k0_hw125 => k0_hw125.2

def k0_off254 (v625 : BitVec 32) : Fin 3 → Nat :=
  let c125_i32_1137 : BitVec 32 := 125#32
  let c0_i32_1141 : BitVec 32 := 0#32
  ![v625.toNat, 125, 0]

def k0_chk126 (v625 : BitVec 32) : Prop :=
  (∀ a, (k0_off126 v625) a + S1x1x768.size a ≤ S196x128x768.size a) ∧
  (∀ a, (k0_off254 v625) a + S1x1x768.size a ≤ S196x128x768.size a)
theorem k0_off126_inb : ∀ (v625 : BitVec 32) (k0_hw126 : k0_chk126 v625), ∀ a, (k0_off126 v625) a + S1x1x768.size a ≤ S196x128x768.size a := fun v625 k0_hw126 => k0_hw126.1
theorem k0_off254_inb : ∀ (v625 : BitVec 32) (k0_hw126 : k0_chk126 v625), ∀ a, (k0_off254 v625) a + S1x1x768.size a ≤ S196x128x768.size a := fun v625 k0_hw126 => k0_hw126.2

def k0_off255 (v630 : BitVec 32) : Fin 3 → Nat :=
  let c126_i32_1142 : BitVec 32 := 126#32
  let c0_i32_1146 : BitVec 32 := 0#32
  ![v630.toNat, 126, 0]

def k0_chk127 (v630 : BitVec 32) : Prop :=
  (∀ a, (k0_off127 v630) a + S1x1x768.size a ≤ S196x128x768.size a) ∧
  (∀ a, (k0_off255 v630) a + S1x1x768.size a ≤ S196x128x768.size a)
theorem k0_off127_inb : ∀ (v630 : BitVec 32) (k0_hw127 : k0_chk127 v630), ∀ a, (k0_off127 v630) a + S1x1x768.size a ≤ S196x128x768.size a := fun v630 k0_hw127 => k0_hw127.1
theorem k0_off255_inb : ∀ (v630 : BitVec 32) (k0_hw127 : k0_chk127 v630), ∀ a, (k0_off255 v630) a + S1x1x768.size a ≤ S196x128x768.size a := fun v630 k0_hw127 => k0_hw127.2

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S128x1x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]
-- ==== KernelIdeal.lean ====
abbrev S128x196x768 : Shape := ⟨3, ![128, 196, 768]⟩
abbrev S128x1x768 : Shape := ⟨3, ![128, 1, 768]⟩
abbrev S196x128x768 : Shape := ⟨3, ![196, 128, 768]⟩
abbrev S128x768 : Shape := ⟨2, ![128, 768]⟩
abbrev S1x1 : Shape := ⟨2, ![1, 1]⟩
abbrev S1x128 : Shape := ⟨2, ![1, 128]⟩
abbrev S24x128x768 : Shape := ⟨3, ![24, 128, 768]⟩
abbrev S128x128 : Shape := ⟨2, ![128, 128]⟩
abbrev S216x768 : Shape := ⟨2, ![216, 768]⟩
abbrev S24x768 : Shape := ⟨2, ![24, 768]⟩
abbrev S1x128x768 : Shape := ⟨3, ![1, 128, 768]⟩
abbrev S216x128 : Shape := ⟨2, ![216, 128]⟩
abbrev S128 : Shape := ⟨1, ![128]⟩
abbrev S1 : Shape := ⟨1, ![1]⟩
abbrev S_ : Shape := ⟨0, ![]⟩
abbrev S1x1x768 : Shape := ⟨3, ![1, 1, 768]⟩
abbrev S1x768 : Shape := ⟨2, ![1, 768]⟩

abbrev nBuf : Space → Nat
  | .hbm => 8
  | .vmem => 9
  | .smem => 1
  | _ => 0

abbrev bufTy : (tb : Table) → Fin (tcTables nBuf tb) → BufTy
  | .hbm, ⟨0, _⟩ => ⟨S128x196x768, .f32⟩
  | .hbm, ⟨1, _⟩ => ⟨S128x1x768, .f32⟩
  | .hbm, ⟨2, _⟩ => ⟨S196x128x768, .f32⟩
  | .hbm, ⟨3, _⟩ => ⟨S128x768, .f32⟩
  | .hbm, ⟨4, _⟩ => ⟨S1x1, .f32⟩
  | .hbm, ⟨5, _⟩ => ⟨S1x128, .i32⟩
  | .hbm, ⟨6, _⟩ => ⟨S128x1x768, .f32⟩
  | .hbm, ⟨7, _⟩ => ⟨S_, .f32⟩
  | .local _ .vmem, ⟨0, _⟩ => ⟨S128x768, .f32⟩
  | .local _ .vmem, ⟨1, _⟩ => ⟨S24x128x768, .f32⟩
  | .local _ .vmem, ⟨2, _⟩ => ⟨S24x128x768, .f32⟩
  | .local _ .vmem, ⟨3, _⟩ => ⟨S1x1, .f32⟩
  | .local _ .vmem, ⟨4, _⟩ => ⟨S1x128, .i32⟩
  | .local _ .vmem, ⟨5, _⟩ => ⟨S128x128, .f32⟩
  | .local _ .vmem, ⟨6, _⟩ => ⟨S128x128, .f32⟩
  | .local _ .vmem, ⟨7, _⟩ => ⟨S216x768, .f32⟩
  | .local _ .vmem, ⟨8, _⟩ => ⟨S128x1x768, .f32⟩
  | .local _ .smem, ⟨0, _⟩ => ⟨S128, .i32⟩
  | _, _ => ⟨S128x196x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v4 : Ref sig .tc := ⟨.hbm, 6, rfl⟩
abbrev main_v5 : Ref sig .tc := ⟨.hbm, 7, rfl⟩
abbrev main_v3 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc1_stg0_0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc1_sem0_0 : DmaSem sig := 5

abbrev nD : Nat := 1
abbrev τ : Topo := Topo.v7x

variable {F : FTy → Type} [FloatOps F]

abbrev grid0 : Pipeline.Grid := ⟨1, ![9], ![false]⟩

def k0_off1 (i : grid0.Coords) : Fin 2 → Nat :=
  let arg0 : BitVec 32 := BitVec.ofNat 32 (i 0).val
  let c24_i32 : BitVec 32 := 24#32
  let v8 : BitVec 32 := Scalar.muli arg0 c24_i32
  let v9 : Index := Scalar.indexCast v8
  let c0_5 : Index := 0#32
  ![v9.toNat, 0]
def k0_cond2 (i : grid0.Coords) : BitVec 1 :=
  let arg0 : BitVec 32 := BitVec.ofNat 32 (i 0).val
  let c8_i32_159 : BitVec 32 := 8#32
  let v285 : BitVec 1 := Scalar.cmpi .eq arg0 c8_i32_159
  let v286 : BitVec 32 := Scalar.extui v285
  let c0_i32_160 : BitVec 32 := 0#32
  let v287 : BitVec 1 := Scalar.cmpi .ne v286 c0_i32_160
  v287

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S24x128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![1], ![false]⟩

abbrev pre1 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def k1_off1 (v0 : BitVec 32) : Fin 3 → Nat :=
  let c0_i32 : BitVec 32 := 0#32
  let c0_i32_3 : BitVec 32 := 0#32
  ![v0.toNat, 0, 0]

def k1_off2 (v5 : BitVec 32) : Fin 3 → Nat :=
  let c1_i32 : BitVec 32 := 1#32
  let c0_i32_7 : BitVec 32 := 0#32
  ![v5.toNat, 1, 0]

def k1_off3 (v10 : BitVec 32) : Fin 3 → Nat :=
  let c2_i32 : BitVec 32 := 2#32
  let c0_i32_11 : BitVec 32 := 0#32
  ![v10.toNat, 2, 0]

def k1_off4 (v15 : BitVec 32) : Fin 3 → Nat :=
  let c3_i32 : BitVec 32 := 3#32
  let c0_i32_15 : BitVec 32 := 0#32
  ![v15.toNat, 3, 0]

def k1_off5 (v20 : BitVec 32) : Fin 3 → Nat :=
  let c4_i32 : BitVec 32 := 4#32
  let c0_i32_19 : BitVec 32 := 0#32
  ![v20.toNat, 4, 0]

def k1_off6 (v25 : BitVec 32) : Fin 3 → Nat :=
  let c5_i32 : BitVec 32 := 5#32
  let c0_i32_23 : BitVec 32 := 0#32
  ![v25.toNat, 5, 0]

def k1_off7 (v30 : BitVec 32) : Fin 3 → Nat :=
  let c6_i32 : BitVec 32 := 6#32
  let c0_i32_27 : BitVec 32 := 0#32
  ![v30.toNat, 6, 0]

def k1_off8 (v35 : BitVec 32) : Fin 3 → Nat :=
  let c7_i32 : BitVec 32 := 7#32
  let c0_i32_31 : BitVec 32 := 0#32
  ![v35.toNat, 7, 0]

def k1_off9 (v40 : BitVec 32) : Fin 3 → Nat :=
  let c8_i32 : BitVec 32 := 8#32
  let c0_i32_35 : BitVec 32 := 0#32
  ![v40.toNat, 8, 0]

def k1_off10 (v45 : BitVec 32) : Fin 3 → Nat :=
  let c9_i32 : BitVec 32 := 9#32
  let c0_i32_39 : BitVec 32 := 0#32
  ![v45.toNat, 9, 0]

def k1_off11 (v50 : BitVec 32) : Fin 3 → Nat :=
  let c10_i32 : BitVec 32 := 10#32
  let c0_i32_43 : BitVec 32 := 0#32
  ![v50.toNat, 10, 0]

def k1_off12 (v55 : BitVec 32) : Fin 3 → Nat :=
  let c11_i32 : BitVec 32 := 11#32
  let c0_i32_47 : BitVec 32 := 0#32
  ![v55.toNat, 11, 0]

def k1_off13 (v60 : BitVec 32) : Fin 3 → Nat :=
  let c12_i32 : BitVec 32 := 12#32
  let c0_i32_51 : BitVec 32 := 0#32
  ![v60.toNat, 12, 0]

def k1_off14 (v65 : BitVec 32) : Fin 3 → Nat :=
  let c13_i32 : BitVec 32 := 13#32
  let c0_i32_55 : BitVec 32 := 0#32
  ![v65.toNat, 13, 0]

def k1_off15 (v70 : BitVec 32) : Fin 3 → Nat :=
  let c14_i32 : BitVec 32 := 14#32
  let c0_i32_59 : BitVec 32 := 0#32
  ![v70.toNat, 14, 0]

def k1_off16 (v75 : BitVec 32) : Fin 3 → Nat :=
  let c15_i32 : BitVec 32 := 15#32
  let c0_i32_63 : BitVec 32 := 0#32
  ![v75.toNat, 15, 0]

def k1_off17 (v80 : BitVec 32) : Fin 3 → Nat :=
  let c16_i32 : BitVec 32 := 16#32
  let c0_i32_67 : BitVec 32 := 0#32
  ![v80.toNat, 16, 0]

def k1_off18 (v85 : BitVec 32) : Fin 3 → Nat :=
  let c17_i32 : BitVec 32 := 17#32
  let c0_i32_71 : BitVec 32 := 0#32
  ![v85.toNat, 17, 0]

def k1_off19 (v90 : BitVec 32) : Fin 3 → Nat :=
  let c18_i32 : BitVec 32 := 18#32
  let c0_i32_75 : BitVec 32 := 0#32
  ![v90.toNat, 18, 0]

def k1_off20 (v95 : BitVec 32) : Fin 3 → Nat :=
  let c19_i32 : BitVec 32 := 19#32
  let c0_i32_79 : BitVec 32 := 0#32
  ![v95.toNat, 19, 0]

def k1_off21 (v100 : BitVec 32) : Fin 3 → Nat :=
  let c20_i32 : BitVec 32 := 20#32
  let c0_i32_83 : BitVec 32 := 0#32
  ![v100.toNat, 20, 0]

def k1_off22 (v105 : BitVec 32) : Fin 3 → Nat :=
  let c21_i32 : BitVec 32 := 21#32
  let c0_i32_87 : BitVec 32 := 0#32
  ![v105.toNat, 21, 0]

def k1_off23 (v110 : BitVec 32) : Fin 3 → Nat :=
  let c22_i32 : BitVec 32 := 22#32
  let c0_i32_91 : BitVec 32 := 0#32
  ![v110.toNat, 22, 0]

def k1_off24 (v115 : BitVec 32) : Fin 3 → Nat :=
  let c23_i32 : BitVec 32 := 23#32
  let c0_i32_95 : BitVec 32 := 0#32
  ![v115.toNat, 23, 0]

def k1_off25 (v120 : BitVec 32) : Fin 3 → Nat :=
  let c24_i32 : BitVec 32 := 24#32
  let c0_i32_99 : BitVec 32 := 0#32
  ![v120.toNat, 24, 0]

def k1_off26 (v125 : BitVec 32) : Fin 3 → Nat :=
  let c25_i32 : BitVec 32 := 25#32
  let c0_i32_103 : BitVec 32 := 0#32
  ![v125.toNat, 25, 0]

def k1_off27 (v130 : BitVec 32) : Fin 3 → Nat :=
  let c26_i32 : BitVec 32 := 26#32
  let c0_i32_107 : BitVec 32 := 0#32
  ![v130.toNat, 26, 0]

def k1_off28 (v135 : BitVec 32) : Fin 3 → Nat :=
  let c27_i32 : BitVec 32 := 27#32
  let c0_i32_111 : BitVec 32 := 0#32
  ![v135.toNat, 27, 0]

def k1_off29 (v140 : BitVec 32) : Fin 3 → Nat :=
  let c28_i32 : BitVec 32 := 28#32
  let c0_i32_115 : BitVec 32 := 0#32
  ![v140.toNat, 28, 0]

def k1_off30 (v145 : BitVec 32) : Fin 3 → Nat :=
  let c29_i32 : BitVec 32 := 29#32
  let c0_i32_119 : BitVec 32 := 0#32
  ![v145.toNat, 29, 0]

def k1_off31 (v150 : BitVec 32) : Fin 3 → Nat :=
  let c30_i32 : BitVec 32 := 30#32
  let c0_i32_123 : BitVec 32 := 0#32
  ![v150.toNat, 30, 0]

def k1_off32 (v155 : BitVec 32) : Fin 3 → Nat :=
  let c31_i32 : BitVec 32 := 31#32
  let c0_i32_127 : BitVec 32 := 0#32
  ![v155.toNat, 31, 0]

def k1_off33 (v160 : BitVec 32) : Fin 3 → Nat :=
  let c32_i32 : BitVec 32 := 32#32
  let c0_i32_131 : BitVec 32 := 0#32
  ![v160.toNat, 32, 0]

def k1_off34 (v165 : BitVec 32) : Fin 3 → Nat :=
  let c33_i32 : BitVec 32 := 33#32
  let c0_i32_135 : BitVec 32 := 0#32
  ![v165.toNat, 33, 0]

def k1_off35 (v170 : BitVec 32) : Fin 3 → Nat :=
  let c34_i32 : BitVec 32 := 34#32
  let c0_i32_139 : BitVec 32 := 0#32
  ![v170.toNat, 34, 0]

def k1_off36 (v175 : BitVec 32) : Fin 3 → Nat :=
  let c35_i32 : BitVec 32 := 35#32
  let c0_i32_143 : BitVec 32 := 0#32
  ![v175.toNat, 35, 0]

def k1_off37 (v180 : BitVec 32) : Fin 3 → Nat :=
  let c36_i32 : BitVec 32 := 36#32
  let c0_i32_147 : BitVec 32 := 0#32
  ![v180.toNat, 36, 0]

def k1_off38 (v185 : BitVec 32) : Fin 3 → Nat :=
  let c37_i32 : BitVec 32 := 37#32
  let c0_i32_151 : BitVec 32 := 0#32
  ![v185.toNat, 37, 0]

def k1_off39 (v190 : BitVec 32) : Fin 3 → Nat :=
  let c38_i32 : BitVec 32 := 38#32
  let c0_i32_155 : BitVec 32 := 0#32
  ![v190.toNat, 38, 0]

def k1_off40 (v195 : BitVec 32) : Fin 3 → Nat :=
  let c39_i32 : BitVec 32 := 39#32
  let c0_i32_159 : BitVec 32 := 0#32
  ![v195.toNat, 39, 0]

def k1_off41 (v200 : BitVec 32) : Fin 3 → Nat :=
  let c40_i32 : BitVec 32 := 40#32
  let c0_i32_163 : BitVec 32 := 0#32
  ![v200.toNat, 40, 0]

def k1_off42 (v205 : BitVec 32) : Fin 3 → Nat :=
  let c41_i32 : BitVec 32 := 41#32
  let c0_i32_167 : BitVec 32 := 0#32
  ![v205.toNat, 41, 0]

def k1_off43 (v210 : BitVec 32) : Fin 3 → Nat :=
  let c42_i32 : BitVec 32 := 42#32
  let c0_i32_171 : BitVec 32 := 0#32
  ![v210.toNat, 42, 0]

def k1_off44 (v215 : BitVec 32) : Fin 3 → Nat :=
  let c43_i32 : BitVec 32 := 43#32
  let c0_i32_175 : BitVec 32 := 0#32
  ![v215.toNat, 43, 0]

def k1_off45 (v220 : BitVec 32) : Fin 3 → Nat :=
  let c44_i32 : BitVec 32 := 44#32
  let c0_i32_179 : BitVec 32 := 0#32
  ![v220.toNat, 44, 0]

def k1_off46 (v225 : BitVec 32) : Fin 3 → Nat :=
  let c45_i32 : BitVec 32 := 45#32
  let c0_i32_183 : BitVec 32 := 0#32
  ![v225.toNat, 45, 0]

def k1_off47 (v230 : BitVec 32) : Fin 3 → Nat :=
  let c46_i32 : BitVec 32 := 46#32
  let c0_i32_187 : BitVec 32 := 0#32
  ![v230.toNat, 46, 0]

def k1_off48 (v235 : BitVec 32) : Fin 3 → Nat :=
  let c47_i32 : BitVec 32 := 47#32
  let c0_i32_191 : BitVec 32 := 0#32
  ![v235.toNat, 47, 0]

def k1_off49 (v240 : BitVec 32) : Fin 3 → Nat :=
  let c48_i32 : BitVec 32 := 48#32
  let c0_i32_195 : BitVec 32 := 0#32
  ![v240.toNat, 48, 0]

def k1_off50 (v245 : BitVec 32) : Fin 3 → Nat :=
  let c49_i32 : BitVec 32 := 49#32
  let c0_i32_199 : BitVec 32 := 0#32
  ![v245.toNat, 49, 0]

def k1_off51 (v250 : BitVec 32) : Fin 3 → Nat :=
  let c50_i32 : BitVec 32 := 50#32
  let c0_i32_203 : BitVec 32 := 0#32
  ![v250.toNat, 50, 0]

def k1_off52 (v255 : BitVec 32) : Fin 3 → Nat :=
  let c51_i32 : BitVec 32 := 51#32
  let c0_i32_207 : BitVec 32 := 0#32
  ![v255.toNat, 51, 0]

def k1_off53 (v260 : BitVec 32) : Fin 3 → Nat :=
  let c52_i32 : BitVec 32 := 52#32
  let c0_i32_211 : BitVec 32 := 0#32
  ![v260.toNat, 52, 0]

def k1_off54 (v265 : BitVec 32) : Fin 3 → Nat :=
  let c53_i32 : BitVec 32 := 53#32
  let c0_i32_215 : BitVec 32 := 0#32
  ![v265.toNat, 53, 0]

def k1_off55 (v270 : BitVec 32) : Fin 3 → Nat :=
  let c54_i32 : BitVec 32 := 54#32
  let c0_i32_219 : BitVec 32 := 0#32
  ![v270.toNat, 54, 0]

def k1_off56 (v275 : BitVec 32) : Fin 3 → Nat :=
  let c55_i32 : BitVec 32 := 55#32
  let c0_i32_223 : BitVec 32 := 0#32
  ![v275.toNat, 55, 0]

def k1_off57 (v280 : BitVec 32) : Fin 3 → Nat :=
  let c56_i32 : BitVec 32 := 56#32
  let c0_i32_227 : BitVec 32 := 0#32
  ![v280.toNat, 56, 0]

def k1_off58 (v285 : BitVec 32) : Fin 3 → Nat :=
  let c57_i32 : BitVec 32 := 57#32
  let c0_i32_231 : BitVec 32 := 0#32
  ![v285.toNat, 57, 0]

def k1_off59 (v290 : BitVec 32) : Fin 3 → Nat :=
  let c58_i32 : BitVec 32 := 58#32
  let c0_i32_235 : BitVec 32 := 0#32
  ![v290.toNat, 58, 0]

def k1_off60 (v295 : BitVec 32) : Fin 3 → Nat :=
  let c59_i32 : BitVec 32 := 59#32
  let c0_i32_239 : BitVec 32 := 0#32
  ![v295.toNat, 59, 0]

def k1_off61 (v300 : BitVec 32) : Fin 3 → Nat :=
  let c60_i32 : BitVec 32 := 60#32
  let c0_i32_243 : BitVec 32 := 0#32
  ![v300.toNat, 60, 0]

def k1_off62 (v305 : BitVec 32) : Fin 3 → Nat :=
  let c61_i32 : BitVec 32 := 61#32
  let c0_i32_247 : BitVec 32 := 0#32
  ![v305.toNat, 61, 0]

def k1_off63 (v310 : BitVec 32) : Fin 3 → Nat :=
  let c62_i32 : BitVec 32 := 62#32
  let c0_i32_251 : BitVec 32 := 0#32
  ![v310.toNat, 62, 0]

def k1_off64 (v315 : BitVec 32) : Fin 3 → Nat :=
  let c63_i32 : BitVec 32 := 63#32
  let c0_i32_255 : BitVec 32 := 0#32
  ![v315.toNat, 63, 0]

def k1_off65 (v320 : BitVec 32) : Fin 3 → Nat :=
  let c64_i32 : BitVec 32 := 64#32
  let c0_i32_259 : BitVec 32 := 0#32
  ![v320.toNat, 64, 0]

def k1_off66 (v325 : BitVec 32) : Fin 3 → Nat :=
  let c65_i32 : BitVec 32 := 65#32
  let c0_i32_263 : BitVec 32 := 0#32
  ![v325.toNat, 65, 0]

def k1_off67 (v330 : BitVec 32) : Fin 3 → Nat :=
  let c66_i32 : BitVec 32 := 66#32
  let c0_i32_267 : BitVec 32 := 0#32
  ![v330.toNat, 66, 0]

def k1_off68 (v335 : BitVec 32) : Fin 3 → Nat :=
  let c67_i32 : BitVec 32 := 67#32
  let c0_i32_271 : BitVec 32 := 0#32
  ![v335.toNat, 67, 0]

def k1_off69 (v340 : BitVec 32) : Fin 3 → Nat :=
  let c68_i32 : BitVec 32 := 68#32
  let c0_i32_275 : BitVec 32 := 0#32
  ![v340.toNat, 68, 0]

def k1_off70 (v345 : BitVec 32) : Fin 3 → Nat :=
  let c69_i32 : BitVec 32 := 69#32
  let c0_i32_279 : BitVec 32 := 0#32
  ![v345.toNat, 69, 0]

def k1_off71 (v350 : BitVec 32) : Fin 3 → Nat :=
  let c70_i32 : BitVec 32 := 70#32
  let c0_i32_283 : BitVec 32 := 0#32
  ![v350.toNat, 70, 0]

def k1_off72 (v355 : BitVec 32) : Fin 3 → Nat :=
  let c71_i32 : BitVec 32 := 71#32
  let c0_i32_287 : BitVec 32 := 0#32
  ![v355.toNat, 71, 0]

def k1_off73 (v360 : BitVec 32) : Fin 3 → Nat :=
  let c72_i32 : BitVec 32 := 72#32
  let c0_i32_291 : BitVec 32 := 0#32
  ![v360.toNat, 72, 0]

def k1_off74 (v365 : BitVec 32) : Fin 3 → Nat :=
  let c73_i32 : BitVec 32 := 73#32
  let c0_i32_295 : BitVec 32 := 0#32
  ![v365.toNat, 73, 0]

def k1_off75 (v370 : BitVec 32) : Fin 3 → Nat :=
  let c74_i32 : BitVec 32 := 74#32
  let c0_i32_299 : BitVec 32 := 0#32
  ![v370.toNat, 74, 0]

def k1_off76 (v375 : BitVec 32) : Fin 3 → Nat :=
  let c75_i32 : BitVec 32 := 75#32
  let c0_i32_303 : BitVec 32 := 0#32
  ![v375.toNat, 75, 0]

def k1_off77 (v380 : BitVec 32) : Fin 3 → Nat :=
  let c76_i32 : BitVec 32 := 76#32
  let c0_i32_307 : BitVec 32 := 0#32
  ![v380.toNat, 76, 0]

def k1_off78 (v385 : BitVec 32) : Fin 3 → Nat :=
  let c77_i32 : BitVec 32 := 77#32
  let c0_i32_311 : BitVec 32 := 0#32
  ![v385.toNat, 77, 0]

def k1_off79 (v390 : BitVec 32) : Fin 3 → Nat :=
  let c78_i32 : BitVec 32 := 78#32
  let c0_i32_315 : BitVec 32 := 0#32
  ![v390.toNat, 78, 0]

def k1_off80 (v395 : BitVec 32) : Fin 3 → Nat :=
  let c79_i32 : BitVec 32 := 79#32
  let c0_i32_319 : BitVec 32 := 0#32
  ![v395.toNat, 79, 0]

def k1_off81 (v400 : BitVec 32) : Fin 3 → Nat :=
  let c80_i32 : BitVec 32 := 80#32
  let c0_i32_323 : BitVec 32 := 0#32
  ![v400.toNat, 80, 0]

def k1_off82 (v405 : BitVec 32) : Fin 3 → Nat :=
  let c81_i32 : BitVec 32 := 81#32
  let c0_i32_327 : BitVec 32 := 0#32
  ![v405.toNat, 81, 0]

def k1_off83 (v410 : BitVec 32) : Fin 3 → Nat :=
  let c82_i32 : BitVec 32 := 82#32
  let c0_i32_331 : BitVec 32 := 0#32
  ![v410.toNat, 82, 0]

def k1_off84 (v415 : BitVec 32) : Fin 3 → Nat :=
  let c83_i32 : BitVec 32 := 83#32
  let c0_i32_335 : BitVec 32 := 0#32
  ![v415.toNat, 83, 0]

def k1_off85 (v420 : BitVec 32) : Fin 3 → Nat :=
  let c84_i32 : BitVec 32 := 84#32
  let c0_i32_339 : BitVec 32 := 0#32
  ![v420.toNat, 84, 0]

def k1_off86 (v425 : BitVec 32) : Fin 3 → Nat :=
  let c85_i32 : BitVec 32 := 85#32
  let c0_i32_343 : BitVec 32 := 0#32
  ![v425.toNat, 85, 0]

def k1_off87 (v430 : BitVec 32) : Fin 3 → Nat :=
  let c86_i32 : BitVec 32 := 86#32
  let c0_i32_347 : BitVec 32 := 0#32
  ![v430.toNat, 86, 0]

def k1_off88 (v435 : BitVec 32) : Fin 3 → Nat :=
  let c87_i32 : BitVec 32 := 87#32
  let c0_i32_351 : BitVec 32 := 0#32
  ![v435.toNat, 87, 0]

def k1_off89 (v440 : BitVec 32) : Fin 3 → Nat :=
  let c88_i32 : BitVec 32 := 88#32
  let c0_i32_355 : BitVec 32 := 0#32
  ![v440.toNat, 88, 0]

def k1_off90 (v445 : BitVec 32) : Fin 3 → Nat :=
  let c89_i32 : BitVec 32 := 89#32
  let c0_i32_359 : BitVec 32 := 0#32
  ![v445.toNat, 89, 0]

def k1_off91 (v450 : BitVec 32) : Fin 3 → Nat :=
  let c90_i32 : BitVec 32 := 90#32
  let c0_i32_363 : BitVec 32 := 0#32
  ![v450.toNat, 90, 0]

def k1_off92 (v455 : BitVec 32) : Fin 3 → Nat :=
  let c91_i32 : BitVec 32 := 91#32
  let c0_i32_367 : BitVec 32 := 0#32
  ![v455.toNat, 91, 0]

def k1_off93 (v460 : BitVec 32) : Fin 3 → Nat :=
  let c92_i32 : BitVec 32 := 92#32
  let c0_i32_371 : BitVec 32 := 0#32
  ![v460.toNat, 92, 0]

def k1_off94 (v465 : BitVec 32) : Fin 3 → Nat :=
  let c93_i32 : BitVec 32 := 93#32
  let c0_i32_375 : BitVec 32 := 0#32
  ![v465.toNat, 93, 0]

def k1_off95 (v470 : BitVec 32) : Fin 3 → Nat :=
  let c94_i32 : BitVec 32 := 94#32
  let c0_i32_379 : BitVec 32 := 0#32
  ![v470.toNat, 94, 0]

def k1_off96 (v475 : BitVec 32) : Fin 3 → Nat :=
  let c95_i32 : BitVec 32 := 95#32
  let c0_i32_383 : BitVec 32 := 0#32
  ![v475.toNat, 95, 0]

def k1_off97 (v480 : BitVec 32) : Fin 3 → Nat :=
  let c96_i32 : BitVec 32 := 96#32
  let c0_i32_387 : BitVec 32 := 0#32
  ![v480.toNat, 96, 0]

def k1_off98 (v485 : BitVec 32) : Fin 3 → Nat :=
  let c97_i32 : BitVec 32 := 97#32
  let c0_i32_391 : BitVec 32 := 0#32
  ![v485.toNat, 97, 0]

def k1_off99 (v490 : BitVec 32) : Fin 3 → Nat :=
  let c98_i32 : BitVec 32 := 98#32
  let c0_i32_395 : BitVec 32 := 0#32
  ![v490.toNat, 98, 0]

def k1_off100 (v495 : BitVec 32) : Fin 3 → Nat :=
  let c99_i32 : BitVec 32 := 99#32
  let c0_i32_399 : BitVec 32 := 0#32
  ![v495.toNat, 99, 0]

def k1_off101 (v500 : BitVec 32) : Fin 3 → Nat :=
  let c100_i32 : BitVec 32 := 100#32
  let c0_i32_403 : BitVec 32 := 0#32
  ![v500.toNat, 100, 0]

def k1_off102 (v505 : BitVec 32) : Fin 3 → Nat :=
  let c101_i32 : BitVec 32 := 101#32
  let c0_i32_407 : BitVec 32 := 0#32
  ![v505.toNat, 101, 0]

def k1_off103 (v510 : BitVec 32) : Fin 3 → Nat :=
  let c102_i32 : BitVec 32 := 102#32
  let c0_i32_411 : BitVec 32 := 0#32
  ![v510.toNat, 102, 0]

def k1_off104 (v515 : BitVec 32) : Fin 3 → Nat :=
  let c103_i32 : BitVec 32 := 103#32
  let c0_i32_415 : BitVec 32 := 0#32
  ![v515.toNat, 103, 0]

def k1_off105 (v520 : BitVec 32) : Fin 3 → Nat :=
  let c104_i32 : BitVec 32 := 104#32
  let c0_i32_419 : BitVec 32 := 0#32
  ![v520.toNat, 104, 0]

def k1_off106 (v525 : BitVec 32) : Fin 3 → Nat :=
  let c105_i32 : BitVec 32 := 105#32
  let c0_i32_423 : BitVec 32 := 0#32
  ![v525.toNat, 105, 0]

def k1_off107 (v530 : BitVec 32) : Fin 3 → Nat :=
  let c106_i32 : BitVec 32 := 106#32
  let c0_i32_427 : BitVec 32 := 0#32
  ![v530.toNat, 106, 0]

def k1_off108 (v535 : BitVec 32) : Fin 3 → Nat :=
  let c107_i32 : BitVec 32 := 107#32
  let c0_i32_431 : BitVec 32 := 0#32
  ![v535.toNat, 107, 0]

def k1_off109 (v540 : BitVec 32) : Fin 3 → Nat :=
  let c108_i32 : BitVec 32 := 108#32
  let c0_i32_435 : BitVec 32 := 0#32
  ![v540.toNat, 108, 0]

def k1_off110 (v545 : BitVec 32) : Fin 3 → Nat :=
  let c109_i32 : BitVec 32 := 109#32
  let c0_i32_439 : BitVec 32 := 0#32
  ![v545.toNat, 109, 0]

def k1_off111 (v550 : BitVec 32) : Fin 3 → Nat :=
  let c110_i32 : BitVec 32 := 110#32
  let c0_i32_443 : BitVec 32 := 0#32
  ![v550.toNat, 110, 0]

def k1_off112 (v555 : BitVec 32) : Fin 3 → Nat :=
  let c111_i32 : BitVec 32 := 111#32
  let c0_i32_447 : BitVec 32 := 0#32
  ![v555.toNat, 111, 0]

def k1_off113 (v560 : BitVec 32) : Fin 3 → Nat :=
  let c112_i32 : BitVec 32 := 112#32
  let c0_i32_451 : BitVec 32 := 0#32
  ![v560.toNat, 112, 0]

def k1_off114 (v565 : BitVec 32) : Fin 3 → Nat :=
  let c113_i32 : BitVec 32 := 113#32
  let c0_i32_455 : BitVec 32 := 0#32
  ![v565.toNat, 113, 0]

def k1_off115 (v570 : BitVec 32) : Fin 3 → Nat :=
  let c114_i32 : BitVec 32 := 114#32
  let c0_i32_459 : BitVec 32 := 0#32
  ![v570.toNat, 114, 0]

def k1_off116 (v575 : BitVec 32) : Fin 3 → Nat :=
  let c115_i32 : BitVec 32 := 115#32
  let c0_i32_463 : BitVec 32 := 0#32
  ![v575.toNat, 115, 0]

def k1_off117 (v580 : BitVec 32) : Fin 3 → Nat :=
  let c116_i32 : BitVec 32 := 116#32
  let c0_i32_467 : BitVec 32 := 0#32
  ![v580.toNat, 116, 0]

def k1_off118 (v585 : BitVec 32) : Fin 3 → Nat :=
  let c117_i32 : BitVec 32 := 117#32
  let c0_i32_471 : BitVec 32 := 0#32
  ![v585.toNat, 117, 0]

def k1_off119 (v590 : BitVec 32) : Fin 3 → Nat :=
  let c118_i32 : BitVec 32 := 118#32
  let c0_i32_475 : BitVec 32 := 0#32
  ![v590.toNat, 118, 0]

def k1_off120 (v595 : BitVec 32) : Fin 3 → Nat :=
  let c119_i32 : BitVec 32 := 119#32
  let c0_i32_479 : BitVec 32 := 0#32
  ![v595.toNat, 119, 0]

def k1_off121 (v600 : BitVec 32) : Fin 3 → Nat :=
  let c120_i32 : BitVec 32 := 120#32
  let c0_i32_483 : BitVec 32 := 0#32
  ![v600.toNat, 120, 0]

def k1_off122 (v605 : BitVec 32) : Fin 3 → Nat :=
  let c121_i32 : BitVec 32 := 121#32
  let c0_i32_487 : BitVec 32 := 0#32
  ![v605.toNat, 121, 0]

def k1_off123 (v610 : BitVec 32) : Fin 3 → Nat :=
  let c122_i32 : BitVec 32 := 122#32
  let c0_i32_491 : BitVec 32 := 0#32
  ![v610.toNat, 122, 0]

def k1_off124 (v615 : BitVec 32) : Fin 3 → Nat :=
  let c123_i32 : BitVec 32 := 123#32
  let c0_i32_495 : BitVec 32 := 0#32
  ![v615.toNat, 123, 0]

def k1_off125 (v620 : BitVec 32) : Fin 3 → Nat :=
  let c124_i32 : BitVec 32 := 124#32
  let c0_i32_499 : BitVec 32 := 0#32
  ![v620.toNat, 124, 0]

def k1_off126 (v625 : BitVec 32) : Fin 3 → Nat :=
  let c125_i32 : BitVec 32 := 125#32
  let c0_i32_503 : BitVec 32 := 0#32
  ![v625.toNat, 125, 0]

def k1_off127 (v630 : BitVec 32) : Fin 3 → Nat :=
  let c126_i32 : BitVec 32 := 126#32
  let c0_i32_507 : BitVec 32 := 0#32
  ![v630.toNat, 126, 0]

def k1_off128 (v635 : BitVec 32) : Fin 3 → Nat :=
  let c127_i32 : BitVec 32 := 127#32
  let c0_i32_511 : BitVec 32 := 0#32
  ![v635.toNat, 127, 0]

def k1_chk128 (v635 : BitVec 32) : Prop :=
  (∀ a, (k1_off128 v635) a + S1x1x768.size a ≤ S196x128x768.size a)
theorem k1_off128_inb : ∀ (v635 : BitVec 32) (k1_hw128 : k1_chk128 v635), ∀ a, (k1_off128 v635) a + S1x1x768.size a ≤ S196x128x768.size a := fun v635 k1_hw128 => k1_hw128

def k1_off129 (v0 : BitVec 32) : Fin 3 → Nat :=
  let c0_i32_512 : BitVec 32 := 0#32
  let c0_i32_516 : BitVec 32 := 0#32
  ![v0.toNat, 0, 0]

def k1_chk1 (v0 : BitVec 32) : Prop :=
  (∀ a, (k1_off1 v0) a + S1x1x768.size a ≤ S196x128x768.size a) ∧
  (∀ a, (k1_off129 v0) a + S1x1x768.size a ≤ S196x128x768.size a)
theorem k1_off1_inb : ∀ (v0 : BitVec 32) (k1_hw1 : k1_chk1 v0), ∀ a, (k1_off1 v0) a + S1x1x768.size a ≤ S196x128x768.size a := fun v0 k1_hw1 => k1_hw1.1
theorem k1_off129_inb : ∀ (v0 : BitVec 32) (k1_hw1 : k1_chk1 v0), ∀ a, (k1_off129 v0) a + S1x1x768.size a ≤ S196x128x768.size a := fun v0 k1_hw1 => k1_hw1.2

def k1_off130 (v5 : BitVec 32) : Fin 3 → Nat :=
  let c1_i32_517 : BitVec 32 := 1#32
  let c0_i32_521 : BitVec 32 := 0#32
  ![v5.toNat, 1, 0]

def k1_chk2 (v5 : BitVec 32) : Prop :=
  (∀ a, (k1_off2 v5) a + S1x1x768.size a ≤ S196x128x768.size a) ∧
  (∀ a, (k1_off130 v5) a + S1x1x768.size a ≤ S196x128x768.size a)
theorem k1_off2_inb : ∀ (v5 : BitVec 32) (k1_hw2 : k1_chk2 v5), ∀ a, (k1_off2 v5) a + S1x1x768.size a ≤ S196x128x768.size a := fun v5 k1_hw2 => k1_hw2.1
theorem k1_off130_inb : ∀ (v5 : BitVec 32) (k1_hw2 : k1_chk2 v5), ∀ a, (k1_off130 v5) a + S1x1x768.size a ≤ S196x128x768.size a := fun v5 k1_hw2 => k1_hw2.2

def k1_off131 (v10 : BitVec 32) : Fin 3 → Nat :=
  let c2_i32_522 : BitVec 32 := 2#32
  let c0_i32_526 : BitVec 32 := 0#32
  ![v10.toNat, 2, 0]

def k1_chk3 (v10 : BitVec 32) : Prop :=
  (∀ a, (k1_off3 v10) a + S1x1x768.size a ≤ S196x128x768.size a) ∧
  (∀ a, (k1_off131 v10) a + S1x1x768.size a ≤ S196x128x768.size a)
theorem k1_off3_inb : ∀ (v10 : BitVec 32) (k1_hw3 : k1_chk3 v10), ∀ a, (k1_off3 v10) a + S1x1x768.size a ≤ S196x128x768.size a := fun v10 k1_hw3 => k1_hw3.1
theorem k1_off131_inb : ∀ (v10 : BitVec 32) (k1_hw3 : k1_chk3 v10), ∀ a, (k1_off131 v10) a + S1x1x768.size a ≤ S196x128x768.size a := fun v10 k1_hw3 => k1_hw3.2

def k1_off132 (v15 : BitVec 32) : Fin 3 → Nat :=
  let c3_i32_527 : BitVec 32 := 3#32
  let c0_i32_531 : BitVec 32 := 0#32
  ![v15.toNat, 3, 0]

def k1_chk4 (v15 : BitVec 32) : Prop :=
  (∀ a, (k1_off4 v15) a + S1x1x768.size a ≤ S196x128x768.size a) ∧
  (∀ a, (k1_off132 v15) a + S1x1x768.size a ≤ S196x128x768.size a)
theorem k1_off4_inb : ∀ (v15 : BitVec 32) (k1_hw4 : k1_chk4 v15), ∀ a, (k1_off4 v15) a + S1x1x768.size a ≤ S196x128x768.size a := fun v15 k1_hw4 => k1_hw4.1
theorem k1_off132_inb : ∀ (v15 : BitVec 32) (k1_hw4 : k1_chk4 v15), ∀ a, (k1_off132 v15) a + S1x1x768.size a ≤ S196x128x768.size a := fun v15 k1_hw4 => k1_hw4.2

def k1_off133 (v20 : BitVec 32) : Fin 3 → Nat :=
  let c4_i32_532 : BitVec 32 := 4#32
  let c0_i32_536 : BitVec 32 := 0#32
  ![v20.toNat, 4, 0]

def k1_chk5 (v20 : BitVec 32) : Prop :=
  (∀ a, (k1_off5 v20) a + S1x1x768.size a ≤ S196x128x768.size a) ∧
  (∀ a, (k1_off133 v20) a + S1x1x768.size a ≤ S196x128x768.size a)
theorem k1_off5_inb : ∀ (v20 : BitVec 32) (k1_hw5 : k1_chk5 v20), ∀ a, (k1_off5 v20) a + S1x1x768.size a ≤ S196x128x768.size a := fun v20 k1_hw5 => k1_hw5.1
theorem k1_off133_inb : ∀ (v20 : BitVec 32) (k1_hw5 : k1_chk5 v20), ∀ a, (k1_off133 v20) a + S1x1x768.size a ≤ S196x128x768.size a := fun v20 k1_hw5 => k1_hw5.2

def k1_off134 (v25 : BitVec 32) : Fin 3 → Nat :=
  let c5_i32_537 : BitVec 32 := 5#32
  let c0_i32_541 : BitVec 32 := 0#32
  ![v25.toNat, 5, 0]

def k1_chk6 (v25 : BitVec 32) : Prop :=
  (∀ a, (k1_off6 v25) a + S1x1x768.size a ≤ S196x128x768.size a) ∧
  (∀ a, (k1_off134 v25) a + S1x1x768.size a ≤ S196x128x768.size a)
theorem k1_off6_inb : ∀ (v25 : BitVec 32) (k1_hw6 : k1_chk6 v25), ∀ a, (k1_off6 v25) a + S1x1x768.size a ≤ S196x128x768.size a := fun v25 k1_hw6 => k1_hw6.1
theorem k1_off134_inb : ∀ (v25 : BitVec 32) (k1_hw6 : k1_chk6 v25), ∀ a, (k1_off134 v25) a + S1x1x768.size a ≤ S196x128x768.size a := fun v25 k1_hw6 => k1_hw6.2

def k1_off135 (v30 : BitVec 32) : Fin 3 → Nat :=
  let c6_i32_542 : BitVec 32 := 6#32
  let c0_i32_546 : BitVec 32 := 0#32
  ![v30.toNat, 6, 0]

def k1_chk7 (v30 : BitVec 32) : Prop :=
  (∀ a, (k1_off7 v30) a + S1x1x768.size a ≤ S196x128x768.size a) ∧
  (∀ a, (k1_off135 v30) a + S1x1x768.size a ≤ S196x128x768.size a)
theorem k1_off7_inb : ∀ (v30 : BitVec 32) (k1_hw7 : k1_chk7 v30), ∀ a, (k1_off7 v30) a + S1x1x768.size a ≤ S196x128x768.size a := fun v30 k1_hw7 => k1_hw7.1
theorem k1_off135_inb : ∀ (v30 : BitVec 32) (k1_hw7 : k1_chk7 v30), ∀ a, (k1_off135 v30) a + S1x1x768.size a ≤ S196x128x768.size a := fun v30 k1_hw7 => k1_hw7.2

def k1_off136 (v35 : BitVec 32) : Fin 3 → Nat :=
  let c7_i32_547 : BitVec 32 := 7#32
  let c0_i32_551 : BitVec 32 := 0#32
  ![v35.toNat, 7, 0]

def k1_chk8 (v35 : BitVec 32) : Prop :=
  (∀ a, (k1_off8 v35) a + S1x1x768.size a ≤ S196x128x768.size a) ∧
  (∀ a, (k1_off136 v35) a + S1x1x768.size a ≤ S196x128x768.size a)
theorem k1_off8_inb : ∀ (v35 : BitVec 32) (k1_hw8 : k1_chk8 v35), ∀ a, (k1_off8 v35) a + S1x1x768.size a ≤ S196x128x768.size a := fun v35 k1_hw8 => k1_hw8.1
theorem k1_off136_inb : ∀ (v35 : BitVec 32) (k1_hw8 : k1_chk8 v35), ∀ a, (k1_off136 v35) a + S1x1x768.size a ≤ S196x128x768.size a := fun v35 k1_hw8 => k1_hw8.2

def k1_off137 (v40 : BitVec 32) : Fin 3 → Nat :=
  let c8_i32_552 : BitVec 32 := 8#32
  let c0_i32_556 : BitVec 32 := 0#32
  ![v40.toNat, 8, 0]

def k1_chk9 (v40 : BitVec 32) : Prop :=
  (∀ a, (k1_off9 v40) a + S1x1x768.size a ≤ S196x128x768.size a) ∧
  (∀ a, (k1_off137 v40) a + S1x1x768.size a ≤ S196x128x768.size a)
theorem k1_off9_inb : ∀ (v40 : BitVec 32) (k1_hw9 : k1_chk9 v40), ∀ a, (k1_off9 v40) a + S1x1x768.size a ≤ S196x128x768.size a := fun v40 k1_hw9 => k1_hw9.1
theorem k1_off137_inb : ∀ (v40 : BitVec 32) (k1_hw9 : k1_chk9 v40), ∀ a, (k1_off137 v40) a + S1x1x768.size a ≤ S196x128x768.size a := fun v40 k1_hw9 => k1_hw9.2

def k1_off138 (v45 : BitVec 32) : Fin 3 → Nat :=
  let c9_i32_557 : BitVec 32 := 9#32
  let c0_i32_561 : BitVec 32 := 0#32
  ![v45.toNat, 9, 0]

def k1_chk10 (v45 : BitVec 32) : Prop :=
  (∀ a, (k1_off10 v45) a + S1x1x768.size a ≤ S196x128x768.size a) ∧
  (∀ a, (k1_off138 v45) a + S1x1x768.size a ≤ S196x128x768.size a)
theorem k1_off10_inb : ∀ (v45 : BitVec 32) (k1_hw10 : k1_chk10 v45), ∀ a, (k1_off10 v45) a + S1x1x768.size a ≤ S196x128x768.size a := fun v45 k1_hw10 => k1_hw10.1
theorem k1_off138_inb : ∀ (v45 : BitVec 32) (k1_hw10 : k1_chk10 v45), ∀ a, (k1_off138 v45) a + S1x1x768.size a ≤ S196x128x768.size a := fun v45 k1_hw10 => k1_hw10.2

def k1_off139 (v50 : BitVec 32) : Fin 3 → Nat :=
  let c10_i32_562 : BitVec 32 := 10#32
  let c0_i32_566 : BitVec 32 := 0#32
  ![v50.toNat, 10, 0]

def k1_chk11 (v50 : BitVec 32) : Prop :=
  (∀ a, (k1_off11 v50) a + S1x1x768.size a ≤ S196x128x768.size a) ∧
  (∀ a, (k1_off139 v50) a + S1x1x768.size a ≤ S196x128x768.size a)
theorem k1_off11_inb : ∀ (v50 : BitVec 32) (k1_hw11 : k1_chk11 v50), ∀ a, (k1_off11 v50) a + S1x1x768.size a ≤ S196x128x768.size a := fun v50 k1_hw11 => k1_hw11.1
theorem k1_off139_inb : ∀ (v50 : BitVec 32) (k1_hw11 : k1_chk11 v50), ∀ a, (k1_off139 v50) a + S1x1x768.size a ≤ S196x128x768.size a := fun v50 k1_hw11 => k1_hw11.2

def k1_off140 (v55 : BitVec 32) : Fin 3 → Nat :=
  let c11_i32_567 : BitVec 32 := 11#32
  let c0_i32_571 : BitVec 32 := 0#32
  ![v55.toNat, 11, 0]

def k1_chk12 (v55 : BitVec 32) : Prop :=
  (∀ a, (k1_off12 v55) a + S1x1x768.size a ≤ S196x128x768.size a) ∧
  (∀ a, (k1_off140 v55) a + S1x1x768.size a ≤ S196x128x768.size a)
theorem k1_off12_inb : ∀ (v55 : BitVec 32) (k1_hw12 : k1_chk12 v55), ∀ a, (k1_off12 v55) a + S1x1x768.size a ≤ S196x128x768.size a := fun v55 k1_hw12 => k1_hw12.1
theorem k1_off140_inb : ∀ (v55 : BitVec 32) (k1_hw12 : k1_chk12 v55), ∀ a, (k1_off140 v55) a + S1x1x768.size a ≤ S196x128x768.size a := fun v55 k1_hw12 => k1_hw12.2

def k1_off141 (v60 : BitVec 32) : Fin 3 → Nat :=
  let c12_i32_572 : BitVec 32 := 12#32
  let c0_i32_576 : BitVec 32 := 0#32
  ![v60.toNat, 12, 0]

def k1_chk13 (v60 : BitVec 32) : Prop :=
  (∀ a, (k1_off13 v60) a + S1x1x768.size a ≤ S196x128x768.size a) ∧
  (∀ a, (k1_off141 v60) a + S1x1x768.size a ≤ S196x128x768.size a)
theorem k1_off13_inb : ∀ (v60 : BitVec 32) (k1_hw13 : k1_chk13 v60), ∀ a, (k1_off13 v60) a + S1x1x768.size a ≤ S196x128x768.size a := fun v60 k1_hw13 => k1_hw13.1
theorem k1_off141_inb : ∀ (v60 : BitVec 32) (k1_hw13 : k1_chk13 v60), ∀ a, (k1_off141 v60) a + S1x1x768.size a ≤ S196x128x768.size a := fun v60 k1_hw13 => k1_hw13.2

def k1_off142 (v65 : BitVec 32) : Fin 3 → Nat :=
  let c13_i32_577 : BitVec 32 := 13#32
  let c0_i32_581 : BitVec 32 := 0#32
  ![v65.toNat, 13, 0]

def k1_chk14 (v65 : BitVec 32) : Prop :=
  (∀ a, (k1_off14 v65) a + S1x1x768.size a ≤ S196x128x768.size a) ∧
  (∀ a, (k1_off142 v65) a + S1x1x768.size a ≤ S196x128x768.size a)
theorem k1_off14_inb : ∀ (v65 : BitVec 32) (k1_hw14 : k1_chk14 v65), ∀ a, (k1_off14 v65) a + S1x1x768.size a ≤ S196x128x768.size a := fun v65 k1_hw14 => k1_hw14.1
theorem k1_off142_inb : ∀ (v65 : BitVec 32) (k1_hw14 : k1_chk14 v65), ∀ a, (k1_off142 v65) a + S1x1x768.size a ≤ S196x128x768.size a := fun v65 k1_hw14 => k1_hw14.2

def k1_off143 (v70 : BitVec 32) : Fin 3 → Nat :=
  let c14_i32_582 : BitVec 32 := 14#32
  let c0_i32_586 : BitVec 32 := 0#32
  ![v70.toNat, 14, 0]

def k1_chk15 (v70 : BitVec 32) : Prop :=
  (∀ a, (k1_off15 v70) a + S1x1x768.size a ≤ S196x128x768.size a) ∧
  (∀ a, (k1_off143 v70) a + S1x1x768.size a ≤ S196x128x768.size a)
theorem k1_off15_inb : ∀ (v70 : BitVec 32) (k1_hw15 : k1_chk15 v70), ∀ a, (k1_off15 v70) a + S1x1x768.size a ≤ S196x128x768.size a := fun v70 k1_hw15 => k1_hw15.1
theorem k1_off143_inb : ∀ (v70 : BitVec 32) (k1_hw15 : k1_chk15 v70), ∀ a, (k1_off143 v70) a + S1x1x768.size a ≤ S196x128x768.size a := fun v70 k1_hw15 => k1_hw15.2

def k1_off144 (v75 : BitVec 32) : Fin 3 → Nat :=
  let c15_i32_587 : BitVec 32 := 15#32
  let c0_i32_591 : BitVec 32 := 0#32
  ![v75.toNat, 15, 0]

def k1_chk16 (v75 : BitVec 32) : Prop :=
  (∀ a, (k1_off16 v75) a + S1x1x768.size a ≤ S196x128x768.size a) ∧
  (∀ a, (k1_off144 v75) a + S1x1x768.size a ≤ S196x128x768.size a)
theorem k1_off16_inb : ∀ (v75 : BitVec 32) (k1_hw16 : k1_chk16 v75), ∀ a, (k1_off16 v75) a + S1x1x768.size a ≤ S196x128x768.size a := fun v75 k1_hw16 => k1_hw16.1
theorem k1_off144_inb : ∀ (v75 : BitVec 32) (k1_hw16 : k1_chk16 v75), ∀ a, (k1_off144 v75) a + S1x1x768.size a ≤ S196x128x768.size a := fun v75 k1_hw16 => k1_hw16.2

def k1_off145 (v80 : BitVec 32) : Fin 3 → Nat :=
  let c16_i32_592 : BitVec 32 := 16#32
  let c0_i32_596 : BitVec 32 := 0#32
  ![v80.toNat, 16, 0]

def k1_chk17 (v80 : BitVec 32) : Prop :=
  (∀ a, (k1_off17 v80) a + S1x1x768.size a ≤ S196x128x768.size a) ∧
  (∀ a, (k1_off145 v80) a + S1x1x768.size a ≤ S196x128x768.size a)
theorem k1_off17_inb : ∀ (v80 : BitVec 32) (k1_hw17 : k1_chk17 v80), ∀ a, (k1_off17 v80) a + S1x1x768.size a ≤ S196x128x768.size a := fun v80 k1_hw17 => k1_hw17.1
theorem k1_off145_inb : ∀ (v80 : BitVec 32) (k1_hw17 : k1_chk17 v80), ∀ a, (k1_off145 v80) a + S1x1x768.size a ≤ S196x128x768.size a := fun v80 k1_hw17 => k1_hw17.2

def k1_off146 (v85 : BitVec 32) : Fin 3 → Nat :=
  let c17_i32_597 : BitVec 32 := 17#32
  let c0_i32_601 : BitVec 32 := 0#32
  ![v85.toNat, 17, 0]

def k1_chk18 (v85 : BitVec 32) : Prop :=
  (∀ a, (k1_off18 v85) a + S1x1x768.size a ≤ S196x128x768.size a) ∧
  (∀ a, (k1_off146 v85) a + S1x1x768.size a ≤ S196x128x768.size a)
theorem k1_off18_inb : ∀ (v85 : BitVec 32) (k1_hw18 : k1_chk18 v85), ∀ a, (k1_off18 v85) a + S1x1x768.size a ≤ S196x128x768.size a := fun v85 k1_hw18 => k1_hw18.1
theorem k1_off146_inb : ∀ (v85 : BitVec 32) (k1_hw18 : k1_chk18 v85), ∀ a, (k1_off146 v85) a + S1x1x768.size a ≤ S196x128x768.size a := fun v85 k1_hw18 => k1_hw18.2

def k1_off147 (v90 : BitVec 32) : Fin 3 → Nat :=
  let c18_i32_602 : BitVec 32 := 18#32
  let c0_i32_606 : BitVec 32 := 0#32
  ![v90.toNat, 18, 0]

def k1_chk19 (v90 : BitVec 32) : Prop :=
  (∀ a, (k1_off19 v90) a + S1x1x768.size a ≤ S196x128x768.size a) ∧
  (∀ a, (k1_off147 v90) a + S1x1x768.size a ≤ S196x128x768.size a)
theorem k1_off19_inb : ∀ (v90 : BitVec 32) (k1_hw19 : k1_chk19 v90), ∀ a, (k1_off19 v90) a + S1x1x768.size a ≤ S196x128x768.size a := fun v90 k1_hw19 => k1_hw19.1
theorem k1_off147_inb : ∀ (v90 : BitVec 32) (k1_hw19 : k1_chk19 v90), ∀ a, (k1_off147 v90) a + S1x1x768.size a ≤ S196x128x768.size a := fun v90 k1_hw19 => k1_hw19.2

def k1_off148 (v95 : BitVec 32) : Fin 3 → Nat :=
  let c19_i32_607 : BitVec 32 := 19#32
  let c0_i32_611 : BitVec 32 := 0#32
  ![v95.toNat, 19, 0]

def k1_chk20 (v95 : BitVec 32) : Prop :=
  (∀ a, (k1_off20 v95) a + S1x1x768.size a ≤ S196x128x768.size a) ∧
  (∀ a, (k1_off148 v95) a + S1x1x768.size a ≤ S196x128x768.size a)
theorem k1_off20_inb : ∀ (v95 : BitVec 32) (k1_hw20 : k1_chk20 v95), ∀ a, (k1_off20 v95) a + S1x1x768.size a ≤ S196x128x768.size a := fun v95 k1_hw20 => k1_hw20.1
theorem k1_off148_inb : ∀ (v95 : BitVec 32) (k1_hw20 : k1_chk20 v95), ∀ a, (k1_off148 v95) a + S1x1x768.size a ≤ S196x128x768.size a := fun v95 k1_hw20 => k1_hw20.2

def k1_off149 (v100 : BitVec 32) : Fin 3 → Nat :=
  let c20_i32_612 : BitVec 32 := 20#32
  let c0_i32_616 : BitVec 32 := 0#32
  ![v100.toNat, 20, 0]

def k1_chk21 (v100 : BitVec 32) : Prop :=
  (∀ a, (k1_off21 v100) a + S1x1x768.size a ≤ S196x128x768.size a) ∧
  (∀ a, (k1_off149 v100) a + S1x1x768.size a ≤ S196x128x768.size a)
theorem k1_off21_inb : ∀ (v100 : BitVec 32) (k1_hw21 : k1_chk21 v100), ∀ a, (k1_off21 v100) a + S1x1x768.size a ≤ S196x128x768.size a := fun v100 k1_hw21 => k1_hw21.1
theorem k1_off149_inb : ∀ (v100 : BitVec 32) (k1_hw21 : k1_chk21 v100), ∀ a, (k1_off149 v100) a + S1x1x768.size a ≤ S196x128x768.size a := fun v100 k1_hw21 => k1_hw21.2

def k1_off150 (v105 : BitVec 32) : Fin 3 → Nat :=
  let c21_i32_617 : BitVec 32 := 21#32
  let c0_i32_621 : BitVec 32 := 0#32
  ![v105.toNat, 21, 0]

def k1_chk22 (v105 : BitVec 32) : Prop :=
  (∀ a, (k1_off22 v105) a + S1x1x768.size a ≤ S196x128x768.size a) ∧
  (∀ a, (k1_off150 v105) a + S1x1x768.size a ≤ S196x128x768.size a)
theorem k1_off22_inb : ∀ (v105 : BitVec 32) (k1_hw22 : k1_chk22 v105), ∀ a, (k1_off22 v105) a + S1x1x768.size a ≤ S196x128x768.size a := fun v105 k1_hw22 => k1_hw22.1
theorem k1_off150_inb : ∀ (v105 : BitVec 32) (k1_hw22 : k1_chk22 v105), ∀ a, (k1_off150 v105) a + S1x1x768.size a ≤ S196x128x768.size a := fun v105 k1_hw22 => k1_hw22.2

def k1_off151 (v110 : BitVec 32) : Fin 3 → Nat :=
  let c22_i32_622 : BitVec 32 := 22#32
  let c0_i32_626 : BitVec 32 := 0#32
  ![v110.toNat, 22, 0]

def k1_chk23 (v110 : BitVec 32) : Prop :=
  (∀ a, (k1_off23 v110) a + S1x1x768.size a ≤ S196x128x768.size a) ∧
  (∀ a, (k1_off151 v110) a + S1x1x768.size a ≤ S196x128x768.size a)
theorem k1_off23_inb : ∀ (v110 : BitVec 32) (k1_hw23 : k1_chk23 v110), ∀ a, (k1_off23 v110) a + S1x1x768.size a ≤ S196x128x768.size a := fun v110 k1_hw23 => k1_hw23.1
theorem k1_off151_inb : ∀ (v110 : BitVec 32) (k1_hw23 : k1_chk23 v110), ∀ a, (k1_off151 v110) a + S1x1x768.size a ≤ S196x128x768.size a := fun v110 k1_hw23 => k1_hw23.2

def k1_off152 (v115 : BitVec 32) : Fin 3 → Nat :=
  let c23_i32_627 : BitVec 32 := 23#32
  let c0_i32_631 : BitVec 32 := 0#32
  ![v115.toNat, 23, 0]

def k1_chk24 (v115 : BitVec 32) : Prop :=
  (∀ a, (k1_off24 v115) a + S1x1x768.size a ≤ S196x128x768.size a) ∧
  (∀ a, (k1_off152 v115) a + S1x1x768.size a ≤ S196x128x768.size a)
theorem k1_off24_inb : ∀ (v115 : BitVec 32) (k1_hw24 : k1_chk24 v115), ∀ a, (k1_off24 v115) a + S1x1x768.size a ≤ S196x128x768.size a := fun v115 k1_hw24 => k1_hw24.1
theorem k1_off152_inb : ∀ (v115 : BitVec 32) (k1_hw24 : k1_chk24 v115), ∀ a, (k1_off152 v115) a + S1x1x768.size a ≤ S196x128x768.size a := fun v115 k1_hw24 => k1_hw24.2

def k1_off153 (v120 : BitVec 32) : Fin 3 → Nat :=
  let c24_i32_632 : BitVec 32 := 24#32
  let c0_i32_636 : BitVec 32 := 0#32
  ![v120.toNat, 24, 0]

def k1_chk25 (v120 : BitVec 32) : Prop :=
  (∀ a, (k1_off25 v120) a + S1x1x768.size a ≤ S196x128x768.size a) ∧
  (∀ a, (k1_off153 v120) a + S1x1x768.size a ≤ S196x128x768.size a)
theorem k1_off25_inb : ∀ (v120 : BitVec 32) (k1_hw25 : k1_chk25 v120), ∀ a, (k1_off25 v120) a + S1x1x768.size a ≤ S196x128x768.size a := fun v120 k1_hw25 => k1_hw25.1
theorem k1_off153_inb : ∀ (v120 : BitVec 32) (k1_hw25 : k1_chk25 v120), ∀ a, (k1_off153 v120) a + S1x1x768.size a ≤ S196x128x768.size a := fun v120 k1_hw25 => k1_hw25.2

def k1_off154 (v125 : BitVec 32) : Fin 3 → Nat :=
  let c25_i32_637 : BitVec 32 := 25#32
  let c0_i32_641 : BitVec 32 := 0#32
  ![v125.toNat, 25, 0]

def k1_chk26 (v125 : BitVec 32) : Prop :=
  (∀ a, (k1_off26 v125) a + S1x1x768.size a ≤ S196x128x768.size a) ∧
  (∀ a, (k1_off154 v125) a + S1x1x768.size a ≤ S196x128x768.size a)
theorem k1_off26_inb : ∀ (v125 : BitVec 32) (k1_hw26 : k1_chk26 v125), ∀ a, (k1_off26 v125) a + S1x1x768.size a ≤ S196x128x768.size a := fun v125 k1_hw26 => k1_hw26.1
theorem k1_off154_inb : ∀ (v125 : BitVec 32) (k1_hw26 : k1_chk26 v125), ∀ a, (k1_off154 v125) a + S1x1x768.size a ≤ S196x128x768.size a := fun v125 k1_hw26 => k1_hw26.2

def k1_off155 (v130 : BitVec 32) : Fin 3 → Nat :=
  let c26_i32_642 : BitVec 32 := 26#32
  let c0_i32_646 : BitVec 32 := 0#32
  ![v130.toNat, 26, 0]

def k1_chk27 (v130 : BitVec 32) : Prop :=
  (∀ a, (k1_off27 v130) a + S1x1x768.size a ≤ S196x128x768.size a) ∧
  (∀ a, (k1_off155 v130) a + S1x1x768.size a ≤ S196x128x768.size a)
theorem k1_off27_inb : ∀ (v130 : BitVec 32) (k1_hw27 : k1_chk27 v130), ∀ a, (k1_off27 v130) a + S1x1x768.size a ≤ S196x128x768.size a := fun v130 k1_hw27 => k1_hw27.1
theorem k1_off155_inb : ∀ (v130 : BitVec 32) (k1_hw27 : k1_chk27 v130), ∀ a, (k1_off155 v130) a + S1x1x768.size a ≤ S196x128x768.size a := fun v130 k1_hw27 => k1_hw27.2

def k1_off156 (v135 : BitVec 32) : Fin 3 → Nat :=
  let c27_i32_647 : BitVec 32 := 27#32
  let c0_i32_651 : BitVec 32 := 0#32
  ![v135.toNat, 27, 0]

def k1_chk28 (v135 : BitVec 32) : Prop :=
  (∀ a, (k1_off28 v135) a + S1x1x768.size a ≤ S196x128x768.size a) ∧
  (∀ a, (k1_off156 v135) a + S1x1x768.size a ≤ S196x128x768.size a)
theorem k1_off28_inb : ∀ (v135 : BitVec 32) (k1_hw28 : k1_chk28 v135), ∀ a, (k1_off28 v135) a + S1x1x768.size a ≤ S196x128x768.size a := fun v135 k1_hw28 => k1_hw28.1
theorem k1_off156_inb : ∀ (v135 : BitVec 32) (k1_hw28 : k1_chk28 v135), ∀ a, (k1_off156 v135) a + S1x1x768.size a ≤ S196x128x768.size a := fun v135 k1_hw28 => k1_hw28.2

def k1_off157 (v140 : BitVec 32) : Fin 3 → Nat :=
  let c28_i32_652 : BitVec 32 := 28#32
  let c0_i32_656 : BitVec 32 := 0#32
  ![v140.toNat, 28, 0]

def k1_chk29 (v140 : BitVec 32) : Prop :=
  (∀ a, (k1_off29 v140) a + S1x1x768.size a ≤ S196x128x768.size a) ∧
  (∀ a, (k1_off157 v140) a + S1x1x768.size a ≤ S196x128x768.size a)
theorem k1_off29_inb : ∀ (v140 : BitVec 32) (k1_hw29 : k1_chk29 v140), ∀ a, (k1_off29 v140) a + S1x1x768.size a ≤ S196x128x768.size a := fun v140 k1_hw29 => k1_hw29.1
theorem k1_off157_inb : ∀ (v140 : BitVec 32) (k1_hw29 : k1_chk29 v140), ∀ a, (k1_off157 v140) a + S1x1x768.size a ≤ S196x128x768.size a := fun v140 k1_hw29 => k1_hw29.2

def k1_off158 (v145 : BitVec 32) : Fin 3 → Nat :=
  let c29_i32_657 : BitVec 32 := 29#32
  let c0_i32_661 : BitVec 32 := 0#32
  ![v145.toNat, 29, 0]

def k1_chk30 (v145 : BitVec 32) : Prop :=
  (∀ a, (k1_off30 v145) a + S1x1x768.size a ≤ S196x128x768.size a) ∧
  (∀ a, (k1_off158 v145) a + S1x1x768.size a ≤ S196x128x768.size a)
theorem k1_off30_inb : ∀ (v145 : BitVec 32) (k1_hw30 : k1_chk30 v145), ∀ a, (k1_off30 v145) a + S1x1x768.size a ≤ S196x128x768.size a := fun v145 k1_hw30 => k1_hw30.1
theorem k1_off158_inb : ∀ (v145 : BitVec 32) (k1_hw30 : k1_chk30 v145), ∀ a, (k1_off158 v145) a + S1x1x768.size a ≤ S196x128x768.size a := fun v145 k1_hw30 => k1_hw30.2

def k1_off159 (v150 : BitVec 32) : Fin 3 → Nat :=
  let c30_i32_662 : BitVec 32 := 30#32
  let c0_i32_666 : BitVec 32 := 0#32
  ![v150.toNat, 30, 0]

def k1_chk31 (v150 : BitVec 32) : Prop :=
  (∀ a, (k1_off31 v150) a + S1x1x768.size a ≤ S196x128x768.size a) ∧
  (∀ a, (k1_off159 v150) a + S1x1x768.size a ≤ S196x128x768.size a)
theorem k1_off31_inb : ∀ (v150 : BitVec 32) (k1_hw31 : k1_chk31 v150), ∀ a, (k1_off31 v150) a + S1x1x768.size a ≤ S196x128x768.size a := fun v150 k1_hw31 => k1_hw31.1
theorem k1_off159_inb : ∀ (v150 : BitVec 32) (k1_hw31 : k1_chk31 v150), ∀ a, (k1_off159 v150) a + S1x1x768.size a ≤ S196x128x768.size a := fun v150 k1_hw31 => k1_hw31.2

def k1_off160 (v155 : BitVec 32) : Fin 3 → Nat :=
  let c31_i32_667 : BitVec 32 := 31#32
  let c0_i32_671 : BitVec 32 := 0#32
  ![v155.toNat, 31, 0]

def k1_chk32 (v155 : BitVec 32) : Prop :=
  (∀ a, (k1_off32 v155) a + S1x1x768.size a ≤ S196x128x768.size a) ∧
  (∀ a, (k1_off160 v155) a + S1x1x768.size a ≤ S196x128x768.size a)
theorem k1_off32_inb : ∀ (v155 : BitVec 32) (k1_hw32 : k1_chk32 v155), ∀ a, (k1_off32 v155) a + S1x1x768.size a ≤ S196x128x768.size a := fun v155 k1_hw32 => k1_hw32.1
theorem k1_off160_inb : ∀ (v155 : BitVec 32) (k1_hw32 : k1_chk32 v155), ∀ a, (k1_off160 v155) a + S1x1x768.size a ≤ S196x128x768.size a := fun v155 k1_hw32 => k1_hw32.2

def k1_off161 (v160 : BitVec 32) : Fin 3 → Nat :=
  let c32_i32_672 : BitVec 32 := 32#32
  let c0_i32_676 : BitVec 32 := 0#32
  ![v160.toNat, 32, 0]

def k1_chk33 (v160 : BitVec 32) : Prop :=
  (∀ a, (k1_off33 v160) a + S1x1x768.size a ≤ S196x128x768.size a) ∧
  (∀ a, (k1_off161 v160) a + S1x1x768.size a ≤ S196x128x768.size a)
theorem k1_off33_inb : ∀ (v160 : BitVec 32) (k1_hw33 : k1_chk33 v160), ∀ a, (k1_off33 v160) a + S1x1x768.size a ≤ S196x128x768.size a := fun v160 k1_hw33 => k1_hw33.1
theorem k1_off161_inb : ∀ (v160 : BitVec 32) (k1_hw33 : k1_chk33 v160), ∀ a, (k1_off161 v160) a + S1x1x768.size a ≤ S196x128x768.size a := fun v160 k1_hw33 => k1_hw33.2

def k1_off162 (v165 : BitVec 32) : Fin 3 → Nat :=
  let c33_i32_677 : BitVec 32 := 33#32
  let c0_i32_681 : BitVec 32 := 0#32
  ![v165.toNat, 33, 0]

def k1_chk34 (v165 : BitVec 32) : Prop :=
  (∀ a, (k1_off34 v165) a + S1x1x768.size a ≤ S196x128x768.size a) ∧
  (∀ a, (k1_off162 v165) a + S1x1x768.size a ≤ S196x128x768.size a)
theorem k1_off34_inb : ∀ (v165 : BitVec 32) (k1_hw34 : k1_chk34 v165), ∀ a, (k1_off34 v165) a + S1x1x768.size a ≤ S196x128x768.size a := fun v165 k1_hw34 => k1_hw34.1
theorem k1_off162_inb : ∀ (v165 : BitVec 32) (k1_hw34 : k1_chk34 v165), ∀ a, (k1_off162 v165) a + S1x1x768.size a ≤ S196x128x768.size a := fun v165 k1_hw34 => k1_hw34.2

def k1_off163 (v170 : BitVec 32) : Fin 3 → Nat :=
  let c34_i32_682 : BitVec 32 := 34#32
  let c0_i32_686 : BitVec 32 := 0#32
  ![v170.toNat, 34, 0]

def k1_chk35 (v170 : BitVec 32) : Prop :=
  (∀ a, (k1_off35 v170) a + S1x1x768.size a ≤ S196x128x768.size a) ∧
  (∀ a, (k1_off163 v170) a + S1x1x768.size a ≤ S196x128x768.size a)
theorem k1_off35_inb : ∀ (v170 : BitVec 32) (k1_hw35 : k1_chk35 v170), ∀ a, (k1_off35 v170) a + S1x1x768.size a ≤ S196x128x768.size a := fun v170 k1_hw35 => k1_hw35.1
theorem k1_off163_inb : ∀ (v170 : BitVec 32) (k1_hw35 : k1_chk35 v170), ∀ a, (k1_off163 v170) a + S1x1x768.size a ≤ S196x128x768.size a := fun v170 k1_hw35 => k1_hw35.2

def k1_off164 (v175 : BitVec 32) : Fin 3 → Nat :=
  let c35_i32_687 : BitVec 32 := 35#32
  let c0_i32_691 : BitVec 32 := 0#32
  ![v175.toNat, 35, 0]

def k1_chk36 (v175 : BitVec 32) : Prop :=
  (∀ a, (k1_off36 v175) a + S1x1x768.size a ≤ S196x128x768.size a) ∧
  (∀ a, (k1_off164 v175) a + S1x1x768.size a ≤ S196x128x768.size a)
theorem k1_off36_inb : ∀ (v175 : BitVec 32) (k1_hw36 : k1_chk36 v175), ∀ a, (k1_off36 v175) a + S1x1x768.size a ≤ S196x128x768.size a := fun v175 k1_hw36 => k1_hw36.1
theorem k1_off164_inb : ∀ (v175 : BitVec 32) (k1_hw36 : k1_chk36 v175), ∀ a, (k1_off164 v175) a + S1x1x768.size a ≤ S196x128x768.size a := fun v175 k1_hw36 => k1_hw36.2

def k1_off165 (v180 : BitVec 32) : Fin 3 → Nat :=
  let c36_i32_692 : BitVec 32 := 36#32
  let c0_i32_696 : BitVec 32 := 0#32
  ![v180.toNat, 36, 0]

def k1_chk37 (v180 : BitVec 32) : Prop :=
  (∀ a, (k1_off37 v180) a + S1x1x768.size a ≤ S196x128x768.size a) ∧
  (∀ a, (k1_off165 v180) a + S1x1x768.size a ≤ S196x128x768.size a)
theorem k1_off37_inb : ∀ (v180 : BitVec 32) (k1_hw37 : k1_chk37 v180), ∀ a, (k1_off37 v180) a + S1x1x768.size a ≤ S196x128x768.size a := fun v180 k1_hw37 => k1_hw37.1
theorem k1_off165_inb : ∀ (v180 : BitVec 32) (k1_hw37 : k1_chk37 v180), ∀ a, (k1_off165 v180) a + S1x1x768.size a ≤ S196x128x768.size a := fun v180 k1_hw37 => k1_hw37.2

def k1_off166 (v185 : BitVec 32) : Fin 3 → Nat :=
  let c37_i32_697 : BitVec 32 := 37#32
  let c0_i32_701 : BitVec 32 := 0#32
  ![v185.toNat, 37, 0]

def k1_chk38 (v185 : BitVec 32) : Prop :=
  (∀ a, (k1_off38 v185) a + S1x1x768.size a ≤ S196x128x768.size a) ∧
  (∀ a, (k1_off166 v185) a + S1x1x768.size a ≤ S196x128x768.size a)
theorem k1_off38_inb : ∀ (v185 : BitVec 32) (k1_hw38 : k1_chk38 v185), ∀ a, (k1_off38 v185) a + S1x1x768.size a ≤ S196x128x768.size a := fun v185 k1_hw38 => k1_hw38.1
theorem k1_off166_inb : ∀ (v185 : BitVec 32) (k1_hw38 : k1_chk38 v185), ∀ a, (k1_off166 v185) a + S1x1x768.size a ≤ S196x128x768.size a := fun v185 k1_hw38 => k1_hw38.2

def k1_off167 (v190 : BitVec 32) : Fin 3 → Nat :=
  let c38_i32_702 : BitVec 32 := 38#32
  let c0_i32_706 : BitVec 32 := 0#32
  ![v190.toNat, 38, 0]

def k1_chk39 (v190 : BitVec 32) : Prop :=
  (∀ a, (k1_off39 v190) a + S1x1x768.size a ≤ S196x128x768.size a) ∧
  (∀ a, (k1_off167 v190) a + S1x1x768.size a ≤ S196x128x768.size a)
theorem k1_off39_inb : ∀ (v190 : BitVec 32) (k1_hw39 : k1_chk39 v190), ∀ a, (k1_off39 v190) a + S1x1x768.size a ≤ S196x128x768.size a := fun v190 k1_hw39 => k1_hw39.1
theorem k1_off167_inb : ∀ (v190 : BitVec 32) (k1_hw39 : k1_chk39 v190), ∀ a, (k1_off167 v190) a + S1x1x768.size a ≤ S196x128x768.size a := fun v190 k1_hw39 => k1_hw39.2

def k1_off168 (v195 : BitVec 32) : Fin 3 → Nat :=
  let c39_i32_707 : BitVec 32 := 39#32
  let c0_i32_711 : BitVec 32 := 0#32
  ![v195.toNat, 39, 0]

def k1_chk40 (v195 : BitVec 32) : Prop :=
  (∀ a, (k1_off40 v195) a + S1x1x768.size a ≤ S196x128x768.size a) ∧
  (∀ a, (k1_off168 v195) a + S1x1x768.size a ≤ S196x128x768.size a)
theorem k1_off40_inb : ∀ (v195 : BitVec 32) (k1_hw40 : k1_chk40 v195), ∀ a, (k1_off40 v195) a + S1x1x768.size a ≤ S196x128x768.size a := fun v195 k1_hw40 => k1_hw40.1
theorem k1_off168_inb : ∀ (v195 : BitVec 32) (k1_hw40 : k1_chk40 v195), ∀ a, (k1_off168 v195) a + S1x1x768.size a ≤ S196x128x768.size a := fun v195 k1_hw40 => k1_hw40.2

def k1_off169 (v200 : BitVec 32) : Fin 3 → Nat :=
  let c40_i32_712 : BitVec 32 := 40#32
  let c0_i32_716 : BitVec 32 := 0#32
  ![v200.toNat, 40, 0]

def k1_chk41 (v200 : BitVec 32) : Prop :=
  (∀ a, (k1_off41 v200) a + S1x1x768.size a ≤ S196x128x768.size a) ∧
  (∀ a, (k1_off169 v200) a + S1x1x768.size a ≤ S196x128x768.size a)
theorem k1_off41_inb : ∀ (v200 : BitVec 32) (k1_hw41 : k1_chk41 v200), ∀ a, (k1_off41 v200) a + S1x1x768.size a ≤ S196x128x768.size a := fun v200 k1_hw41 => k1_hw41.1
theorem k1_off169_inb : ∀ (v200 : BitVec 32) (k1_hw41 : k1_chk41 v200), ∀ a, (k1_off169 v200) a + S1x1x768.size a ≤ S196x128x768.size a := fun v200 k1_hw41 => k1_hw41.2

def k1_off170 (v205 : BitVec 32) : Fin 3 → Nat :=
  let c41_i32_717 : BitVec 32 := 41#32
  let c0_i32_721 : BitVec 32 := 0#32
  ![v205.toNat, 41, 0]

def k1_chk42 (v205 : BitVec 32) : Prop :=
  (∀ a, (k1_off42 v205) a + S1x1x768.size a ≤ S196x128x768.size a) ∧
  (∀ a, (k1_off170 v205) a + S1x1x768.size a ≤ S196x128x768.size a)
theorem k1_off42_inb : ∀ (v205 : BitVec 32) (k1_hw42 : k1_chk42 v205), ∀ a, (k1_off42 v205) a + S1x1x768.size a ≤ S196x128x768.size a := fun v205 k1_hw42 => k1_hw42.1
theorem k1_off170_inb : ∀ (v205 : BitVec 32) (k1_hw42 : k1_chk42 v205), ∀ a, (k1_off170 v205) a + S1x1x768.size a ≤ S196x128x768.size a := fun v205 k1_hw42 => k1_hw42.2

def k1_off171 (v210 : BitVec 32) : Fin 3 → Nat :=
  let c42_i32_722 : BitVec 32 := 42#32
  let c0_i32_726 : BitVec 32 := 0#32
  ![v210.toNat, 42, 0]

def k1_chk43 (v210 : BitVec 32) : Prop :=
  (∀ a, (k1_off43 v210) a + S1x1x768.size a ≤ S196x128x768.size a) ∧
  (∀ a, (k1_off171 v210) a + S1x1x768.size a ≤ S196x128x768.size a)
theorem k1_off43_inb : ∀ (v210 : BitVec 32) (k1_hw43 : k1_chk43 v210), ∀ a, (k1_off43 v210) a + S1x1x768.size a ≤ S196x128x768.size a := fun v210 k1_hw43 => k1_hw43.1
theorem k1_off171_inb : ∀ (v210 : BitVec 32) (k1_hw43 : k1_chk43 v210), ∀ a, (k1_off171 v210) a + S1x1x768.size a ≤ S196x128x768.size a := fun v210 k1_hw43 => k1_hw43.2

def k1_off172 (v215 : BitVec 32) : Fin 3 → Nat :=
  let c43_i32_727 : BitVec 32 := 43#32
  let c0_i32_731 : BitVec 32 := 0#32
  ![v215.toNat, 43, 0]

def k1_chk44 (v215 : BitVec 32) : Prop :=
  (∀ a, (k1_off44 v215) a + S1x1x768.size a ≤ S196x128x768.size a) ∧
  (∀ a, (k1_off172 v215) a + S1x1x768.size a ≤ S196x128x768.size a)
theorem k1_off44_inb : ∀ (v215 : BitVec 32) (k1_hw44 : k1_chk44 v215), ∀ a, (k1_off44 v215) a + S1x1x768.size a ≤ S196x128x768.size a := fun v215 k1_hw44 => k1_hw44.1
theorem k1_off172_inb : ∀ (v215 : BitVec 32) (k1_hw44 : k1_chk44 v215), ∀ a, (k1_off172 v215) a + S1x1x768.size a ≤ S196x128x768.size a := fun v215 k1_hw44 => k1_hw44.2

def k1_off173 (v220 : BitVec 32) : Fin 3 → Nat :=
  let c44_i32_732 : BitVec 32 := 44#32
  let c0_i32_736 : BitVec 32 := 0#32
  ![v220.toNat, 44, 0]

def k1_chk45 (v220 : BitVec 32) : Prop :=
  (∀ a, (k1_off45 v220) a + S1x1x768.size a ≤ S196x128x768.size a) ∧
  (∀ a, (k1_off173 v220) a + S1x1x768.size a ≤ S196x128x768.size a)
theorem k1_off45_inb : ∀ (v220 : BitVec 32) (k1_hw45 : k1_chk45 v220), ∀ a, (k1_off45 v220) a + S1x1x768.size a ≤ S196x128x768.size a := fun v220 k1_hw45 => k1_hw45.1
theorem k1_off173_inb : ∀ (v220 : BitVec 32) (k1_hw45 : k1_chk45 v220), ∀ a, (k1_off173 v220) a + S1x1x768.size a ≤ S196x128x768.size a := fun v220 k1_hw45 => k1_hw45.2

def k1_off174 (v225 : BitVec 32) : Fin 3 → Nat :=
  let c45_i32_737 : BitVec 32 := 45#32
  let c0_i32_741 : BitVec 32 := 0#32
  ![v225.toNat, 45, 0]

def k1_chk46 (v225 : BitVec 32) : Prop :=
  (∀ a, (k1_off46 v225) a + S1x1x768.size a ≤ S196x128x768.size a) ∧
  (∀ a, (k1_off174 v225) a + S1x1x768.size a ≤ S196x128x768.size a)
theorem k1_off46_inb : ∀ (v225 : BitVec 32) (k1_hw46 : k1_chk46 v225), ∀ a, (k1_off46 v225) a + S1x1x768.size a ≤ S196x128x768.size a := fun v225 k1_hw46 => k1_hw46.1
theorem k1_off174_inb : ∀ (v225 : BitVec 32) (k1_hw46 : k1_chk46 v225), ∀ a, (k1_off174 v225) a + S1x1x768.size a ≤ S196x128x768.size a := fun v225 k1_hw46 => k1_hw46.2

def k1_off175 (v230 : BitVec 32) : Fin 3 → Nat :=
  let c46_i32_742 : BitVec 32 := 46#32
  let c0_i32_746 : BitVec 32 := 0#32
  ![v230.toNat, 46, 0]

def k1_chk47 (v230 : BitVec 32) : Prop :=
  (∀ a, (k1_off47 v230) a + S1x1x768.size a ≤ S196x128x768.size a) ∧
  (∀ a, (k1_off175 v230) a + S1x1x768.size a ≤ S196x128x768.size a)
theorem k1_off47_inb : ∀ (v230 : BitVec 32) (k1_hw47 : k1_chk47 v230), ∀ a, (k1_off47 v230) a + S1x1x768.size a ≤ S196x128x768.size a := fun v230 k1_hw47 => k1_hw47.1
theorem k1_off175_inb : ∀ (v230 : BitVec 32) (k1_hw47 : k1_chk47 v230), ∀ a, (k1_off175 v230) a + S1x1x768.size a ≤ S196x128x768.size a := fun v230 k1_hw47 => k1_hw47.2

def k1_off176 (v235 : BitVec 32) : Fin 3 → Nat :=
  let c47_i32_747 : BitVec 32 := 47#32
  let c0_i32_751 : BitVec 32 := 0#32
  ![v235.toNat, 47, 0]

def k1_chk48 (v235 : BitVec 32) : Prop :=
  (∀ a, (k1_off48 v235) a + S1x1x768.size a ≤ S196x128x768.size a) ∧
  (∀ a, (k1_off176 v235) a + S1x1x768.size a ≤ S196x128x768.size a)
theorem k1_off48_inb : ∀ (v235 : BitVec 32) (k1_hw48 : k1_chk48 v235), ∀ a, (k1_off48 v235) a + S1x1x768.size a ≤ S196x128x768.size a := fun v235 k1_hw48 => k1_hw48.1
theorem k1_off176_inb : ∀ (v235 : BitVec 32) (k1_hw48 : k1_chk48 v235), ∀ a, (k1_off176 v235) a + S1x1x768.size a ≤ S196x128x768.size a := fun v235 k1_hw48 => k1_hw48.2

def k1_off177 (v240 : BitVec 32) : Fin 3 → Nat :=
  let c48_i32_752 : BitVec 32 := 48#32
  let c0_i32_756 : BitVec 32 := 0#32
  ![v240.toNat, 48, 0]

def k1_chk49 (v240 : BitVec 32) : Prop :=
  (∀ a, (k1_off49 v240) a + S1x1x768.size a ≤ S196x128x768.size a) ∧
  (∀ a, (k1_off177 v240) a + S1x1x768.size a ≤ S196x128x768.size a)
theorem k1_off49_inb : ∀ (v240 : BitVec 32) (k1_hw49 : k1_chk49 v240), ∀ a, (k1_off49 v240) a + S1x1x768.size a ≤ S196x128x768.size a := fun v240 k1_hw49 => k1_hw49.1
theorem k1_off177_inb : ∀ (v240 : BitVec 32) (k1_hw49 : k1_chk49 v240), ∀ a, (k1_off177 v240) a + S1x1x768.size a ≤ S196x128x768.size a := fun v240 k1_hw49 => k1_hw49.2

def k1_off178 (v245 : BitVec 32) : Fin 3 → Nat :=
  let c49_i32_757 : BitVec 32 := 49#32
  let c0_i32_761 : BitVec 32 := 0#32
  ![v245.toNat, 49, 0]

def k1_chk50 (v245 : BitVec 32) : Prop :=
  (∀ a, (k1_off50 v245) a + S1x1x768.size a ≤ S196x128x768.size a) ∧
  (∀ a, (k1_off178 v245) a + S1x1x768.size a ≤ S196x128x768.size a)
theorem k1_off50_inb : ∀ (v245 : BitVec 32) (k1_hw50 : k1_chk50 v245), ∀ a, (k1_off50 v245) a + S1x1x768.size a ≤ S196x128x768.size a := fun v245 k1_hw50 => k1_hw50.1
theorem k1_off178_inb : ∀ (v245 : BitVec 32) (k1_hw50 : k1_chk50 v245), ∀ a, (k1_off178 v245) a + S1x1x768.size a ≤ S196x128x768.size a := fun v245 k1_hw50 => k1_hw50.2

def k1_off179 (v250 : BitVec 32) : Fin 3 → Nat :=
  let c50_i32_762 : BitVec 32 := 50#32
  let c0_i32_766 : BitVec 32 := 0#32
  ![v250.toNat, 50, 0]

def k1_chk51 (v250 : BitVec 32) : Prop :=
  (∀ a, (k1_off51 v250) a + S1x1x768.size a ≤ S196x128x768.size a) ∧
  (∀ a, (k1_off179 v250) a + S1x1x768.size a ≤ S196x128x768.size a)
theorem k1_off51_inb : ∀ (v250 : BitVec 32) (k1_hw51 : k1_chk51 v250), ∀ a, (k1_off51 v250) a + S1x1x768.size a ≤ S196x128x768.size a := fun v250 k1_hw51 => k1_hw51.1
theorem k1_off179_inb : ∀ (v250 : BitVec 32) (k1_hw51 : k1_chk51 v250), ∀ a, (k1_off179 v250) a + S1x1x768.size a ≤ S196x128x768.size a := fun v250 k1_hw51 => k1_hw51.2

def k1_off180 (v255 : BitVec 32) : Fin 3 → Nat :=
  let c51_i32_767 : BitVec 32 := 51#32
  let c0_i32_771 : BitVec 32 := 0#32
  ![v255.toNat, 51, 0]

def k1_chk52 (v255 : BitVec 32) : Prop :=
  (∀ a, (k1_off52 v255) a + S1x1x768.size a ≤ S196x128x768.size a) ∧
  (∀ a, (k1_off180 v255) a + S1x1x768.size a ≤ S196x128x768.size a)
theorem k1_off52_inb : ∀ (v255 : BitVec 32) (k1_hw52 : k1_chk52 v255), ∀ a, (k1_off52 v255) a + S1x1x768.size a ≤ S196x128x768.size a := fun v255 k1_hw52 => k1_hw52.1
theorem k1_off180_inb : ∀ (v255 : BitVec 32) (k1_hw52 : k1_chk52 v255), ∀ a, (k1_off180 v255) a + S1x1x768.size a ≤ S196x128x768.size a := fun v255 k1_hw52 => k1_hw52.2

def k1_off181 (v260 : BitVec 32) : Fin 3 → Nat :=
  let c52_i32_772 : BitVec 32 := 52#32
  let c0_i32_776 : BitVec 32 := 0#32
  ![v260.toNat, 52, 0]

def k1_chk53 (v260 : BitVec 32) : Prop :=
  (∀ a, (k1_off53 v260) a + S1x1x768.size a ≤ S196x128x768.size a) ∧
  (∀ a, (k1_off181 v260) a + S1x1x768.size a ≤ S196x128x768.size a)
theorem k1_off53_inb : ∀ (v260 : BitVec 32) (k1_hw53 : k1_chk53 v260), ∀ a, (k1_off53 v260) a + S1x1x768.size a ≤ S196x128x768.size a := fun v260 k1_hw53 => k1_hw53.1
theorem k1_off181_inb : ∀ (v260 : BitVec 32) (k1_hw53 : k1_chk53 v260), ∀ a, (k1_off181 v260) a + S1x1x768.size a ≤ S196x128x768.size a := fun v260 k1_hw53 => k1_hw53.2

def k1_off182 (v265 : BitVec 32) : Fin 3 → Nat :=
  let c53_i32_777 : BitVec 32 := 53#32
  let c0_i32_781 : BitVec 32 := 0#32
  ![v265.toNat, 53, 0]

def k1_chk54 (v265 : BitVec 32) : Prop :=
  (∀ a, (k1_off54 v265) a + S1x1x768.size a ≤ S196x128x768.size a) ∧
  (∀ a, (k1_off182 v265) a + S1x1x768.size a ≤ S196x128x768.size a)
theorem k1_off54_inb : ∀ (v265 : BitVec 32) (k1_hw54 : k1_chk54 v265), ∀ a, (k1_off54 v265) a + S1x1x768.size a ≤ S196x128x768.size a := fun v265 k1_hw54 => k1_hw54.1
theorem k1_off182_inb : ∀ (v265 : BitVec 32) (k1_hw54 : k1_chk54 v265), ∀ a, (k1_off182 v265) a + S1x1x768.size a ≤ S196x128x768.size a := fun v265 k1_hw54 => k1_hw54.2

def k1_off183 (v270 : BitVec 32) : Fin 3 → Nat :=
  let c54_i32_782 : BitVec 32 := 54#32
  let c0_i32_786 : BitVec 32 := 0#32
  ![v270.toNat, 54, 0]

def k1_chk55 (v270 : BitVec 32) : Prop :=
  (∀ a, (k1_off55 v270) a + S1x1x768.size a ≤ S196x128x768.size a) ∧
  (∀ a, (k1_off183 v270) a + S1x1x768.size a ≤ S196x128x768.size a)
theorem k1_off55_inb : ∀ (v270 : BitVec 32) (k1_hw55 : k1_chk55 v270), ∀ a, (k1_off55 v270) a + S1x1x768.size a ≤ S196x128x768.size a := fun v270 k1_hw55 => k1_hw55.1
theorem k1_off183_inb : ∀ (v270 : BitVec 32) (k1_hw55 : k1_chk55 v270), ∀ a, (k1_off183 v270) a + S1x1x768.size a ≤ S196x128x768.size a := fun v270 k1_hw55 => k1_hw55.2

def k1_off184 (v275 : BitVec 32) : Fin 3 → Nat :=
  let c55_i32_787 : BitVec 32 := 55#32
  let c0_i32_791 : BitVec 32 := 0#32
  ![v275.toNat, 55, 0]

def k1_chk56 (v275 : BitVec 32) : Prop :=
  (∀ a, (k1_off56 v275) a + S1x1x768.size a ≤ S196x128x768.size a) ∧
  (∀ a, (k1_off184 v275) a + S1x1x768.size a ≤ S196x128x768.size a)
theorem k1_off56_inb : ∀ (v275 : BitVec 32) (k1_hw56 : k1_chk56 v275), ∀ a, (k1_off56 v275) a + S1x1x768.size a ≤ S196x128x768.size a := fun v275 k1_hw56 => k1_hw56.1
theorem k1_off184_inb : ∀ (v275 : BitVec 32) (k1_hw56 : k1_chk56 v275), ∀ a, (k1_off184 v275) a + S1x1x768.size a ≤ S196x128x768.size a := fun v275 k1_hw56 => k1_hw56.2

def k1_off185 (v280 : BitVec 32) : Fin 3 → Nat :=
  let c56_i32_792 : BitVec 32 := 56#32
  let c0_i32_796 : BitVec 32 := 0#32
  ![v280.toNat, 56, 0]

def k1_chk57 (v280 : BitVec 32) : Prop :=
  (∀ a, (k1_off57 v280) a + S1x1x768.size a ≤ S196x128x768.size a) ∧
  (∀ a, (k1_off185 v280) a + S1x1x768.size a ≤ S196x128x768.size a)
theorem k1_off57_inb : ∀ (v280 : BitVec 32) (k1_hw57 : k1_chk57 v280), ∀ a, (k1_off57 v280) a + S1x1x768.size a ≤ S196x128x768.size a := fun v280 k1_hw57 => k1_hw57.1
theorem k1_off185_inb : ∀ (v280 : BitVec 32) (k1_hw57 : k1_chk57 v280), ∀ a, (k1_off185 v280) a + S1x1x768.size a ≤ S196x128x768.size a := fun v280 k1_hw57 => k1_hw57.2

def k1_off186 (v285 : BitVec 32) : Fin 3 → Nat :=
  let c57_i32_797 : BitVec 32 := 57#32
  let c0_i32_801 : BitVec 32 := 0#32
  ![v285.toNat, 57, 0]

def k1_chk58 (v285 : BitVec 32) : Prop :=
  (∀ a, (k1_off58 v285) a + S1x1x768.size a ≤ S196x128x768.size a) ∧
  (∀ a, (k1_off186 v285) a + S1x1x768.size a ≤ S196x128x768.size a)
theorem k1_off58_inb : ∀ (v285 : BitVec 32) (k1_hw58 : k1_chk58 v285), ∀ a, (k1_off58 v285) a + S1x1x768.size a ≤ S196x128x768.size a := fun v285 k1_hw58 => k1_hw58.1
theorem k1_off186_inb : ∀ (v285 : BitVec 32) (k1_hw58 : k1_chk58 v285), ∀ a, (k1_off186 v285) a + S1x1x768.size a ≤ S196x128x768.size a := fun v285 k1_hw58 => k1_hw58.2

def k1_off187 (v290 : BitVec 32) : Fin 3 → Nat :=
  let c58_i32_802 : BitVec 32 := 58#32
  let c0_i32_806 : BitVec 32 := 0#32
  ![v290.toNat, 58, 0]

def k1_chk59 (v290 : BitVec 32) : Prop :=
  (∀ a, (k1_off59 v290) a + S1x1x768.size a ≤ S196x128x768.size a) ∧
  (∀ a, (k1_off187 v290) a + S1x1x768.size a ≤ S196x128x768.size a)
theorem k1_off59_inb : ∀ (v290 : BitVec 32) (k1_hw59 : k1_chk59 v290), ∀ a, (k1_off59 v290) a + S1x1x768.size a ≤ S196x128x768.size a := fun v290 k1_hw59 => k1_hw59.1
theorem k1_off187_inb : ∀ (v290 : BitVec 32) (k1_hw59 : k1_chk59 v290), ∀ a, (k1_off187 v290) a + S1x1x768.size a ≤ S196x128x768.size a := fun v290 k1_hw59 => k1_hw59.2

def k1_off188 (v295 : BitVec 32) : Fin 3 → Nat :=
  let c59_i32_807 : BitVec 32 := 59#32
  let c0_i32_811 : BitVec 32 := 0#32
  ![v295.toNat, 59, 0]

def k1_chk60 (v295 : BitVec 32) : Prop :=
  (∀ a, (k1_off60 v295) a + S1x1x768.size a ≤ S196x128x768.size a) ∧
  (∀ a, (k1_off188 v295) a + S1x1x768.size a ≤ S196x128x768.size a)
theorem k1_off60_inb : ∀ (v295 : BitVec 32) (k1_hw60 : k1_chk60 v295), ∀ a, (k1_off60 v295) a + S1x1x768.size a ≤ S196x128x768.size a := fun v295 k1_hw60 => k1_hw60.1
theorem k1_off188_inb : ∀ (v295 : BitVec 32) (k1_hw60 : k1_chk60 v295), ∀ a, (k1_off188 v295) a + S1x1x768.size a ≤ S196x128x768.size a := fun v295 k1_hw60 => k1_hw60.2

def k1_off189 (v300 : BitVec 32) : Fin 3 → Nat :=
  let c60_i32_812 : BitVec 32 := 60#32
  let c0_i32_816 : BitVec 32 := 0#32
  ![v300.toNat, 60, 0]

def k1_chk61 (v300 : BitVec 32) : Prop :=
  (∀ a, (k1_off61 v300) a + S1x1x768.size a ≤ S196x128x768.size a) ∧
  (∀ a, (k1_off189 v300) a + S1x1x768.size a ≤ S196x128x768.size a)
theorem k1_off61_inb : ∀ (v300 : BitVec 32) (k1_hw61 : k1_chk61 v300), ∀ a, (k1_off61 v300) a + S1x1x768.size a ≤ S196x128x768.size a := fun v300 k1_hw61 => k1_hw61.1
theorem k1_off189_inb : ∀ (v300 : BitVec 32) (k1_hw61 : k1_chk61 v300), ∀ a, (k1_off189 v300) a + S1x1x768.size a ≤ S196x128x768.size a := fun v300 k1_hw61 => k1_hw61.2

def k1_off190 (v305 : BitVec 32) : Fin 3 → Nat :=
  let c61_i32_817 : BitVec 32 := 61#32
  let c0_i32_821 : BitVec 32 := 0#32
  ![v305.toNat, 61, 0]

def k1_chk62 (v305 : BitVec 32) : Prop :=
  (∀ a, (k1_off62 v305) a + S1x1x768.size a ≤ S196x128x768.size a) ∧
  (∀ a, (k1_off190 v305) a + S1x1x768.size a ≤ S196x128x768.size a)
theorem k1_off62_inb : ∀ (v305 : BitVec 32) (k1_hw62 : k1_chk62 v305), ∀ a, (k1_off62 v305) a + S1x1x768.size a ≤ S196x128x768.size a := fun v305 k1_hw62 => k1_hw62.1
theorem k1_off190_inb : ∀ (v305 : BitVec 32) (k1_hw62 : k1_chk62 v305), ∀ a, (k1_off190 v305) a + S1x1x768.size a ≤ S196x128x768.size a := fun v305 k1_hw62 => k1_hw62.2

def k1_off191 (v310 : BitVec 32) : Fin 3 → Nat :=
  let c62_i32_822 : BitVec 32 := 62#32
  let c0_i32_826 : BitVec 32 := 0#32
  ![v310.toNat, 62, 0]

def k1_chk63 (v310 : BitVec 32) : Prop :=
  (∀ a, (k1_off63 v310) a + S1x1x768.size a ≤ S196x128x768.size a) ∧
  (∀ a, (k1_off191 v310) a + S1x1x768.size a ≤ S196x128x768.size a)
theorem k1_off63_inb : ∀ (v310 : BitVec 32) (k1_hw63 : k1_chk63 v310), ∀ a, (k1_off63 v310) a + S1x1x768.size a ≤ S196x128x768.size a := fun v310 k1_hw63 => k1_hw63.1
theorem k1_off191_inb : ∀ (v310 : BitVec 32) (k1_hw63 : k1_chk63 v310), ∀ a, (k1_off191 v310) a + S1x1x768.size a ≤ S196x128x768.size a := fun v310 k1_hw63 => k1_hw63.2

def k1_off192 (v315 : BitVec 32) : Fin 3 → Nat :=
  let c63_i32_827 : BitVec 32 := 63#32
  let c0_i32_831 : BitVec 32 := 0#32
  ![v315.toNat, 63, 0]

def k1_chk64 (v315 : BitVec 32) : Prop :=
  (∀ a, (k1_off64 v315) a + S1x1x768.size a ≤ S196x128x768.size a) ∧
  (∀ a, (k1_off192 v315) a + S1x1x768.size a ≤ S196x128x768.size a)
theorem k1_off64_inb : ∀ (v315 : BitVec 32) (k1_hw64 : k1_chk64 v315), ∀ a, (k1_off64 v315) a + S1x1x768.size a ≤ S196x128x768.size a := fun v315 k1_hw64 => k1_hw64.1
theorem k1_off192_inb : ∀ (v315 : BitVec 32) (k1_hw64 : k1_chk64 v315), ∀ a, (k1_off192 v315) a + S1x1x768.size a ≤ S196x128x768.size a := fun v315 k1_hw64 => k1_hw64.2

def k1_off193 (v320 : BitVec 32) : Fin 3 → Nat :=
  let c64_i32_832 : BitVec 32 := 64#32
  let c0_i32_836 : BitVec 32 := 0#32
  ![v320.toNat, 64, 0]

def k1_chk65 (v320 : BitVec 32) : Prop :=
  (∀ a, (k1_off65 v320) a + S1x1x768.size a ≤ S196x128x768.size a) ∧
  (∀ a, (k1_off193 v320) a + S1x1x768.size a ≤ S196x128x768.size a)
theorem k1_off65_inb : ∀ (v320 : BitVec 32) (k1_hw65 : k1_chk65 v320), ∀ a, (k1_off65 v320) a + S1x1x768.size a ≤ S196x128x768.size a := fun v320 k1_hw65 => k1_hw65.1
theorem k1_off193_inb : ∀ (v320 : BitVec 32) (k1_hw65 : k1_chk65 v320), ∀ a, (k1_off193 v320) a + S1x1x768.size a ≤ S196x128x768.size a := fun v320 k1_hw65 => k1_hw65.2

def k1_off194 (v325 : BitVec 32) : Fin 3 → Nat :=
  let c65_i32_837 : BitVec 32 := 65#32
  let c0_i32_841 : BitVec 32 := 0#32
  ![v325.toNat, 65, 0]

def k1_chk66 (v325 : BitVec 32) : Prop :=
  (∀ a, (k1_off66 v325) a + S1x1x768.size a ≤ S196x128x768.size a) ∧
  (∀ a, (k1_off194 v325) a + S1x1x768.size a ≤ S196x128x768.size a)
theorem k1_off66_inb : ∀ (v325 : BitVec 32) (k1_hw66 : k1_chk66 v325), ∀ a, (k1_off66 v325) a + S1x1x768.size a ≤ S196x128x768.size a := fun v325 k1_hw66 => k1_hw66.1
theorem k1_off194_inb : ∀ (v325 : BitVec 32) (k1_hw66 : k1_chk66 v325), ∀ a, (k1_off194 v325) a + S1x1x768.size a ≤ S196x128x768.size a := fun v325 k1_hw66 => k1_hw66.2

def k1_off195 (v330 : BitVec 32) : Fin 3 → Nat :=
  let c66_i32_842 : BitVec 32 := 66#32
  let c0_i32_846 : BitVec 32 := 0#32
  ![v330.toNat, 66, 0]

def k1_chk67 (v330 : BitVec 32) : Prop :=
  (∀ a, (k1_off67 v330) a + S1x1x768.size a ≤ S196x128x768.size a) ∧
  (∀ a, (k1_off195 v330) a + S1x1x768.size a ≤ S196x128x768.size a)
theorem k1_off67_inb : ∀ (v330 : BitVec 32) (k1_hw67 : k1_chk67 v330), ∀ a, (k1_off67 v330) a + S1x1x768.size a ≤ S196x128x768.size a := fun v330 k1_hw67 => k1_hw67.1
theorem k1_off195_inb : ∀ (v330 : BitVec 32) (k1_hw67 : k1_chk67 v330), ∀ a, (k1_off195 v330) a + S1x1x768.size a ≤ S196x128x768.size a := fun v330 k1_hw67 => k1_hw67.2

def k1_off196 (v335 : BitVec 32) : Fin 3 → Nat :=
  let c67_i32_847 : BitVec 32 := 67#32
  let c0_i32_851 : BitVec 32 := 0#32
  ![v335.toNat, 67, 0]

def k1_chk68 (v335 : BitVec 32) : Prop :=
  (∀ a, (k1_off68 v335) a + S1x1x768.size a ≤ S196x128x768.size a) ∧
  (∀ a, (k1_off196 v335) a + S1x1x768.size a ≤ S196x128x768.size a)
theorem k1_off68_inb : ∀ (v335 : BitVec 32) (k1_hw68 : k1_chk68 v335), ∀ a, (k1_off68 v335) a + S1x1x768.size a ≤ S196x128x768.size a := fun v335 k1_hw68 => k1_hw68.1
theorem k1_off196_inb : ∀ (v335 : BitVec 32) (k1_hw68 : k1_chk68 v335), ∀ a, (k1_off196 v335) a + S1x1x768.size a ≤ S196x128x768.size a := fun v335 k1_hw68 => k1_hw68.2

def k1_off197 (v340 : BitVec 32) : Fin 3 → Nat :=
  let c68_i32_852 : BitVec 32 := 68#32
  let c0_i32_856 : BitVec 32 := 0#32
  ![v340.toNat, 68, 0]

def k1_chk69 (v340 : BitVec 32) : Prop :=
  (∀ a, (k1_off69 v340) a + S1x1x768.size a ≤ S196x128x768.size a) ∧
  (∀ a, (k1_off197 v340) a + S1x1x768.size a ≤ S196x128x768.size a)
theorem k1_off69_inb : ∀ (v340 : BitVec 32) (k1_hw69 : k1_chk69 v340), ∀ a, (k1_off69 v340) a + S1x1x768.size a ≤ S196x128x768.size a := fun v340 k1_hw69 => k1_hw69.1
theorem k1_off197_inb : ∀ (v340 : BitVec 32) (k1_hw69 : k1_chk69 v340), ∀ a, (k1_off197 v340) a + S1x1x768.size a ≤ S196x128x768.size a := fun v340 k1_hw69 => k1_hw69.2

def k1_off198 (v345 : BitVec 32) : Fin 3 → Nat :=
  let c69_i32_857 : BitVec 32 := 69#32
  let c0_i32_861 : BitVec 32 := 0#32
  ![v345.toNat, 69, 0]

def k1_chk70 (v345 : BitVec 32) : Prop :=
  (∀ a, (k1_off70 v345) a + S1x1x768.size a ≤ S196x128x768.size a) ∧
  (∀ a, (k1_off198 v345) a + S1x1x768.size a ≤ S196x128x768.size a)
theorem k1_off70_inb : ∀ (v345 : BitVec 32) (k1_hw70 : k1_chk70 v345), ∀ a, (k1_off70 v345) a + S1x1x768.size a ≤ S196x128x768.size a := fun v345 k1_hw70 => k1_hw70.1
theorem k1_off198_inb : ∀ (v345 : BitVec 32) (k1_hw70 : k1_chk70 v345), ∀ a, (k1_off198 v345) a + S1x1x768.size a ≤ S196x128x768.size a := fun v345 k1_hw70 => k1_hw70.2

def k1_off199 (v350 : BitVec 32) : Fin 3 → Nat :=
  let c70_i32_862 : BitVec 32 := 70#32
  let c0_i32_866 : BitVec 32 := 0#32
  ![v350.toNat, 70, 0]

def k1_chk71 (v350 : BitVec 32) : Prop :=
  (∀ a, (k1_off71 v350) a + S1x1x768.size a ≤ S196x128x768.size a) ∧
  (∀ a, (k1_off199 v350) a + S1x1x768.size a ≤ S196x128x768.size a)
theorem k1_off71_inb : ∀ (v350 : BitVec 32) (k1_hw71 : k1_chk71 v350), ∀ a, (k1_off71 v350) a + S1x1x768.size a ≤ S196x128x768.size a := fun v350 k1_hw71 => k1_hw71.1
theorem k1_off199_inb : ∀ (v350 : BitVec 32) (k1_hw71 : k1_chk71 v350), ∀ a, (k1_off199 v350) a + S1x1x768.size a ≤ S196x128x768.size a := fun v350 k1_hw71 => k1_hw71.2

def k1_off200 (v355 : BitVec 32) : Fin 3 → Nat :=
  let c71_i32_867 : BitVec 32 := 71#32
  let c0_i32_871 : BitVec 32 := 0#32
  ![v355.toNat, 71, 0]

def k1_chk72 (v355 : BitVec 32) : Prop :=
  (∀ a, (k1_off72 v355) a + S1x1x768.size a ≤ S196x128x768.size a) ∧
  (∀ a, (k1_off200 v355) a + S1x1x768.size a ≤ S196x128x768.size a)
theorem k1_off72_inb : ∀ (v355 : BitVec 32) (k1_hw72 : k1_chk72 v355), ∀ a, (k1_off72 v355) a + S1x1x768.size a ≤ S196x128x768.size a := fun v355 k1_hw72 => k1_hw72.1
theorem k1_off200_inb : ∀ (v355 : BitVec 32) (k1_hw72 : k1_chk72 v355), ∀ a, (k1_off200 v355) a + S1x1x768.size a ≤ S196x128x768.size a := fun v355 k1_hw72 => k1_hw72.2

def k1_off201 (v360 : BitVec 32) : Fin 3 → Nat :=
  let c72_i32_872 : BitVec 32 := 72#32
  let c0_i32_876 : BitVec 32 := 0#32
  ![v360.toNat, 72, 0]

def k1_chk73 (v360 : BitVec 32) : Prop :=
  (∀ a, (k1_off73 v360) a + S1x1x768.size a ≤ S196x128x768.size a) ∧
  (∀ a, (k1_off201 v360) a + S1x1x768.size a ≤ S196x128x768.size a)
theorem k1_off73_inb : ∀ (v360 : BitVec 32) (k1_hw73 : k1_chk73 v360), ∀ a, (k1_off73 v360) a + S1x1x768.size a ≤ S196x128x768.size a := fun v360 k1_hw73 => k1_hw73.1
theorem k1_off201_inb : ∀ (v360 : BitVec 32) (k1_hw73 : k1_chk73 v360), ∀ a, (k1_off201 v360) a + S1x1x768.size a ≤ S196x128x768.size a := fun v360 k1_hw73 => k1_hw73.2

def k1_off202 (v365 : BitVec 32) : Fin 3 → Nat :=
  let c73_i32_877 : BitVec 32 := 73#32
  let c0_i32_881 : BitVec 32 := 0#32
  ![v365.toNat, 73, 0]

def k1_chk74 (v365 : BitVec 32) : Prop :=
  (∀ a, (k1_off74 v365) a + S1x1x768.size a ≤ S196x128x768.size a) ∧
  (∀ a, (k1_off202 v365) a + S1x1x768.size a ≤ S196x128x768.size a)
theorem k1_off74_inb : ∀ (v365 : BitVec 32) (k1_hw74 : k1_chk74 v365), ∀ a, (k1_off74 v365) a + S1x1x768.size a ≤ S196x128x768.size a := fun v365 k1_hw74 => k1_hw74.1
theorem k1_off202_inb : ∀ (v365 : BitVec 32) (k1_hw74 : k1_chk74 v365), ∀ a, (k1_off202 v365) a + S1x1x768.size a ≤ S196x128x768.size a := fun v365 k1_hw74 => k1_hw74.2

def k1_off203 (v370 : BitVec 32) : Fin 3 → Nat :=
  let c74_i32_882 : BitVec 32 := 74#32
  let c0_i32_886 : BitVec 32 := 0#32
  ![v370.toNat, 74, 0]

def k1_chk75 (v370 : BitVec 32) : Prop :=
  (∀ a, (k1_off75 v370) a + S1x1x768.size a ≤ S196x128x768.size a) ∧
  (∀ a, (k1_off203 v370) a + S1x1x768.size a ≤ S196x128x768.size a)
theorem k1_off75_inb : ∀ (v370 : BitVec 32) (k1_hw75 : k1_chk75 v370), ∀ a, (k1_off75 v370) a + S1x1x768.size a ≤ S196x128x768.size a := fun v370 k1_hw75 => k1_hw75.1
theorem k1_off203_inb : ∀ (v370 : BitVec 32) (k1_hw75 : k1_chk75 v370), ∀ a, (k1_off203 v370) a + S1x1x768.size a ≤ S196x128x768.size a := fun v370 k1_hw75 => k1_hw75.2

def k1_off204 (v375 : BitVec 32) : Fin 3 → Nat :=
  let c75_i32_887 : BitVec 32 := 75#32
  let c0_i32_891 : BitVec 32 := 0#32
  ![v375.toNat, 75, 0]

def k1_chk76 (v375 : BitVec 32) : Prop :=
  (∀ a, (k1_off76 v375) a + S1x1x768.size a ≤ S196x128x768.size a) ∧
  (∀ a, (k1_off204 v375) a + S1x1x768.size a ≤ S196x128x768.size a)
theorem k1_off76_inb : ∀ (v375 : BitVec 32) (k1_hw76 : k1_chk76 v375), ∀ a, (k1_off76 v375) a + S1x1x768.size a ≤ S196x128x768.size a := fun v375 k1_hw76 => k1_hw76.1
theorem k1_off204_inb : ∀ (v375 : BitVec 32) (k1_hw76 : k1_chk76 v375), ∀ a, (k1_off204 v375) a + S1x1x768.size a ≤ S196x128x768.size a := fun v375 k1_hw76 => k1_hw76.2

def k1_off205 (v380 : BitVec 32) : Fin 3 → Nat :=
  let c76_i32_892 : BitVec 32 := 76#32
  let c0_i32_896 : BitVec 32 := 0#32
  ![v380.toNat, 76, 0]

def k1_chk77 (v380 : BitVec 32) : Prop :=
  (∀ a, (k1_off77 v380) a + S1x1x768.size a ≤ S196x128x768.size a) ∧
  (∀ a, (k1_off205 v380) a + S1x1x768.size a ≤ S196x128x768.size a)
theorem k1_off77_inb : ∀ (v380 : BitVec 32) (k1_hw77 : k1_chk77 v380), ∀ a, (k1_off77 v380) a + S1x1x768.size a ≤ S196x128x768.size a := fun v380 k1_hw77 => k1_hw77.1
theorem k1_off205_inb : ∀ (v380 : BitVec 32) (k1_hw77 : k1_chk77 v380), ∀ a, (k1_off205 v380) a + S1x1x768.size a ≤ S196x128x768.size a := fun v380 k1_hw77 => k1_hw77.2

def k1_off206 (v385 : BitVec 32) : Fin 3 → Nat :=
  let c77_i32_897 : BitVec 32 := 77#32
  let c0_i32_901 : BitVec 32 := 0#32
  ![v385.toNat, 77, 0]

def k1_chk78 (v385 : BitVec 32) : Prop :=
  (∀ a, (k1_off78 v385) a + S1x1x768.size a ≤ S196x128x768.size a) ∧
  (∀ a, (k1_off206 v385) a + S1x1x768.size a ≤ S196x128x768.size a)
theorem k1_off78_inb : ∀ (v385 : BitVec 32) (k1_hw78 : k1_chk78 v385), ∀ a, (k1_off78 v385) a + S1x1x768.size a ≤ S196x128x768.size a := fun v385 k1_hw78 => k1_hw78.1
theorem k1_off206_inb : ∀ (v385 : BitVec 32) (k1_hw78 : k1_chk78 v385), ∀ a, (k1_off206 v385) a + S1x1x768.size a ≤ S196x128x768.size a := fun v385 k1_hw78 => k1_hw78.2

def k1_off207 (v390 : BitVec 32) : Fin 3 → Nat :=
  let c78_i32_902 : BitVec 32 := 78#32
  let c0_i32_906 : BitVec 32 := 0#32
  ![v390.toNat, 78, 0]

def k1_chk79 (v390 : BitVec 32) : Prop :=
  (∀ a, (k1_off79 v390) a + S1x1x768.size a ≤ S196x128x768.size a) ∧
  (∀ a, (k1_off207 v390) a + S1x1x768.size a ≤ S196x128x768.size a)
theorem k1_off79_inb : ∀ (v390 : BitVec 32) (k1_hw79 : k1_chk79 v390), ∀ a, (k1_off79 v390) a + S1x1x768.size a ≤ S196x128x768.size a := fun v390 k1_hw79 => k1_hw79.1
theorem k1_off207_inb : ∀ (v390 : BitVec 32) (k1_hw79 : k1_chk79 v390), ∀ a, (k1_off207 v390) a + S1x1x768.size a ≤ S196x128x768.size a := fun v390 k1_hw79 => k1_hw79.2

def k1_off208 (v395 : BitVec 32) : Fin 3 → Nat :=
  let c79_i32_907 : BitVec 32 := 79#32
  let c0_i32_911 : BitVec 32 := 0#32
  ![v395.toNat, 79, 0]

def k1_chk80 (v395 : BitVec 32) : Prop :=
  (∀ a, (k1_off80 v395) a + S1x1x768.size a ≤ S196x128x768.size a) ∧
  (∀ a, (k1_off208 v395) a + S1x1x768.size a ≤ S196x128x768.size a)
theorem k1_off80_inb : ∀ (v395 : BitVec 32) (k1_hw80 : k1_chk80 v395), ∀ a, (k1_off80 v395) a + S1x1x768.size a ≤ S196x128x768.size a := fun v395 k1_hw80 => k1_hw80.1
theorem k1_off208_inb : ∀ (v395 : BitVec 32) (k1_hw80 : k1_chk80 v395), ∀ a, (k1_off208 v395) a + S1x1x768.size a ≤ S196x128x768.size a := fun v395 k1_hw80 => k1_hw80.2

def k1_off209 (v400 : BitVec 32) : Fin 3 → Nat :=
  let c80_i32_912 : BitVec 32 := 80#32
  let c0_i32_916 : BitVec 32 := 0#32
  ![v400.toNat, 80, 0]

def k1_chk81 (v400 : BitVec 32) : Prop :=
  (∀ a, (k1_off81 v400) a + S1x1x768.size a ≤ S196x128x768.size a) ∧
  (∀ a, (k1_off209 v400) a + S1x1x768.size a ≤ S196x128x768.size a)
theorem k1_off81_inb : ∀ (v400 : BitVec 32) (k1_hw81 : k1_chk81 v400), ∀ a, (k1_off81 v400) a + S1x1x768.size a ≤ S196x128x768.size a := fun v400 k1_hw81 => k1_hw81.1
theorem k1_off209_inb : ∀ (v400 : BitVec 32) (k1_hw81 : k1_chk81 v400), ∀ a, (k1_off209 v400) a + S1x1x768.size a ≤ S196x128x768.size a := fun v400 k1_hw81 => k1_hw81.2

def k1_off210 (v405 : BitVec 32) : Fin 3 → Nat :=
  let c81_i32_917 : BitVec 32 := 81#32
  let c0_i32_921 : BitVec 32 := 0#32
  ![v405.toNat, 81, 0]

def k1_chk82 (v405 : BitVec 32) : Prop :=
  (∀ a, (k1_off82 v405) a + S1x1x768.size a ≤ S196x128x768.size a) ∧
  (∀ a, (k1_off210 v405) a + S1x1x768.size a ≤ S196x128x768.size a)
theorem k1_off82_inb : ∀ (v405 : BitVec 32) (k1_hw82 : k1_chk82 v405), ∀ a, (k1_off82 v405) a + S1x1x768.size a ≤ S196x128x768.size a := fun v405 k1_hw82 => k1_hw82.1
theorem k1_off210_inb : ∀ (v405 : BitVec 32) (k1_hw82 : k1_chk82 v405), ∀ a, (k1_off210 v405) a + S1x1x768.size a ≤ S196x128x768.size a := fun v405 k1_hw82 => k1_hw82.2

def k1_off211 (v410 : BitVec 32) : Fin 3 → Nat :=
  let c82_i32_922 : BitVec 32 := 82#32
  let c0_i32_926 : BitVec 32 := 0#32
  ![v410.toNat, 82, 0]

def k1_chk83 (v410 : BitVec 32) : Prop :=
  (∀ a, (k1_off83 v410) a + S1x1x768.size a ≤ S196x128x768.size a) ∧
  (∀ a, (k1_off211 v410) a + S1x1x768.size a ≤ S196x128x768.size a)
theorem k1_off83_inb : ∀ (v410 : BitVec 32) (k1_hw83 : k1_chk83 v410), ∀ a, (k1_off83 v410) a + S1x1x768.size a ≤ S196x128x768.size a := fun v410 k1_hw83 => k1_hw83.1
theorem k1_off211_inb : ∀ (v410 : BitVec 32) (k1_hw83 : k1_chk83 v410), ∀ a, (k1_off211 v410) a + S1x1x768.size a ≤ S196x128x768.size a := fun v410 k1_hw83 => k1_hw83.2

def k1_off212 (v415 : BitVec 32) : Fin 3 → Nat :=
  let c83_i32_927 : BitVec 32 := 83#32
  let c0_i32_931 : BitVec 32 := 0#32
  ![v415.toNat, 83, 0]

def k1_chk84 (v415 : BitVec 32) : Prop :=
  (∀ a, (k1_off84 v415) a + S1x1x768.size a ≤ S196x128x768.size a) ∧
  (∀ a, (k1_off212 v415) a + S1x1x768.size a ≤ S196x128x768.size a)
theorem k1_off84_inb : ∀ (v415 : BitVec 32) (k1_hw84 : k1_chk84 v415), ∀ a, (k1_off84 v415) a + S1x1x768.size a ≤ S196x128x768.size a := fun v415 k1_hw84 => k1_hw84.1
theorem k1_off212_inb : ∀ (v415 : BitVec 32) (k1_hw84 : k1_chk84 v415), ∀ a, (k1_off212 v415) a + S1x1x768.size a ≤ S196x128x768.size a := fun v415 k1_hw84 => k1_hw84.2

def k1_off213 (v420 : BitVec 32) : Fin 3 → Nat :=
  let c84_i32_932 : BitVec 32 := 84#32
  let c0_i32_936 : BitVec 32 := 0#32
  ![v420.toNat, 84, 0]

def k1_chk85 (v420 : BitVec 32) : Prop :=
  (∀ a, (k1_off85 v420) a + S1x1x768.size a ≤ S196x128x768.size a) ∧
  (∀ a, (k1_off213 v420) a + S1x1x768.size a ≤ S196x128x768.size a)
theorem k1_off85_inb : ∀ (v420 : BitVec 32) (k1_hw85 : k1_chk85 v420), ∀ a, (k1_off85 v420) a + S1x1x768.size a ≤ S196x128x768.size a := fun v420 k1_hw85 => k1_hw85.1
theorem k1_off213_inb : ∀ (v420 : BitVec 32) (k1_hw85 : k1_chk85 v420), ∀ a, (k1_off213 v420) a + S1x1x768.size a ≤ S196x128x768.size a := fun v420 k1_hw85 => k1_hw85.2

def k1_off214 (v425 : BitVec 32) : Fin 3 → Nat :=
  let c85_i32_937 : BitVec 32 := 85#32
  let c0_i32_941 : BitVec 32 := 0#32
  ![v425.toNat, 85, 0]

def k1_chk86 (v425 : BitVec 32) : Prop :=
  (∀ a, (k1_off86 v425) a + S1x1x768.size a ≤ S196x128x768.size a) ∧
  (∀ a, (k1_off214 v425) a + S1x1x768.size a ≤ S196x128x768.size a)
theorem k1_off86_inb : ∀ (v425 : BitVec 32) (k1_hw86 : k1_chk86 v425), ∀ a, (k1_off86 v425) a + S1x1x768.size a ≤ S196x128x768.size a := fun v425 k1_hw86 => k1_hw86.1
theorem k1_off214_inb : ∀ (v425 : BitVec 32) (k1_hw86 : k1_chk86 v425), ∀ a, (k1_off214 v425) a + S1x1x768.size a ≤ S196x128x768.size a := fun v425 k1_hw86 => k1_hw86.2

def k1_off215 (v430 : BitVec 32) : Fin 3 → Nat :=
  let c86_i32_942 : BitVec 32 := 86#32
  let c0_i32_946 : BitVec 32 := 0#32
  ![v430.toNat, 86, 0]

def k1_chk87 (v430 : BitVec 32) : Prop :=
  (∀ a, (k1_off87 v430) a + S1x1x768.size a ≤ S196x128x768.size a) ∧
  (∀ a, (k1_off215 v430) a + S1x1x768.size a ≤ S196x128x768.size a)
theorem k1_off87_inb : ∀ (v430 : BitVec 32) (k1_hw87 : k1_chk87 v430), ∀ a, (k1_off87 v430) a + S1x1x768.size a ≤ S196x128x768.size a := fun v430 k1_hw87 => k1_hw87.1
theorem k1_off215_inb : ∀ (v430 : BitVec 32) (k1_hw87 : k1_chk87 v430), ∀ a, (k1_off215 v430) a + S1x1x768.size a ≤ S196x128x768.size a := fun v430 k1_hw87 => k1_hw87.2

def k1_off216 (v435 : BitVec 32) : Fin 3 → Nat :=
  let c87_i32_947 : BitVec 32 := 87#32
  let c0_i32_951 : BitVec 32 := 0#32
  ![v435.toNat, 87, 0]

def k1_chk88 (v435 : BitVec 32) : Prop :=
  (∀ a, (k1_off88 v435) a + S1x1x768.size a ≤ S196x128x768.size a) ∧
  (∀ a, (k1_off216 v435) a + S1x1x768.size a ≤ S196x128x768.size a)
theorem k1_off88_inb : ∀ (v435 : BitVec 32) (k1_hw88 : k1_chk88 v435), ∀ a, (k1_off88 v435) a + S1x1x768.size a ≤ S196x128x768.size a := fun v435 k1_hw88 => k1_hw88.1
theorem k1_off216_inb : ∀ (v435 : BitVec 32) (k1_hw88 : k1_chk88 v435), ∀ a, (k1_off216 v435) a + S1x1x768.size a ≤ S196x128x768.size a := fun v435 k1_hw88 => k1_hw88.2

def k1_off217 (v440 : BitVec 32) : Fin 3 → Nat :=
  let c88_i32_952 : BitVec 32 := 88#32
  let c0_i32_956 : BitVec 32 := 0#32
  ![v440.toNat, 88, 0]

def k1_chk89 (v440 : BitVec 32) : Prop :=
  (∀ a, (k1_off89 v440) a + S1x1x768.size a ≤ S196x128x768.size a) ∧
  (∀ a, (k1_off217 v440) a + S1x1x768.size a ≤ S196x128x768.size a)
theorem k1_off89_inb : ∀ (v440 : BitVec 32) (k1_hw89 : k1_chk89 v440), ∀ a, (k1_off89 v440) a + S1x1x768.size a ≤ S196x128x768.size a := fun v440 k1_hw89 => k1_hw89.1
theorem k1_off217_inb : ∀ (v440 : BitVec 32) (k1_hw89 : k1_chk89 v440), ∀ a, (k1_off217 v440) a + S1x1x768.size a ≤ S196x128x768.size a := fun v440 k1_hw89 => k1_hw89.2

def k1_off218 (v445 : BitVec 32) : Fin 3 → Nat :=
  let c89_i32_957 : BitVec 32 := 89#32
  let c0_i32_961 : BitVec 32 := 0#32
  ![v445.toNat, 89, 0]

def k1_chk90 (v445 : BitVec 32) : Prop :=
  (∀ a, (k1_off90 v445) a + S1x1x768.size a ≤ S196x128x768.size a) ∧
  (∀ a, (k1_off218 v445) a + S1x1x768.size a ≤ S196x128x768.size a)
theorem k1_off90_inb : ∀ (v445 : BitVec 32) (k1_hw90 : k1_chk90 v445), ∀ a, (k1_off90 v445) a + S1x1x768.size a ≤ S196x128x768.size a := fun v445 k1_hw90 => k1_hw90.1
theorem k1_off218_inb : ∀ (v445 : BitVec 32) (k1_hw90 : k1_chk90 v445), ∀ a, (k1_off218 v445) a + S1x1x768.size a ≤ S196x128x768.size a := fun v445 k1_hw90 => k1_hw90.2

def k1_off219 (v450 : BitVec 32) : Fin 3 → Nat :=
  let c90_i32_962 : BitVec 32 := 90#32
  let c0_i32_966 : BitVec 32 := 0#32
  ![v450.toNat, 90, 0]

def k1_chk91 (v450 : BitVec 32) : Prop :=
  (∀ a, (k1_off91 v450) a + S1x1x768.size a ≤ S196x128x768.size a) ∧
  (∀ a, (k1_off219 v450) a + S1x1x768.size a ≤ S196x128x768.size a)
theorem k1_off91_inb : ∀ (v450 : BitVec 32) (k1_hw91 : k1_chk91 v450), ∀ a, (k1_off91 v450) a + S1x1x768.size a ≤ S196x128x768.size a := fun v450 k1_hw91 => k1_hw91.1
theorem k1_off219_inb : ∀ (v450 : BitVec 32) (k1_hw91 : k1_chk91 v450), ∀ a, (k1_off219 v450) a + S1x1x768.size a ≤ S196x128x768.size a := fun v450 k1_hw91 => k1_hw91.2

def k1_off220 (v455 : BitVec 32) : Fin 3 → Nat :=
  let c91_i32_967 : BitVec 32 := 91#32
  let c0_i32_971 : BitVec 32 := 0#32
  ![v455.toNat, 91, 0]

def k1_chk92 (v455 : BitVec 32) : Prop :=
  (∀ a, (k1_off92 v455) a + S1x1x768.size a ≤ S196x128x768.size a) ∧
  (∀ a, (k1_off220 v455) a + S1x1x768.size a ≤ S196x128x768.size a)
theorem k1_off92_inb : ∀ (v455 : BitVec 32) (k1_hw92 : k1_chk92 v455), ∀ a, (k1_off92 v455) a + S1x1x768.size a ≤ S196x128x768.size a := fun v455 k1_hw92 => k1_hw92.1
theorem k1_off220_inb : ∀ (v455 : BitVec 32) (k1_hw92 : k1_chk92 v455), ∀ a, (k1_off220 v455) a + S1x1x768.size a ≤ S196x128x768.size a := fun v455 k1_hw92 => k1_hw92.2

def k1_off221 (v460 : BitVec 32) : Fin 3 → Nat :=
  let c92_i32_972 : BitVec 32 := 92#32
  let c0_i32_976 : BitVec 32 := 0#32
  ![v460.toNat, 92, 0]

def k1_chk93 (v460 : BitVec 32) : Prop :=
  (∀ a, (k1_off93 v460) a + S1x1x768.size a ≤ S196x128x768.size a) ∧
  (∀ a, (k1_off221 v460) a + S1x1x768.size a ≤ S196x128x768.size a)
theorem k1_off93_inb : ∀ (v460 : BitVec 32) (k1_hw93 : k1_chk93 v460), ∀ a, (k1_off93 v460) a + S1x1x768.size a ≤ S196x128x768.size a := fun v460 k1_hw93 => k1_hw93.1
theorem k1_off221_inb : ∀ (v460 : BitVec 32) (k1_hw93 : k1_chk93 v460), ∀ a, (k1_off221 v460) a + S1x1x768.size a ≤ S196x128x768.size a := fun v460 k1_hw93 => k1_hw93.2

def k1_off222 (v465 : BitVec 32) : Fin 3 → Nat :=
  let c93_i32_977 : BitVec 32 := 93#32
  let c0_i32_981 : BitVec 32 := 0#32
  ![v465.toNat, 93, 0]

def k1_chk94 (v465 : BitVec 32) : Prop :=
  (∀ a, (k1_off94 v465) a + S1x1x768.size a ≤ S196x128x768.size a) ∧
  (∀ a, (k1_off222 v465) a + S1x1x768.size a ≤ S196x128x768.size a)
theorem k1_off94_inb : ∀ (v465 : BitVec 32) (k1_hw94 : k1_chk94 v465), ∀ a, (k1_off94 v465) a + S1x1x768.size a ≤ S196x128x768.size a := fun v465 k1_hw94 => k1_hw94.1
theorem k1_off222_inb : ∀ (v465 : BitVec 32) (k1_hw94 : k1_chk94 v465), ∀ a, (k1_off222 v465) a + S1x1x768.size a ≤ S196x128x768.size a := fun v465 k1_hw94 => k1_hw94.2

def k1_off223 (v470 : BitVec 32) : Fin 3 → Nat :=
  let c94_i32_982 : BitVec 32 := 94#32
  let c0_i32_986 : BitVec 32 := 0#32
  ![v470.toNat, 94, 0]

def k1_chk95 (v470 : BitVec 32) : Prop :=
  (∀ a, (k1_off95 v470) a + S1x1x768.size a ≤ S196x128x768.size a) ∧
  (∀ a, (k1_off223 v470) a + S1x1x768.size a ≤ S196x128x768.size a)
theorem k1_off95_inb : ∀ (v470 : BitVec 32) (k1_hw95 : k1_chk95 v470), ∀ a, (k1_off95 v470) a + S1x1x768.size a ≤ S196x128x768.size a := fun v470 k1_hw95 => k1_hw95.1
theorem k1_off223_inb : ∀ (v470 : BitVec 32) (k1_hw95 : k1_chk95 v470), ∀ a, (k1_off223 v470) a + S1x1x768.size a ≤ S196x128x768.size a := fun v470 k1_hw95 => k1_hw95.2

def k1_off224 (v475 : BitVec 32) : Fin 3 → Nat :=
  let c95_i32_987 : BitVec 32 := 95#32
  let c0_i32_991 : BitVec 32 := 0#32
  ![v475.toNat, 95, 0]

def k1_chk96 (v475 : BitVec 32) : Prop :=
  (∀ a, (k1_off96 v475) a + S1x1x768.size a ≤ S196x128x768.size a) ∧
  (∀ a, (k1_off224 v475) a + S1x1x768.size a ≤ S196x128x768.size a)
theorem k1_off96_inb : ∀ (v475 : BitVec 32) (k1_hw96 : k1_chk96 v475), ∀ a, (k1_off96 v475) a + S1x1x768.size a ≤ S196x128x768.size a := fun v475 k1_hw96 => k1_hw96.1
theorem k1_off224_inb : ∀ (v475 : BitVec 32) (k1_hw96 : k1_chk96 v475), ∀ a, (k1_off224 v475) a + S1x1x768.size a ≤ S196x128x768.size a := fun v475 k1_hw96 => k1_hw96.2

def k1_off225 (v480 : BitVec 32) : Fin 3 → Nat :=
  let c96_i32_992 : BitVec 32 := 96#32
  let c0_i32_996 : BitVec 32 := 0#32
  ![v480.toNat, 96, 0]

def k1_chk97 (v480 : BitVec 32) : Prop :=
  (∀ a, (k1_off97 v480) a + S1x1x768.size a ≤ S196x128x768.size a) ∧
  (∀ a, (k1_off225 v480) a + S1x1x768.size a ≤ S196x128x768.size a)
theorem k1_off97_inb : ∀ (v480 : BitVec 32) (k1_hw97 : k1_chk97 v480), ∀ a, (k1_off97 v480) a + S1x1x768.size a ≤ S196x128x768.size a := fun v480 k1_hw97 => k1_hw97.1
theorem k1_off225_inb : ∀ (v480 : BitVec 32) (k1_hw97 : k1_chk97 v480), ∀ a, (k1_off225 v480) a + S1x1x768.size a ≤ S196x128x768.size a := fun v480 k1_hw97 => k1_hw97.2

def k1_off226 (v485 : BitVec 32) : Fin 3 → Nat :=
  let c97_i32_997 : BitVec 32 := 97#32
  let c0_i32_1001 : BitVec 32 := 0#32
  ![v485.toNat, 97, 0]

def k1_chk98 (v485 : BitVec 32) : Prop :=
  (∀ a, (k1_off98 v485) a + S1x1x768.size a ≤ S196x128x768.size a) ∧
  (∀ a, (k1_off226 v485) a + S1x1x768.size a ≤ S196x128x768.size a)
theorem k1_off98_inb : ∀ (v485 : BitVec 32) (k1_hw98 : k1_chk98 v485), ∀ a, (k1_off98 v485) a + S1x1x768.size a ≤ S196x128x768.size a := fun v485 k1_hw98 => k1_hw98.1
theorem k1_off226_inb : ∀ (v485 : BitVec 32) (k1_hw98 : k1_chk98 v485), ∀ a, (k1_off226 v485) a + S1x1x768.size a ≤ S196x128x768.size a := fun v485 k1_hw98 => k1_hw98.2

def k1_off227 (v490 : BitVec 32) : Fin 3 → Nat :=
  let c98_i32_1002 : BitVec 32 := 98#32
  let c0_i32_1006 : BitVec 32 := 0#32
  ![v490.toNat, 98, 0]

def k1_chk99 (v490 : BitVec 32) : Prop :=
  (∀ a, (k1_off99 v490) a + S1x1x768.size a ≤ S196x128x768.size a) ∧
  (∀ a, (k1_off227 v490) a + S1x1x768.size a ≤ S196x128x768.size a)
theorem k1_off99_inb : ∀ (v490 : BitVec 32) (k1_hw99 : k1_chk99 v490), ∀ a, (k1_off99 v490) a + S1x1x768.size a ≤ S196x128x768.size a := fun v490 k1_hw99 => k1_hw99.1
theorem k1_off227_inb : ∀ (v490 : BitVec 32) (k1_hw99 : k1_chk99 v490), ∀ a, (k1_off227 v490) a + S1x1x768.size a ≤ S196x128x768.size a := fun v490 k1_hw99 => k1_hw99.2

def k1_off228 (v495 : BitVec 32) : Fin 3 → Nat :=
  let c99_i32_1007 : BitVec 32 := 99#32
  let c0_i32_1011 : BitVec 32 := 0#32
  ![v495.toNat, 99, 0]

def k1_chk100 (v495 : BitVec 32) : Prop :=
  (∀ a, (k1_off100 v495) a + S1x1x768.size a ≤ S196x128x768.size a) ∧
  (∀ a, (k1_off228 v495) a + S1x1x768.size a ≤ S196x128x768.size a)
theorem k1_off100_inb : ∀ (v495 : BitVec 32) (k1_hw100 : k1_chk100 v495), ∀ a, (k1_off100 v495) a + S1x1x768.size a ≤ S196x128x768.size a := fun v495 k1_hw100 => k1_hw100.1
theorem k1_off228_inb : ∀ (v495 : BitVec 32) (k1_hw100 : k1_chk100 v495), ∀ a, (k1_off228 v495) a + S1x1x768.size a ≤ S196x128x768.size a := fun v495 k1_hw100 => k1_hw100.2

def k1_off229 (v500 : BitVec 32) : Fin 3 → Nat :=
  let c100_i32_1012 : BitVec 32 := 100#32
  let c0_i32_1016 : BitVec 32 := 0#32
  ![v500.toNat, 100, 0]

def k1_chk101 (v500 : BitVec 32) : Prop :=
  (∀ a, (k1_off101 v500) a + S1x1x768.size a ≤ S196x128x768.size a) ∧
  (∀ a, (k1_off229 v500) a + S1x1x768.size a ≤ S196x128x768.size a)
theorem k1_off101_inb : ∀ (v500 : BitVec 32) (k1_hw101 : k1_chk101 v500), ∀ a, (k1_off101 v500) a + S1x1x768.size a ≤ S196x128x768.size a := fun v500 k1_hw101 => k1_hw101.1
theorem k1_off229_inb : ∀ (v500 : BitVec 32) (k1_hw101 : k1_chk101 v500), ∀ a, (k1_off229 v500) a + S1x1x768.size a ≤ S196x128x768.size a := fun v500 k1_hw101 => k1_hw101.2

def k1_off230 (v505 : BitVec 32) : Fin 3 → Nat :=
  let c101_i32_1017 : BitVec 32 := 101#32
  let c0_i32_1021 : BitVec 32 := 0#32
  ![v505.toNat, 101, 0]

def k1_chk102 (v505 : BitVec 32) : Prop :=
  (∀ a, (k1_off102 v505) a + S1x1x768.size a ≤ S196x128x768.size a) ∧
  (∀ a, (k1_off230 v505) a + S1x1x768.size a ≤ S196x128x768.size a)
theorem k1_off102_inb : ∀ (v505 : BitVec 32) (k1_hw102 : k1_chk102 v505), ∀ a, (k1_off102 v505) a + S1x1x768.size a ≤ S196x128x768.size a := fun v505 k1_hw102 => k1_hw102.1
theorem k1_off230_inb : ∀ (v505 : BitVec 32) (k1_hw102 : k1_chk102 v505), ∀ a, (k1_off230 v505) a + S1x1x768.size a ≤ S196x128x768.size a := fun v505 k1_hw102 => k1_hw102.2

def k1_off231 (v510 : BitVec 32) : Fin 3 → Nat :=
  let c102_i32_1022 : BitVec 32 := 102#32
  let c0_i32_1026 : BitVec 32 := 0#32
  ![v510.toNat, 102, 0]

def k1_chk103 (v510 : BitVec 32) : Prop :=
  (∀ a, (k1_off103 v510) a + S1x1x768.size a ≤ S196x128x768.size a) ∧
  (∀ a, (k1_off231 v510) a + S1x1x768.size a ≤ S196x128x768.size a)
theorem k1_off103_inb : ∀ (v510 : BitVec 32) (k1_hw103 : k1_chk103 v510), ∀ a, (k1_off103 v510) a + S1x1x768.size a ≤ S196x128x768.size a := fun v510 k1_hw103 => k1_hw103.1
theorem k1_off231_inb : ∀ (v510 : BitVec 32) (k1_hw103 : k1_chk103 v510), ∀ a, (k1_off231 v510) a + S1x1x768.size a ≤ S196x128x768.size a := fun v510 k1_hw103 => k1_hw103.2

def k1_off232 (v515 : BitVec 32) : Fin 3 → Nat :=
  let c103_i32_1027 : BitVec 32 := 103#32
  let c0_i32_1031 : BitVec 32 := 0#32
  ![v515.toNat, 103, 0]

def k1_chk104 (v515 : BitVec 32) : Prop :=
  (∀ a, (k1_off104 v515) a + S1x1x768.size a ≤ S196x128x768.size a) ∧
  (∀ a, (k1_off232 v515) a + S1x1x768.size a ≤ S196x128x768.size a)
theorem k1_off104_inb : ∀ (v515 : BitVec 32) (k1_hw104 : k1_chk104 v515), ∀ a, (k1_off104 v515) a + S1x1x768.size a ≤ S196x128x768.size a := fun v515 k1_hw104 => k1_hw104.1
theorem k1_off232_inb : ∀ (v515 : BitVec 32) (k1_hw104 : k1_chk104 v515), ∀ a, (k1_off232 v515) a + S1x1x768.size a ≤ S196x128x768.size a := fun v515 k1_hw104 => k1_hw104.2

def k1_off233 (v520 : BitVec 32) : Fin 3 → Nat :=
  let c104_i32_1032 : BitVec 32 := 104#32
  let c0_i32_1036 : BitVec 32 := 0#32
  ![v520.toNat, 104, 0]

def k1_chk105 (v520 : BitVec 32) : Prop :=
  (∀ a, (k1_off105 v520) a + S1x1x768.size a ≤ S196x128x768.size a) ∧
  (∀ a, (k1_off233 v520) a + S1x1x768.size a ≤ S196x128x768.size a)
theorem k1_off105_inb : ∀ (v520 : BitVec 32) (k1_hw105 : k1_chk105 v520), ∀ a, (k1_off105 v520) a + S1x1x768.size a ≤ S196x128x768.size a := fun v520 k1_hw105 => k1_hw105.1
theorem k1_off233_inb : ∀ (v520 : BitVec 32) (k1_hw105 : k1_chk105 v520), ∀ a, (k1_off233 v520) a + S1x1x768.size a ≤ S196x128x768.size a := fun v520 k1_hw105 => k1_hw105.2

def k1_off234 (v525 : BitVec 32) : Fin 3 → Nat :=
  let c105_i32_1037 : BitVec 32 := 105#32
  let c0_i32_1041 : BitVec 32 := 0#32
  ![v525.toNat, 105, 0]

def k1_chk106 (v525 : BitVec 32) : Prop :=
  (∀ a, (k1_off106 v525) a + S1x1x768.size a ≤ S196x128x768.size a) ∧
  (∀ a, (k1_off234 v525) a + S1x1x768.size a ≤ S196x128x768.size a)
theorem k1_off106_inb : ∀ (v525 : BitVec 32) (k1_hw106 : k1_chk106 v525), ∀ a, (k1_off106 v525) a + S1x1x768.size a ≤ S196x128x768.size a := fun v525 k1_hw106 => k1_hw106.1
theorem k1_off234_inb : ∀ (v525 : BitVec 32) (k1_hw106 : k1_chk106 v525), ∀ a, (k1_off234 v525) a + S1x1x768.size a ≤ S196x128x768.size a := fun v525 k1_hw106 => k1_hw106.2

def k1_off235 (v530 : BitVec 32) : Fin 3 → Nat :=
  let c106_i32_1042 : BitVec 32 := 106#32
  let c0_i32_1046 : BitVec 32 := 0#32
  ![v530.toNat, 106, 0]

def k1_chk107 (v530 : BitVec 32) : Prop :=
  (∀ a, (k1_off107 v530) a + S1x1x768.size a ≤ S196x128x768.size a) ∧
  (∀ a, (k1_off235 v530) a + S1x1x768.size a ≤ S196x128x768.size a)
theorem k1_off107_inb : ∀ (v530 : BitVec 32) (k1_hw107 : k1_chk107 v530), ∀ a, (k1_off107 v530) a + S1x1x768.size a ≤ S196x128x768.size a := fun v530 k1_hw107 => k1_hw107.1
theorem k1_off235_inb : ∀ (v530 : BitVec 32) (k1_hw107 : k1_chk107 v530), ∀ a, (k1_off235 v530) a + S1x1x768.size a ≤ S196x128x768.size a := fun v530 k1_hw107 => k1_hw107.2

def k1_off236 (v535 : BitVec 32) : Fin 3 → Nat :=
  let c107_i32_1047 : BitVec 32 := 107#32
  let c0_i32_1051 : BitVec 32 := 0#32
  ![v535.toNat, 107, 0]

def k1_chk108 (v535 : BitVec 32) : Prop :=
  (∀ a, (k1_off108 v535) a + S1x1x768.size a ≤ S196x128x768.size a) ∧
  (∀ a, (k1_off236 v535) a + S1x1x768.size a ≤ S196x128x768.size a)
theorem k1_off108_inb : ∀ (v535 : BitVec 32) (k1_hw108 : k1_chk108 v535), ∀ a, (k1_off108 v535) a + S1x1x768.size a ≤ S196x128x768.size a := fun v535 k1_hw108 => k1_hw108.1
theorem k1_off236_inb : ∀ (v535 : BitVec 32) (k1_hw108 : k1_chk108 v535), ∀ a, (k1_off236 v535) a + S1x1x768.size a ≤ S196x128x768.size a := fun v535 k1_hw108 => k1_hw108.2

def k1_off237 (v540 : BitVec 32) : Fin 3 → Nat :=
  let c108_i32_1052 : BitVec 32 := 108#32
  let c0_i32_1056 : BitVec 32 := 0#32
  ![v540.toNat, 108, 0]

def k1_chk109 (v540 : BitVec 32) : Prop :=
  (∀ a, (k1_off109 v540) a + S1x1x768.size a ≤ S196x128x768.size a) ∧
  (∀ a, (k1_off237 v540) a + S1x1x768.size a ≤ S196x128x768.size a)
theorem k1_off109_inb : ∀ (v540 : BitVec 32) (k1_hw109 : k1_chk109 v540), ∀ a, (k1_off109 v540) a + S1x1x768.size a ≤ S196x128x768.size a := fun v540 k1_hw109 => k1_hw109.1
theorem k1_off237_inb : ∀ (v540 : BitVec 32) (k1_hw109 : k1_chk109 v540), ∀ a, (k1_off237 v540) a + S1x1x768.size a ≤ S196x128x768.size a := fun v540 k1_hw109 => k1_hw109.2

def k1_off238 (v545 : BitVec 32) : Fin 3 → Nat :=
  let c109_i32_1057 : BitVec 32 := 109#32
  let c0_i32_1061 : BitVec 32 := 0#32
  ![v545.toNat, 109, 0]

def k1_chk110 (v545 : BitVec 32) : Prop :=
  (∀ a, (k1_off110 v545) a + S1x1x768.size a ≤ S196x128x768.size a) ∧
  (∀ a, (k1_off238 v545) a + S1x1x768.size a ≤ S196x128x768.size a)
theorem k1_off110_inb : ∀ (v545 : BitVec 32) (k1_hw110 : k1_chk110 v545), ∀ a, (k1_off110 v545) a + S1x1x768.size a ≤ S196x128x768.size a := fun v545 k1_hw110 => k1_hw110.1
theorem k1_off238_inb : ∀ (v545 : BitVec 32) (k1_hw110 : k1_chk110 v545), ∀ a, (k1_off238 v545) a + S1x1x768.size a ≤ S196x128x768.size a := fun v545 k1_hw110 => k1_hw110.2

def k1_off239 (v550 : BitVec 32) : Fin 3 → Nat :=
  let c110_i32_1062 : BitVec 32 := 110#32
  let c0_i32_1066 : BitVec 32 := 0#32
  ![v550.toNat, 110, 0]

def k1_chk111 (v550 : BitVec 32) : Prop :=
  (∀ a, (k1_off111 v550) a + S1x1x768.size a ≤ S196x128x768.size a) ∧
  (∀ a, (k1_off239 v550) a + S1x1x768.size a ≤ S196x128x768.size a)
theorem k1_off111_inb : ∀ (v550 : BitVec 32) (k1_hw111 : k1_chk111 v550), ∀ a, (k1_off111 v550) a + S1x1x768.size a ≤ S196x128x768.size a := fun v550 k1_hw111 => k1_hw111.1
theorem k1_off239_inb : ∀ (v550 : BitVec 32) (k1_hw111 : k1_chk111 v550), ∀ a, (k1_off239 v550) a + S1x1x768.size a ≤ S196x128x768.size a := fun v550 k1_hw111 => k1_hw111.2

def k1_off240 (v555 : BitVec 32) : Fin 3 → Nat :=
  let c111_i32_1067 : BitVec 32 := 111#32
  let c0_i32_1071 : BitVec 32 := 0#32
  ![v555.toNat, 111, 0]

def k1_chk112 (v555 : BitVec 32) : Prop :=
  (∀ a, (k1_off112 v555) a + S1x1x768.size a ≤ S196x128x768.size a) ∧
  (∀ a, (k1_off240 v555) a + S1x1x768.size a ≤ S196x128x768.size a)
theorem k1_off112_inb : ∀ (v555 : BitVec 32) (k1_hw112 : k1_chk112 v555), ∀ a, (k1_off112 v555) a + S1x1x768.size a ≤ S196x128x768.size a := fun v555 k1_hw112 => k1_hw112.1
theorem k1_off240_inb : ∀ (v555 : BitVec 32) (k1_hw112 : k1_chk112 v555), ∀ a, (k1_off240 v555) a + S1x1x768.size a ≤ S196x128x768.size a := fun v555 k1_hw112 => k1_hw112.2

def k1_off241 (v560 : BitVec 32) : Fin 3 → Nat :=
  let c112_i32_1072 : BitVec 32 := 112#32
  let c0_i32_1076 : BitVec 32 := 0#32
  ![v560.toNat, 112, 0]

def k1_chk113 (v560 : BitVec 32) : Prop :=
  (∀ a, (k1_off113 v560) a + S1x1x768.size a ≤ S196x128x768.size a) ∧
  (∀ a, (k1_off241 v560) a + S1x1x768.size a ≤ S196x128x768.size a)
theorem k1_off113_inb : ∀ (v560 : BitVec 32) (k1_hw113 : k1_chk113 v560), ∀ a, (k1_off113 v560) a + S1x1x768.size a ≤ S196x128x768.size a := fun v560 k1_hw113 => k1_hw113.1
theorem k1_off241_inb : ∀ (v560 : BitVec 32) (k1_hw113 : k1_chk113 v560), ∀ a, (k1_off241 v560) a + S1x1x768.size a ≤ S196x128x768.size a := fun v560 k1_hw113 => k1_hw113.2

def k1_off242 (v565 : BitVec 32) : Fin 3 → Nat :=
  let c113_i32_1077 : BitVec 32 := 113#32
  let c0_i32_1081 : BitVec 32 := 0#32
  ![v565.toNat, 113, 0]

def k1_chk114 (v565 : BitVec 32) : Prop :=
  (∀ a, (k1_off114 v565) a + S1x1x768.size a ≤ S196x128x768.size a) ∧
  (∀ a, (k1_off242 v565) a + S1x1x768.size a ≤ S196x128x768.size a)
theorem k1_off114_inb : ∀ (v565 : BitVec 32) (k1_hw114 : k1_chk114 v565), ∀ a, (k1_off114 v565) a + S1x1x768.size a ≤ S196x128x768.size a := fun v565 k1_hw114 => k1_hw114.1
theorem k1_off242_inb : ∀ (v565 : BitVec 32) (k1_hw114 : k1_chk114 v565), ∀ a, (k1_off242 v565) a + S1x1x768.size a ≤ S196x128x768.size a := fun v565 k1_hw114 => k1_hw114.2

def k1_off243 (v570 : BitVec 32) : Fin 3 → Nat :=
  let c114_i32_1082 : BitVec 32 := 114#32
  let c0_i32_1086 : BitVec 32 := 0#32
  ![v570.toNat, 114, 0]

def k1_chk115 (v570 : BitVec 32) : Prop :=
  (∀ a, (k1_off115 v570) a + S1x1x768.size a ≤ S196x128x768.size a) ∧
  (∀ a, (k1_off243 v570) a + S1x1x768.size a ≤ S196x128x768.size a)
theorem k1_off115_inb : ∀ (v570 : BitVec 32) (k1_hw115 : k1_chk115 v570), ∀ a, (k1_off115 v570) a + S1x1x768.size a ≤ S196x128x768.size a := fun v570 k1_hw115 => k1_hw115.1
theorem k1_off243_inb : ∀ (v570 : BitVec 32) (k1_hw115 : k1_chk115 v570), ∀ a, (k1_off243 v570) a + S1x1x768.size a ≤ S196x128x768.size a := fun v570 k1_hw115 => k1_hw115.2

def k1_off244 (v575 : BitVec 32) : Fin 3 → Nat :=
  let c115_i32_1087 : BitVec 32 := 115#32
  let c0_i32_1091 : BitVec 32 := 0#32
  ![v575.toNat, 115, 0]

def k1_chk116 (v575 : BitVec 32) : Prop :=
  (∀ a, (k1_off116 v575) a + S1x1x768.size a ≤ S196x128x768.size a) ∧
  (∀ a, (k1_off244 v575) a + S1x1x768.size a ≤ S196x128x768.size a)
theorem k1_off116_inb : ∀ (v575 : BitVec 32) (k1_hw116 : k1_chk116 v575), ∀ a, (k1_off116 v575) a + S1x1x768.size a ≤ S196x128x768.size a := fun v575 k1_hw116 => k1_hw116.1
theorem k1_off244_inb : ∀ (v575 : BitVec 32) (k1_hw116 : k1_chk116 v575), ∀ a, (k1_off244 v575) a + S1x1x768.size a ≤ S196x128x768.size a := fun v575 k1_hw116 => k1_hw116.2

def k1_off245 (v580 : BitVec 32) : Fin 3 → Nat :=
  let c116_i32_1092 : BitVec 32 := 116#32
  let c0_i32_1096 : BitVec 32 := 0#32
  ![v580.toNat, 116, 0]

def k1_chk117 (v580 : BitVec 32) : Prop :=
  (∀ a, (k1_off117 v580) a + S1x1x768.size a ≤ S196x128x768.size a) ∧
  (∀ a, (k1_off245 v580) a + S1x1x768.size a ≤ S196x128x768.size a)
theorem k1_off117_inb : ∀ (v580 : BitVec 32) (k1_hw117 : k1_chk117 v580), ∀ a, (k1_off117 v580) a + S1x1x768.size a ≤ S196x128x768.size a := fun v580 k1_hw117 => k1_hw117.1
theorem k1_off245_inb : ∀ (v580 : BitVec 32) (k1_hw117 : k1_chk117 v580), ∀ a, (k1_off245 v580) a + S1x1x768.size a ≤ S196x128x768.size a := fun v580 k1_hw117 => k1_hw117.2

def k1_off246 (v585 : BitVec 32) : Fin 3 → Nat :=
  let c117_i32_1097 : BitVec 32 := 117#32
  let c0_i32_1101 : BitVec 32 := 0#32
  ![v585.toNat, 117, 0]

def k1_chk118 (v585 : BitVec 32) : Prop :=
  (∀ a, (k1_off118 v585) a + S1x1x768.size a ≤ S196x128x768.size a) ∧
  (∀ a, (k1_off246 v585) a + S1x1x768.size a ≤ S196x128x768.size a)
theorem k1_off118_inb : ∀ (v585 : BitVec 32) (k1_hw118 : k1_chk118 v585), ∀ a, (k1_off118 v585) a + S1x1x768.size a ≤ S196x128x768.size a := fun v585 k1_hw118 => k1_hw118.1
theorem k1_off246_inb : ∀ (v585 : BitVec 32) (k1_hw118 : k1_chk118 v585), ∀ a, (k1_off246 v585) a + S1x1x768.size a ≤ S196x128x768.size a := fun v585 k1_hw118 => k1_hw118.2

def k1_off247 (v590 : BitVec 32) : Fin 3 → Nat :=
  let c118_i32_1102 : BitVec 32 := 118#32
  let c0_i32_1106 : BitVec 32 := 0#32
  ![v590.toNat, 118, 0]

def k1_chk119 (v590 : BitVec 32) : Prop :=
  (∀ a, (k1_off119 v590) a + S1x1x768.size a ≤ S196x128x768.size a) ∧
  (∀ a, (k1_off247 v590) a + S1x1x768.size a ≤ S196x128x768.size a)
theorem k1_off119_inb : ∀ (v590 : BitVec 32) (k1_hw119 : k1_chk119 v590), ∀ a, (k1_off119 v590) a + S1x1x768.size a ≤ S196x128x768.size a := fun v590 k1_hw119 => k1_hw119.1
theorem k1_off247_inb : ∀ (v590 : BitVec 32) (k1_hw119 : k1_chk119 v590), ∀ a, (k1_off247 v590) a + S1x1x768.size a ≤ S196x128x768.size a := fun v590 k1_hw119 => k1_hw119.2

def k1_off248 (v595 : BitVec 32) : Fin 3 → Nat :=
  let c119_i32_1107 : BitVec 32 := 119#32
  let c0_i32_1111 : BitVec 32 := 0#32
  ![v595.toNat, 119, 0]

def k1_chk120 (v595 : BitVec 32) : Prop :=
  (∀ a, (k1_off120 v595) a + S1x1x768.size a ≤ S196x128x768.size a) ∧
  (∀ a, (k1_off248 v595) a + S1x1x768.size a ≤ S196x128x768.size a)
theorem k1_off120_inb : ∀ (v595 : BitVec 32) (k1_hw120 : k1_chk120 v595), ∀ a, (k1_off120 v595) a + S1x1x768.size a ≤ S196x128x768.size a := fun v595 k1_hw120 => k1_hw120.1
theorem k1_off248_inb : ∀ (v595 : BitVec 32) (k1_hw120 : k1_chk120 v595), ∀ a, (k1_off248 v595) a + S1x1x768.size a ≤ S196x128x768.size a := fun v595 k1_hw120 => k1_hw120.2

def k1_off249 (v600 : BitVec 32) : Fin 3 → Nat :=
  let c120_i32_1112 : BitVec 32 := 120#32
  let c0_i32_1116 : BitVec 32 := 0#32
  ![v600.toNat, 120, 0]

def k1_chk121 (v600 : BitVec 32) : Prop :=
  (∀ a, (k1_off121 v600) a + S1x1x768.size a ≤ S196x128x768.size a) ∧
  (∀ a, (k1_off249 v600) a + S1x1x768.size a ≤ S196x128x768.size a)
theorem k1_off121_inb : ∀ (v600 : BitVec 32) (k1_hw121 : k1_chk121 v600), ∀ a, (k1_off121 v600) a + S1x1x768.size a ≤ S196x128x768.size a := fun v600 k1_hw121 => k1_hw121.1
theorem k1_off249_inb : ∀ (v600 : BitVec 32) (k1_hw121 : k1_chk121 v600), ∀ a, (k1_off249 v600) a + S1x1x768.size a ≤ S196x128x768.size a := fun v600 k1_hw121 => k1_hw121.2

def k1_off250 (v605 : BitVec 32) : Fin 3 → Nat :=
  let c121_i32_1117 : BitVec 32 := 121#32
  let c0_i32_1121 : BitVec 32 := 0#32
  ![v605.toNat, 121, 0]

def k1_chk122 (v605 : BitVec 32) : Prop :=
  (∀ a, (k1_off122 v605) a + S1x1x768.size a ≤ S196x128x768.size a) ∧
  (∀ a, (k1_off250 v605) a + S1x1x768.size a ≤ S196x128x768.size a)
theorem k1_off122_inb : ∀ (v605 : BitVec 32) (k1_hw122 : k1_chk122 v605), ∀ a, (k1_off122 v605) a + S1x1x768.size a ≤ S196x128x768.size a := fun v605 k1_hw122 => k1_hw122.1
theorem k1_off250_inb : ∀ (v605 : BitVec 32) (k1_hw122 : k1_chk122 v605), ∀ a, (k1_off250 v605) a + S1x1x768.size a ≤ S196x128x768.size a := fun v605 k1_hw122 => k1_hw122.2

def k1_off251 (v610 : BitVec 32) : Fin 3 → Nat :=
  let c122_i32_1122 : BitVec 32 := 122#32
  let c0_i32_1126 : BitVec 32 := 0#32
  ![v610.toNat, 122, 0]

def k1_chk123 (v610 : BitVec 32) : Prop :=
  (∀ a, (k1_off123 v610) a + S1x1x768.size a ≤ S196x128x768.size a) ∧
  (∀ a, (k1_off251 v610) a + S1x1x768.size a ≤ S196x128x768.size a)
theorem k1_off123_inb : ∀ (v610 : BitVec 32) (k1_hw123 : k1_chk123 v610), ∀ a, (k1_off123 v610) a + S1x1x768.size a ≤ S196x128x768.size a := fun v610 k1_hw123 => k1_hw123.1
theorem k1_off251_inb : ∀ (v610 : BitVec 32) (k1_hw123 : k1_chk123 v610), ∀ a, (k1_off251 v610) a + S1x1x768.size a ≤ S196x128x768.size a := fun v610 k1_hw123 => k1_hw123.2

def k1_off252 (v615 : BitVec 32) : Fin 3 → Nat :=
  let c123_i32_1127 : BitVec 32 := 123#32
  let c0_i32_1131 : BitVec 32 := 0#32
  ![v615.toNat, 123, 0]

def k1_chk124 (v615 : BitVec 32) : Prop :=
  (∀ a, (k1_off124 v615) a + S1x1x768.size a ≤ S196x128x768.size a) ∧
  (∀ a, (k1_off252 v615) a + S1x1x768.size a ≤ S196x128x768.size a)
theorem k1_off124_inb : ∀ (v615 : BitVec 32) (k1_hw124 : k1_chk124 v615), ∀ a, (k1_off124 v615) a + S1x1x768.size a ≤ S196x128x768.size a := fun v615 k1_hw124 => k1_hw124.1
theorem k1_off252_inb : ∀ (v615 : BitVec 32) (k1_hw124 : k1_chk124 v615), ∀ a, (k1_off252 v615) a + S1x1x768.size a ≤ S196x128x768.size a := fun v615 k1_hw124 => k1_hw124.2

def k1_off253 (v620 : BitVec 32) : Fin 3 → Nat :=
  let c124_i32_1132 : BitVec 32 := 124#32
  let c0_i32_1136 : BitVec 32 := 0#32
  ![v620.toNat, 124, 0]

def k1_chk125 (v620 : BitVec 32) : Prop :=
  (∀ a, (k1_off125 v620) a + S1x1x768.size a ≤ S196x128x768.size a) ∧
  (∀ a, (k1_off253 v620) a + S1x1x768.size a ≤ S196x128x768.size a)
theorem k1_off125_inb : ∀ (v620 : BitVec 32) (k1_hw125 : k1_chk125 v620), ∀ a, (k1_off125 v620) a + S1x1x768.size a ≤ S196x128x768.size a := fun v620 k1_hw125 => k1_hw125.1
theorem k1_off253_inb : ∀ (v620 : BitVec 32) (k1_hw125 : k1_chk125 v620), ∀ a, (k1_off253 v620) a + S1x1x768.size a ≤ S196x128x768.size a := fun v620 k1_hw125 => k1_hw125.2

def k1_off254 (v625 : BitVec 32) : Fin 3 → Nat :=
  let c125_i32_1137 : BitVec 32 := 125#32
  let c0_i32_1141 : BitVec 32 := 0#32
  ![v625.toNat, 125, 0]

def k1_chk126 (v625 : BitVec 32) : Prop :=
  (∀ a, (k1_off126 v625) a + S1x1x768.size a ≤ S196x128x768.size a) ∧
  (∀ a, (k1_off254 v625) a + S1x1x768.size a ≤ S196x128x768.size a)
theorem k1_off126_inb : ∀ (v625 : BitVec 32) (k1_hw126 : k1_chk126 v625), ∀ a, (k1_off126 v625) a + S1x1x768.size a ≤ S196x128x768.size a := fun v625 k1_hw126 => k1_hw126.1
theorem k1_off254_inb : ∀ (v625 : BitVec 32) (k1_hw126 : k1_chk126 v625), ∀ a, (k1_off254 v625) a + S1x1x768.size a ≤ S196x128x768.size a := fun v625 k1_hw126 => k1_hw126.2

def k1_off255 (v630 : BitVec 32) : Fin 3 → Nat :=
  let c126_i32_1142 : BitVec 32 := 126#32
  let c0_i32_1146 : BitVec 32 := 0#32
  ![v630.toNat, 126, 0]

def k1_chk127 (v630 : BitVec 32) : Prop :=
  (∀ a, (k1_off127 v630) a + S1x1x768.size a ≤ S196x128x768.size a) ∧
  (∀ a, (k1_off255 v630) a + S1x1x768.size a ≤ S196x128x768.size a)
theorem k1_off127_inb : ∀ (v630 : BitVec 32) (k1_hw127 : k1_chk127 v630), ∀ a, (k1_off127 v630) a + S1x1x768.size a ≤ S196x128x768.size a := fun v630 k1_hw127 => k1_hw127.1
theorem k1_off255_inb : ∀ (v630 : BitVec 32) (k1_hw127 : k1_chk127 v630), ∀ a, (k1_off255 v630) a + S1x1x768.size a ≤ S196x128x768.size a := fun v630 k1_hw127 => k1_hw127.2

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 1 → Memref sig .tc .vmem S128x1x768 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]
-- ==== ReferenceIdeal.lean ====
abbrev S128x196x768 : Shape := ⟨3, ![128, 196, 768]⟩
abbrev S128x1x768 : Shape := ⟨3, ![128, 1, 768]⟩
abbrev S128x768 : Shape := ⟨2, ![128, 768]⟩
abbrev S128x128x196 : Shape := ⟨3, ![128, 128, 196]⟩
abbrev S_ : Shape := ⟨0, ![]⟩
abbrev S196x768 : Shape := ⟨2, ![196, 768]⟩
abbrev S128x196 : Shape := ⟨2, ![128, 196]⟩
abbrev S128x1 : Shape := ⟨2, ![128, 1]⟩
abbrev S128 : Shape := ⟨1, ![128]⟩
abbrev S128x2 : Shape := ⟨2, ![128, 2]⟩
abbrev S128x128x2 : Shape := ⟨3, ![128, 128, 2]⟩
abbrev S128x128x1 : Shape := ⟨3, ![128, 128, 1]⟩
abbrev S128x128 : Shape := ⟨2, ![128, 128]⟩
abbrev S128x256 : Shape := ⟨2, ![128, 256]⟩

abbrev nBuf : Space → Nat
  | .hbm => 82
  | .vmem => 0
  | .smem => 0
  | _ => 0

abbrev bufTy : (tb : Table) → Fin (tcTables nBuf tb) → BufTy
  | .hbm, ⟨0, _⟩ => ⟨S128x196x768, .f32⟩
  | .hbm, ⟨1, _⟩ => ⟨S128x1x768, .f32⟩
  | .hbm, ⟨2, _⟩ => ⟨S128x768, .f32⟩
  | .hbm, ⟨3, _⟩ => ⟨S128x128x196, .f32⟩
  | .hbm, ⟨4, _⟩ => ⟨S_, .f32⟩
  | .hbm, ⟨5, _⟩ => ⟨S196x768, .f32⟩
  | .hbm, ⟨6, _⟩ => ⟨S128x196, .f32⟩
  | .hbm, ⟨7, _⟩ => ⟨S128x1, .f32⟩
  | .hbm, ⟨8, _⟩ => ⟨S128x1, .i32⟩
  | .hbm, ⟨9, _⟩ => ⟨S128, .i32⟩
  | .hbm, ⟨10, _⟩ => ⟨S128, .i32⟩
  | .hbm, ⟨11, _⟩ => ⟨S_, .i32⟩
  | .hbm, ⟨12, _⟩ => ⟨S128, .i32⟩
  | .hbm, ⟨13, _⟩ => ⟨S128, .i1⟩
  | .hbm, ⟨14, _⟩ => ⟨S_, .i32⟩
  | .hbm, ⟨15, _⟩ => ⟨S128, .i32⟩
  | .hbm, ⟨16, _⟩ => ⟨S128, .i32⟩
  | .hbm, ⟨17, _⟩ => ⟨S128, .i32⟩
  | .hbm, ⟨18, _⟩ => ⟨S_, .i32⟩
  | .hbm, ⟨19, _⟩ => ⟨S128, .i32⟩
  | .hbm, ⟨20, _⟩ => ⟨S128, .i1⟩
  | .hbm, ⟨21, _⟩ => ⟨S_, .i32⟩
  | .hbm, ⟨22, _⟩ => ⟨S128, .i32⟩
  | .hbm, ⟨23, _⟩ => ⟨S128, .i32⟩
  | .hbm, ⟨24, _⟩ => ⟨S128, .i32⟩
  | .hbm, ⟨25, _⟩ => ⟨S128x1, .i32⟩
  | .hbm, ⟨26, _⟩ => ⟨S128x1, .i32⟩
  | .hbm, ⟨27, _⟩ => ⟨S128x2, .i32⟩
  | .hbm, ⟨28, _⟩ => ⟨S128x768, .f32⟩
  | .hbm, ⟨29, _⟩ => ⟨S128x1x768, .f32⟩
  | .hbm, ⟨30, _⟩ => ⟨S128x128x2, .f32⟩
  | .hbm, ⟨31, _⟩ => ⟨S128x128x2, .i32⟩
  | .hbm, ⟨32, _⟩ => ⟨S128x128x1, .f32⟩
  | .hbm, ⟨33, _⟩ => ⟨S128x128, .f32⟩
  | .hbm, ⟨34, _⟩ => ⟨S128x128x1, .f32⟩
  | .hbm, ⟨35, _⟩ => ⟨S128x128, .f32⟩
  | .hbm, ⟨36, _⟩ => ⟨S128x128, .i32⟩
  | .hbm, ⟨37, _⟩ => ⟨S128x128, .i32⟩
  | .hbm, ⟨38, _⟩ => ⟨S_, .i32⟩
  | .hbm, ⟨39, _⟩ => ⟨S128x128, .i32⟩
  | .hbm, ⟨40, _⟩ => ⟨S128x128, .i32⟩
  | .hbm, ⟨41, _⟩ => ⟨S128x128, .i1⟩
  | .hbm, ⟨42, _⟩ => ⟨S_, .f32⟩
  | .hbm, ⟨43, _⟩ => ⟨S_, .f32⟩
  | .hbm, ⟨44, _⟩ => ⟨S128x128, .f32⟩
  | .hbm, ⟨45, _⟩ => ⟨S128x128, .f32⟩
  | .hbm, ⟨46, _⟩ => ⟨S128x256, .f32⟩
  | .hbm, ⟨47, _⟩ => ⟨S_, .f32⟩
  | .hbm, ⟨48, _⟩ => ⟨S128, .f32⟩
  | .hbm, ⟨49, _⟩ => ⟨S128x1, .f32⟩
  | .hbm, ⟨50, _⟩ => ⟨S128x256, .f32⟩
  | .hbm, ⟨51, _⟩ => ⟨S128x256, .f32⟩
  | .hbm, ⟨52, _⟩ => ⟨S128x256, .f32⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S128, .f32⟩
  | .hbm, ⟨57, _⟩ => ⟨S128, .i32⟩
  | .hbm, ⟨58, _⟩ => ⟨S128, .i32⟩
  | .hbm, ⟨59, _⟩ => ⟨S_, .i32⟩
  | .hbm, ⟨60, _⟩ => ⟨S128, .i32⟩
  | .hbm, ⟨61, _⟩ => ⟨S128, .i1⟩
  | .hbm, ⟨62, _⟩ => ⟨S_, .i32⟩
  | .hbm, ⟨63, _⟩ => ⟨S128, .i32⟩
  | .hbm, ⟨64, _⟩ => ⟨S128, .i32⟩
  | .hbm, ⟨65, _⟩ => ⟨S128, .i32⟩
  | .hbm, ⟨66, _⟩ => ⟨S_, .i32⟩
  | .hbm, ⟨67, _⟩ => ⟨S128, .i32⟩
  | .hbm, ⟨68, _⟩ => ⟨S128, .i1⟩
  | .hbm, ⟨69, _⟩ => ⟨S_, .i32⟩
  | .hbm, ⟨70, _⟩ => ⟨S128, .i32⟩
  | .hbm, ⟨71, _⟩ => ⟨S128, .i32⟩
  | .hbm, ⟨72, _⟩ => ⟨S128, .i32⟩
  | .hbm, ⟨73, _⟩ => ⟨S128x1, .i32⟩
  | .hbm, ⟨74, _⟩ => ⟨S128x1, .i32⟩
  | .hbm, ⟨75, _⟩ => ⟨S128x2, .i32⟩
  | .hbm, ⟨76, _⟩ => ⟨S128, .f32⟩
  | .hbm, ⟨77, _⟩ => ⟨S128, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | _, _ => ⟨S128x196x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_values : Ref sig .tc := ⟨.hbm, 7, rfl⟩
abbrev main_indices : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_values_3 : Ref sig .tc := ⟨.hbm, 30, rfl⟩
abbrev main_indices_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_call0_v0 : Ref sig .tc := ⟨.hbm, 43, rfl⟩
abbrev main_call0_v1 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_9 : Ref sig .tc := ⟨.hbm, 59, rfl⟩
abbrev main_v42 : Ref sig .tc := ⟨.hbm, 60, rfl⟩
abbrev main_v43 : Ref sig .tc := ⟨.hbm, 61, rfl⟩
abbrev main_c_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_11 : Ref sig .tc := ⟨.hbm, 66, rfl⟩
abbrev main_v47 : Ref sig .tc := ⟨.hbm, 67, rfl⟩
abbrev main_v48 : Ref sig .tc := ⟨.hbm, 68, rfl⟩
abbrev main_c_12 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_13 : Ref sig .tc := ⟨.hbm, 78, rfl⟩
abbrev main_v57 : Ref sig .tc := ⟨.hbm, 79, rfl⟩
abbrev main_cst_14 : Ref sig .tc := ⟨.hbm, 80, rfl⟩
abbrev main_v58 : Ref sig .tc := ⟨.hbm, 81, rfl⟩

abbrev nD : Nat := 1
abbrev τ : Topo := Topo.v7x

variable {F : FTy → Type} [FloatOps F]
-- ==== Proof.SimFrame.lean ====
/-
  THE FRAME OF THE FIRST CALL run alone (`Cert.quiescent_Sim`), at any `F`. The four staged windows and the three
  scratch buffers are held at some contents each from one grid point to the next: nothing is said of the results here,
  so nothing depends on what the rows of the image block past the array's end hold.
-/
module

public import proofs.«01_k».proof.Proof.SimBodyBits
public import proofs.«01_k».proof.Proof.Gen.Sim.Frame

@[expose] public section

set_option maxRecDepth 16384

noncomputable section

namespace Cert.Sim.SimCall

open Cert.Sim Cert.Sim.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg)

variable {F : FTy → Type} [FloatOps F]

local notation "𝕄" => MT nD τ sig Unit (Elt F) ℕ (UR sig nD τ) ℕ

/-- The seven buffers of the body, each held whole at some contents. -/
abbrev heldSome (c : Dev nD) (M1 : Memref sig .tc .vmem S128x768 .f32) (M2 : Memref sig .tc .vmem S24x128x768 .f32)
    (M3 : Memref sig .tc .vmem S1x1 .f32) (M4 : Memref sig .tc .vmem S1x128 .i32)
    (M5 M6 : Memref sig .tc .vmem S128x128 .f32) (M7 : Memref sig .tc .vmem S216x768 .f32) : sProp 𝕄 :=
  iprop((∃ x, owns (c : Thread nD τ) M1 fullShare x) ∗ (∃ x, owns (c : Thread nD τ) M2 fullShare x)
    ∗ (∃ x, owns (c : Thread nD τ) M3 fullShare x) ∗ (∃ x, owns (c : Thread nD τ) M4 fullShare x)
    ∗ (∃ x, owns (c : Thread nD τ) M5 fullShare x) ∗ (∃ x, owns (c : Thread nD τ) M6 fullShare x)
    ∗ (∃ x, owns (c : Thread nD τ) M7 fullShare x))

/-- Buffers at named contents are buffers at some contents. -/
theorem held_some (c : Dev nD) (M1 : Memref sig .tc .vmem S128x768 .f32) (M2 : Memref sig .tc .vmem S24x128x768 .f32)
    (M3 : Memref sig .tc .vmem S1x1 .f32) (M4 : Memref sig .tc .vmem S1x128 .i32)
    (M5 M6 : Memref sig .tc .vmem S128x128 .f32) (M7 : Memref sig .tc .vmem S216x768 .f32)
    (x : Vec F S128x768 .f32) (b : Vec F S24x128x768 .f32) (d3 : Vec F S1x1 .f32) (d4 : Vec F S1x128 .i32)
    (p : FVec F S128x128 .f32 × FVec F S128x128 .f32) (v : Vec F S216x768 .f32) :
    (held c M1 M2 M3 M4 M5 M6 M7 x b d3 d4 p v : sProp 𝕄) ⊢ heldSome c M1 M2 M3 M4 M5 M6 M7 := by
  unfold held heldSome
  iintro ⟨H1, H2, H3, H4, H5, H6, H7⟩
  isplitl [H1]; · iexists x; iexact H1
  isplitl [H2]; · iexists b; iexact H2
  isplitl [H3]; · iexists d3; iexact H3
  isplitl [H4]; · iexists d4; iexact H4
  isplitl [H5]; · iexists p.1; iexact H5
  isplitl [H6]; · iexists p.2; iexact H6
  iexists v; iexact H7

/-- No grid point is both the first and the last. -/
theorem not_both : ∀ i : grid0.Coords, ¬ (firstCond i ∧ k0_cond2 i = 1#1) := by decide +kernel

/-- The body runs at every grid point, from any contents of its buffers. -/
theorem run_any (c : Dev nD) (i : grid0.Coords)
    (M1 : Memref sig .tc .vmem S128x768 .f32) (h1 : M1.IsWhole) (M2 : Memref sig .tc .vmem S24x128x768 .f32) (h2 : M2.IsWhole)
    (M3 : Memref sig .tc .vmem S1x1 .f32) (h3 : M3.IsWhole) (M4 : Memref sig .tc .vmem S1x128 .i32) (h4 : M4.IsWhole)
    (M5 : Memref sig .tc .vmem S128x128 .f32) (h5 : M5.IsWhole) (M6 : Memref sig .tc .vmem S128x128 .f32) (h6 : M6.IsWhole)
    (M7 : Memref sig .tc .vmem S216x768 .f32) (h7 : M7.IsWhole) (E : Set ℕ) (Q : PUnit → sProp 𝕄) :
    iprop(heldSome c M1 M2 M3 M4 M5 M6 M7 ∗ (heldSome c M1 M2 M3 M4 M5 M6 M7 -∗ Q ⟨⟩))
    ⊢ wp frame (wpE (defs₀ (F := F)) Variants.none c none) E
        (cc0__sim_kernel i M1 h1 M2 h2 M3 h3 M4 h4 M5 h5 M6 h6 M7 h7) Q := by
  iintro ⟨⟨⟨%x, H1⟩, ⟨%b, H2⟩, ⟨%d3, H3⟩, ⟨%d4, H4⟩, ⟨%p1, H5⟩, ⟨%p2, H6⟩, ⟨%v, H7⟩⟩, Hk⟩
  by_cases hf : firstCond i
  · have hl : ¬ k0_cond2 i = 1#1 := fun h => not_both i ⟨hf, h⟩
    iapply (run_first c i M1 h1 M2 h2 M3 h3 M4 h4 M5 h5 M6 h6 M7 h7 x b d3 d4 (p1, p2) v hf hl E Q)
    isplitl [H1 H2 H3 H4 H5 H6 H7]
    · unfold held
      isplitl [H1]; · iexact H1
      isplitl [H2]; · iexact H2
      isplitl [H3]; · iexact H3
      isplitl [H4]; · iexact H4
      isplitl [H5]; · iexact H5
      isplitl [H6]; · iexact H6
      iexact H7
    · iintro H; iapply Hk; iapply held_some; iexact H
  · by_cases hl : k0_cond2 i = 1#1
    · iapply (run_last c i M1 h1 M2 h2 M3 h3 M4 h4 M5 h5 M6 h6 M7 h7 x b d3 d4 (p1, p2) v hf hl E Q)
      isplitl [H1 H2 H3 H4 H5 H6 H7]
      · unfold held
        isplitl [H1]; · iexact H1
        isplitl [H2]; · iexact H2
        isplitl [H3]; · iexact H3
        isplitl [H4]; · iexact H4
        isplitl [H5]; · iexact H5
        isplitl [H6]; · iexact H6
        iexact H7
      · iintro H; iapply Hk; iapply held_some; iexact H
    · iapply (run_mid c i M1 h1 M2 h2 M3 h3 M4 h4 M5 h5 M6 h6 M7 h7 x b d3 d4 (p1, p2) v hf hl E Q)
      isplitl [H1 H2 H3 H4 H5 H6 H7]
      · unfold held
        isplitl [H1]; · iexact H1
        isplitl [H2]; · iexact H2
        isplitl [H3]; · iexact H3
        isplitl [H4]; · iexact H4
        isplitl [H5]; · iexact H5
        isplitl [H6]; · iexact H6
        iexact H7
      · iintro H; iapply Hk; iapply held_some; iexact H

variable (m : (ℓ : Loc nD τ sig) → Buf (Elt F) ℓ) (ρ : Dev nD → PrngReg)

/-- The proof data of the one region: the arrays as it finds them, nothing said of a staged buffer after the body. -/
def dats (_ : Fin 1) (c : Dev nD) : Dat τ (Elt F) Unit ℕ (UR sig nD τ) ℕ cfg0 c where
  A w := V m c (Pipeline.arrRef spec0 w)
  after _ _ := fun _ => Classical.arbitrary _
  Φ _ := Pipeline.ΦA spec0 c
  q _ := fullShare
  owed _ := 0

/-- The three scratch buffers at some contents, as the body holds them. -/
theorem Phi_eq (c : Dev nD) :
    (Pipeline.ΦA (U := UR sig nD τ) (Val := Elt F) spec0 c : sProp 𝕄)
      = iprop(((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA
  rw [scopedRest0_eq]
  simp only [owns_whole]; try rfl

/-- The body at one grid point, between its buffers at some contents before and after. -/
theorem sound_body (c : Dev nD) (t : Fin cfg0.N) :
    iprop((dats m 0 c).Φ t.castSucc ∗ (dats m 0 c).owesAt () t.castSucc
        ∗ (∃ X, owns (c : Thread nD τ) ((cfg0.win 0).stage (cfg0.slots t 0)) fullShare X)
        ∗ (∃ X, owns (c : Thread nD τ) ((cfg0.win 1).stage (cfg0.slots t 1)) fullShare X)
        ∗ (∃ X, owns (c : Thread nD τ) ((cfg0.win 2).stage (cfg0.slots t 2)) fullShare X)
        ∗ (∃ X, owns (c : Thread nD τ) ((cfg0.win 3).stage (cfg0.slots t 3)) fullShare X))
    ⊢ wp frame (wpE (defs₀ (F := F)) Variants.none c none) Set.univ (bodyAt0 t) fun _ =>
      iprop((dats m 0 c).Φ t.succ ∗ (dats m 0 c).owesAt () t.succ
        ∗ (∃ X, owns (c : Thread nD τ) ((cfg0.win 0).stage (cfg0.slots t 0)) fullShare X)
        ∗ (∃ X, owns (c : Thread nD τ) ((cfg0.win 1).stage (cfg0.slots t 1)) fullShare X)
        ∗ (∃ X, owns (c : Thread nD τ) ((cfg0.win 2).stage (cfg0.slots t 2)) fullShare X)
        ∗ (∃ X, owns (c : Thread nD τ) ((cfg0.win 3).stage (cfg0.slots t 3)) fullShare X)) := by
  rw [show (dats m 0 c).Φ t.succ = Pipeline.ΦA spec0 c from rfl, show (dats m 0 c).Φ t.castSucc = Pipeline.ΦA spec0 c from rfl,
    Phi_eq, show (dats m 0 c).owesAt () t.succ = (dats m 0 c).owesAt () t.castSucc from rfl]
  unfold bodyAt0
  iintro ⟨⟨⟨Hs0, Hs1, Hs2⟩, Hg⟩, HW, H0, H1, H2, H3⟩
  iapply (run_any c (grid0.coords t) _ _ _ _ _ _ _ _ _ _ _ _ _ _ _ _)
  isplitl [Hs0 Hs1 Hs2 H0 H1 H2 H3]
  · unfold heldSome
    isplitl [H0]; · iexact H0
    isplitl [H1]; · iexact H1
    isplitl [H2]; · iexact H2
    isplitl [H3]; · iexact H3
    isplitl [Hs0]; · iexact Hs0
    isplitl [Hs1]; · iexact Hs1
    iexact Hs2
  unfold heldSome
  iintro ⟨H0, H1, H2, H3, Hs0, Hs1, Hs2⟩
  isplitl [Hs0 Hs1 Hs2 Hg]
  · isplitl [Hs0 Hs1 Hs2]
    · isplitl [Hs0]; · iexact Hs0
      isplitl [Hs1]; · iexact Hs1
      iexact Hs2
    iexact Hg
  isplitl [HW]; · iexact HW
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    Pipeline.BodyObligationLoose (dats (F := F) m 0 c) (defs₀ (F := F)) Variants.none () Set.univ (fun _ => true) := fun t => by
  rw [bigSep_W0, defs₀_row]
  exact triple_restated (sound_body m c t) rfl .rfl fun _ => .rfl

/-- The two host operations after the region write the two reshaped results only. -/
theorem tail_writes : ∀ ops ∈ ([hostOps1] : List (List (HloOp τ sig (Elt F)))), ∀ op ∈ ops, ∀ b : Ref sig .tc,
    Proc.devRef .tc b ∈ op.writes → b ∈ ({main_v3, main_v4} : Finset (Ref sig .tc)) := by
  intro ops hops op hop b hb
  simp only [List.mem_cons, List.mem_nil_iff, or_false] at hops
  rcases hops with rfl
  simp only [hostOps1, List.mem_cons, List.mem_nil_iff, or_false] at hop
  rcases hop with rfl | rfl
  all_goals
    simp only [StableHlo.reshape_writes, Finset.mem_singleton] at hb
    have := Proc.devRef_injective .tc hb
    subst this
    simp

/-- The run: every buffer outside the tail's two results as the region found it, every semaphore zero. -/
theorem run_main : θ_run defs (onTc (τ := τ) (main (F := F))) (s₀ m ρ) (fun r =>
    Pipeline.RDat.FramePostR cfg0 (fun c => (dats m 0 c).toRForget fun _ => true) {main_v3, main_v4} (V m) r
      ∧ r.2.sem = fun _ => 0) :=
  Pipeline.θ_run_frame_around_T_forget (Q' := _) cfgs (dats m) (0 : Fin 1) launch0 defs₀ Variants.none (fun _ => true)
    {main_v3, main_v4} m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := fun _ _ => rfl) (hΦ := fun _ _ => rfl) (hQ' := fun _ h => h)

/-- The first call, run alone on any launch memory, ends with its arguments as launched and every semaphore zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
    ⟨((h.1 c).2 main_arg0 (by decide)).trans (V_main_arg0 m c), ((h.1 c).2 main_arg1 (by decide)).trans (V_main_arg1 m c)⟩, h.2⟩)
    (run_main m ρ)

end Cert.Sim.SimCall

end
-- ==== Proof.GatherBlockBits.lean ====
/-
  THE SECOND CALL'S BODY ON WHOLE BUFFERS: from the array and the result's block held whole, the array is left as it
  was and the block holds, in row `b`, the array's row named by the table's entry `b` at batch entry `b`.
-/
module

public import proofs.«01_k».proof.Proof.GatherBodyBits

@[expose] public section

set_option maxRecDepth 16384

noncomputable section

namespace Cert.Gather.GatherCall

open Cert.Gather Cert.Gather.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The named rows: entry `(b, 0, d)` is the array's entry `(X b, b, d)`. -/
def gathered (X : Vec F S128 .i32) (hX : ∀ j, (X j).toNat < 196) (Y : Vec F S196x128x768 .f32) : Vec F S128x1x768 .f32 :=
  fun j => Y (ValueIdx.ix3 ⟨(X (at' (j 0))).toNat, hX _⟩ (j 0) (j 2))

/-- The result's block. -/
abbrev B3 : Memref sig .tc .vmem S128x1x768 .f32 := Memref.whole cc0_stg0_0
/-- The array. -/
abbrev B2 : Memref sig .tc .hbm S196x128x768 .f32 := Memref.whole main_v0

/-- Row `b` of the block holds the entries whose first coordinate is `b`. -/
theorem mem_dst {b : ℕ} (hb : b < 128) (i : S128x1x768.Idx) : i ∈ (dstWin B3 hb).view.set ↔ (i 0).val = b := by
  have e : (dstWin B3 hb).view.set = (Rect.unit (s := S128x1x768) ![b, 0, 0] S1x1x768.size (dst_inb hb)).set := by
    exact (View.set_reshape (v := (View.whole cc0_stg0_0).slice (Rect.unit (s := S128x1x768) ![b, 0, 0] S1x1x768.size (dst_inb hb)))
      squeezes_S1x1x768_S1x768.numel_eq).trans (View.set_slice_whole _ _)
  rw [e, Rect.mem_set_unit]
  constructor
  · intro h
    have h0 : b ≤ (i 0).val ∧ (i 0).val < b + 1 := h 0
    omega
  · intro h a
    fin_cases a
    · show b ≤ (i 0).val ∧ (i 0).val < b + 1; omega
    · have h1 : (i 1).val < 1 := (i 1).isLt
      show 0 ≤ (i 1).val ∧ (i 1).val < 0 + 1; omega
    · have h2 : (i 2).val < 768 := (i 2).isLt
      show 0 ≤ (i 2).val ∧ (i 2).val < 0 + 768; omega

/-- A source row's entries have the row's batch entry as second coordinate. -/
theorem mem_src {r b : ℕ} (hr : r < 196) (hb : b < 128) (i : S196x128x768.Idx) (h : i ∈ (srcWin B2 hr hb).view.set) : (i 1).val = b := by
  have e : (srcWin B2 hr hb).view.set = (Rect.unit (s := S196x128x768) ![r, b, 0] S1x1x768.size (src_inb hr hb)).set := by
    exact (View.set_reshape (v := (View.whole main_v0).slice (Rect.unit (s := S196x128x768) ![r, b, 0] S1x1x768.size (src_inb hr hb)))
      squeezes_S1x1x768_S1x768.numel_eq).trans (View.set_slice_whole _ _)
  rw [e, Rect.mem_set_unit] at h
  have h1 : b ≤ (i 1).val ∧ (i 1).val < b + 1 := h 1
  omega

/-- The entries of the block's row `b`. -/
abbrev dstSet (b : Fin 128) : Finset S128x1x768.Idx := (dstWin B3 b.2).view.set
/-- The entries of the array's row named by the table's entry `b`. -/
abbrev srcSet (X : Vec F S128 .i32) (hX : ∀ j, (X j).toNat < 196) (b : Fin 128) : Finset S196x128x768.Idx :=
  (srcWin B2 (hX (at' b)) b.2).view.set

theorem dst_disjoint (t t' : Fin 128) (h : t ≠ t') : Disjoint (dstSet t) (dstSet t') := by
  rw [Finset.disjoint_left]
  intro i hi hi'
  exact h (Fin.ext (((mem_dst t.2 i).mp hi).symm.trans ((mem_dst t'.2 i).mp hi')))

theorem dst_cover : (Finset.univ.biUnion dstSet) = Finset.univ := by
  ext i
  simp only [Finset.mem_biUnion, Finset.mem_univ, true_and, iff_true]
  exact ⟨(⟨(i 0).val, (i 0).isLt⟩ : Fin 128), (mem_dst _ i).mpr rfl⟩

variable (X : Vec F S128 .i32) (hX : ∀ j, (X j).toNat < 196)

theorem src_disjoint (t t' : Fin 128) (h : t ≠ t') :
    Disjoint (srcSet X hX t) (srcSet X hX t') := by
  rw [Finset.disjoint_left]
  intro i hi hi'
  exact h (Fin.ext ((mem_src _ _ i hi).symm.trans (mem_src _ _ i hi')))

/-- Row `b`, written by its transfer, agrees with the named rows. -/
theorem landed_eq (c : Dev nD) (f2 : Buf (Elt F) ((c : Thread nD τ).loc main_v0)) (f3 : Buf (Elt F) ((c : Thread nD τ).loc cc0_stg0_0)) (b : Fin 128)
    (i : S128x1x768.Idx) (hi : i ∈ (dstWin B3 b.2).view.set) :
    (dstWin B3 b.2).view.write (Elt F) f3 (ReadAs.same.apply ((srcWin B2 (hX (at' b)) b.2).view.read (Elt F) f2)) Finset.univ i
      = gathered X hX f2 i := by
  obtain ⟨x, rfl⟩ := View.exists_emb_of_mem_set _ hi
  rw [View.write_emb_of_mem _ _ (Finset.mem_univ x)]
  show f2 ((srcWin B2 (hX (at' b)) b.2).view.emb x) = f2 _
  have hb : ((dstWin B3 b.2).view.emb x) 0 = b := Fin.ext ((mem_dst b.2 _).mp (View.emb_mem_set _ x))
  refine congrArg f2 (funext fun a => Fin.ext ?_)
  set k := Shape.reshapeEquiv (squeezes_S1x1x768_S1x768.numel_eq) x with hk
  have k0 : (k 0).val < 1 := (k 0).isLt
  have k1 : (k 1).val < 1 := (k 1).isLt
  fin_cases a
  · show (X (at' b)).toNat + 1 * (k 0).val = (X (at' (((dstWin B3 b.2).view.emb x) 0))).toNat
    rw [hb]; omega
  · show b.val + 1 * (k 1).val = (((dstWin B3 b.2).view.emb x) 0).val
    rw [hb]; omega
  · show 0 + 1 * (k 2).val = 0 + 1 * (k 2).val
    rfl

variable (c : Dev nD) (i : grid0.Coords) (M1 : Memref sig .tc .smem S128 .i32) (h1 : M1.IsWhole) (s : DmaSems sig S_)

/-- The whole body on whole buffers. -/
theorem run_whole (q : PosShare TreeShare) (f1 : Buf (Elt F) (M1.view.loc (c : Thread nD τ))) (e1 : M1.view.read (Elt F) f1 = X)
    (f2 : Buf (Elt F) ((c : Thread nD τ).loc main_v0)) (f3 : Buf (Elt F) ((c : Thread nD τ).loc cc0_stg0_0)) (Q : PUnit → sProp 𝕄) :
    iprop((M1.view.loc (c : Thread nD τ) ↦{q} f1) ∗ ((c : Thread nD τ).loc main_v0 ↦{fullShare} f2)
      ∗ ((c : Thread nD τ).loc cc0_stg0_0 ↦{fullShare} f3) ∗ semVal ((c : Thread nD τ), SemLoc.dma s.sem) 0 ∗ (∃ W, owes (c : Thread nD τ) 0 W)
      ∗ (iprop((M1.view.loc (c : Thread nD τ) ↦{q} f1) ∗ ((c : Thread nD τ).loc main_v0 ↦{fullShare} f2)
          ∗ ((c : Thread nD τ).loc cc0_stg0_0 ↦{fullShare} gathered X hX f2) ∗ semVal ((c : Thread nD τ), SemLoc.dma s.sem) 0
          ∗ (∃ W, owes (c : Thread nD τ) 0 W)) -∗ Q ⟨⟩))
    ⊢ wp frame (wpE (defs₀ (F := F)) Variants.none c none) Set.univ
        (cc0__gather_kernel i M1 h1 B2 (Memref.isWhole_whole _) B3 (Memref.isWhole_whole _) s) Q := by
  have hsrc : ((c : Thread nD τ).loc main_v0 ↦{fullShare} f2 : sProp 𝕄)
      ⊣⊢ iprop((bigSep Finset.univ fun t : Fin 128 => ((c : Thread nD τ).loc main_v0 ↦[srcSet X hX t]{fullShare} f2))
        ∗ ((c : Thread nD τ).loc main_v0 ↦[Finset.univ \ (Finset.univ.biUnion (srcSet X hX))]{fullShare} f2)) := by
    have e := pointsTo_biUnion (Val := Elt F) (Ix := Unit) (Name := ℕ) (U := Pipeline.UD sig nD τ) (Lvl := ℕ) (ℓ := (c : Thread nD τ).loc main_v0)
      (q := fullShare) (f := f2) Finset.univ (srcSet X hX) (fun t _ t' _ h => src_disjoint X hX t t' h)
    rw [← e]
    exact pointsTo_split_subset (Finset.subset_univ _)
  have hdst : ∀ f : Buf (Elt F) ((c : Thread nD τ).loc cc0_stg0_0), ((c : Thread nD τ).loc cc0_stg0_0 ↦{fullShare} f : sProp 𝕄)
      = bigSep Finset.univ fun t : Fin 128 => ((c : Thread nD τ).loc cc0_stg0_0 ↦[dstSet t]{fullShare} f) := by
    intro f
    have e := pointsTo_biUnion (Val := Elt F) (Ix := Unit) (Name := ℕ) (U := Pipeline.UD sig nD τ) (Lvl := ℕ) (ℓ := (c : Thread nD τ).loc cc0_stg0_0)
      (q := fullShare) (f := f) Finset.univ dstSet (fun t _ t' _ h => dst_disjoint t t' h)
    rw [← e, dst_cover]
  have hrows : (bigSep (Transfers.pending (n := 128) 0) (rowsFor c B2 B3 X hX f2 f3) : sProp 𝕄)
      = iprop((bigSep Finset.univ fun t : Fin 128 => ((c : Thread nD τ).loc main_v0 ↦[srcSet X hX t]{fullShare} f2))
        ∗ bigSep Finset.univ fun t : Fin 128 => ((c : Thread nD τ).loc cc0_stg0_0 ↦[dstSet t]{fullShare} f3)) := by
    rw [Transfers.pending_zero, ← bigSep_sep']
    rfl
  have hdel : (bigSep Finset.univ (deliv c B2 B3 X hX f2 f3) : sProp 𝕄)
      = iprop((bigSep Finset.univ fun t : Fin 128 => ((c : Thread nD τ).loc cc0_stg0_0 ↦[dstSet t]{fullShare} gathered X hX f2))
        ∗ bigSep Finset.univ fun t : Fin 128 => ((c : Thread nD τ).loc main_v0 ↦[srcSet X hX t]{fullShare} f2)) := by
    rw [← bigSep_sep']
    refine bigSep_congr fun t _ => ?_
    unfold deliv
    have e := pointsTo_congr (Val := Elt F) (Ix := Unit) (Name := ℕ) (U := Pipeline.UD sig nD τ) (Lvl := ℕ) (ℓ := (c : Thread nD τ).loc cc0_stg0_0)
      (q := fullShare) (I := dstSet t) (g := gathered X hX f2) (landed_eq X hX c f2 f3 t)
    rw [← e]
  iintro ⟨H1, H2, H3, Hs, HO, HQ⟩
  imod (Transfers.batch_alloc' (countersEmb (U := Pipeline.UD sig nD τ)) (c : Thread nD τ) () (N B3 s) (deliv c B2 B3 X hX f2 f3)
    (sm := .dma s.sem) (E := Set.univ)) $$ Hs with HB
  ihave H2' := hsrc.1 $$ H2
  icases H2' with ⟨H2, H2r⟩
  iapply (run_rows c i M1 h1 B2 _ B3 _ s X hX f2 f3 q f1 e1 Q)
  isplitl [H1]; · iexact H1
  isplitl [HB H2 H3]
  · unfold started
    isplitl [HB]; · iexact HB
    rw [hrows, ← hdst]
    isplitl [H2]; · iexact H2
    iexact H3
  isplitl [HO]; · iexact HO
  rw [hdel, ← hdst]
  iintro H1 ⟨⟨H3, H2⟩, Hs, HO⟩
  iapply HQ
  isplitl [H1]; · iexact H1
  isplitl [H2 H2r]
  · iapply hsrc.2
    isplitl [H2]; · iexact H2
    iexact H2r
  isplitl [H3]; · iexact H3
  isplitl [Hs]; · iexact Hs
  iexact HO

end Cert.Gather.GatherCall

end
-- ==== Proof.GatherRegionBits.lean ====
/-
  THE SECOND CALL'S REGION: its one grid point leaves the named rows in the result's array; the array it reads, the
  table and the semaphore are as they were.
-/
module

public import proofs.«01_k».proof.Proof.GatherBlockBits
public import proofs.«01_k».proof.Proof.Gen.Gather.Launch
public import Idealize.ShloMosaic.Lib.Pipeline.ValueKit
public import Idealize.ShloMosaic.Lib.Pipeline.RegionArraysDT

@[expose] public section

set_option maxRecDepth 16384

noncomputable section

namespace Cert.Gather.GatherCall

open Cert.Gather Cert.Gather.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg)

variable {F : FTy → Type} [FloatOps F]

local notation "𝕄" => MT nD τ sig Unit (Elt F) ℕ (Pipeline.UD sig nD τ) ℕ

/-- The body's own semaphore. -/
abbrev osem1 : Fin 1 → SemLoc sig := fun _ => SemLoc.dma (cc0_scratch0.sem)
theorem ownSemFacts1 : Pipeline.OwnSemFacts spec0 osem1 := by decide
/-- The array the body's transfers read. -/
abbrev H1 : Finset (Ref sig .tc) := {main_v0}

variable (V : Valuation τ sig (Elt F)) (av : (pcfg0 (F := F)).Adm) (hX : ∀ j : S128.Idx, (av.1 0 j).toNat < 196) (c : Dev nD)

/-- What the body keeps beside the staged block: the other scoped buffers, the generator, its semaphore at zero, the
    array and the table. -/
def Kept : sProp 𝕄 :=
  iprop((Pipeline.scopedRest spec0 c ∗ (∃ r, prngReg c r) ∗ Pipeline.ownSems0 osem1 c
      ∗ bigSep H1 fun b => ((c.tc : Thread nD τ).loc b) ↦{fullShare} V (Proc.devRef .tc b))
    ∗ Pipeline.prefHeld pre0 c (fun _ => fullShare) av.1)

/-- The proof data of the second region, entered with the unscoped buffers at `V` and the table at `av`. -/
def dat : Dat τ (Elt F) Unit ℕ (Pipeline.UD sig nD τ) ℕ (cfg0 av) c where
  A w := V (Pipeline.arrRef spec0 w)
  after w _ := match w with
    | 0 => gathered (av.1 0) hX (V main_v0)
    | ⟨_ + 1, h⟩ => absurd h (Nat.not_lt.2 (Nat.le_add_left _ _))
  Φ _ := Kept V av c
  q _ := fullShare
  owed _ := 0

/-- The staged block is the staging buffer. -/
theorem owns_stage (X : Vec F S128x1x768 .f32) :
    (owns (c : Thread nD τ) (((cfg0 av).win 0).stage ((cfg0 av).slots t0_0 0)) fullShare X : sProp 𝕄)
      = (((c : Thread nD τ).loc cc0_stg0_0) ↦{fullShare} X : sProp 𝕄) := by
  have key : ∀ s : Fin 1, (owns (c : Thread nD τ) (stage0_0 s) fullShare X : sProp 𝕄)
      = (((c : Thread nD τ).loc cc0_stg0_0) ↦{fullShare} X : sProp 𝕄) := by
    intro s
    obtain rfl : s = 0 := Subsingleton.elim _ _
    exact owns_whole (c : Thread nD τ) cc0_stg0_0 fullShare X
  exact key (((cfg0 av).slots t0_0 0).cast nbuf0_0)

/-- The body at the grid point, on the staged block and what it keeps. -/
theorem sound_body :
    iprop(Kept V av c ∗ (dat V av hX c).owesAt () t0_0.castSucc
        ∗ (∃ d, owns (c : Thread nD τ) ((cfg0 av).win 0 |>.stage ((cfg0 av).slots t0_0 0)) fullShare ((dat V av hX c).before 0 t0_0 d)))
    ⊢ wp frame (wpE (defs₀ (F := F)) Variants.none c none) Set.univ
        (cc0__gather_kernel (grid0.coords t0_0) (Memref.whole main_arg0) (Memref.isWhole_whole _) B2 (Memref.isWhole_whole _) B3 (Memref.isWhole_whole _) cc0_scratch0) fun _ =>
      iprop(Kept V av c ∗ (dat V av hX c).owesAt () t0_0.succ ∗ (dat V av hX c).leaves 0 t0_0) := by
  have hH : (bigSep H1 fun b => (((c.tc : Thread nD τ).loc b) ↦{fullShare} V (Proc.devRef .tc b) : sProp 𝕄))
      = (((c.tc : Thread nD τ).loc main_v0) ↦{fullShare} V main_v0 : sProp 𝕄) := BI.bigSep_singleton
  have hP : (Pipeline.prefHeld pre0 c (fun _ => fullShare) av.1 : sProp 𝕄)
      = (((c.tc : Thread nD τ).loc main_arg0) ↦{fullShare} av.1 0 : sProp 𝕄) := by
    unfold Pipeline.prefHeld
    rw [show (Finset.univ : Finset (Fin 1)) = {0} from rfl, BI.bigSep_singleton]
    rfl
  have hS : (Pipeline.ownSems0 osem1 c : sProp 𝕄) = semVal (((c : Thread nD τ), SemLoc.dma cc0_scratch0.sem)) 0 := by
    unfold Pipeline.ownSems0
    rw [show (Finset.univ : Finset (Fin 1)) = {0} from rfl, BI.bigSep_singleton]
  have hl : ((((c : Thread nD τ).loc cc0_stg0_0) ↦{fullShare} gathered (av.1 0) hX (V main_v0) : sProp 𝕄)) ⊢ ((dat V av hX c).leaves 0 t0_0 : sProp 𝕄) := by
    unfold Dat.leaves
    exact Entails.of_eq (owns_stage av c _).symm
  have ho : ∀ t : Fin (cfg0 av).N, ((dat V av hX c).owesAt () t.castSucc : sProp 𝕄) ⊢ iprop(∃ W, owes (c : Thread nD τ) 0 W) := fun t => by
    unfold Dat.owesAt Pipeline.owesWithin
    iintro ⟨%W, -, H⟩; iexists W; iexact H
  have ho' : iprop(∃ W, owes (c : Thread nD τ) 0 W) ⊢ ((dat V av hX c).owesAt () t0_0.succ : sProp 𝕄) := by
    unfold Dat.owesAt Pipeline.owesWithin
    iintro ⟨%W, H⟩; iexists W; isplitr; · ipureintro; exact fun _ _ => Or.inl trivial
    iexact H
  unfold Kept
  rw [hH, hP, hS]
  iintro ⟨⟨⟨Hs, Hg, Hsem, Hy⟩, Ht⟩, Ho, ⟨%d, Hst⟩⟩
  ihave Hst := (Entails.of_eq (owns_stage av c ((dat V av hX c).before 0 t0_0 d))) $$ Hst
  ihave HO := (ho t0_0) $$ Ho
  iapply (run_whole (av.1 0) hX c (grid0.coords t0_0) (Memref.whole main_arg0) (Memref.isWhole_whole _) cc0_scratch0
    fullShare (av.1 0) rfl (V main_v0) ((dat V av hX c).before 0 t0_0 d) _)
  isplitl [Ht]; · iexact Ht
  isplitl [Hy]; · iexact Hy
  isplitl [Hst]; · iexact Hst
  isplitl [Hsem]; · iexact Hsem
  isplitl [HO]; · iexact HO
  iintro ⟨Ht, Hy, Hst, Hsem, HO⟩
  isplitl [Hs Hg Hsem Hy Ht]
  · isplitl [Hs Hg Hsem Hy]
    · isplitl [Hs]; · iexact Hs
      isplitl [Hg]; · iexact Hg
      isplitl [Hsem]; · iexact Hsem
      iexact Hy
    iexact Ht
  isplitl [HO]; · iapply ho'; iexact HO
  iapply hl; iexact Hst

/-- The program the region runs at its grid point. -/
theorem defs₀_row : defs₀ (F := F) .tc (cfg0 av).body ((cfg0 av).bodyArgs t0_0 ((cfg0 av).slots t0_0))
    = cc0__gather_kernel (grid0.coords t0_0) (Memref.whole main_arg0) (Memref.isWhole_whole _) B2 (Memref.isWhole_whole _) B3 (Memref.isWhole_whole _) cc0_scratch0 := by
  have key : ∀ (s : Fin 1) (h : (stage0_0 s).IsWhole),
      cc0__gather_kernel (F := F) (grid0.coords t0_0) (Memref.whole main_arg0) (Memref.isWhole_whole _) B2 (Memref.isWhole_whole _) (stage0_0 s) h cc0_scratch0
        = cc0__gather_kernel (grid0.coords t0_0) (Memref.whole main_arg0) (Memref.isWhole_whole _) B2 (Memref.isWhole_whole _) B3 (Memref.isWhole_whole _) cc0_scratch0 := by
    intro s h
    obtain rfl : s = 0 := Subsingleton.elim _ _
    rfl
  unfold defs₀; rw [Defs.onTc_tc]
  exact key (((cfg0 av).slots t0_0 0).cast nbuf0_0) _

/-- The body's obligation at the region's grid point. -/
theorem body : Pipeline.BodyObligationLoose (dat V av hX c) (defs₀ (F := F)) Variants.none () Set.univ := fun t => by
  obtain rfl := fin_N0 t
  rw [bigSep_W0, bigSep_W0, defs₀_row av]
  exact triple_restated (sound_body V av hX c) rfl .rfl fun _ => .rfl

/-- The one write-back, at the one grid point, is of the whole array. -/
theorem wholeAt1 : ((cfg0 av).win 0).WholeAt t0_0 := by
  refine ⟨?_, fun t _ => fin_N0 t, fun a => ⟨?_, ?_⟩⟩
  · unfold Pipeline.Window.flush
    rw [show (t0_0 : Fin grid0.N).val + 1 = grid0.N from N_0.symm]
    simp only [decide_true, Bool.true_or, Bool.and_true]; rfl
  · revert a; exact (by decide : ∀ a : Fin 3, cc0_transform_1 (grid0.coords t0_0) a = 0)
  · rfl

/-- The result's array after the region. -/
theorem final_0 : (dat V av hX c).arrAt 0 (cfg0 av).N = gathered (av.1 0) hX (V main_v0) :=
  Dat.arrAt_eq_of_after_last (dat V av hX c) 0 t0_0 (wholeAt1 av) _ (by intros; rfl)

end Cert.Gather.GatherCall

end
-- ==== Proof.GatherFrame.lean ====
/-
  THE FRAME OF THE SECOND CALL run alone (`Cert.quiescent_Gather`), at any `F`: where every index names a row of the
  array, every execution ends with the arguments unchanged and every counter at zero.
-/
module

public import proofs.«01_k».proof.Proof.GatherRegionBits

@[expose] public section

set_option maxRecDepth 16384

noncomputable section

namespace Cert.Gather.GatherCall

open Cert.Gather Cert.Gather.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg)
open Idealize.ShloMosaic.Rounds

variable {F : FTy → Type} [FloatOps F]

local notation "𝕄" => MT nD τ sig Unit (Elt F) ℕ (Pipeline.UD sig nD τ) ℕ

/-- The launch's level data: nothing is ever owed. -/
def L : GSem nD τ sig → Finset Unit := fun g => if g.1.2 = .tc then {()} else ∅
abbrev lv : GSem nD τ sig → Unit → ℕ := fun _ _ => 0
abbrev D0 : Dev nD → CellTallies nD τ sig Unit := fun _ => 0

-- the buffers the region is entered with, and the table it reads
variable (W : Dev nD → Valuation τ sig (Elt F)) (T : Vec F S128 .i32) (hT : ∀ j, (T j).toNat < 196)

/-- The table the call is entered with. -/
def table : (pcfg0 (F := F)).Adm := ⟨fun | 0 => T | ⟨_ + 1, h⟩ => absurd h (Nat.not_lt.2 (Nat.le_add_left _ _)), trivial⟩
def a : (p : Fin 1) → (pcfgs (F := F) p).Adm
  | ⟨0, _⟩ => table T

/-- The region's data. -/
def pdats : (p : Fin 1) → (c : Dev nD) → Dat τ (Elt F) Unit ℕ (Pipeline.UD sig nD τ) ℕ (Pipeline.pin (pcfgs (F := F)) (a T) p) c
  | ⟨0, _⟩, c => dat (W c) (table T) hT c

theorem levelCut (p : Fin 1) : Pipeline.LevelCut (nD := nD) (pcfgs (F := F)) (a T) () L lv p D0 (fun _ => 0) where
  hι _ _ _ := by unfold L; rw [if_pos rfl]; exact Finset.mem_singleton_self _
  hιb _ _ _ := le_rfl
  hD _ _ _ h := absurd h (Nat.lt_irrefl 0)

theorem share0 (c : Dev nD) (w) : (pdats W T hT 0 c).share w = fullShare := (pdats W T hT 0 c).share_full (fun _ => rfl) w

/-- The buffers that stay beside the region's array and table. -/
abbrev Sr : Finset (DevRef τ sig) := (Pipeline.ucRefs τ sig \ Pipeline.arrRefs spec0) \ Pipeline.tblRefs pre0

/-- The region's record: its array passes from `W` to `W'`, the table stays. -/
def R0 (W' : Dev nD → Valuation τ sig (Elt F))
    (h : ∀ c (w : Fin 1), (dat (W c) (table T) hT c).arrAt w (cfg0 (table T)).N = W' c (Proc.devRef .tc (Pipeline.arrRef spec0 w)))
    (hW : ∀ c (k : Fin 1), (table T).1 k = W c (Proc.devRef .tc (pre0.ref k)))
    (hW' : ∀ c (k : Fin 1), (table T).1 k = W' c (Proc.devRef .tc (pre0.ref k))) :
    Pipeline.RegionSeg (pcfgs (F := F)) (a T) (pdats W T hT) () defs₀ Variants.none L lv 0 :=
  Pipeline.RegionSeg.ofHeldDHT (pcfgs (F := F)) (a T) (pdats W T hT) () defs₀ Variants.none L lv 0 D0
    () osem1 ownSemFacts1 H1 Sr (by decide) launch0
    (fun c => body (W c) (table T) hT c) (fun _ _ => rfl) (fun _ => rfl) (share0 W T hT)
    (fun c => (by iintro -; iempintro : _ ⊢ BI.emp).trans (Transfers.MayWaits.zero (c : Thread nD τ) ()))
    W W'
    (fun c => by
      change _ ⊢ Kept (W c) (table T) c
      unfold Kept
      iintro ⟨⟨Hs, Hg, Ho, Hy, -⟩, Ht⟩
      isplitl [Hs Hg Ho Hy]
      · isplitl [Hs]; · iexact Hs
        isplitl [Hg]; · iexact Hg
        isplitl [Ho]; · iexact Ho
        iexact Hy
      iexact Ht)
    (fun c => by
      change Kept (W c) (table T) c ⊢ _
      unfold Kept
      exact BI.Entails.refl _)
    (fun _ => 0) (levelCut T 0) (fun _ => BI.emp) (fun _ _ => rfl) hW h hW'

/-- What rides along: the generator's register and nothing owed. -/
abbrev E (c : Dev nD) : sProp 𝕄 := iprop((∃ r, prngReg c r) ∗ ∃ Wd, owes (c : Thread nD τ) 0 Wd)

theorem arr0_sub : Pipeline.arrRefs (τ := τ) spec0 ⊆ Pipeline.ucRefs τ sig := Pipeline.arrRefs_sub_ucRefs spec0 (by decide)
theorem tbl0_sub : Pipeline.tblRefs (τ := τ) pre0 ⊆ Pipeline.ucRefs τ sig \ Pipeline.arrRefs spec0 :=
  Pipeline.tblRefs_sub_ucRefs_sdiff spec0 pre0 (by decide) (by decide)

/-- The buffers and what rides along enter the region, -/
theorem pre0' (W' h hW hW') (c : Dev nD) :
    iprop(StableHlo.held (c : Thread nD τ) (Pipeline.ucRefs τ sig) (W c) ∗ E c) ⊢ (R0 W T hT W' h hW hW').pre c := by
  change _ ⊢ iprop(StableHlo.held (c : Thread nD τ) (Pipeline.arrRefs spec0) (W c) ∗ StableHlo.held (c : Thread nD τ) (Pipeline.tblRefs pre0) (W c)
    ∗ (∃ r, prngReg c r) ∗ (StableHlo.held (c : Thread nD τ) Sr (W c) ∗ BI.emp) ∗ ∃ Wd, owes (c : Thread nD τ) 0 Wd)
  rw [StableHlo.held_sub_split (c : Thread nD τ) arr0_sub (W c), StableHlo.held_sub_split (c : Thread nD τ) tbl0_sub (W c)]
  iintro ⟨⟨Ha, Ht, Hr⟩, Hg, Ho⟩
  isplitl [Ha]; · iexact Ha
  isplitl [Ht]; · iexact Ht
  isplitl [Hg]; · iexact Hg
  isplitl [Hr]
  · isplitl [Hr]; · iexact Hr
    iempintro
  iexact Ho

/-- and leave it at `W'`, which differs from `W` on its array only. -/
theorem post0 (W' h hW hW') (hV : ∀ c, ∀ b ∈ Sr, W c b = W' c b) (c : Dev nD) :
    (R0 W T hT W' h hW hW').post c ⊢ iprop(StableHlo.held (c : Thread nD τ) (Pipeline.ucRefs τ sig) (W' c) ∗ E c) := by
  change iprop(StableHlo.held (c : Thread nD τ) (Pipeline.arrRefs spec0) (W' c) ∗ StableHlo.held (c : Thread nD τ) (Pipeline.tblRefs pre0) (W' c)
    ∗ (∃ r, prngReg c r) ∗ (StableHlo.held (c : Thread nD τ) Sr (W c) ∗ BI.emp) ∗ ∃ Wd, owes (c : Thread nD τ) 0 Wd) ⊢ _
  rw [StableHlo.held_sub_split (c : Thread nD τ) arr0_sub (W' c), StableHlo.held_sub_split (c : Thread nD τ) tbl0_sub (W' c),
    StableHlo.held_congr (c : Thread nD τ) (hV c)]
  iintro ⟨Ha, Ht, Hg, ⟨Hr, -⟩, Ho⟩
  isplitl [Ha Ht Hr]
  · isplitl [Ha]; · iexact Ha
    isplitl [Ht]; · iexact Ht
    iexact Hr
  isplitl [Hg]; · iexact Hg
  iexact Ho

/-! ## The run -/

variable (m : (ℓ : Loc nD τ sig) → Buf (Elt F) ℓ) (ρ : Dev nD → PrngReg)

/-- The buffers at launch, after the transpose, and after the call. -/
abbrev V0 (c : Dev nD) : Valuation τ sig (Elt F) := fun b => m (c, b)
abbrev V1 (c : Dev nD) : Valuation τ sig (Elt F) := StableHlo.after hostOps0 (V0 m c)
abbrev V2 (c : Dev nD) : Valuation τ sig (Elt F) := Function.update (V1 m c) main_v1 (gathered T hT (V1 m c main_v0))

theorem hostOps0_fresh : (hostOps0 : List (HloOp τ sig (Elt F))).Forall fun op => op.fresh = ∅ := by
  simp only [List.Forall]; repeat' constructor
theorem hostOps0_writes : (hostOps0 : List (HloOp τ sig (Elt F))).Forall fun op =>
    op.writes ⊆ (([main_v0] : List (Ref sig .tc)).map (Proc.devRef (τ := τ) .tc)).toFinset :=
  StableHlo.forall_writes_sub_of_map rfl
theorem V1_of (c : Dev nD) (r : Ref sig .tc) (h : r ∉ ([main_v0] : List (Ref sig .tc))) : V1 m c r = V0 m c r :=
  StableHlo.after_of_writes_sub hostOps0 _ hostOps0_writes h
theorem V2_of (c : Dev nD) (r : Ref sig .tc) (h : r ≠ main_v1) : V2 T hT m c r = V1 m c r :=
  Function.update_of_ne (StableHlo.devRef_ne_of_ne h) _ _

/-- The transpose as a segment. -/
def seg0 : Pipeline.HostSeg (Ix := Unit) (Name := ℕ) (U := Pipeline.UD sig nD τ) (Lvl := ℕ) (pcfgs (F := F)) defs₀ Variants.none L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) E

theorem no_unscoped : ∀ sm : SemLoc sig, sm.isScoped .tc = true := by decide

/-- The launch's ghost state: the region's counters and nothing of the program's own. -/
def u₀ : Pipeline.UD sig nD τ :=
  (initOf (Pipeline.cells (Pipeline.pin (pcfgs (F := F)) (a T)) (cellOf_inj (a T)))
    (Pipeline.launchToks (Pipeline.pin (pcfgs (F := F)) (a T)) (cellOf_inj (a T))), 1)

set_option backward.isDefEq.respectTransparency.types false in
/-- Given the region's record, entered and left at the valuations in between: every execution of the program ends, with
    the arguments unchanged and every counter at zero. -/
theorem ends_of
    (pd : (p : Fin 1) → (c : Dev nD) → Dat τ (Elt F) Unit ℕ (Pipeline.UD sig nD τ) ℕ (Pipeline.pin (pcfgs (F := F)) (a T) p) c)
    (S0 : Pipeline.RegionSeg (pcfgs (F := F)) (a T) pd () defs₀ Variants.none L lv 0)
    (hpre0 : ∀ c : Dev nD, iprop(StableHlo.held (c : Thread nD τ) (Pipeline.ucRefs τ sig) (V1 m c) ∗ E c) ⊢ S0.pre c)
    (hpost0 : ∀ c : Dev nD, S0.post c ⊢ iprop(StableHlo.held (c : Thread nD τ) (Pipeline.ucRefs τ sig) (V2 T hT m c) ∗ E c)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine Pipeline.θ_run_regions_kit_dev_sems (pcfgs (F := F)) (a T) pd () (cellOf_inj (a T)) embL
    defs₀ Variants.none L lv m ρ main
    (fun _ => [.host (seg0 m), .region S0])
    (fun c Q => by
      rewrite [main_chain c, Pipeline.Seg.run_eq_chain,
        show ([.host (seg0 m), .region S0] : List (Pipeline.Seg (pcfgs (F := F)) (a T) pd () defs₀ Variants.none L lv)).map Pipeline.Seg.prog = [
            StableHlo.seq hostOps0, Prog.lift (.customCall (Pipeline.entry 0) ()) ] from rfl]
      dsimp (config := { failIfUnchanged := false }) only
      exact .rfl)
    (fun c => by simp only [Pipeline.Seg.pipes_host, Pipeline.Seg.pipes_region, Pipeline.Seg.pipes_nil]; decide)
    0 (fun g hg => if_neg hg) (fun _ => iprop(emp)) (u₀ T) ?_
    (T₀ := fun c => iprop(StableHlo.held (c : Thread nD τ) (Pipeline.ucRefs τ sig) (V0 m c) ∗ E c))
    (Tₙ := fun c => iprop(StableHlo.held (c : Thread nD τ) (Pipeline.ucRefs τ sig) (V2 T hT m c)))
    (hch := fun c => ⟨.rfl, hpre0 c, (hpost0 c).trans (sep_mono .rfl (by iintro ⟨-, H⟩; iexact H))⟩)
    (hinit := ?_)
    (QY := fun c s => s.mem ((c.tc : Thread nD τ).loc main_arg0) = m ((c.tc : Thread nD τ).loc main_arg0)
      ∧ s.mem ((c.tc : Thread nD τ).loc main_arg1) = m ((c.tc : Thread nD τ).loc main_arg1))
    (hfin := fun c s' => ?_) (hQ := fun _ h hz => ⟨h, funext fun g => hz g (.inr (no_unscoped g.2))⟩)
  · unfold u₀
    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hg, -⟩, -⟩
    imodintro
    isplitl [Hh]; · iexact Hh
    isplitl [Hg]; · iexists _; iexact Hg
    iexists ∅; iexact HO
  · unfold StableHlo.held
    iintro ⟨Hh, HSI⟩
    ihave Hr := (pointsTo_read_all (Pipeline.ucRefs τ sig) (fun b => ((c : Thread nD τ).1, b)) (V2 T hT m c) s') $$ [Hh HSI]
    · isplitl [Hh] <;> iassumption
    icases Hr with ⟨%h, HSI⟩
    imodintro
    isplitr
    · ipureintro
      have hr : ∀ r : Ref sig .tc, (Proc.devRef (τ := τ) .tc r).isScoped = false → s'.mem.mem ((c.tc : Thread nD τ).loc r) = V2 T hT m c r :=
        fun r hr => h (Proc.devRef .tc r) (Finset.mem_filter.mpr ⟨StableHlo.devRef_mem_tcRefs r, by simp [hr]⟩)
      exact ⟨(hr main_arg0 (by decide)).trans ((V2_of T hT m c main_arg0 (by decide)).trans (V1_of m c main_arg0 (by decide))),
        (hr main_arg1 (by decide)).trans ((V2_of T hT m c main_arg1 (by decide)).trans (V1_of m c main_arg1 (by decide)))⟩
    · iexact HSI

variable (hm : ∀ c : Dev nD, m ((c.tc : Thread nD τ).loc main_arg0) = T)

theorem left0 (c : Dev nD) (w : Fin 1) :
    (dat (V1 m c) (table T) hT c).arrAt w (cfg0 (table T)).N = V2 T hT m c (Proc.devRef .tc (Pipeline.arrRef spec0 w)) :=
  match w with
  | 0 => (final_0 (V1 m c) (table T) hT c).trans
      (Function.update_self (Proc.devRef (τ := τ) .tc main_v1) (gathered T hT (V1 m c main_v0)) (V1 m c)).symm

include hm in
theorem table1 (c : Dev nD) (k : Fin 1) : (table T).1 k = V1 m c (Proc.devRef .tc (pre0.ref k)) :=
  match k with | 0 => (hm c).symm.trans (V1_of m c main_arg0 (by decide)).symm
include hm in
theorem table2 (c : Dev nD) (k : Fin 1) : (table T).1 k = V2 T hT m c (Proc.devRef .tc (pre0.ref k)) :=
  match k with | 0 => (table1 T m hm c 0).trans (V2_of T hT m c main_arg0 (by decide)).symm

theorem same0 (c : Dev nD) : ∀ b ∈ Sr, V1 m c b = V2 T hT m c b := by
  intro b hb
  have h0 : b ≠ Proc.devRef .tc main_v1 := fun e => (Finset.mem_sdiff.mp (Finset.mem_sdiff.mp hb).1).2 (e ▸ (by decide))
  exact (Function.update_of_ne h0 _ _).symm

include hm hT in
/-- The second call, run alone on a launch memory whose indices name rows of the array, ends with its arguments as
    launched and every semaphore zero. -/
theorem frame_table : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  ends_of T hT m ρ (pdats (V1 m) T hT)
    (R0 (V1 m) T hT (V2 T hT m) (left0 T hT m) (table1 T m hm) (table2 T hT m hm))
    (pre0' (V1 m) T hT (V2 T hT m) (left0 T hT m) (table1 T m hm) (table2 T hT m hm))
    (post0 (V1 m) T hT (V2 T hT m) (left0 T hT m) (table1 T m hm) (table2 T hT m hm) (same0 T hT m))

/-- The same of any launch memory whose indices name rows on every core. -/
theorem frame_named (h : ∀ (c : Dev nD) (j : S128.Idx), ((m ((c.tc : Thread nD τ).loc main_arg0) : Vec F S128 .i32) j).toNat < 196) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  frame_table (m ((((0 : Dev nD)).tc : Thread nD τ).loc main_arg0)) (h 0) m ρ fun c => by rw [Subsingleton.elim c 0]

end Cert.Gather.GatherCall

end
-- ==== Proof.SimBody.lean ====
/-
  THE BODY OF THE FIRST CALL (`cc0__sim_kernel`) at one grid point, at any `F`: from its seven buffers held at named
  contents it runs to its return, and each buffer's contents afterwards are a plain function of the contents before.
  The two running maxima take 24 rows of the image block one after another (`rows`); the sums over the batch go into
  24 rows of the third scratch buffer (`sumsAfter`); the last point also writes the two results (`lossOf`, `indexOf`).
-/
module

public import proofs.«01_k».proof.Proof.Gen.KernelIdeal.Skeleton
public import proofs.«01_k».proof.Proof.Gen.KernelIdeal.Points
public import Idealize.ShloMosaic.Lib.Tactic
public import Idealize.ShloMosaic.Lib.VecWindow
public import Idealize.ShloMosaic.Lib.Pipeline.Value

@[expose] public section

set_option maxRecDepth 16384

noncomputable section

namespace Cert.KernelIdeal.SimCall

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## What the body computes -/

/-- Row `n` of a block of 24 rows lies inside it. -/
theorem row_inb {n : ℕ} (h : n < 24) : ∀ a, (![n, 0, 0] : Fin 3 → ℕ) a + S1x128x768.size a ≤ S24x128x768.size a := by
  intro a
  fin_cases a
  · show n + 1 ≤ 24; omega
  · show 0 + 128 ≤ 128; omega
  · show 0 + 768 ≤ 768; omega

/-- Row `n` of the block `b`, as a matrix. -/
def rowOf (b : Vec F S24x128x768 .f32) {n : ℕ} (h : n < 24) : FVec F S128x768 .f32 :=
  shapeCast S128x768 (View.ld b (Rect.unit (s := S24x128x768) ![n, 0, 0] S1x128x768.size (row_inb h)) : Vec F S1x128x768 .f32)
    shapeCasts_S1x128x768_S128x768

/-- The products of every row of `y` with every row of `x`. -/
def dots (x y : FVec F S128x768 .f32) : FVec F S128x128 .f32 :=
  matmul dot_S128x768_S128x768_S128x128_1_1_0_0_n_n none y x (constant S128x128 .f32 0x00000000#32)

/-- `s` if the vision row numbered `24 * i + n` exists, and minus infinity throughout otherwise. -/
def masked (i : grid0.Coords) (n : ℕ) (s : FVec F S128x128 .f32) : FVec F S128x128 .f32 :=
  Scalar.select (Scalar.cmpi .slt (Scalar.addi (Scalar.muli (BitVec.ofNat 32 (i 0).val) 24#32) (BitVec.ofNat 32 n)) 196#32) s
    (broadcast S128x128 (Scalar.ofBits .f32 0xFF800000#32 : F .f32))

/-- One value taken into the pair of running maxima: the greatest so far, and the second greatest so far. -/
def take (p : FVec F S128x128 .f32 × FVec F S128x128 .f32) (s : FVec F S128x128 .f32) :
    FVec F S128x128 .f32 × FVec F S128x128 .f32 :=
  (maximumf p.1 s, maximumf p.2 (minimumf p.1 s))

/-- The running maxima after the first `n` rows of the block `b` at grid point `i`. -/
def rows (i : grid0.Coords) (x : FVec F S128x768 .f32) (b : Vec F S24x128x768 .f32)
    (p : FVec F S128x128 .f32 × FVec F S128x128 .f32) : (n : ℕ) → n ≤ 24 → FVec F S128x128 .f32 × FVec F S128x128 .f32
  | 0, _ => p
  | n + 1, h => take (rows i x b p n (Nat.le_of_succ_le h)) (masked i n (dots x (rowOf b h)))

/-- What the first point's reset leaves in both running maxima: minus infinity throughout. -/
def start : FVec F S128x128 .f32 × FVec F S128x128 .f32 := (k0_pay10, k0_pay11)

/-- The scratch buffer of sums over the batch after grid point `i` has put its 24 rows into it. -/
def sumsAfter (i : grid0.Coords) (b : Vec F S24x128x768 .f32) (v : Vec F S216x768 .f32) : Vec F S216x768 .f32 :=
  VecWindow.put v (k0_off1 i) S24x768.size (k0_pay12 b)

/-- The first result of the call, from the final running maxima. -/
def lossOf (p : FVec F S128x128 .f32 × FVec F S128x128 .f32) : FVec F S1x1 .f32 :=
  k0_pay4 p.1 (k0_pay6 p.1 p.2) k0_pay7 (k0_pay8 p.1 p.2)

/-- The second result of the call, from the text rows and the sums. -/
def indexOf (x : FVec F S128x768 .f32) (v : Vec F S216x768 .f32) : IVec S1x128 32 := k0_pay5 x v

/-! ## The body's run -/

/-- A load of a buffer's own extents reads the buffer. -/
theorem ld_full {s : Shape} {e : EltTy} (x : s.Idx → Elt F e) {off : Fin s.rank → ℕ}
    (inb : ∀ a, off a + s.size a ≤ s.size a) : View.ld x (Rect.unit off s.size inb) = x := by
  funext y
  exact congrArg x (funext fun a => Fin.ext (by
    show off a + 1 * (y a).val = (y a).val
    have := inb a; omega))

/-- The running maxima after the block's 24 rows, with the loads and casts of the printed body in place. -/
def rowsRead (i : grid0.Coords) (x : Vec F S128x768 .f32) (b : Vec F S24x128x768 .f32) (p1 p2 : Vec F S128x128 .f32) :
    FVec F S128x128 .f32 × FVec F S128x128 .f32 :=
  rows i (k0_pay9 (View.ld x (Rect.unit (s := S128x768) ![0, 0] S128x768.size inb_S128x768_S128x768_0_0))) b
    (View.ld p1 (Rect.unit (s := S128x128) ![0, 0] S128x128.size inb_S128x128_S128x128_0_0),
      View.ld p2 (Rect.unit (s := S128x128) ![0, 0] S128x128.size inb_S128x128_S128x128_0_0)) 24 le_rfl

theorem pay9_ld (x : Vec F S128x768 .f32) :
    k0_pay9 (View.ld x (Rect.unit (s := S128x768) ![0, 0] S128x768.size inb_S128x768_S128x768_0_0)) = x :=
  (shapeCast_self _ _).trans (ld_full x _)

theorem rowsRead_eq (i : grid0.Coords) (x : Vec F S128x768 .f32) (b : Vec F S24x128x768 .f32)
    (p1 p2 : FVec F S128x128 .f32) : rowsRead i x b p1 p2 = rows i x b (p1, p2) 24 le_rfl := by
  unfold rowsRead
  rw [pay9_ld, ld_full, ld_full]

variable {U : Type} [URA U]

local notation "𝕄" => MT nD τ sig Unit (Elt F) ℕ U ℕ

/-- The condition under which the body resets the running maxima, as it computes it. -/
abbrev firstCond (i : grid0.Coords) : Prop :=
  (Scalar.cmpi .ne (Scalar.extui (Scalar.cmpi .eq (BitVec.ofNat 32 (i 0).val) 0#32)) (0#32 : BitVec 32) : BitVec 1) = 1#1

section run

variable (c : Dev nD) (i : grid0.Coords)
  (M1 : Memref sig .tc .vmem S128x768 .f32) (h1 : M1.IsWhole) (M2 : Memref sig .tc .vmem S24x128x768 .f32) (h2 : M2.IsWhole)
  (M3 : Memref sig .tc .vmem S1x1 .f32) (h3 : M3.IsWhole) (M4 : Memref sig .tc .vmem S1x128 .i32) (h4 : M4.IsWhole)
  (M5 : Memref sig .tc .vmem S128x128 .f32) (h5 : M5.IsWhole) (M6 : Memref sig .tc .vmem S128x128 .f32) (h6 : M6.IsWhole)
  (M7 : Memref sig .tc .vmem S216x768 .f32) (h7 : M7.IsWhole)
  (x : Vec F S128x768 .f32) (b : Vec F S24x128x768 .f32) (d3 : Vec F S1x1 .f32) (d4 : Vec F S1x128 .i32)
  (p : FVec F S128x128 .f32 × FVec F S128x128 .f32) (v : Vec F S216x768 .f32)

/-- The seven buffers, each held whole at named contents. -/
abbrev held (d3 : Vec F S1x1 .f32) (d4 : Vec F S1x128 .i32)
    (p : FVec F S128x128 .f32 × FVec F S128x128 .f32) (v : Vec F S216x768 .f32) : sProp 𝕄 :=
  iprop(owns (c : Thread nD τ) M1 fullShare x ∗ owns (c : Thread nD τ) M2 fullShare b ∗ owns (c : Thread nD τ) M3 fullShare d3
    ∗ owns (c : Thread nD τ) M4 fullShare d4 ∗ owns (c : Thread nD τ) M5 fullShare p.1 ∗ owns (c : Thread nD τ) M6 fullShare p.2
    ∗ owns (c : Thread nD τ) M7 fullShare v)

/-- What a store of the block's sums into its 24 rows leaves. -/
theorem sums_read (f2 : Buf (Elt F) (M2.view.loc (c : Thread nD τ))) (f7 : Buf (Elt F) (M7.view.loc (c : Thread nD τ))) :
    M7.view.read (Elt F) (M7.view.writes (Elt F) f7 [⟨Rect.unit (s := S216x768) (k0_off1 i) S24x768.size (k0_off1_inb i),
      k0_pay12 (View.readAt (Elt F) M2.view (Rect.unit (s := S24x128x768) ![0, 0, 0] S24x128x768.size inb_S24x128x768_S24x128x768_0_0_0).toLoadRect f2)⟩])
      = sumsAfter i (M2.view.read (Elt F) f2) (M7.view.read (Elt F) f7) := by
  rw [View.read_writes_cons_put M7.view f7 (k0_off1_inb i) _ [] rfl, View.writes_nil, View.readAt_full]
  rfl

/-- A point that is neither the first nor the last. -/
theorem run_mid (hf : ¬ firstCond i) (hl : ¬ k0_cond2 i = 1#1) (E : Set ℕ) (Q : PUnit → sProp 𝕄) :
    iprop(held c M1 M2 M3 M4 M5 M6 M7 x b d3 d4 p v
      ∗ (held c M1 M2 M3 M4 M5 M6 M7 x b d3 d4 (rows i x b p 24 le_rfl) (sumsAfter i b v) -∗ Q ⟨⟩))
    ⊢ wp frame (wpE (defs₀ (F := F)) Variants.none c none) E
        (cc0__sim_kernel i M1 h1 M2 h2 M3 h3 M4 h4 M5 h5 M6 h6 M7 h7) Q := by
  rw [cc0__sim_kernel_eq_skeleton]
  unfold cc0__sim_kernel_skel held owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩⟩, Hk⟩
  sl_exec
  sl_step
  obtain ⟨p1, p2⟩ := p
  dsimp only at e5 e6
  subst e1 e2 e5 e6 e7
  iapply Hk
  isplitl [H1]
  · iexists f1; isplitr
    · ipureintro; rfl
    iexact H1
  isplitl [H2]
  · iexists f2; isplitr
    · ipureintro; rfl
    iexact H2
  isplitl [H3]
  · iexists f3; isplitr
    · ipureintro; exact e3
    iexact H3
  isplitl [H4]
  · iexists f4; isplitr
    · ipureintro; exact e4
    iexact H4
  isplitl [H5]
  · iexists _; isplitr; swap; · iexact H5
    ipureintro
    exact (View.read_writes_full M5.view f5 inb_S128x128_S128x128_0_0 _ _).trans (Eq.trans
      (show _ = shapeCast S128x128 (rowsRead i (M1.view.read (Elt F) f1) (M2.view.read (Elt F) f2) (M5.view.read (Elt F) f5) (M6.view.read (Elt F) f6)).1 shapeCasts_S128x128_S128x128 from rfl)
      ((shapeCast_self _ _).trans (congrArg Prod.fst (rowsRead_eq i _ _ _ _))))
  isplitl [H6]
  · iexists _; isplitr; swap; · iexact H6
    ipureintro
    exact (View.read_writes_full M6.view f6 inb_S128x128_S128x128_0_0 _ _).trans (Eq.trans
      (show _ = shapeCast S128x128 (rowsRead i (M1.view.read (Elt F) f1) (M2.view.read (Elt F) f2) (M5.view.read (Elt F) f5) (M6.view.read (Elt F) f6)).2 shapeCasts_S128x128_S128x128 from rfl)
      ((shapeCast_self _ _).trans (congrArg Prod.snd (rowsRead_eq i _ _ _ _))))
  iexists _; isplitr; swap; · iexact H7
  ipureintro
  exact sums_read c i M2 M7 f2 f7

/-- The first point: the running maxima are reset before the rows are taken. -/
theorem run_first (hf : firstCond i) (hl : ¬ k0_cond2 i = 1#1) (E : Set ℕ) (Q : PUnit → sProp 𝕄) :
    iprop(held c M1 M2 M3 M4 M5 M6 M7 x b d3 d4 p v
      ∗ (held c M1 M2 M3 M4 M5 M6 M7 x b d3 d4 (rows i x b start 24 le_rfl) (sumsAfter i b v) -∗ Q ⟨⟩))
    ⊢ wp frame (wpE (defs₀ (F := F)) Variants.none c none) E
        (cc0__sim_kernel i M1 h1 M2 h2 M3 h3 M4 h4 M5 h5 M6 h6 M7 h7) Q := by
  rw [cc0__sim_kernel_eq_skeleton]
  unfold cc0__sim_kernel_skel held owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩⟩, Hk⟩
  sl_exec
  sl_step
  obtain ⟨p1, p2⟩ := p
  dsimp only at e5 e6
  subst e1 e2 e5 e6 e7
  have hrows : rowsRead i (M1.view.read (Elt F) f1) (M2.view.read (Elt F) f2) (M5.view.read (Elt F) (M5.view.writes (Elt F) M5.view.junk [⟨Rect.unit (s := S128x128) ![0, 0] S128x128.size inb_S128x128_S128x128_0_0, k0_pay10⟩])) (M6.view.read (Elt F) (M6.view.writes (Elt F) M6.view.junk [⟨Rect.unit (s := S128x128) ![0, 0] S128x128.size inb_S128x128_S128x128_0_0, k0_pay11⟩]))
      = rows i (M1.view.read (Elt F) f1) (M2.view.read (Elt F) f2) start 24 le_rfl := by
    rw [View.read_writes_full, View.read_writes_full]; exact rowsRead_eq i _ _ _ _
  iapply Hk
  isplitl [H1]
  · iexists f1; isplitr
    · ipureintro; rfl
    iexact H1
  isplitl [H2]
  · iexists f2; isplitr
    · ipureintro; rfl
    iexact H2
  isplitl [H3]
  · iexists f3; isplitr
    · ipureintro; exact e3
    iexact H3
  isplitl [H4]
  · iexists f4; isplitr
    · ipureintro; exact e4
    iexact H4
  isplitl [H5]
  · iexists _; isplitr; swap; · iexact H5
    ipureintro
    exact (View.read_writes_full M5.view f5 inb_S128x128_S128x128_0_0 _ _).trans (Eq.trans
      (show _ = shapeCast S128x128 (rowsRead i (M1.view.read (Elt F) f1) (M2.view.read (Elt F) f2) (M5.view.read (Elt F) (M5.view.writes (Elt F) M5.view.junk [⟨Rect.unit (s := S128x128) ![0, 0] S128x128.size inb_S128x128_S128x128_0_0, k0_pay10⟩])) (M6.view.read (Elt F) (M6.view.writes (Elt F) M6.view.junk [⟨Rect.unit (s := S128x128) ![0, 0] S128x128.size inb_S128x128_S128x128_0_0, k0_pay11⟩]))).1 shapeCasts_S128x128_S128x128 from rfl)
      ((shapeCast_self _ _).trans (congrArg Prod.fst hrows)))
  isplitl [H6]
  · iexists _; isplitr; swap; · iexact H6
    ipureintro
    exact (View.read_writes_full M6.view f6 inb_S128x128_S128x128_0_0 _ _).trans (Eq.trans
      (show _ = shapeCast S128x128 (rowsRead i (M1.view.read (Elt F) f1) (M2.view.read (Elt F) f2) (M5.view.read (Elt F) (M5.view.writes (Elt F) M5.view.junk [⟨Rect.unit (s := S128x128) ![0, 0] S128x128.size inb_S128x128_S128x128_0_0, k0_pay10⟩])) (M6.view.read (Elt F) (M6.view.writes (Elt F) M6.view.junk [⟨Rect.unit (s := S128x128) ![0, 0] S128x128.size inb_S128x128_S128x128_0_0, k0_pay11⟩]))).2 shapeCasts_S128x128_S128x128 from rfl)
      ((shapeCast_self _ _).trans (congrArg Prod.snd hrows)))
  iexists _; isplitr; swap; · iexact H7
  ipureintro
  exact sums_read c i M2 M7 f2 f7

/-- The last point: after the rows are taken the two results are written. -/
theorem run_last (hf : ¬ firstCond i) (hl : k0_cond2 i = 1#1) (E : Set ℕ) (Q : PUnit → sProp 𝕄) :
    iprop(held c M1 M2 M3 M4 M5 M6 M7 x b d3 d4 p v
      ∗ (held c M1 M2 M3 M4 M5 M6 M7 x b (lossOf (rows i x b p 24 le_rfl)) (indexOf x (sumsAfter i b v)) (rows i x b p 24 le_rfl) (sumsAfter i b v) -∗ Q ⟨⟩))
    ⊢ wp frame (wpE (defs₀ (F := F)) Variants.none c none) E
        (cc0__sim_kernel i M1 h1 M2 h2 M3 h3 M4 h4 M5 h5 M6 h6 M7 h7) Q := by
  rw [cc0__sim_kernel_eq_skeleton]
  unfold cc0__sim_kernel_skel held owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩⟩, Hk⟩
  sl_exec
  sl_step
  obtain ⟨p1, p2⟩ := p
  dsimp only at e5 e6
  subst e1 e2 e5 e6 e7
  iapply Hk
  isplitl [H1]
  · iexists f1; isplitr
    · ipureintro; rfl
    iexact H1
  isplitl [H2]
  · iexists f2; isplitr
    · ipureintro; rfl
    iexact H2
  isplitl [H3]
  · iexists _; isplitr; swap; · iexact H3
    ipureintro
    refine (View.read_writes_full M3.view f3 inb_S1x1_S1x1_0_0 _ _).trans ?_
    have e5 : run_last.sl.v304 c i M1 M2 M5 f1 f2 f5 = (rowsRead i (M1.view.read (Elt F) f1) (M2.view.read (Elt F) f2) (M5.view.read (Elt F) f5) (M6.view.read (Elt F) f6)).1 :=
      (View.readCov_full M5.view inb_S128x128_S128x128_0_0 inb_S128x128_S128x128_0_0 _ []).trans (Eq.trans
        (show _ = shapeCast S128x128 (rowsRead i (M1.view.read (Elt F) f1) (M2.view.read (Elt F) f2) (M5.view.read (Elt F) f5) (M6.view.read (Elt F) f6)).1 shapeCasts_S128x128_S128x128 from rfl) (shapeCast_self _ _))
    have e6 : run_last.sl.v305 c i M1 M2 M5 M6 f1 f2 f5 f6 = (rowsRead i (M1.view.read (Elt F) f1) (M2.view.read (Elt F) f2) (M5.view.read (Elt F) f5) (M6.view.read (Elt F) f6)).2 :=
      (View.readCov_full M6.view inb_S128x128_S128x128_0_0 inb_S128x128_S128x128_0_0 _ []).trans (Eq.trans
        (show _ = shapeCast S128x128 (rowsRead i (M1.view.read (Elt F) f1) (M2.view.read (Elt F) f2) (M5.view.read (Elt F) f5) (M6.view.read (Elt F) f6)).2 shapeCasts_S128x128_S128x128 from rfl) (shapeCast_self _ _))
    show lossOf (run_last.sl.v304 c i M1 M2 M5 f1 f2 f5, run_last.sl.v305 c i M1 M2 M5 M6 f1 f2 f5 f6) = _
    rw [e5, e6]
    exact congrArg lossOf (rowsRead_eq i _ _ _ _)
  isplitl [H4]
  · iexists _; isplitr; swap; · iexact H4
    ipureintro
    refine (View.read_writes_full M4.view f4 inb_S1x128_S1x128_0_0 _ _).trans ?_
    rw [View.readAt_full]
    exact congrArg₂ indexOf (pay9_ld (M1.view.read (Elt F) f1)) (sums_read c i M2 M7 f2 f7)
  isplitl [H5]
  · iexists _; isplitr; swap; · iexact H5
    ipureintro
    exact (View.read_writes_full M5.view f5 inb_S128x128_S128x128_0_0 _ _).trans (Eq.trans
      (show _ = shapeCast S128x128 (rowsRead i (M1.view.read (Elt F) f1) (M2.view.read (Elt F) f2) (M5.view.read (Elt F) f5) (M6.view.read (Elt F) f6)).1 shapeCasts_S128x128_S128x128 from rfl)
      ((shapeCast_self _ _).trans (congrArg Prod.fst (rowsRead_eq i _ _ _ _))))
  isplitl [H6]
  · iexists _; isplitr; swap; · iexact H6
    ipureintro
    exact (View.read_writes_full M6.view f6 inb_S128x128_S128x128_0_0 _ _).trans (Eq.trans
      (show _ = shapeCast S128x128 (rowsRead i (M1.view.read (Elt F) f1) (M2.view.read (Elt F) f2) (M5.view.read (Elt F) f5) (M6.view.read (Elt F) f6)).2 shapeCasts_S128x128_S128x128 from rfl)
      ((shapeCast_self _ _).trans (congrArg Prod.snd (rowsRead_eq i _ _ _ _))))
  iexists _; isplitr; swap; · iexact H7
  ipureintro
  exact sums_read c i M2 M7 f2 f7

end run

end Cert.KernelIdeal.SimCall

end
-- ==== Proof.SimState.lean ====
/-
  WHAT THE FIRST CALL'S SCRATCH BUFFERS HOLD at each grid point, at the ideal values, as plain functions of the text
  rows `X` and the image rows `Y`. The running maxima have taken the image rows in order (`pairAt`); the third scratch
  buffer holds the sums over the batch of the rows seen so far (`SumsTo`). The 24 rows of the last block past the
  array's end are masked out of the maxima, and the index result does not look at them (`indexOf_congr`).
-/
module

public import proofs.«01_k».proof.Proof.SimBody
public import Idealize.ShloMosaic.Lib.ValueLayout
public import Idealize.ShloMosaic.Lib.ValueIdxCore
public import Idealize.ShloMosaic.Lib.MatmulPlain
public import Idealize.ShloMosaic.PureOps.Ideal.Laws

@[expose] public section

set_option maxRecDepth 16384

noncomputable section

namespace Cert.KernelIdeal.SimCall

open Cert.KernelIdeal Cert.KernelIdeal.Gen
open Idealize.ShloMosaic Idealize.ShloMosaic.TcCoe Idealize.ShloMosaic.ValueIdx

/-- Image row `n` as a matrix (batch by feature); zero past the array's end. -/
def visRow (Y : Vec Ideal S196x128x768 .f32) (n : ℕ) : FVec Ideal S128x768 .f32 :=
  fun j => if h : n < 196 then Y (ix3 ⟨n, h⟩ (j 0) (j 1)) else (0 : EReal)

/-- What the running maxima take for row `n`: its products with the text rows, or minus infinity past the array's end. -/
def taken (X : FVec Ideal S128x768 .f32) (Y : Vec Ideal S196x128x768 .f32) (n : ℕ) : FVec Ideal S128x128 .f32 :=
  if n < 196 then dots X (visRow Y n) else broadcast S128x128 (Scalar.ofBits .f32 0xFF800000#32 : Ideal .f32)

/-- The running maxima once the first `n` rows are taken. -/
def pairAt (X : FVec Ideal S128x768 .f32) (Y : Vec Ideal S196x128x768 .f32) :
    ℕ → FVec Ideal S128x128 .f32 × FVec Ideal S128x128 .f32
  | 0 => start
  | n + 1 => take (pairAt X Y n) (taken X Y n)

/-- `b` holds the image rows from `24 * k` on, as far as they exist. -/
def IsBlock (Y : Vec Ideal S196x128x768 .f32) (k : ℕ) (b : Vec Ideal S24x128x768 .f32) : Prop :=
  ∀ (n : ℕ) (h : n < 24) (hn : 24 * k + n < 196) (a : Fin 128) (d : Fin 768),
    b (ix3 ⟨n, h⟩ a d) = Y (ix3 ⟨24 * k + n, hn⟩ a d)

/-- The sum over the batch of image row `n`, at feature `d`. -/
def batchSum (Y : Vec Ideal S196x128x768 .f32) (n : ℕ) (h : n < 196) (d : Fin 768) : EReal :=
  ∑ a : Fin 128, Y (ix3 ⟨n, h⟩ a d)

/-- The rows of `v` below `n` hold the batch sums. -/
def SumsTo (Y : Vec Ideal S196x128x768 .f32) (n : ℕ) (v : Vec Ideal S216x768 .f32) : Prop :=
  ∀ (r : ℕ) (hr : r < 196), r < n → ∀ d : Fin 768, v (ix2 ⟨r, Nat.lt_trans hr (by decide)⟩ d) = batchSum Y r hr d

/-- All batch sums, with zero in the rows past the array's end. -/
def sums (Y : Vec Ideal S196x128x768 .f32) : Vec Ideal S216x768 .f32 :=
  fun j => if h : (j 0).val < 196 then batchSum Y (j 0).val h (j 1) else (0 : EReal)

/-- A row of a block is the image row. -/
theorem rowOf_eq {Y : Vec Ideal S196x128x768 .f32} {k : ℕ} {b : Vec Ideal S24x128x768 .f32} (hb : IsBlock Y k b) {n : ℕ}
    (h : n < 24) (hn : 24 * k + n < 196) : rowOf b h = visRow Y (24 * k + n) := by
  funext j
  unfold rowOf visRow
  rw [dif_pos hn, eq_ix2 j]
  refine (shapeCast_1ab_ab_apply _ _ _ _).trans (Eq.trans ?_ (hb n h hn (j 0) (j 1)))
  refine congrArg b (funext fun a => Fin.ext ?_)
  fin_cases a
  · show n + 1 * 0 = n; omega
  · show 0 + 1 * (j 0).val = (j 0).val; omega
  · show 0 + 1 * (j 1).val = (j 1).val; omega

/-- The mask's condition is whether the row exists. -/
theorem mask_eq : ∀ (a : Fin 9) (n : Fin 24),
    Scalar.cmpi .slt (Scalar.addi (Scalar.muli (BitVec.ofNat 32 a.val) 24#32) (BitVec.ofNat 32 n.val)) 196#32
      = (if 24 * a.val + n.val < 196 then 1#1 else 0#1 : BitVec 1) := by decide +kernel

theorem masked_eq (i : grid0.Coords) {n : ℕ} (h : n < 24) (s : FVec Ideal S128x128 .f32) :
    masked i n s = if 24 * (i 0).val + n < 196 then s else broadcast S128x128 (Scalar.ofBits .f32 0xFF800000#32 : Ideal .f32) := by
  unfold masked
  have e := mask_eq ⟨(i 0).val, (i 0).isLt⟩ ⟨n, h⟩
  dsimp only at e
  rw [e]
  split
  · exact select_one _ _
  · exact select_zero _ _

/-- The rows of the block at point `i` taken one after another continue the running maxima. -/
theorem rows_eq {X : FVec Ideal S128x768 .f32} {Y : Vec Ideal S196x128x768 .f32} (i : grid0.Coords)
    {b : Vec Ideal S24x128x768 .f32} (hb : IsBlock Y (i 0).val b) :
    ∀ (n : ℕ) (h : n ≤ 24), rows i X b (pairAt X Y (24 * (i 0).val)) n h = pairAt X Y (24 * (i 0).val + n)
  | 0, _ => rfl
  | n + 1, h => by
    show take (rows i X b _ n _) _ = take (pairAt X Y (24 * (i 0).val + n)) _
    rw [rows_eq i hb n, masked_eq i h]
    refine congrArg (take _) ?_
    show _ = if 24 * (i 0).val + n < 196 then dots X (visRow Y (24 * (i 0).val + n)) else _
    by_cases hn : 24 * (i 0).val + n < 196
    · rw [if_pos hn, if_pos hn, rowOf_eq hb h hn]
    · rw [if_neg hn, if_neg hn]

/-- The sums a block's rows put into the third buffer. -/
theorem pay12_apply (b : Vec Ideal S24x128x768 .f32) (n : Fin 24) (d : Fin 768) :
    k0_pay12 b (ix2 n d) = ∑ a : Fin 128, b (ix3 n a d) := by
  unfold k0_pay12
  dsimp only
  rw [shapeCast_self, shapeCast_self]
  refine (Ideal.multiReduction_add_single _ _ _ _ _ _).trans ?_
  refine Finset.sum_congr rfl fun a _ => congrArg b (funext fun x => Fin.ext ?_)
  fin_cases x <;> rfl

theorem SumsTo.step {Y : Vec Ideal S196x128x768 .f32} (i : grid0.Coords) {b : Vec Ideal S24x128x768 .f32}
    (hb : IsBlock Y (i 0).val b) {v : Vec Ideal S216x768 .f32} (hv : SumsTo Y (24 * (i 0).val) v) :
    SumsTo Y (24 * (i 0).val + 24) (sumsAfter i b v) := by
  intro r hr hrn d
  unfold sumsAfter VecWindow.put
  by_cases h : 24 * (i 0).val ≤ r
  · have hin : ∀ a, k0_off1 i a ≤ ((ix2 ⟨r, Nat.lt_trans hr (by decide)⟩ d : S216x768.Idx) a).val
        ∧ ((ix2 ⟨r, Nat.lt_trans hr (by decide)⟩ d : S216x768.Idx) a).val < k0_off1 i a + S24x768.size a := by
      rw [k0_off1_eq]
      intro a
      fin_cases a
      · exact ⟨h, hrn⟩
      · exact ⟨Nat.zero_le _, by show d.val < 0 + 768; have := d.isLt; omega⟩
    rw [dif_pos hin]
    have e0 : k0_off1 i 0 = 24 * (i 0).val := by rw [k0_off1_eq]; rfl
    have e1 : k0_off1 i 1 = 0 := by rw [k0_off1_eq]; rfl
    have hl : r - 24 * (i 0).val < 24 := by omega
    refine Eq.trans (congrArg (k0_pay12 b) (?_ : _ = ix2 ⟨r - 24 * (i 0).val, hl⟩ d)) ?_
    · funext a
      refine Fin.ext ?_
      fin_cases a
      · show r - k0_off1 i 0 = r - 24 * (i 0).val; rw [e0]
      · show d.val - k0_off1 i 1 = d.val; rw [e1]; omega
    · rw [pay12_apply]
      unfold batchSum
      refine Finset.sum_congr rfl fun a _ => ?_
      have hn : 24 * (i 0).val + (r - 24 * (i 0).val) < 196 := by omega
      rw [hb _ hl hn]
      refine congrArg Y (congrArg (fun z => ix3 z a d) (Fin.ext ?_))
      show 24 * (i 0).val + (r - 24 * (i 0).val) = r
      omega
  · rw [dif_neg fun hin => h (by have := (hin 0).1; rw [k0_off1_eq] at this; exact this)]
    exact hv r hr (by omega) d

/-- The index result looks only at the rows of the sums that exist. -/
theorem indexOf_congr (X : FVec Ideal S128x768 .f32) {v w : Vec Ideal S216x768 .f32}
    (h : ∀ (r : ℕ) (hr : r < 196) (d : Fin 768), v (ix2 ⟨r, Nat.lt_trans hr (by decide)⟩ d) = w (ix2 ⟨r, Nat.lt_trans hr (by decide)⟩ d)) :
    indexOf X v = indexOf X w := by
  have e : select (cmpi .slt (iota .tc S216x128 32 [0] iota_S216x128_d0_w32) (broadcast S216x128 196#32))
        (matmul dot_S216x768_S128x768_S216x128_1_1_0_0_n_n none (φ₁ := .f32) (φ₂ := .f32) v X (constant S216x128 .f32 0x00000000#32))
        (broadcast S216x128 (Scalar.ofBits .f32 0xFF800000#32 : Ideal .f32))
      = select (cmpi .slt (iota .tc S216x128 32 [0] iota_S216x128_d0_w32) (broadcast S216x128 196#32))
        (matmul dot_S216x768_S128x768_S216x128_1_1_0_0_n_n none (φ₁ := .f32) (φ₂ := .f32) w X (constant S216x128 .f32 0x00000000#32))
        (broadcast S216x128 (Scalar.ofBits .f32 0xFF800000#32 : Ideal .f32)) := by
    funext j
    rw [select_apply, select_apply]
    by_cases hj : (j 0).val < 196
    · refine congrArg (fun z => Scalar.select _ z _) ?_
      refine (Ideal.matmul_constant_zero_apply _ _ _ _ _).trans ((Finset.sum_congr rfl fun k _ => ?_).trans
        (Ideal.matmul_constant_zero_apply _ _ _ _ _).symm)
      refine congrArg (fun z : EReal => z * _) ?_
      have := h (j 0).val hj ((DotDims.lhsIdx dot_S216x768_S128x768_S216x128_1_1_0_0_n_n j k) 1)
      refine Eq.trans (congrArg v ?_) (this.trans (congrArg w ?_))
      · funext a; refine Fin.ext ?_; fin_cases a <;> rfl
      · funext a; refine Fin.ext ?_; fin_cases a <;> rfl
    · have : cmpi .slt (iota .tc S216x128 32 [0] iota_S216x128_d0_w32) (broadcast S216x128 196#32) j = 0#1 := by
        have hall : ∀ r : Fin 216, ¬ r.val < 196 → IntOp.cmpi .slt (BitVec.ofNat 32 r.val) 196#32 = 0#1 := by decide +kernel
        show IntOp.cmpi .slt (BitVec.ofNat 32 (0 * 216 + (j 0).val)) 196#32 = 0#1
        rw [Nat.zero_mul, Nat.zero_add]
        exact hall (j 0) hj
      rw [this]
      exact (select_zero _ _).trans (select_zero _ _).symm
  unfold indexOf k0_pay5
  dsimp only
  rw [e]

theorem indexOf_sums (X : FVec Ideal S128x768 .f32) {Y : Vec Ideal S196x128x768 .f32} {n : ℕ} (hn : 196 ≤ n)
    {v : Vec Ideal S216x768 .f32} (hv : SumsTo Y n v) : indexOf X v = indexOf X (sums Y) :=
  indexOf_congr X fun r hr d => (hv r hr (Nat.lt_of_lt_of_le hr hn) d).trans (by
    show _ = if h : r < 196 then batchSum Y r h d else (0 : EReal)
    rw [dif_pos hr])

end Cert.KernelIdeal.SimCall

end
-- ==== Proof.SimRegion.lean ====
/-
  THE FIRST CALL'S REGION at the ideal values: what every window's staging buffer and every scratch buffer holds at
  each grid point (`dat`), and that the body keeps it (`body`). The two results it leaves are the loss and the indices
  of the final running maxima and sums.
-/
module

public import proofs.«01_k».proof.Proof.SimState
public import proofs.«01_k».proof.Proof.Gen.KernelIdeal.Regions
public import Idealize.ShloMosaic.Lib.Pipeline.ValueKit

@[expose] public section

set_option maxRecDepth 16384

noncomputable section

namespace Cert.KernelIdeal.SimCall

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg)

local notation "𝕄" => MT nD τ sig Unit (Elt Ideal) ℕ (Pipeline.UD sig nD τ) ℕ

/-- The image rows from `24 * k` on as a block, zero past the array's end. -/
def blockRows (Y : Vec Ideal S196x128x768 .f32) (k : ℕ) : Vec Ideal S24x128x768 .f32 :=
  fun j => if h : 24 * k + (j 0).val < 196 then Y (ValueIdx.ix3 ⟨24 * k + (j 0).val, h⟩ (j 1) (j 2)) else (0 : EReal)

/-- The body's scratch buffers once `n` image rows are seen, the other buffers at some contents. -/
def Scratch (X : FVec Ideal S128x768 .f32) (Y : Vec Ideal S196x128x768 .f32) (c : Dev nD) (n : ℕ) : sProp 𝕄 :=
  iprop(∃ p : FVec Ideal S128x128 .f32 × FVec Ideal S128x128 .f32, ∃ v : Vec Ideal S216x768 .f32,
    ⌜(n ≠ 0 → p = pairAt X Y n) ∧ SumsTo Y n v⌝
    ∗ owns (c : Thread nD τ) (Memref.whole cc0_scratch0) fullShare p.1
    ∗ owns (c : Thread nD τ) (Memref.whole cc0_scratch1) fullShare p.2
    ∗ owns (c : Thread nD τ) (Memref.whole cc0_scratch2) fullShare v
    ∗ (∃ f : Buf (Elt Ideal) ((c : Thread nD τ).loc cc1_stg0_0), ((c : Thread nD τ).loc cc1_stg0_0) ↦{fullShare} f)
    ∗ ∃ r, prngReg c r)

/-- The proof data of the first region, entered with the unscoped buffers at `V`. -/
def dat (V : Valuation τ sig (Elt Ideal)) (c : Dev nD) : Dat τ (Elt Ideal) Unit ℕ (Pipeline.UD sig nD τ) ℕ cfg0 c where
  A w := V (Pipeline.arrRef spec0 w)
  after w t := match w with
    | 0 => V main_v1
    | 1 => blockRows (V main_v0) t.val
    | 2 => lossOf (pairAt (V main_v1) (V main_v0) 216)
    | 3 => indexOf (V main_v1) (sums (V main_v0))
    | ⟨_ + 4, h⟩ => absurd h (Nat.not_lt.2 (Nat.le_add_left _ _))
  Φ t := Scratch (V main_v1) (V main_v0) c (24 * t.val)
  q _ := fullShare
  owed _ := 0

variable (V : Valuation τ sig (Elt Ideal)) (c : Dev nD)

attribute [local irreducible] indexOf lossOf sums

/-- What the body leaves in the fourth window at the last point. -/
theorem after_3 (t : Fin cfg0.N) : (dat V c).after 3 t = indexOf (V main_v1) (sums (V main_v0)) := by
  rfl

/-- A grid point's coordinate is its number. -/
theorem coords_val : ∀ t : Fin grid0.N, (grid0.coords t 0).val = t.val := by decide +kernel

theorem index_1 : ∀ t : Fin grid0.N, win0_1.index t = ![t.val, 0, 0] := by
  intro t
  show cc0_transform_1 (grid0.coords t) = _
  have h : ∀ t : Fin grid0.N, cc0_transform_1 (grid0.coords t) = ![t.val, 0, 0] := by decide +kernel
  exact h t

/-- The first window's block is its array. -/
theorem blockOf_0 (t : Fin cfg0.N) : (dat V c).blockOf 0 t = V main_v1 := by
  funext y
  show V main_v1 (((cfg0.win 0).blk t).view.emb y) = V main_v1 y
  refine congrArg (V main_v1) (funext fun a => Fin.ext ?_)
  have e : ∀ t : Fin grid0.N, win0_0.index t = ![0, 0] := fun _ => rfl
  fin_cases a
  · show 0 * 128 + 1 * (y 0).val = (y 0).val; omega
  · show 0 * 768 + 1 * (y 1).val = (y 1).val; omega

/-- The second window's moved rows are the image rows of the point. -/
theorem blockOf_1 (t : Fin cfg0.N) (y : ((cfg0.win 1).xblock (cfg0.grid.coords t)).Idx) :
    (dat V c).blockOf 1 t y = blockRows (V main_v0) t.val ((cfg0.win 1).xinj (cfg0.grid.coords t) y) := by
  have hlt : (win0_1.rect t).emb y 0 = (win0_1.rect t).emb y 0 := rfl
  have h0 : (((win0_1.rect t).emb y) 0).val = 24 * t.val + (y 0).val := by
    show cc0_transform_1 (grid0.coords t) 0 * 24 + 1 * (y 0).val = _
    have := congrFun (index_1 t) 0
    have e : cc0_transform_1 (grid0.coords t) 0 = t.val := this
    rw [e]; omega
  have hb : 24 * t.val + (y 0).val < 196 := h0 ▸ (((win0_1.rect t).emb y) 0).isLt
  show V main_v0 ((win0_1.rect t).emb y) = _
  unfold blockRows
  refine Eq.trans ?_ (dif_pos (α := EReal) hb).symm
  refine congrArg (V main_v0) (funext fun a => Fin.ext ?_)
  fin_cases a
  · exact h0
  · show cc0_transform_1 (grid0.coords t) 1 * 128 + 1 * (y 1).val = (y 1).val
    have e : cc0_transform_1 (grid0.coords t) 1 = 0 := congrFun (index_1 t) 1
    rw [e]; omega
  · show cc0_transform_1 (grid0.coords t) 2 * 768 + 1 * (y 2).val = (y 2).val
    have e : cc0_transform_1 (grid0.coords t) 2 = 0 := congrFun (index_1 t) 2
    rw [e]; omega

/-- The text rows are staged whole at every point. -/
theorem before_0 (t : Fin cfg0.N) (d) : (dat V c).before 0 t d = V main_v1 := by
  rw [(dat V c).before_in_eq_fetched 0 rfl (fun _ => rfl) (fun _ _ _ => rfl) (fun t => (blockOf_0 V c t).symm) t d]
  unfold Dat.fetched
  rw [blockOf_0]
  rfl

theorem before_1 (t : Fin cfg0.N) (d) : (dat V c).before 1 t d = (dat V c).fetched 1 t d :=
  (dat V c).before_fetched 1 t (fetch0_1 t) d

/-- How many rows of the second window the transfer at a point moves. -/
theorem xsize_1 : ∀ t : Fin grid0.N, win0_1.xsize (grid0.coords t) 0 = min 24 (196 - 24 * t.val)
    ∧ win0_1.xsize (grid0.coords t) 1 = 128 ∧ win0_1.xsize (grid0.coords t) 2 = 768 := by decide +kernel

/-- What the second window's buffer holds after the fetch is the block of image rows, as far as they exist. -/
theorem fetched_isBlock (t : Fin cfg0.N) (d) : IsBlock (V main_v0) (grid0.coords t 0).val ((dat V c).fetched 1 t d) := by
  rw [coords_val t]
  intro n h hn a dd
  have hm : win0_1.moved (grid0.coords t) (ValueIdx.ix3 ⟨n, h⟩ a dd) = true := by
    rw [Pipeline.Window.moved_iff]
    obtain ⟨e0, e1, e2⟩ := xsize_1 t
    intro x
    fin_cases x
    · show n < win0_1.xsize (grid0.coords t) 0; rw [e0]; omega
    · show a.val < win0_1.xsize (grid0.coords t) 1; rw [e1]; exact a.isLt
    · show dd.val < win0_1.xsize (grid0.coords t) 2; rw [e2]; exact dd.isLt
  unfold Dat.fetched
  refine Eq.trans (dif_pos (α := EReal) hm) ?_
  rw [blockOf_1]
  exact dif_pos (α := EReal) hn

/-- The second window's buffer, left as found, is what the obligation asks. -/
theorem keep_1 (t : Fin cfg0.N) (d) :
    (cfg0.win 1).fill (cfg0.grid.coords t) ((dat V c).fetched 1 t d) ((cfg0.win 1).cut (cfg0.grid.coords t) ((dat V c).after 1 t))
      = (dat V c).fetched 1 t d := by
  refine (cfg0.win 1).fill_congr_cut _ ?_
  refine ((cfg0.win 1).cut_fill _ _ _).trans ?_
  funext y
  exact blockOf_1 V c t y

theorem first_iff : ∀ t : Fin grid0.N, firstCond (grid0.coords t) ↔ t.val = 0 := by decide +kernel
theorem last_iff : ∀ t : Fin grid0.N, k0_cond2 (grid0.coords t) = 1#1 ↔ t.val = 8 := by decide +kernel

/-- The running maxima after the point's rows. -/
theorem rows_point (t : Fin cfg0.N) (b) (hb : IsBlock (V main_v0) (grid0.coords t 0).val b) :
    rows (grid0.coords t) (V main_v1) b (pairAt (V main_v1) (V main_v0) (24 * t.val)) 24 le_rfl
      = pairAt (V main_v1) (V main_v0) (24 * t.val + 24) := by
  have := rows_eq (X := V main_v1) (grid0.coords t) hb 24 le_rfl
  rwa [coords_val t] at this

/-- What a buffer holds when the point is over: as found where the window is idle. -/
theorem idle_leaves (w : Fin cfg0.W) (t : Fin cfg0.N) (hi : cfg0.idle w (cfg0.grid.coords t) = true)
    (hf : (cfg0.win w).flush t = false) (d) :
    owns (c : Thread nD τ) ((cfg0.win w).stage (cfg0.slots t w)) fullShare ((dat V c).before w t d) ⊢ ((dat V c).leaves w t : sProp 𝕄) := by
  rw [(dat V c).leaves_idle w t hi hf]
  iintro H; iexists d; iexact H

theorem live_leaves (w : Fin cfg0.W) (t : Fin cfg0.N) (hi : cfg0.idle w (cfg0.grid.coords t) = false)
    (hl : cfg0.loose w = false) :
    owns (c : Thread nD τ) ((cfg0.win w).stage (cfg0.slots t w)) fullShare ((dat V c).after w t) ⊢ ((dat V c).leaves w t : sProp 𝕄) := by
  unfold Dat.leaves
  rw [hi, hl]

theorem live_leaves_1 (t : Fin cfg0.N) (d) :
    owns (c : Thread nD τ) ((cfg0.win 1).stage (cfg0.slots t 1)) fullShare ((dat V c).fetched 1 t d) ⊢ ((dat V c).leaves 1 t : sProp 𝕄) := by
  have e : (dat V c).leaves 1 t = (iprop(∃ d, owns (c : Thread nD τ) ((cfg0.win 1).stage (cfg0.slots t 1)) fullShare
      ((cfg0.win 1).fill (cfg0.grid.coords t) d ((cfg0.win 1).cut (cfg0.grid.coords t) ((dat V c).after 1 t)))) : sProp 𝕄) := rfl
  rw [e]
  iintro H; iexists (dat V c).fetched 1 t d; rw [keep_1]; iexact H

/-- The body at one grid point. -/
theorem sound_body (t : Fin cfg0.N) :
    iprop((dat V c).Φ t.castSucc ∗ (dat V c).owesAt () t.castSucc
        ∗ (∃ d, owns (c : Thread nD τ) ((cfg0.win 0).stage (cfg0.slots t 0)) fullShare ((dat V c).before 0 t d))
        ∗ (∃ d, owns (c : Thread nD τ) ((cfg0.win 1).stage (cfg0.slots t 1)) fullShare ((dat V c).before 1 t d))
        ∗ (∃ d, owns (c : Thread nD τ) ((cfg0.win 2).stage (cfg0.slots t 2)) fullShare ((dat V c).before 2 t d))
        ∗ (∃ d, owns (c : Thread nD τ) ((cfg0.win 3).stage (cfg0.slots t 3)) fullShare ((dat V c).before 3 t d)))
    ⊢ wp frame (wpE (defs₀ (F := Ideal)) Variants.none c none) Set.univ (bodyAt0 t) fun _ =>
      iprop((dat V c).Φ t.succ ∗ (dat V c).owesAt () t.succ
        ∗ (dat V c).leaves 0 t ∗ (dat V c).leaves 1 t ∗ (dat V c).leaves 2 t ∗ (dat V c).leaves 3 t) := by
  rw [show (dat V c).Φ t.succ = Scratch (V main_v1) (V main_v0) c (24 * t.val + 24) from rfl,
    show (dat V c).Φ t.castSucc = Scratch (V main_v1) (V main_v0) c (24 * t.val) from rfl,
    show (dat V c).owesAt () t.succ = (dat V c).owesAt () t.castSucc from rfl]
  unfold bodyAt0 Scratch
  iintro ⟨⟨%p, %v, %hpv, Hs0, Hs1, Hs2, Hstg, Hg⟩, HW, ⟨%d0, H0⟩, ⟨%d1, H1⟩, ⟨%d2, H2⟩, ⟨%d3, H3⟩⟩
  rw [before_0, before_1]
  have hb := fetched_isBlock V c t d1
  have hs := SumsTo.step (grid0.coords t) hb (by rw [coords_val t]; exact hpv.2)
  rw [coords_val t] at hs
  by_cases hf : firstCond (grid0.coords t)
  · have ht : t.val = 0 := (first_iff t).mp hf
    have hl : ¬ k0_cond2 (grid0.coords t) = 1#1 := fun h => by have := (last_iff t).mp h; omega
    have hr : rows (grid0.coords t) (V main_v1) ((dat V c).fetched 1 t d1) start 24 le_rfl
        = pairAt (V main_v1) (V main_v0) (24 * t.val + 24) := by
      rw [← rows_point V t _ hb, ht]; rfl
    have hi : ∀ w : Fin cfg0.W, 2 ≤ w.val → cfg0.idle w (cfg0.grid.coords t) = true := by
      intro w hw
      have e : (!(k0_cond2 (grid0.coords t) == 1#1)) = true := by simp [hl]
      fin_cases w
      · exact absurd hw (by decide)
      · exact absurd hw (by decide)
      · exact e
      · exact e
    have hf2 : (cfg0.win 2).flush t = false := by
      rw [← Bool.not_eq_true, flush0_2]; omega
    have hf3 : (cfg0.win 3).flush t = false := by
      rw [← Bool.not_eq_true, flush0_3]; omega
    iapply (run_first c (grid0.coords t) _ _ _ _ _ _ _ _ _ _ _ _ _ _ (V main_v1) ((dat V c).fetched 1 t d1) ((dat V c).before 2 t d2) ((dat V c).before 3 t d3) p v hf hl _ _)
    isplitl [Hs0 Hs1 Hs2 H0 H1 H2 H3]
    · unfold held
      isplitl [H0]; · iexact H0
      isplitl [H1]; · iexact H1
      isplitl [H2]; · iexact H2
      isplitl [H3]; · iexact H3
      isplitl [Hs0]; · iexact Hs0
      isplitl [Hs1]; · iexact Hs1
      iexact Hs2
    unfold held
    iintro ⟨H0, H1, H2, H3, Hs0, Hs1, Hs2⟩
    isplitl [Hs0 Hs1 Hs2 Hstg Hg]
    · iexists _; iexists _
      isplitr; · ipureintro; exact ⟨fun _ => hr, hs⟩
      isplitl [Hs0]; · iexact Hs0
      isplitl [Hs1]; · iexact Hs1
      isplitl [Hs2]; · iexact Hs2
      isplitl [Hstg]; · iexact Hstg
      iexact Hg
    isplitl [HW]; · iexact HW
    isplitl [H0]; · iapply (live_leaves V c 0 t rfl rfl); iexact H0
    isplitl [H1]; · iapply (live_leaves_1 V c t d1); iexact H1
    isplitl [H2]; · iapply (idle_leaves V c 2 t (hi 2 (by decide)) hf2 d2); iexact H2
    iapply (idle_leaves V c 3 t (hi 3 (by decide)) hf3 d3); iexact H3
  · have ht : t.val ≠ 0 := fun h => hf ((first_iff t).mpr h)
    have hp : p = pairAt (V main_v1) (V main_v0) (24 * t.val) := hpv.1 (by omega)
    have hr : rows (grid0.coords t) (V main_v1) ((dat V c).fetched 1 t d1) p 24 le_rfl
        = pairAt (V main_v1) (V main_v0) (24 * t.val + 24) := by
      rw [← rows_point V t _ hb, hp]
    by_cases hl : k0_cond2 (grid0.coords t) = 1#1
    · have ht8 : t.val = 8 := (last_iff t).mp hl
      have hi : ∀ w : Fin cfg0.W, 2 ≤ w.val → cfg0.idle w (cfg0.grid.coords t) = false := by
        intro w hw
        have e : (!(k0_cond2 (grid0.coords t) == 1#1)) = false := by simp [hl]
        fin_cases w
        · exact absurd hw (by decide)
        · exact absurd hw (by decide)
        · exact e
        · exact e
      have h2 : lossOf (rows (grid0.coords t) (V main_v1) ((dat V c).fetched 1 t d1) p 24 le_rfl) = (dat V c).after 2 t := by
        rw [hr, ht8]; rfl
      have h3 : indexOf (V main_v1) (sumsAfter (grid0.coords t) ((dat V c).fetched 1 t d1) v) = (dat V c).after 3 t :=
        (indexOf_sums (n := 24 * t.val + 24) (V main_v1) (by omega) hs).trans (after_3 V c t).symm
      iapply (run_last c (grid0.coords t) _ _ _ _ _ _ _ _ _ _ _ _ _ _ (V main_v1) ((dat V c).fetched 1 t d1) ((dat V c).before 2 t d2) ((dat V c).before 3 t d3) p v hf hl _ _)
      isplitl [Hs0 Hs1 Hs2 H0 H1 H2 H3]
      · unfold held
        isplitl [H0]; · iexact H0
        isplitl [H1]; · iexact H1
        isplitl [H2]; · iexact H2
        isplitl [H3]; · iexact H3
        isplitl [Hs0]; · iexact Hs0
        isplitl [Hs1]; · iexact Hs1
        iexact Hs2
      unfold held
      rw [h2, h3]
      iintro ⟨H0, H1, H2, H3, Hs0, Hs1, Hs2⟩
      isplitl [Hs0 Hs1 Hs2 Hstg Hg]
      · iexists _; iexists _
        isplitr; · ipureintro; exact ⟨fun _ => hr, hs⟩
        isplitl [Hs0]; · iexact Hs0
        isplitl [Hs1]; · iexact Hs1
        isplitl [Hs2]; · iexact Hs2
        isplitl [Hstg]; · iexact Hstg
        iexact Hg
      isplitl [HW]; · iexact HW
      isplitl [H0]; · iapply (live_leaves V c 0 t rfl rfl); iexact H0
      isplitl [H1]; · iapply (live_leaves_1 V c t d1); iexact H1
      isplitl [H2]; · iapply (live_leaves V c 2 t (hi 2 (by decide)) rfl); iexact H2
      iapply (live_leaves V c 3 t (hi 3 (by decide)) rfl); iexact H3
    · have ht8 : t.val ≠ 8 := fun h => hl ((last_iff t).mpr h)
      have hN : t.val < 9 := Nat.lt_of_lt_of_eq t.isLt N_0
      have hi : ∀ w : Fin cfg0.W, 2 ≤ w.val → cfg0.idle w (cfg0.grid.coords t) = true := by
        intro w hw
        have e : (!(k0_cond2 (grid0.coords t) == 1#1)) = true := by simp [hl]
        fin_cases w
        · exact absurd hw (by decide)
        · exact absurd hw (by decide)
        · exact e
        · exact e
      have hf2 : (cfg0.win 2).flush t = false := by
        rw [← Bool.not_eq_true, flush0_2]; omega
      have hf3 : (cfg0.win 3).flush t = false := by
        rw [← Bool.not_eq_true, flush0_3]; omega
      iapply (run_mid c (grid0.coords t) _ _ _ _ _ _ _ _ _ _ _ _ _ _ (V main_v1) ((dat V c).fetched 1 t d1) ((dat V c).before 2 t d2) ((dat V c).before 3 t d3) p v hf hl _ _)
      isplitl [Hs0 Hs1 Hs2 H0 H1 H2 H3]
      · unfold held
        isplitl [H0]; · iexact H0
        isplitl [H1]; · iexact H1
        isplitl [H2]; · iexact H2
        isplitl [H3]; · iexact H3
        isplitl [Hs0]; · iexact Hs0
        isplitl [Hs1]; · iexact Hs1
        iexact Hs2
      unfold held
      iintro ⟨H0, H1, H2, H3, Hs0, Hs1, Hs2⟩
      isplitl [Hs0 Hs1 Hs2 Hstg Hg]
      · iexists _; iexists _
        isplitr; · ipureintro; exact ⟨fun _ => hr, hs⟩
        isplitl [Hs0]; · iexact Hs0
        isplitl [Hs1]; · iexact Hs1
        isplitl [Hs2]; · iexact Hs2
        isplitl [Hstg]; · iexact Hstg
        iexact Hg
      isplitl [HW]; · iexact HW
      isplitl [H0]; · iapply (live_leaves V c 0 t rfl rfl); iexact H0
      isplitl [H1]; · iapply (live_leaves_1 V c t d1); iexact H1
      isplitl [H2]; · iapply (idle_leaves V c 2 t (hi 2 (by decide)) hf2 d2); iexact H2
      iapply (idle_leaves V c 3 t (hi 3 (by decide)) hf3 d3); iexact H3

theorem defs₀_row (t : Fin cfg0.N) :
    defs₀ (F := Ideal) .tc cfg0.body (cfg0.bodyArgs t (cfg0.slots t)) = bodyAt0 t := by
  unfold defs₀; rw [Defs.onTc_tc]

/-- The body keeps the region's data at every grid point. -/
theorem body : Pipeline.BodyObligationLoose (dat V c) (defs₀ (F := Ideal)) Variants.none () Set.univ := fun t => by
  rw [bigSep_W0, bigSep_W0, defs₀_row]
  exact triple_restated (sound_body V c t) rfl .rfl fun _ => .rfl

/-- The first result's array ends at the loss of the final running maxima. -/
theorem final_2 : (dat V c).arrAt 2 cfg0.N = lossOf (pairAt (V main_v1) (V main_v0) 216) :=
  (dat V c).arrAt_eq_of_after_last 2 t0_8 (by decide +kernel) _ (fun j => rfl)

/-- The second result's array ends at the indices of the greatest sums. -/
theorem final_3 : (dat V c).arrAt 3 cfg0.N = indexOf (V main_v1) (sums (V main_v0)) :=
  (dat V c).arrAt_eq_of_after_last 3 t0_8 (by decide +kernel) _ (fun j => congrFun (after_3 V c t0_8) j)

/-- The input arrays are left as they were. -/
theorem final_0 : (dat V c).arrAt 0 cfg0.N = V main_v1 := (dat V c).arrAt_in 0 rfl _
theorem final_1 : (dat V c).arrAt 1 cfg0.N = V main_v0 := (dat V c).arrAt_in 1 rfl _

/-- The invariant before the first point, from the buffers the launch hands over. -/
theorem start_Φ : iprop(Pipeline.scopedRest spec0 c ∗ ∃ r, prngReg c r) ⊢ ((dat V c).Φ 0 : sProp 𝕄) := by
  rw [show (dat V c).Φ 0 = Scratch (V main_v1) (V main_v0) c 0 from rfl, scopedRest0_eq]
  unfold Scratch
  simp only [owns_whole]
  iintro ⟨⟨⟨%f0, H0⟩, ⟨%f1, H1⟩, ⟨%f2, H2⟩, H3⟩, Hg⟩
  iexists (f0, f1); iexists f2
  isplitr; · ipureintro; exact ⟨fun h => absurd rfl h, fun r hr h => absurd h (Nat.not_lt_zero r)⟩
  isplitl [H0]; · iexact H0
  isplitl [H1]; · iexact H1
  isplitl [H2]; · iexact H2
  isplitl [H3]; · iexact H3
  iexact Hg

/-- The invariant after the last point hands the buffers back. -/
theorem end_Φ : (dat V c).Φ (Fin.last cfg0.N) ⊢ (iprop(Pipeline.scopedRest spec0 c ∗ ∃ r, prngReg c r) : sProp 𝕄) := by
  rw [show (dat V c).Φ (Fin.last cfg0.N) = Scratch (V main_v1) (V main_v0) c (24 * cfg0.N) from rfl, scopedRest0_eq]
  unfold Scratch
  simp only [owns_whole]
  iintro ⟨%p, %v, %hpv, H0, H1, H2, H3, Hg⟩
  isplitr [Hg]
  · isplitl [H0]; · iexists _; iexact H0
    isplitl [H1]; · iexists _; iexact H1
    isplitl [H2]; · iexists _; iexact H2
    iexact H3
  iexact Hg

end Cert.KernelIdeal.SimCall

end
-- ==== Proof.GatherBody.lean ====
/-
  THE SECOND CALL'S BODY, COPY BY COPY: each of the 128 copies takes the row of the array that one entry of the table
  names into one row of the result's block; all are started before any is waited for, on one semaphore.
-/
module

public import proofs.«01_k».proof.Proof.Gen.KernelIdeal.Skeleton
public import proofs.«01_k».proof.Proof.Gen.KernelIdeal.Points
public import Idealize.ShloMosaic.Lib.Tactic
public import Idealize.ShloMosaic.Lib.Batch
public import Idealize.ShloMosaic.Lib.ValueIdxCore
public import Idealize.ShloMosaic.Lib.Pipeline.Value

@[expose] public section

set_option maxRecDepth 16384

noncomputable section

namespace Cert.KernelIdeal.GatherCall

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A row of the table's range lies inside the array. -/
theorem src_inb {r b : ℕ} (hr : r < 196) (hb : b < 128) :
    ∀ a, (![r, b, 0] : Fin 3 → ℕ) a + S1x1x768.size a ≤ S196x128x768.size a := by
  intro a
  fin_cases a
  · show r + 1 ≤ 196; omega
  · show b + 1 ≤ 128; omega
  · show 0 + 768 ≤ 768; omega

theorem dst_inb {b : ℕ} (hb : b < 128) :
    ∀ a, (![b, 0, 0] : Fin 3 → ℕ) a + S1x1x768.size a ≤ S128x1x768.size a := by
  intro a
  fin_cases a
  · show b + 1 ≤ 128; omega
  · show 0 + 1 ≤ 1; omega
  · show 0 + 768 ≤ 768; omega

local notation "𝕄" => MT nD τ sig Unit (Elt F) ℕ (Pipeline.UD sig nD τ) ℕ

section run

variable (c : Dev nD) (i : grid1.Coords)
  (M1 : Memref sig .tc .smem S128 .i32) (h1 : M1.IsWhole) (M2 : Memref sig .tc .hbm S196x128x768 .f32) (h2 : M2.IsWhole)
  (M3 : Memref sig .tc .vmem S128x1x768 .f32) (h3 : M3.IsWhole) (s : DmaSems sig S_)

/-- Row `b` of the result's block, as the transfers name it. -/
abbrev dstWin {b : ℕ} (hb : b < 128) : Memref sig .tc .vmem S1x768 .f32 :=
  (M3.slice (Rect.unit (s := S128x1x768) ![b, 0, 0] S1x1x768.size (dst_inb hb)) (fun _ => rfl)).squeeze S1x768 squeezes_S1x1x768_S1x768
/-- The array's row `r` at batch entry `b`, as the transfers name it. -/
abbrev srcWin {r b : ℕ} (hr : r < 196) (hb : b < 128) : Memref sig .tc .hbm S1x768 .f32 :=
  (M2.slice (Rect.unit (s := S196x128x768) ![r, b, 0] S1x1x768.size (src_inb hr hb)) (fun _ => rfl)).squeeze S1x768 squeezes_S1x1x768_S1x768

variable (X : Vec F S128 .i32) (hX : ∀ j, (X j).toNat < 196)
  (f2 : Buf (Elt F) (M2.view.loc (c : Thread nD τ))) (f3 : Buf (Elt F) (M3.view.loc (c : Thread nD τ)))

abbrev at' (b : Fin 128) : S128.Idx := fun d => match d with | ⟨0, _⟩ => b

@[irreducible] def deliv (b : Fin 128) : sProp 𝕄 :=
  iprop(((dstWin M3 b.2).view.loc (c : Thread nD τ) ↦[(dstWin M3 b.2).view.set]{fullShare}
      (dstWin M3 b.2).view.write (Elt F) f3 (ReadAs.same.apply ((srcWin M2 (hX (at' b)) b.2).view.read (Elt F) f2)) Finset.univ)
    ∗ ((srcWin M2 (hX (at' b)) b.2).view.loc (c : Thread nD τ) ↦[(srcWin M2 (hX (at' b)) b.2).view.set]{fullShare} f2))

instance deliv_storable (b : Fin 128) : Storable (upEmb : UEmb _ 𝕄) (deliv c M2 M3 X hX f2 f3 b) := by
  unfold deliv; infer_instance

abbrev N : ℕ := (dstWin M3 (b := 0) (by decide)).view.amount (SemLoc.dma s.sem)

/-- A source row as the body names it, at an offsets vector it has computed. -/
abbrev srcAt (off : Fin 3 → ℕ) (inb : ∀ a, off a + S1x1x768.size a ≤ S196x128x768.size a) : Memref sig .tc .hbm S1x768 .f32 :=
  (M2.slice (Rect.unit (s := S196x128x768) off S1x1x768.size inb) (fun _ => rfl)).squeeze S1x768 squeezes_S1x1x768_S1x768
/-- A destination row as the body names it. -/
abbrev dstAt (off : Fin 3 → ℕ) (inb : ∀ a, off a + S1x1x768.size a ≤ S128x1x768.size a) : Memref sig .tc .vmem S1x768 .f32 :=
  (M3.slice (Rect.unit (s := S128x1x768) off S1x1x768.size inb) (fun _ => rfl)).squeeze S1x768 squeezes_S1x1x768_S1x768

/-- Transfer `b`'s two rows before it starts. -/
def rowsFor (b : Fin 128) : sProp 𝕄 :=
  iprop(((srcWin M2 (hX (at' b)) b.2).view.loc (c : Thread nD τ) ↦[(srcWin M2 (hX (at' b)) b.2).view.set]{fullShare} f2)
    ∗ ((dstWin M3 b.2).view.loc (c : Thread nD τ) ↦[(dstWin M3 b.2).view.set]{fullShare} f3))

/-- `n` transfers started, none waited for: the batch, and the rows of the transfers still to start. -/
def started (n : ℕ) : sProp 𝕄 :=
  iprop(Transfers.Batch (countersEmb (U := Pipeline.UD sig nD τ)) (c : Thread nD τ) (.dma s.sem) () (N M3 s) (deliv c M2 M3 X hX f2 f3) n 0
    ∗ bigSep (Transfers.pending n) (rowsFor c M2 M3 X hX f2 f3))

/-- Transfer `b` starts. -/
theorem issue (b : ℕ) (hb : b < 128) {off off' : Fin 3 → ℕ} (inb : ∀ a, off a + S1x1x768.size a ≤ S196x128x768.size a)
    (inb' : ∀ a, off' a + S1x1x768.size a ≤ S128x1x768.size a)
    (hoff : off = ![(X (at' ⟨b, hb⟩)).toNat, b, 0]) (hoff' : off' = ![b, 0, 0])
    {hsrc : (srcAt M2 off inb).view.WordExact} {hdst : (dstAt M3 off' inb').view.WordExact}
    {hsem : DmaTarget.Typed (nD := nD) .hbm (.dma s.sem) (.here (p := (Proc.tc : Proc τ)) (dstAt M3 off' inb'))}
    {α : Type} {k : PUnit → Prog (TpuEff nD τ sig (Elt F) Λ₀ .tc) α} {Q : α → sProp 𝕄} :
    iprop(started c M2 M3 s X hX f2 f3 b
      ∗ (started c M2 M3 s X hX f2 f3 (b + 1) -∗ wp frame (wpE (defs₀ (F := F)) Variants.none c none) Set.univ (k ⟨⟩) Q))
    ⊢ wp frame (wpE (defs₀ (F := F)) Variants.none c none) Set.univ
        (.op (.enqueueDma (srcAt M2 off inb) (.here (dstAt M3 off' inb')) (.dma s.sem) hsrc hdst hsem) k) Q := by
  subst hoff hoff'
  unfold started
  rw [Transfers.bigSep_pending_step _ b hb]
  unfold rowsFor
  iintro ⟨⟨HB, ⟨Hs, Hd⟩, HP⟩, Hk⟩
  iapply (Transfers.wp_dmaBatch (countersEmb (U := Pipeline.UD sig nD τ)) Variants.none (c : Thread nD τ) none (src := srcAt M2 _ inb) (dst := dstAt M3 _ inb')
      (via := ReadAs.same) (q := fullShare) (fs := f2) (fd := f3) (D := deliv c M2 M3 X hX f2 f3) () (N M3 s) (hj := hb) rfl (Finset.Subset.refl _) (Nat.zero_le _)
      (by unfold deliv; exact Entails.of_eq rfl)) $$ [Hs Hd HB]
  · isplitl [Hs]; · iexact Hs
    isplitl [Hd]; · iexact Hd
    iexact HB
  iintro HB
  iapply Hk
  isplitl [HB]; · iexact HB
  iexact HP

/-- Every transfer started, `u` of them waited for. -/
def waiting (u : ℕ) : sProp 𝕄 :=
  iprop(Transfers.Batch (countersEmb (U := Pipeline.UD sig nD τ)) (c : Thread nD τ) (.dma s.sem) () (N M3 s) (deliv c M2 M3 X hX f2 f3) 128 (u * N M3 s)
    ∗ ∃ W, owes (c : Thread nD τ) 0 W)

theorem started_waiting : iprop(started c M2 M3 s X hX f2 f3 128 ∗ ∃ W, owes (c : Thread nD τ) 0 W)
    ⊢ (waiting c M2 M3 s X hX f2 f3 0 : sProp 𝕄) := by
  unfold started waiting
  rw [Nat.zero_mul]
  iintro ⟨⟨HB, HP⟩, HO⟩
  isplitl [HB]; · iexact HB
  iexact HO

theorem N_pos : 0 < N M3 s := View.amount_pos _ _ (by decide)

/-- A wait that is not the last. -/
theorem wait (u : ℕ) {off off' : Fin 3 → ℕ} (inb : ∀ a, off a + S1x1x768.size a ≤ S196x128x768.size a)
    (inb' : ∀ a, off' a + S1x1x768.size a ≤ S128x1x768.size a)
    {hsrc : (srcAt M2 off inb).view.WordExact} {hdst : (dstAt M3 off' inb').view.WordExact}
    {α : Type} {k : PUnit → Prog (TpuEff nD τ sig (Elt F) Λ₀ .tc) α} {Q : α → sProp 𝕄} :
    iprop(waiting c M2 M3 s X hX f2 f3 u ∗ ⌜u + 1 < 128⌝
      ∗ (waiting c M2 M3 s X hX f2 f3 (u + 1) -∗ wp frame (wpE (defs₀ (F := F)) Variants.none c none) Set.univ (k ⟨⟩) Q))
    ⊢ wp frame (wpE (defs₀ (F := F)) Variants.none c none) Set.univ
        (.op (.waitDma2 s.sem (srcAt M2 off inb) (dstAt M3 off' inb') hsrc hdst) k) Q := by
  unfold waiting
  iintro ⟨⟨HB, ⟨%W, HO⟩⟩, %hu, Hk⟩
  iapply (Transfers.wp_waitBatch (countersEmb (U := Pipeline.UD sig nD τ)) Variants.none (c : Thread nD τ) none (srcw := srcAt M2 off inb) (dstw := dstAt M3 off' inb')
      () (N := N M3 s) rfl (D := deliv c M2 M3 X hX f2 f3) (u := u * N M3 s)
      (W := W)
      (by rw [← Nat.succ_mul, Nat.mul_comm]; exact Nat.mul_lt_mul_of_pos_left hu (N_pos M3 s))) $$ [HB HO]
  · isplitl [HB]; · iexact HB
    iexact HO
  iintro ⟨HB, HO⟩
  iapply Hk
  rw [Nat.succ_mul]
  isplitl [HB]; · iexact HB
  iexists _; iexact HO

/-- The last wait hands every row back. -/
theorem wait_last {off off' : Fin 3 → ℕ} (inb : ∀ a, off a + S1x1x768.size a ≤ S196x128x768.size a)
    (inb' : ∀ a, off' a + S1x1x768.size a ≤ S128x1x768.size a)
    {hsrc : (srcAt M2 off inb).view.WordExact} {hdst : (dstAt M3 off' inb').view.WordExact}
    {α : Type} {k : PUnit → Prog (TpuEff nD τ sig (Elt F) Λ₀ .tc) α} {Q : α → sProp 𝕄} :
    iprop(waiting c M2 M3 s X hX f2 f3 127
      ∗ (iprop(bigSep Finset.univ (deliv c M2 M3 X hX f2 f3) ∗ semVal ((c : Thread nD τ), SemLoc.dma s.sem) 0 ∗ ∃ W, owes (c : Thread nD τ) 0 W)
          -∗ wp frame (wpE (defs₀ (F := F)) Variants.none c none) Set.univ (k ⟨⟩) Q))
    ⊢ wp frame (wpE (defs₀ (F := F)) Variants.none c none) Set.univ
        (.op (.waitDma2 s.sem (srcAt M2 off inb) (dstAt M3 off' inb') hsrc hdst) k) Q := by
  unfold waiting
  iintro ⟨⟨HB, ⟨%W, HO⟩⟩, Hk⟩
  iapply (Transfers.wp_waitBatchLast (countersEmb (U := Pipeline.UD sig nD τ)) Variants.none (c : Thread nD τ) none (srcw := srcAt M2 off inb) (dstw := dstAt M3 off' inb')
      () (N := N M3 s) rfl (N_pos M3 s) (D := deliv c M2 M3 X hX f2 f3) (u := 127 * N M3 s)
      (W := W)
      (by rw [← Nat.succ_mul, Nat.mul_comm])) $$ [HB HO]
  · isplitl [HB]; · iexact HB
    iexact HO
  iintro ⟨HD, HC, HO⟩
  iapply Hk
  isplitl [HD]; · iexact HD
  isplitl [HC]; · iexact HC
  iexists _; iexact HO

set_option maxHeartbeats 20000000 in
/-- The whole body: from the table and the rows, every row landed. -/
theorem run_rows (q : PosShare TreeShare) (f1 : Buf (Elt F) (M1.view.loc (c : Thread nD τ))) (e1 : M1.view.read (Elt F) f1 = X)
   (Q : PUnit → sProp 𝕄) :
   iprop((M1.view.loc (c : Thread nD τ) ↦{q} f1) ∗ started c M2 M3 s X hX f2 f3 0 ∗ (∃ W, owes (c : Thread nD τ) 0 W)
     ∗ ((M1.view.loc (c : Thread nD τ) ↦{q} f1) -∗ iprop(bigSep Finset.univ (deliv c M2 M3 X hX f2 f3) ∗ semVal ((c : Thread nD τ), SemLoc.dma s.sem) 0 ∗ ∃ W, owes (c : Thread nD τ) 0 W)
        -∗ Q ⟨⟩))
    ⊢ wp frame (wpE (defs₀ (F := F)) Variants.none c none) Set.univ
        (cc1__gather_kernel i M1 h1 M2 h2 M3 h3 s) Q := by
  have hR : ∀ (r : Rect S128) (j), (View.readAt (Elt F) M1.view r.toLoadRect f1 j).toNat < 196 := by
    intro r j
    show (View.ld (M1.view.read (Elt F) f1) r j).toNat < 196
    rw [e1]; exact hX _
  have hW : ∀ (b : ℕ) (hb : b < 128) (inb) (j), View.readAt (Elt F) M1.view (Rect.unit (s := S128) ![b] S1.size inb).toLoadRect f1 j = X (at' ⟨b, hb⟩) := by
    intro b hb inb j
    show View.ld (M1.view.read (Elt F) f1) _ j = _
    rw [e1]
    refine congrArg X (funext fun d => Fin.ext ?_)
    fin_cases d
    show b + 1 * (j 0).val = b
    have := (j 0).isLt
    have : (j 0).val < 1 := this
    omega
  unfold cc1__gather_kernel
  iintro ⟨H1, HS, HO, Hk⟩
  repeat
    (sl_exec (disch := first
        | exact ⟨src_inb (hR _ _) (by decide), src_inb (hR _ _) (by decide)⟩
        | exact src_inb (hR _ _) (by decide))
     iapply (issue c M2 M3 s X hX f2 f3 _ (by decide) _ _ (congrArg (fun v : BitVec 32 => ![v.toNat, _, 0]) (hW _ _ _ _)) rfl)
     isplitl [HS]
     · iexact HS
     iintro HS)
  ihave HS := (started_waiting c M2 M3 s X hX f2 f3) $$ [HS HO]
  · isplitl [HS]; · iexact HS
    iexact HO
  repeat
    (sl_exec (disch := exact src_inb (hR _ _) (by decide))
     iapply (wait c M2 M3 s X hX f2 f3 _ _ _)
     isplitl [HS]
     · iexact HS
     isplitr
     · ipureintro; decide
     iintro HS)
  sl_exec (disch := exact src_inb (hR _ _) (by decide))
  iapply (wait_last c M2 M3 s X hX f2 f3 _ _)
  isplitl [HS]
  · iexact HS
  iintro HS
  sl_step
  iapply Hk $$ H1
  iexact HS

end run

end Cert.KernelIdeal.GatherCall

end
-- ==== Proof.GatherBlock.lean ====
/-
  THE SECOND CALL'S BODY ON WHOLE BUFFERS: from the array and the result's block held whole, the array is left as it
  was and the block holds, in row `b`, the array's row named by the table's entry `b` at batch entry `b`.
-/
module

public import proofs.«01_k».proof.Proof.GatherBody

@[expose] public section

set_option maxRecDepth 16384

noncomputable section

namespace Cert.KernelIdeal.GatherCall

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The named rows: entry `(b, 0, d)` is the array's entry `(X b, b, d)`. -/
def gathered (X : Vec F S128 .i32) (hX : ∀ j, (X j).toNat < 196) (Y : Vec F S196x128x768 .f32) : Vec F S128x1x768 .f32 :=
  fun j => Y (ValueIdx.ix3 ⟨(X (at' (j 0))).toNat, hX _⟩ (j 0) (j 2))

/-- The result's block. -/
abbrev B3 : Memref sig .tc .vmem S128x1x768 .f32 := Memref.whole cc1_stg0_0
/-- The array. -/
abbrev B2 : Memref sig .tc .hbm S196x128x768 .f32 := Memref.whole main_v0

/-- Row `b` of the block holds the entries whose first coordinate is `b`. -/
theorem mem_dst {b : ℕ} (hb : b < 128) (i : S128x1x768.Idx) : i ∈ (dstWin B3 hb).view.set ↔ (i 0).val = b := by
  have e : (dstWin B3 hb).view.set = (Rect.unit (s := S128x1x768) ![b, 0, 0] S1x1x768.size (dst_inb hb)).set := by
    exact (View.set_reshape (v := (View.whole cc1_stg0_0).slice (Rect.unit (s := S128x1x768) ![b, 0, 0] S1x1x768.size (dst_inb hb)))
      squeezes_S1x1x768_S1x768.numel_eq).trans (View.set_slice_whole _ _)
  rw [e, Rect.mem_set_unit]
  constructor
  · intro h
    have h0 : b ≤ (i 0).val ∧ (i 0).val < b + 1 := h 0
    omega
  · intro h a
    fin_cases a
    · show b ≤ (i 0).val ∧ (i 0).val < b + 1; omega
    · have h1 : (i 1).val < 1 := (i 1).isLt
      show 0 ≤ (i 1).val ∧ (i 1).val < 0 + 1; omega
    · have h2 : (i 2).val < 768 := (i 2).isLt
      show 0 ≤ (i 2).val ∧ (i 2).val < 0 + 768; omega

/-- A source row's entries have the row's batch entry as second coordinate. -/
theorem mem_src {r b : ℕ} (hr : r < 196) (hb : b < 128) (i : S196x128x768.Idx) (h : i ∈ (srcWin B2 hr hb).view.set) : (i 1).val = b := by
  have e : (srcWin B2 hr hb).view.set = (Rect.unit (s := S196x128x768) ![r, b, 0] S1x1x768.size (src_inb hr hb)).set := by
    exact (View.set_reshape (v := (View.whole main_v0).slice (Rect.unit (s := S196x128x768) ![r, b, 0] S1x1x768.size (src_inb hr hb)))
      squeezes_S1x1x768_S1x768.numel_eq).trans (View.set_slice_whole _ _)
  rw [e, Rect.mem_set_unit] at h
  have h1 : b ≤ (i 1).val ∧ (i 1).val < b + 1 := h 1
  omega

/-- The entries of the block's row `b`. -/
abbrev dstSet (b : Fin 128) : Finset S128x1x768.Idx := (dstWin B3 b.2).view.set
/-- The entries of the array's row named by the table's entry `b`. -/
abbrev srcSet (X : Vec F S128 .i32) (hX : ∀ j, (X j).toNat < 196) (b : Fin 128) : Finset S196x128x768.Idx :=
  (srcWin B2 (hX (at' b)) b.2).view.set

theorem dst_disjoint (t t' : Fin 128) (h : t ≠ t') : Disjoint (dstSet t) (dstSet t') := by
  rw [Finset.disjoint_left]
  intro i hi hi'
  exact h (Fin.ext (((mem_dst t.2 i).mp hi).symm.trans ((mem_dst t'.2 i).mp hi')))

theorem dst_cover : (Finset.univ.biUnion dstSet) = Finset.univ := by
  ext i
  simp only [Finset.mem_biUnion, Finset.mem_univ, true_and, iff_true]
  exact ⟨(⟨(i 0).val, (i 0).isLt⟩ : Fin 128), (mem_dst _ i).mpr rfl⟩

variable (X : Vec F S128 .i32) (hX : ∀ j, (X j).toNat < 196)

theorem src_disjoint (t t' : Fin 128) (h : t ≠ t') :
    Disjoint (srcSet X hX t) (srcSet X hX t') := by
  rw [Finset.disjoint_left]
  intro i hi hi'
  exact h (Fin.ext ((mem_src _ _ i hi).symm.trans (mem_src _ _ i hi')))

/-- Row `b`, written by its transfer, agrees with the named rows. -/
theorem landed_eq (c : Dev nD) (f2 : Buf (Elt F) ((c : Thread nD τ).loc main_v0)) (f3 : Buf (Elt F) ((c : Thread nD τ).loc cc1_stg0_0)) (b : Fin 128)
    (i : S128x1x768.Idx) (hi : i ∈ (dstWin B3 b.2).view.set) :
    (dstWin B3 b.2).view.write (Elt F) f3 (ReadAs.same.apply ((srcWin B2 (hX (at' b)) b.2).view.read (Elt F) f2)) Finset.univ i
      = gathered X hX f2 i := by
  obtain ⟨x, rfl⟩ := View.exists_emb_of_mem_set _ hi
  rw [View.write_emb_of_mem _ _ (Finset.mem_univ x)]
  show f2 ((srcWin B2 (hX (at' b)) b.2).view.emb x) = f2 _
  have hb : ((dstWin B3 b.2).view.emb x) 0 = b := Fin.ext ((mem_dst b.2 _).mp (View.emb_mem_set _ x))
  refine congrArg f2 (funext fun a => Fin.ext ?_)
  set k := Shape.reshapeEquiv (squeezes_S1x1x768_S1x768.numel_eq) x with hk
  have k0 : (k 0).val < 1 := (k 0).isLt
  have k1 : (k 1).val < 1 := (k 1).isLt
  fin_cases a
  · show (X (at' b)).toNat + 1 * (k 0).val = (X (at' (((dstWin B3 b.2).view.emb x) 0))).toNat
    rw [hb]; omega
  · show b.val + 1 * (k 1).val = (((dstWin B3 b.2).view.emb x) 0).val
    rw [hb]; omega
  · show 0 + 1 * (k 2).val = 0 + 1 * (k 2).val
    rfl

variable (c : Dev nD) (i : grid1.Coords) (M1 : Memref sig .tc .smem S128 .i32) (h1 : M1.IsWhole) (s : DmaSems sig S_)

/-- The whole body on whole buffers. -/
theorem run_whole (q : PosShare TreeShare) (f1 : Buf (Elt F) (M1.view.loc (c : Thread nD τ))) (e1 : M1.view.read (Elt F) f1 = X)
    (f2 : Buf (Elt F) ((c : Thread nD τ).loc main_v0)) (f3 : Buf (Elt F) ((c : Thread nD τ).loc cc1_stg0_0)) (Q : PUnit → sProp 𝕄) :
    iprop((M1.view.loc (c : Thread nD τ) ↦{q} f1) ∗ ((c : Thread nD τ).loc main_v0 ↦{fullShare} f2)
      ∗ ((c : Thread nD τ).loc cc1_stg0_0 ↦{fullShare} f3) ∗ semVal ((c : Thread nD τ), SemLoc.dma s.sem) 0 ∗ (∃ W, owes (c : Thread nD τ) 0 W)
      ∗ (iprop((M1.view.loc (c : Thread nD τ) ↦{q} f1) ∗ ((c : Thread nD τ).loc main_v0 ↦{fullShare} f2)
          ∗ ((c : Thread nD τ).loc cc1_stg0_0 ↦{fullShare} gathered X hX f2) ∗ semVal ((c : Thread nD τ), SemLoc.dma s.sem) 0
          ∗ (∃ W, owes (c : Thread nD τ) 0 W)) -∗ Q ⟨⟩))
    ⊢ wp frame (wpE (defs₀ (F := F)) Variants.none c none) Set.univ
        (cc1__gather_kernel i M1 h1 B2 (Memref.isWhole_whole _) B3 (Memref.isWhole_whole _) s) Q := by
  have hsrc : ((c : Thread nD τ).loc main_v0 ↦{fullShare} f2 : sProp 𝕄)
      ⊣⊢ iprop((bigSep Finset.univ fun t : Fin 128 => ((c : Thread nD τ).loc main_v0 ↦[srcSet X hX t]{fullShare} f2))
        ∗ ((c : Thread nD τ).loc main_v0 ↦[Finset.univ \ (Finset.univ.biUnion (srcSet X hX))]{fullShare} f2)) := by
    have e := pointsTo_biUnion (Val := Elt F) (Ix := Unit) (Name := ℕ) (U := Pipeline.UD sig nD τ) (Lvl := ℕ) (ℓ := (c : Thread nD τ).loc main_v0)
      (q := fullShare) (f := f2) Finset.univ (srcSet X hX) (fun t _ t' _ h => src_disjoint X hX t t' h)
    rw [← e]
    exact pointsTo_split_subset (Finset.subset_univ _)
  have hdst : ∀ f : Buf (Elt F) ((c : Thread nD τ).loc cc1_stg0_0), ((c : Thread nD τ).loc cc1_stg0_0 ↦{fullShare} f : sProp 𝕄)
      = bigSep Finset.univ fun t : Fin 128 => ((c : Thread nD τ).loc cc1_stg0_0 ↦[dstSet t]{fullShare} f) := by
    intro f
    have e := pointsTo_biUnion (Val := Elt F) (Ix := Unit) (Name := ℕ) (U := Pipeline.UD sig nD τ) (Lvl := ℕ) (ℓ := (c : Thread nD τ).loc cc1_stg0_0)
      (q := fullShare) (f := f) Finset.univ dstSet (fun t _ t' _ h => dst_disjoint t t' h)
    rw [← e, dst_cover]
  have hrows : (bigSep (Transfers.pending (n := 128) 0) (rowsFor c B2 B3 X hX f2 f3) : sProp 𝕄)
      = iprop((bigSep Finset.univ fun t : Fin 128 => ((c : Thread nD τ).loc main_v0 ↦[srcSet X hX t]{fullShare} f2))
        ∗ bigSep Finset.univ fun t : Fin 128 => ((c : Thread nD τ).loc cc1_stg0_0 ↦[dstSet t]{fullShare} f3)) := by
    rw [Transfers.pending_zero, ← bigSep_sep']
    rfl
  have hdel : (bigSep Finset.univ (deliv c B2 B3 X hX f2 f3) : sProp 𝕄)
      = iprop((bigSep Finset.univ fun t : Fin 128 => ((c : Thread nD τ).loc cc1_stg0_0 ↦[dstSet t]{fullShare} gathered X hX f2))
        ∗ bigSep Finset.univ fun t : Fin 128 => ((c : Thread nD τ).loc main_v0 ↦[srcSet X hX t]{fullShare} f2)) := by
    rw [← bigSep_sep']
    refine bigSep_congr fun t _ => ?_
    unfold deliv
    have e := pointsTo_congr (Val := Elt F) (Ix := Unit) (Name := ℕ) (U := Pipeline.UD sig nD τ) (Lvl := ℕ) (ℓ := (c : Thread nD τ).loc cc1_stg0_0)
      (q := fullShare) (I := dstSet t) (g := gathered X hX f2) (landed_eq X hX c f2 f3 t)
    rw [← e]
  iintro ⟨H1, H2, H3, Hs, HO, HQ⟩
  imod (Transfers.batch_alloc' (countersEmb (U := Pipeline.UD sig nD τ)) (c : Thread nD τ) () (N B3 s) (deliv c B2 B3 X hX f2 f3)
    (sm := .dma s.sem) (E := Set.univ)) $$ Hs with HB
  ihave H2' := hsrc.1 $$ H2
  icases H2' with ⟨H2, H2r⟩
  iapply (run_rows c i M1 h1 B2 _ B3 _ s X hX f2 f3 q f1 e1 Q)
  isplitl [H1]; · iexact H1
  isplitl [HB H2 H3]
  · unfold started
    isplitl [HB]; · iexact HB
    rw [hrows, ← hdst]
    isplitl [H2]; · iexact H2
    iexact H3
  isplitl [HO]; · iexact HO
  rw [hdel, ← hdst]
  iintro H1 ⟨⟨H3, H2⟩, Hs, HO⟩
  iapply HQ
  isplitl [H1]; · iexact H1
  isplitl [H2 H2r]
  · iapply hsrc.2
    isplitl [H2]; · iexact H2
    iexact H2r
  isplitl [H3]; · iexact H3
  isplitl [Hs]; · iexact Hs
  iexact HO

end Cert.KernelIdeal.GatherCall

end
-- ==== Proof.GatherRegion.lean ====
/-
  THE SECOND CALL'S REGION: its one grid point leaves the named rows in the result's array; the array it reads, the
  table and the semaphore are as they were.
-/
module

public import proofs.«01_k».proof.Proof.GatherBlock
public import proofs.«01_k».proof.Proof.Gen.KernelIdeal.Launch
public import Idealize.ShloMosaic.Lib.Pipeline.ValueKit
public import Idealize.ShloMosaic.Lib.Pipeline.RegionArraysDT

@[expose] public section

set_option maxRecDepth 16384

noncomputable section

namespace Cert.KernelIdeal.GatherCall

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg)

variable {F : FTy → Type} [FloatOps F]

local notation "𝕄" => MT nD τ sig Unit (Elt F) ℕ (Pipeline.UD sig nD τ) ℕ

/-- The body's own semaphore. -/
abbrev osem1 : Fin 1 → SemLoc sig := fun _ => SemLoc.dma (cc1_scratch0.sem)
theorem ownSemFacts1 : Pipeline.OwnSemFacts spec1 osem1 := by decide
/-- The array the body's transfers read. -/
abbrev H1 : Finset (Ref sig .tc) := {main_v0}

variable (V : Valuation τ sig (Elt F)) (av : (pcfg1 (F := F)).Adm) (hX : ∀ j : S128.Idx, (av.1 0 j).toNat < 196) (c : Dev nD)

/-- What the body keeps beside the staged block: the other scoped buffers, the generator, its semaphore at zero, the
    array and the table. -/
def Kept : sProp 𝕄 :=
  iprop((Pipeline.scopedRest spec1 c ∗ (∃ r, prngReg c r) ∗ Pipeline.ownSems0 osem1 c
      ∗ bigSep H1 fun b => ((c.tc : Thread nD τ).loc b) ↦{fullShare} V (Proc.devRef .tc b))
    ∗ Pipeline.prefHeld pre1 c (fun _ => fullShare) av.1)

/-- The proof data of the second region, entered with the unscoped buffers at `V` and the table at `av`. -/
def dat : Dat τ (Elt F) Unit ℕ (Pipeline.UD sig nD τ) ℕ (cfg1 av) c where
  A w := V (Pipeline.arrRef spec1 w)
  after w _ := match w with
    | 0 => gathered (av.1 0) hX (V main_v0)
    | ⟨_ + 1, h⟩ => absurd h (Nat.not_lt.2 (Nat.le_add_left _ _))
  Φ _ := Kept V av c
  q _ := fullShare
  owed _ := 0

/-- The staged block is the staging buffer. -/
theorem owns_stage (X : Vec F S128x1x768 .f32) :
    (owns (c : Thread nD τ) (((cfg1 av).win 0).stage ((cfg1 av).slots t1_0 0)) fullShare X : sProp 𝕄)
      = (((c : Thread nD τ).loc cc1_stg0_0) ↦{fullShare} X : sProp 𝕄) := by
  have key : ∀ s : Fin 1, (owns (c : Thread nD τ) (stage1_0 s) fullShare X : sProp 𝕄)
      = (((c : Thread nD τ).loc cc1_stg0_0) ↦{fullShare} X : sProp 𝕄) := by
    intro s
    obtain rfl : s = 0 := Subsingleton.elim _ _
    exact owns_whole (c : Thread nD τ) cc1_stg0_0 fullShare X
  exact key (((cfg1 av).slots t1_0 0).cast nbuf1_0)

/-- The body at the grid point, on the staged block and what it keeps. -/
theorem sound_body :
    iprop(Kept V av c ∗ (dat V av hX c).owesAt () t1_0.castSucc
        ∗ (∃ d, owns (c : Thread nD τ) ((cfg1 av).win 0 |>.stage ((cfg1 av).slots t1_0 0)) fullShare ((dat V av hX c).before 0 t1_0 d)))
    ⊢ wp frame (wpE (defs₀ (F := F)) Variants.none c none) Set.univ
        (cc1__gather_kernel (grid1.coords t1_0) (Memref.whole main_v3) (Memref.isWhole_whole _) B2 (Memref.isWhole_whole _) B3 (Memref.isWhole_whole _) cc1_scratch0) fun _ =>
      iprop(Kept V av c ∗ (dat V av hX c).owesAt () t1_0.succ ∗ (dat V av hX c).leaves 0 t1_0) := by
  have hH : (bigSep H1 fun b => (((c.tc : Thread nD τ).loc b) ↦{fullShare} V (Proc.devRef .tc b) : sProp 𝕄))
      = (((c.tc : Thread nD τ).loc main_v0) ↦{fullShare} V main_v0 : sProp 𝕄) := BI.bigSep_singleton
  have hP : (Pipeline.prefHeld pre1 c (fun _ => fullShare) av.1 : sProp 𝕄)
      = (((c.tc : Thread nD τ).loc main_v3) ↦{fullShare} av.1 0 : sProp 𝕄) := by
    unfold Pipeline.prefHeld
    rw [show (Finset.univ : Finset (Fin 1)) = {0} from rfl, BI.bigSep_singleton]
    rfl
  have hS : (Pipeline.ownSems0 osem1 c : sProp 𝕄) = semVal (((c : Thread nD τ), SemLoc.dma cc1_scratch0.sem)) 0 := by
    unfold Pipeline.ownSems0
    rw [show (Finset.univ : Finset (Fin 1)) = {0} from rfl, BI.bigSep_singleton]
  have hl : ((((c : Thread nD τ).loc cc1_stg0_0) ↦{fullShare} gathered (av.1 0) hX (V main_v0) : sProp 𝕄)) ⊢ ((dat V av hX c).leaves 0 t1_0 : sProp 𝕄) := by
    unfold Dat.leaves
    exact Entails.of_eq (owns_stage av c _).symm
  have ho : ∀ t : Fin (cfg1 av).N, ((dat V av hX c).owesAt () t.castSucc : sProp 𝕄) ⊢ iprop(∃ W, owes (c : Thread nD τ) 0 W) := fun t => by
    unfold Dat.owesAt Pipeline.owesWithin
    iintro ⟨%W, -, H⟩; iexists W; iexact H
  have ho' : iprop(∃ W, owes (c : Thread nD τ) 0 W) ⊢ ((dat V av hX c).owesAt () t1_0.succ : sProp 𝕄) := by
    unfold Dat.owesAt Pipeline.owesWithin
    iintro ⟨%W, H⟩; iexists W; isplitr; · ipureintro; exact fun _ _ => Or.inl trivial
    iexact H
  unfold Kept
  rw [hH, hP, hS]
  iintro ⟨⟨⟨Hs, Hg, Hsem, Hy⟩, Ht⟩, Ho, ⟨%d, Hst⟩⟩
  ihave Hst := (Entails.of_eq (owns_stage av c ((dat V av hX c).before 0 t1_0 d))) $$ Hst
  ihave HO := (ho t1_0) $$ Ho
  iapply (run_whole (av.1 0) hX c (grid1.coords t1_0) (Memref.whole main_v3) (Memref.isWhole_whole _) cc1_scratch0
    fullShare (av.1 0) rfl (V main_v0) ((dat V av hX c).before 0 t1_0 d) _)
  isplitl [Ht]; · iexact Ht
  isplitl [Hy]; · iexact Hy
  isplitl [Hst]; · iexact Hst
  isplitl [Hsem]; · iexact Hsem
  isplitl [HO]; · iexact HO
  iintro ⟨Ht, Hy, Hst, Hsem, HO⟩
  isplitl [Hs Hg Hsem Hy Ht]
  · isplitl [Hs Hg Hsem Hy]
    · isplitl [Hs]; · iexact Hs
      isplitl [Hg]; · iexact Hg
      isplitl [Hsem]; · iexact Hsem
      iexact Hy
    iexact Ht
  isplitl [HO]; · iapply ho'; iexact HO
  iapply hl; iexact Hst

/-- The program the region runs at its grid point. -/
theorem defs₀_row : defs₀ (F := F) .tc (cfg1 av).body ((cfg1 av).bodyArgs t1_0 ((cfg1 av).slots t1_0))
    = cc1__gather_kernel (grid1.coords t1_0) (Memref.whole main_v3) (Memref.isWhole_whole _) B2 (Memref.isWhole_whole _) B3 (Memref.isWhole_whole _) cc1_scratch0 := by
  have key : ∀ (s : Fin 1) (h : (stage1_0 s).IsWhole),
      cc1__gather_kernel (F := F) (grid1.coords t1_0) (Memref.whole main_v3) (Memref.isWhole_whole _) B2 (Memref.isWhole_whole _) (stage1_0 s) h cc1_scratch0
        = cc1__gather_kernel (grid1.coords t1_0) (Memref.whole main_v3) (Memref.isWhole_whole _) B2 (Memref.isWhole_whole _) B3 (Memref.isWhole_whole _) cc1_scratch0 := by
    intro s h
    obtain rfl : s = 0 := Subsingleton.elim _ _
    rfl
  unfold defs₀; rw [Defs.onTc_tc]
  exact key (((cfg1 av).slots t1_0 0).cast nbuf1_0) _

/-- The body's obligation at the region's grid point. -/
theorem body : Pipeline.BodyObligationLoose (dat V av hX c) (defs₀ (F := F)) Variants.none () Set.univ := fun t => by
  obtain rfl := fin_N1 t
  rw [bigSep_W1, bigSep_W1, defs₀_row av]
  exact triple_restated (sound_body V av hX c) rfl .rfl fun _ => .rfl

/-- The one write-back, at the one grid point, is of the whole array. -/
theorem wholeAt1 : ((cfg1 av).win 0).WholeAt t1_0 := by
  refine ⟨?_, fun t _ => fin_N1 t, fun a => ⟨?_, ?_⟩⟩
  · unfold Pipeline.Window.flush
    rw [show (t1_0 : Fin grid1.N).val + 1 = grid1.N from N_1.symm]
    simp only [decide_true, Bool.true_or, Bool.and_true]; rfl
  · revert a; exact (by decide : ∀ a : Fin 3, cc1_transform_1 (grid1.coords t1_0) a = 0)
  · rfl

/-- The result's array after the region. -/
theorem final_0 : (dat V av hX c).arrAt 0 (cfg1 av).N = gathered (av.1 0) hX (V main_v0) :=
  Dat.arrAt_eq_of_after_last (dat V av hX c) 0 t1_0 (wholeAt1 av) _ (by intros; rfl)

end Cert.KernelIdeal.GatherCall

end
-- ==== Proof.Regions.lean ====
/-
  THE TWO CALLS AS REGIONS of the whole program, over any buffers they are entered with: the first leaves the loss and
  the indices, the second the named rows.
-/
module

public import proofs.«01_k».proof.Proof.SimRegion
public import proofs.«01_k».proof.Proof.GatherRegion
public import proofs.«01_k».proof.Proof.Gen.KernelIdeal.Regions

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg)

local notation "𝕄" => MT nD τ sig Unit (Elt Ideal) ℕ (Pipeline.UD sig nD τ) ℕ

/-- The launch's level data: nothing is ever owed. -/
def L : GSem nD τ sig → Finset Unit := fun g => if g.1.2 = .tc then {()} else ∅
abbrev lv : GSem nD τ sig → Unit → ℕ := fun _ _ => 0
abbrev D0 : Dev nD → CellTallies nD τ sig Unit := fun _ => 0

/-- The one device. -/
abbrev c₀ : Dev nD := ⟨0, by decide⟩

-- the buffers each region is entered with, and the table the second one reads
variable (V W : Dev nD → Valuation τ sig (Elt Ideal)) (T : Vec Ideal S128 .i32) (hT : ∀ j, (T j).toNat < 196)

/-- The table the second call is entered with. -/
def table : (pcfg1 (F := Ideal)).Adm := ⟨fun | 0 => T | ⟨_ + 1, h⟩ => absurd h (Nat.not_lt.2 (Nat.le_add_left _ _)), trivial⟩

/-- The tables the calls are entered with. -/
def a : (p : Fin 2) → (pcfgs (F := Ideal) p).Adm
  | ⟨0, _⟩ => cfg0.toPCfg_adm
  | ⟨1, _⟩ => table T

/-- The regions' data. -/
def pdats : (p : Fin 2) → (c : Dev nD) → Dat τ (Elt Ideal) Unit ℕ (Pipeline.UD sig nD τ) ℕ (Pipeline.pin (pcfgs (F := Ideal)) (a T) p) c
  | ⟨0, _⟩, c => SimCall.dat (V c) c
  | ⟨1, _⟩, c => GatherCall.dat (W c) (table T) hT c

theorem levelCut (p : Fin 2) : Pipeline.LevelCut (nD := nD) (pcfgs (F := Ideal)) (a T) () L lv p D0 (fun _ => 0) where
  hι _ _ _ := by unfold L; rw [if_pos rfl]; exact Finset.mem_singleton_self _
  hιb _ _ _ := le_rfl
  hD _ _ _ h := absurd h (Nat.lt_irrefl 0)

theorem share0 (c : Dev nD) (w) : (pdats V W T hT 0 c).share w = fullShare := (pdats V W T hT 0 c).share_full (fun _ => rfl) w
theorem share1 (c : Dev nD) (w) : (pdats V W T hT 1 c).share w = fullShare := (pdats V W T hT 1 c).share_full (fun _ => rfl) w

/-- The first region's record: its arrays pass from `V` to `V'`. -/
def R0 (V' : Dev nD → Valuation τ sig (Elt Ideal))
    (h : ∀ c (w : Fin 4), (SimCall.dat (V c) c).arrAt w cfg0.N = V' c (Proc.devRef .tc (Pipeline.arrRef spec0 w))) :
    Pipeline.RegionSeg (pcfgs (F := Ideal)) (a T) (pdats V W T hT) () defs₀ Variants.none L lv 0 :=
  Pipeline.RegionSeg.ofHeld (pcfgs (F := Ideal)) (a T) (pdats V W T hT) () defs₀ Variants.none L lv 0 D0
    (fun c => iprop(∃ r, prngReg c r)) (fun c => iprop(∃ r, prngReg c r)) launch0 rfl
    (fun c => SimCall.body (V c) c) (fun _ _ => rfl) (fun _ => rfl) (share0 V W T hT)
    (fun c => SimCall.start_Φ (V c) c) (fun c => SimCall.end_Φ (V c) c) (fun _ => 0) (levelCut T 0)
    (fun c => StableHlo.held (c : Thread nD τ) (Pipeline.ucRefs τ sig \ Pipeline.arrRefs spec0) (V c))
    V V' (fun _ _ => rfl) h

/-- The buffers that stay beside the second region's arrays and table. -/
abbrev Sr : Finset (DevRef τ sig) := (Pipeline.ucRefs τ sig \ Pipeline.arrRefs spec1) \ Pipeline.tblRefs pre1

/-- The second region's record: its array passes from `W` to `W'`, the table stays. -/
def R1 (W' : Dev nD → Valuation τ sig (Elt Ideal))
    (h : ∀ c (w : Fin 1), (GatherCall.dat (W c) (table T) hT c).arrAt w (cfg1 (table T)).N = W' c (Proc.devRef .tc (Pipeline.arrRef spec1 w)))
    (hW : ∀ c (k : Fin 1), (table T).1 k = W c (Proc.devRef .tc (pre1.ref k)))
    (hW' : ∀ c (k : Fin 1), (table T).1 k = W' c (Proc.devRef .tc (pre1.ref k))) :
    Pipeline.RegionSeg (pcfgs (F := Ideal)) (a T) (pdats V W T hT) () defs₀ Variants.none L lv 1 :=
  Pipeline.RegionSeg.ofHeldDHT (pcfgs (F := Ideal)) (a T) (pdats V W T hT) () defs₀ Variants.none L lv 1 D0
    () GatherCall.osem1 GatherCall.ownSemFacts1 GatherCall.H1 Sr (by decide) launch1
    (fun c => GatherCall.body (W c) (table T) hT c) (fun _ _ => rfl) (fun _ => rfl) (share1 V W T hT)
    (fun c => (by iintro -; iempintro : _ ⊢ BI.emp).trans (Transfers.MayWaits.zero (c : Thread nD τ) ()))
    W W'
    (fun c => by
      change _ ⊢ GatherCall.Kept (W c) (table T) c
      unfold GatherCall.Kept
      iintro ⟨⟨Hs, Hg, Ho, Hy, -⟩, Ht⟩
      isplitl [Hs Hg Ho Hy]
      · isplitl [Hs]; · iexact Hs
        isplitl [Hg]; · iexact Hg
        isplitl [Ho]; · iexact Ho
        iexact Hy
      iexact Ht)
    (fun c => by
      change GatherCall.Kept (W c) (table T) c ⊢ _
      unfold GatherCall.Kept
      exact BI.Entails.refl _)
    (fun _ => 0) (levelCut T 1) (fun _ => BI.emp) (fun _ _ => rfl) hW h hW'

/-- What rides along: the generator's register and nothing owed. -/
abbrev E (c : Dev nD) : sProp 𝕄 := iprop((∃ r, prngReg c r) ∗ ∃ Wd, owes (c : Thread nD τ) 0 Wd)

theorem arr0_sub : Pipeline.arrRefs (τ := τ) spec0 ⊆ Pipeline.ucRefs τ sig := Pipeline.arrRefs_sub_ucRefs spec0 (by decide)
theorem arr1_sub : Pipeline.arrRefs (τ := τ) spec1 ⊆ Pipeline.ucRefs τ sig := Pipeline.arrRefs_sub_ucRefs spec1 (by decide)
theorem tbl1_sub : Pipeline.tblRefs (τ := τ) pre1 ⊆ Pipeline.ucRefs τ sig \ Pipeline.arrRefs spec1 :=
  Pipeline.tblRefs_sub_ucRefs_sdiff spec1 pre1 (by decide) (by decide)

/-- The buffers and what rides along enter the first region, -/
theorem pre0 (V' h) (c : Dev nD) : iprop(StableHlo.held (c : Thread nD τ) (Pipeline.ucRefs τ sig) (V c) ∗ E c) ⊢ (R0 V W T hT V' h).pre c := by
  change _ ⊢ iprop(StableHlo.held (c : Thread nD τ) (Pipeline.arrRefs spec0) (V c) ∗ (∃ r, prngReg c r)
    ∗ StableHlo.held (c : Thread nD τ) (Pipeline.ucRefs τ sig \ Pipeline.arrRefs spec0) (V c) ∗ ∃ Wd, owes (c : Thread nD τ) 0 Wd)
  rw [StableHlo.held_sub_split (c : Thread nD τ) arr0_sub (V c)]
  iintro ⟨⟨Ha, Hr⟩, Hg, Ho⟩
  isplitl [Ha]; · iexact Ha
  isplitl [Hg]; · iexact Hg
  isplitl [Hr]; · iexact Hr
  iexact Ho

/-- and leave it at `V'`, which differs from `V` on its arrays only. -/
theorem post0 (V' h) (hV : ∀ c, ∀ b ∈ Pipeline.ucRefs τ sig \ Pipeline.arrRefs spec0, V c b = V' c b) (c : Dev nD) :
    (R0 V W T hT V' h).post c ⊢ iprop(StableHlo.held (c : Thread nD τ) (Pipeline.ucRefs τ sig) (V' c) ∗ E c) := by
  change iprop(StableHlo.held (c : Thread nD τ) (Pipeline.arrRefs spec0) (V' c) ∗ (∃ r, prngReg c r)
    ∗ StableHlo.held (c : Thread nD τ) (Pipeline.ucRefs τ sig \ Pipeline.arrRefs spec0) (V c) ∗ ∃ Wd, owes (c : Thread nD τ) 0 Wd) ⊢ _
  rw [StableHlo.held_sub_split (c : Thread nD τ) arr0_sub (V' c), StableHlo.held_congr (c : Thread nD τ) (hV c)]
  iintro ⟨Ha, Hg, Hr, Ho⟩
  isplitl [Ha Hr]
  · isplitl [Ha]; · iexact Ha
    iexact Hr
  isplitl [Hg]; · iexact Hg
  iexact Ho

/-- The buffers and what rides along enter the second region, -/
theorem pre1' (W' h hW hW') (c : Dev nD) :
    iprop(StableHlo.held (c : Thread nD τ) (Pipeline.ucRefs τ sig) (W c) ∗ E c) ⊢ (R1 V W T hT W' h hW hW').pre c := by
  change _ ⊢ iprop(StableHlo.held (c : Thread nD τ) (Pipeline.arrRefs spec1) (W c) ∗ StableHlo.held (c : Thread nD τ) (Pipeline.tblRefs pre1) (W c)
    ∗ (∃ r, prngReg c r) ∗ (StableHlo.held (c : Thread nD τ) Sr (W c) ∗ BI.emp) ∗ ∃ Wd, owes (c : Thread nD τ) 0 Wd)
  rw [StableHlo.held_sub_split (c : Thread nD τ) arr1_sub (W c), StableHlo.held_sub_split (c : Thread nD τ) tbl1_sub (W c)]
  iintro ⟨⟨Ha, Ht, Hr⟩, Hg, Ho⟩
  isplitl [Ha]; · iexact Ha
  isplitl [Ht]; · iexact Ht
  isplitl [Hg]; · iexact Hg
  isplitl [Hr]
  · isplitl [Hr]; · iexact Hr
    iempintro
  iexact Ho

/-- and leave it at `W'`, which differs from `W` on its array only. -/
theorem post1 (W' h hW hW') (hV : ∀ c, ∀ b ∈ Sr, W c b = W' c b) (c : Dev nD) :
    (R1 V W T hT W' h hW hW').post c ⊢ iprop(StableHlo.held (c : Thread nD τ) (Pipeline.ucRefs τ sig) (W' c) ∗ E c) := by
  change iprop(StableHlo.held (c : Thread nD τ) (Pipeline.arrRefs spec1) (W' c) ∗ StableHlo.held (c : Thread nD τ) (Pipeline.tblRefs pre1) (W' c)
    ∗ (∃ r, prngReg c r) ∗ (StableHlo.held (c : Thread nD τ) Sr (W c) ∗ BI.emp) ∗ ∃ Wd, owes (c : Thread nD τ) 0 Wd) ⊢ _
  rw [StableHlo.held_sub_split (c : Thread nD τ) arr1_sub (W' c), StableHlo.held_sub_split (c : Thread nD τ) tbl1_sub (W' c),
    StableHlo.held_congr (c : Thread nD τ) (hV c)]
  iintro ⟨Ha, Ht, Hg, ⟨Hr, -⟩, Ho⟩
  isplitl [Ha Ht Hr]
  · isplitl [Ha]; · iexact Ha
    isplitl [Ht]; · iexact Ht
    iexact Hr
  isplitl [Hg]; · iexact Hg
  iexact Ho

end Cert.KernelIdeal.Run

end
-- ==== Proof.KernelRun.lean ====
/-
  THE WHOLE PROGRAM'S RUN: the two calls between the host operations. Every execution ends with the loss reshaped from
  the first call's result, and with the rows that the first call's indices name.
-/
module

public import proofs.«01_k».proof.Proof.Regions

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg)
open Idealize.ShloMosaic.Rounds

local notation "𝕄" => MT nD τ sig Unit (Elt Ideal) ℕ (Pipeline.UD sig nD τ) ℕ

variable (m : (ℓ : Loc nD τ sig) → Buf (Elt Ideal) ℓ) (ρ : Dev nD → PrngReg) (outs : Outs (F := Ideal))
  (T : Vec Ideal S128 .i32) (hT : ∀ j, (T j).toNat < 196)

/-- The transposed first argument and the second with its unit axis dropped, as the first call is given them. -/
abbrev visT (c : Dev nD) : Vec Ideal S196x128x768 .f32 := V1 m c main_v0
abbrev lanT (c : Dev nD) : FVec Ideal S128x768 .f32 := V1 m c main_v1

/-- The contents the regions leave are the computed ones. -/
structure Leaves : Prop where
  loss : ∀ c, outs 2 main_v2_0 c = SimCall.lossOf (SimCall.pairAt (lanT m c) (visT m c) 216)
  index : ∀ c, outs 2 main_v2_1 c = SimCall.indexOf (lanT m c) (SimCall.sums (visT m c))
  rows : ∀ c, outs 4 main_v4 c = GatherCall.gathered T hT (visT m c)
  vis : ∀ c, outs 4 main_v0 c = visT m c
  table : ∀ c, V3 m outs c main_v3 = T

variable {m outs T hT} (hl : Leaves m outs T hT)

theorem V2_vis (c : Dev nD) : V2 m outs c main_v0 = visT m c := V2_of m outs c main_v0 (by decide)
theorem V2_lan (c : Dev nD) : V2 m outs c main_v1 = lanT m c := V2_of m outs c main_v1 (by decide)
theorem V2_loss (c : Dev nD) : V2 m outs c main_v2_0 = outs 2 main_v2_0 c :=
  (Function.update_of_ne (StableHlo.devRef_ne_of_ne (by decide)) _ _).trans (Function.update_self _ _ _)
theorem V2_index (c : Dev nD) : V2 m outs c main_v2_1 = outs 2 main_v2_1 c := Function.update_self _ _ _
theorem V3_vis (c : Dev nD) : V3 m outs c main_v0 = visT m c := (V3_of m outs c main_v0 (by decide)).trans (V2_vis c)
theorem V4_rows (c : Dev nD) : V4 m outs c main_v4 = outs 4 main_v4 c :=
  (Function.update_of_ne (StableHlo.devRef_ne_of_ne (by decide)) _ _).trans (Function.update_self _ _ _)
theorem V4_vis (c : Dev nD) : V4 m outs c main_v0 = outs 4 main_v0 c := Function.update_self _ _ _
theorem V4_table (c : Dev nD) : V4 m outs c main_v3 = V3 m outs c main_v3 := V4_of m outs c main_v3 (by decide)

include hl in
theorem left0 (c : Dev nD) (w : Fin 4) :
    (SimCall.dat (V1 m c) c).arrAt w cfg0.N = V2 m outs c (Proc.devRef .tc (Pipeline.arrRef spec0 w)) :=
  match w with
  | 0 => (SimCall.final_0 (V1 m c) c).trans (V2_lan c).symm
  | 1 => (SimCall.final_1 (V1 m c) c).trans (V2_vis c).symm
  | 2 => (SimCall.final_2 (V1 m c) c).trans ((hl.loss c).symm.trans (V2_loss c).symm)
  | 3 => (SimCall.final_3 (V1 m c) c).trans ((hl.index c).symm.trans (V2_index c).symm)

include hl in
theorem left1 (c : Dev nD) (w : Fin 1) :
    (GatherCall.dat (V3 m outs c) (table T) hT c).arrAt w (cfg1 (table T)).N = V4 m outs c (Proc.devRef .tc (Pipeline.arrRef spec1 w)) :=
  match w with
  | 0 => (GatherCall.final_0 (V3 m outs c) (table T) hT c).trans
      ((congrArg (GatherCall.gathered T hT) (V3_vis c)).trans ((hl.rows c).symm.trans (V4_rows c).symm))

include hl in
theorem table3 (c : Dev nD) (k : Fin 1) : (table T).1 k = V3 m outs c (Proc.devRef .tc (pre1.ref k)) :=
  match k with | 0 => (hl.table c).symm

include hl in
theorem table4 (c : Dev nD) (k : Fin 1) : (table T).1 k = V4 m outs c (Proc.devRef .tc (pre1.ref k)) :=
  match k with | 0 => (hl.table c).symm.trans (V4_table c).symm

theorem same0 (c : Dev nD) : ∀ b ∈ Pipeline.ucRefs τ sig \ Pipeline.arrRefs spec0, V1 m c b = V2 m outs c b := by
  intro b hb
  have h0 : b ≠ Proc.devRef .tc main_v2_0 := fun e => (Finset.mem_sdiff.mp hb).2 (e ▸ (by decide))
  have h1 : b ≠ Proc.devRef .tc main_v2_1 := fun e => (Finset.mem_sdiff.mp hb).2 (e ▸ (by decide))
  exact ((Function.update_of_ne h1 _ _).trans (Function.update_of_ne h0 _ _)).symm

include hl in
theorem same1 (c : Dev nD) : ∀ b ∈ Sr, V3 m outs c b = V4 m outs c b := by
  intro b hb
  have h0 : b ≠ Proc.devRef .tc main_v4 := fun e => (Finset.mem_sdiff.mp (Finset.mem_sdiff.mp hb).1).2 (e ▸ (by decide))
  by_cases h1 : b = Proc.devRef .tc main_v0
  · subst h1
    exact ((V3_vis c).trans (hl.vis c).symm).trans (V4_vis c).symm
  · exact ((Function.update_of_ne h1 _ _).trans (Function.update_of_ne h0 _ _)).symm

variable (m outs T hT)

/-- The launch's ghost state: the regions' counters and nothing of the program's own. -/
def u₀ : Pipeline.UD sig nD τ :=
  (initOf (Pipeline.cells (Pipeline.pin (pcfgs (F := Ideal)) (a T)) (cellOf_inj (a T)))
    (Pipeline.launchToks (Pipeline.pin (pcfgs (F := Ideal)) (a T)) (cellOf_inj (a T))), 1)

set_option backward.isDefEq.respectTransparency.types false in
/-- Given the two regions' records, entered and left at the valuations in between: every execution of the whole program
    ends, with the results at the last valuation, the arguments unchanged and every counter at zero. -/
theorem ends_of
    (pd : (p : Fin 2) → (c : Dev nD) → Dat τ (Elt Ideal) Unit ℕ (Pipeline.UD sig nD τ) ℕ (Pipeline.pin (pcfgs (F := Ideal)) (a T) p) c)
    (S0 : Pipeline.RegionSeg (pcfgs (F := Ideal)) (a T) pd () defs₀ Variants.none L lv 0)
    (hpre0 : ∀ c : Dev nD, iprop(StableHlo.held (c : Thread nD τ) (Pipeline.ucRefs τ sig) (V1 m c) ∗ E c) ⊢ S0.pre c)
    (hpost0 : ∀ c : Dev nD, S0.post c ⊢ iprop(StableHlo.held (c : Thread nD τ) (Pipeline.ucRefs τ sig) (V2 m outs c) ∗ E c))
    (S1 : Pipeline.RegionSeg (pcfgs (F := Ideal)) (a T) pd () defs₀ Variants.none L lv 1)
    (hpre1 : ∀ c : Dev nD, iprop(StableHlo.held (c : Thread nD τ) (Pipeline.ucRefs τ sig) (V3 m outs c) ∗ E c) ⊢ S1.pre c)
    (hpost1 : ∀ c : Dev nD, S1.post c ⊢ iprop(StableHlo.held (c : Thread nD τ) (Pipeline.ucRefs τ sig) (V4 m outs c) ∗ E c)) :
    θ_run defs (onTc (τ := τ) (main (F := Ideal))) ⟨m, fun _ => 0, ρ⟩ (fun r => (∀ c : Dev nD,
      r.2.mem ((c.tc : Thread nD τ).loc main_v5) = V5 m outs c main_v5
      ∧ r.2.mem ((c.tc : Thread nD τ).loc main_v4) = V5 m outs c main_v4
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine Pipeline.θ_run_regions_kit_dev_sems (pcfgs (F := Ideal)) (a T) pd () (cellOf_inj (a T)) embL
    defs₀ Variants.none L lv m ρ main
    (segs m outs Variants.none L lv (fun _ => E) () (a T) pd S0 S1)
    (fun c Q => by
      rewrite [main_chain c, Pipeline.Seg.run_eq_chain,
        show (segs m outs Variants.none L lv (fun _ => E) () (a T) pd S0 S1 c).map Pipeline.Seg.prog = [
            StableHlo.seq hostOps0, Prog.lift (.customCall (Pipeline.entry 0) ()), StableHlo.seq hostOps1,
            Prog.lift (.customCall (Pipeline.entry 1) ()), StableHlo.seq hostOps2 ] from rfl]
      dsimp (config := { failIfUnchanged := false }) only
      exact .rfl)
    (fun c => by simp only [segs, Pipeline.Seg.pipes_host, Pipeline.Seg.pipes_region, Pipeline.Seg.pipes_nil]; decide)
    0 (fun g hg => if_neg hg) (fun _ => iprop(emp)) (u₀ T) ?_
    (T₀ := fun c => iprop(StableHlo.held (c : Thread nD τ) (Pipeline.ucRefs τ sig) (V0 m c) ∗ E c))
    (Tₙ := fun c => StableHlo.held (c : Thread nD τ) (Pipeline.ucRefs τ sig) (V5 m outs c))
    (hch := fun c => ⟨.rfl, hpre0 c, hpost0 c, hpre1 c, hpost1 c, sep_mono .rfl (by iintro ⟨-, H⟩; iexact H)⟩)
    (hinit := ?_)
    (QY := fun c s => s.mem ((c.tc : Thread nD τ).loc main_v5) = V5 m outs c main_v5
      ∧ s.mem ((c.tc : Thread nD τ).loc main_v4) = V5 m outs c main_v4
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => ?_) (hQ := fun _ h hz => ⟨h, funext fun g => hz g (.inr (regions_no_unscoped g.2))⟩)
  · unfold u₀
    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hg, -⟩, -⟩
    imodintro
    isplitl [Hh]; · iexact Hh
    isplitl [Hg]; · iexists _; iexact Hg
    iexists ∅; iexact HO
  · unfold StableHlo.held
    iintro ⟨Hh, HSI⟩
    ihave Hr := (pointsTo_read_all (Pipeline.ucRefs τ sig) (fun b => ((c : Thread nD τ).1, b)) (V5 m outs c) s') $$ [Hh HSI]
    · isplitl [Hh] <;> iassumption
    icases Hr with ⟨%h, HSI⟩
    imodintro
    isplitr
    · ipureintro
      have hr : ∀ r : Ref sig .tc, (Proc.devRef (τ := τ) .tc r).isScoped = false → s'.mem.mem ((c.tc : Thread nD τ).loc r) = V5 m outs c r :=
        fun r hr => h (Proc.devRef .tc r) (Finset.mem_filter.mpr ⟨StableHlo.devRef_mem_tcRefs r, by simp [hr]⟩)
      exact ⟨hr main_v5 (by decide), hr main_v4 (by decide), (hr main_arg0 (by decide)).trans (V5_main_arg0 m outs c),
        (hr main_arg1 (by decide)).trans (V5_main_arg1 m outs c)⟩
    · iexact HSI

include hl in
/-- Every execution of the whole program ends, with the results at the last valuation, the arguments unchanged and every
    counter at zero. -/
theorem ends : θ_run defs (onTc (τ := τ) (main (F := Ideal))) ⟨m, fun _ => 0, ρ⟩ (fun r => (∀ c : Dev nD,
      r.2.mem ((c.tc : Thread nD τ).loc main_v5) = V5 m outs c main_v5
      ∧ r.2.mem ((c.tc : Thread nD τ).loc main_v4) = V5 m outs c main_v4
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  ends_of m ρ outs T (pdats (V1 m) (V3 m outs) T hT)
    (R0 (V1 m) (V3 m outs) T hT (V2 m outs) (left0 hl))
    (pre0 (V1 m) (V3 m outs) T hT (V2 m outs) (left0 hl))
    (post0 (V1 m) (V3 m outs) T hT (V2 m outs) (left0 hl) same0)
    (R1 (V1 m) (V3 m outs) T hT (V4 m outs) (left1 hl) (table3 hl) (table4 hl))
    (pre1' (V1 m) (V3 m outs) T hT (V4 m outs) (left1 hl) (table3 hl) (table4 hl))
    (post1 (V1 m) (V3 m outs) T hT (V4 m outs) (left1 hl) (table3 hl) (table4 hl) (same1 hl))

end Cert.KernelIdeal.Run

end
-- ==== Proof.Ranking.lean ====
/-
  RANKING A FINITE FAMILY of extended reals: the first place of its greatest value, found by a minimum over places and by
  a stable sort; and its two greatest values, found by a pass that carries both and by a sort.
-/
module

public import Idealize.ShloMosaic.Lib.SortFacts
public import Idealize.ShloMosaic.Lib.PlanTiles.Rows

@[expose] public section

noncomputable section

namespace Cert.Ranking

open Idealize.ShloMosaic

/-! ## The first place of the greatest value -/

/-- `i` is the first place of the greatest value of `f`. -/
def IsFirstMax {n : ℕ} (f : Fin n → EReal) (i : Fin n) : Prop := (∀ r, f r ≤ f i) ∧ ∀ r, r < i → f r < f i

/-- There is only one such place. -/
theorem IsFirstMax.unique {n : ℕ} {f : Fin n → EReal} {i j : Fin n} (hi : IsFirstMax f i) (hj : IsFirstMax f j) : i = j := by
  rcases lt_trichotomy i j with h | h | h
  · exact absurd (hj.2 i h) (not_lt.mpr (hi.1 j))
  · exact h
  · exact absurd (hi.2 j h) (not_lt.mpr (hj.1 i))

/-- A fold of the signed minimum over words of small numbers is the word of their minimum. -/
theorem fold_minsi {ι : Type} (s : Finset ι) (b : ℕ) (hb : b < 2 ^ 31) (w : ι → ℕ) (hw : ∀ r, w r < 2 ^ 31) :
    s.fold (IKind.minsi.op) (BitVec.ofNat 32 b) (fun r => BitVec.ofNat 32 (w r)) = BitVec.ofNat 32 (s.fold min b w)
      ∧ s.fold min b w < 2 ^ 31 := by
  classical
  induction s using Finset.induction_on with
  | empty => exact ⟨rfl, hb⟩
  | insert a s ha ih =>
    rw [Finset.fold_insert ha, Finset.fold_insert ha, ih.1]
    refine ⟨?_, lt_of_le_of_lt (min_le_left _ _) (hw a)⟩
    exact (Idealize.ShloMosaic.PlanTiles.minsi_word (hw a) ih.2).trans (by rw [min_comm])

/-- The least place among those of the greatest value is the first, when the places past `k` hold minus infinity and
    stand for `k` wherever the greatest value is not. -/
theorem fold_min_places {n k : ℕ} (hk : 0 < k) (hkn : k ≤ n) (b : ℕ) (hb : k ≤ b) (g : Fin n → EReal)
    (hg : ∀ r : Fin n, k ≤ r.val → g r = ⊥) :
    ∃ i : Fin k, (Finset.univ : Finset (Fin n)).fold min b (fun r => if g r = Finset.univ.fold max ⊥ g then r.val else k) = i.val
      ∧ IsFirstMax (fun r : Fin k => g (r.castLE hkn)) i := by
  classical
  set M := Finset.univ.fold max ⊥ g with hM
  have hle : ∀ r, g r ≤ M := fun r => (Finset.fold_max_le M).mp le_rfl |>.2 r (Finset.mem_univ _)
  have h0 : M = ⊥ → ∃ r : ℕ, ∃ h : r < k, g ⟨r, lt_of_lt_of_le h hkn⟩ = M := fun h => ⟨0, hk, le_antisymm (hle _) (h ▸ bot_le)⟩
  have hex : ∃ r : ℕ, ∃ h : r < k, g ⟨r, lt_of_lt_of_le h hkn⟩ = M := by
    rcases (Finset.le_fold_max M).mp (le_refl M) with h | ⟨x, -, h⟩
    · exact h0 (le_bot_iff.mp h)
    · by_cases hx : x.val < k
      · exact ⟨x.val, hx, le_antisymm (hle _) h⟩
      · exact h0 (le_bot_iff.mp (h.trans (hg x (not_lt.mp hx)).le))
  obtain ⟨hi, hgi⟩ := Nat.find_spec hex
  have hmin : ∀ r : ℕ, r < Nat.find hex → ∀ h : r < k, g ⟨r, lt_of_lt_of_le h hkn⟩ ≠ M := fun r hr h e => Nat.find_min hex hr ⟨h, e⟩
  refine ⟨⟨Nat.find hex, hi⟩, le_antisymm ?_ ?_, fun r => ?_, fun r hr => ?_⟩
  · refine (Finset.fold_min_le _).mpr (Or.inr ⟨⟨Nat.find hex, lt_of_lt_of_le hi hkn⟩, Finset.mem_univ _, ?_⟩)
    rw [if_pos hgi]
  · refine (Finset.le_fold_min _).mpr ⟨hi.le.trans hb, fun r _ => ?_⟩
    split
    · rename_i hr
      by_contra hlt
      exact hmin r.val (not_le.mp hlt) ((not_le.mp hlt).trans hi) hr
    · exact hi.le
  · exact (hle _).trans hgi.symm.le
  · exact lt_of_le_of_ne ((hle _).trans hgi.symm.le) fun e => hmin r.val hr r.isLt (e.trans hgi)

/-- The order a descending sort of `f` compares by. -/
abbrev gtB {n : ℕ} (f : Fin n → EReal) : Fin n → Fin n → Bool := fun k k' => decide (f k' < f k)

/-- A stable descending sort of an increasing list of places puts the first place of the greatest value first. -/
theorem head_stableSort {n : ℕ} (f : Fin n → EReal) : ∀ l : List (Fin n), l.Pairwise (· < ·) → l ≠ [] →
    ∃ b t, stableSort (gtB f) l = b :: t ∧ b ∈ l ∧ (∀ x ∈ l, f x ≤ f b) ∧ ∀ x ∈ l, x < b → f x < f b
  | [], _, h => absurd rfl h
  | [a], _, _ => ⟨a, [], rfl, List.mem_singleton_self a, fun x hx => by rw [List.mem_singleton.mp hx],
      fun x hx h => absurd h (by rw [List.mem_singleton.mp hx]; exact lt_irrefl a)⟩
  | a :: c :: l, hl, _ => by
    obtain ⟨b, t, e, hb, hmax, hfirst⟩ := head_stableSort f (c :: l) (List.pairwise_cons.mp hl).2 (List.cons_ne_nil _ _)
    have hlt := (List.pairwise_cons.mp hl).1
    have e' : stableSort (gtB f) (a :: c :: l) = if gtB f b a then b :: insertBefore (gtB f) a t else a :: b :: t := by
      show insertBefore (gtB f) a (stableSort (gtB f) (c :: l)) = _
      rw [e]; rfl
    by_cases h : f a < f b
    · refine ⟨b, _, e'.trans (if_pos (decide_eq_true h)), List.mem_cons_of_mem a hb, fun x hx => ?_, fun x hx hxb => ?_⟩
      · rcases List.mem_cons.mp hx with rfl | hx
        · exact h.le
        · exact hmax x hx
      · rcases List.mem_cons.mp hx with rfl | hx
        · exact h
        · exact hfirst x hx hxb
    · refine ⟨a, _, e'.trans (if_neg (by simpa [gtB] using h)), List.mem_cons_self, fun x hx => ?_, fun x hx hxa => ?_⟩
      · rcases List.mem_cons.mp hx with rfl | hx
        · exact le_rfl
        · exact (hmax x hx).trans (not_lt.mp h)
      · rcases List.mem_cons.mp hx with rfl | hx
        · exact absurd hxa (lt_irrefl _)
        · exact absurd hxa (not_lt.mpr (hlt x hx).le)

/-- The first place of a stable descending sort is the first place of the greatest value. -/
theorem sortedFrom_first {n : ℕ} (f : Fin n → EReal) (z : Fin n) (hz : z.val = 0) : IsFirstMax f (sortedFrom (gtB f) z) := by
  obtain ⟨b, t, e, -, hmax, hfirst⟩ := head_stableSort f (List.finRange n) (List.pairwise_lt_finRange n)
    (List.ne_nil_of_mem (List.mem_finRange z))
  have hs : sortedFrom (gtB f) z = b := by
    unfold sortedFrom
    have e2 : sortPositions n (gtB f) = b :: t := e
    rw [List.get_of_eq e2]
    show (b :: t).get ⟨z.val, _⟩ = b
    simp [hz]
  rw [hs]
  exact ⟨fun r => hmax r (List.mem_finRange r), fun r hr => hfirst r (List.mem_finRange r) hr⟩

/-! ## The two greatest values -/

/-- The two greatest of the first `n` values, carried along: the greatest, and the second greatest. -/
def pass (f : ℕ → EReal) : ℕ → EReal × EReal
  | 0 => (⊥, ⊥)
  | n + 1 => (max (pass f n).1 (f n), max (pass f n).2 (min (pass f n).1 (f n)))

theorem le_pass_fst (f : ℕ → EReal) (x : EReal) : ∀ n, x ≤ (pass f n).1 ↔ x = ⊥ ∨ ∃ i < n, x ≤ f i
  | 0 => by simp [pass]
  | n + 1 => by
    show x ≤ max (pass f n).1 (f n) ↔ _
    rw [le_max_iff, le_pass_fst f x n]
    constructor
    · rintro ((h | ⟨i, hi, h⟩) | h)
      · exact Or.inl h
      · exact Or.inr ⟨i, Nat.lt_succ_of_lt hi, h⟩
      · exact Or.inr ⟨n, Nat.lt_succ_self n, h⟩
    · rintro (h | ⟨i, hi, h⟩)
      · exact Or.inl (Or.inl h)
      · rcases Nat.lt_succ_iff_lt_or_eq.mp hi with hi | rfl
        · exact Or.inl (Or.inr ⟨i, hi, h⟩)
        · exact Or.inr h

theorem le_pass_snd (f : ℕ → EReal) (x : EReal) : ∀ n, x ≤ (pass f n).2 ↔ x = ⊥ ∨ ∃ j < n, ∃ i < j, x ≤ f i ∧ x ≤ f j
  | 0 => by simp [pass]
  | n + 1 => by
    show x ≤ max (pass f n).2 (min (pass f n).1 (f n)) ↔ _
    rw [le_max_iff, le_pass_snd f x n, le_min_iff, le_pass_fst f x n]
    constructor
    · rintro ((h | ⟨j, hj, h⟩) | ⟨h | ⟨i, hi, h⟩, h'⟩)
      · exact Or.inl h
      · exact Or.inr ⟨j, Nat.lt_succ_of_lt hj, h⟩
      · exact Or.inl h
      · exact Or.inr ⟨n, Nat.lt_succ_self n, i, hi, h, h'⟩
    · rintro (h | ⟨j, hj, i, hi, h, h'⟩)
      · exact Or.inl (Or.inl h)
      · rcases Nat.lt_succ_iff_lt_or_eq.mp hj with hj | rfl
        · exact Or.inl (Or.inr ⟨j, hj, i, hi, h, h'⟩)
        · exact Or.inr ⟨Or.inr ⟨i, hi, h⟩, h'⟩

/-- A descending sort leaves no greater value behind a smaller one. -/
theorem sortedFrom_antitone {n : ℕ} (f : Fin n → EReal) {i j : Fin n} (hij : i ≤ j) :
    f (sortedFrom (gtB f) j) ≤ f (sortedFrom (gtB f) i) := by
  rcases hij.lt_or_eq with h | rfl
  · have := sortedFrom_noInversion (gtB f) (gtB f)
      (fun a b h => by simp only [decide_eq_true_eq, decide_eq_false_iff_not, gtB] at h ⊢; exact not_lt.mpr h.le) (fun _ _ h => h)
      (fun a b c h h' => by simp only [decide_eq_false_iff_not, not_lt, gtB] at h h' ⊢; exact h.trans h') i j h
    simpa [gtB] using this
  · exact le_rfl

variable {n : ℕ} (f : Fin n → EReal) (g : ℕ → EReal) (N : ℕ) (hN : n ≤ N) (hg : ∀ r : Fin n, g r.val = f r)
  (hb : ∀ r, n ≤ r → g r = ⊥)

include hN hg hb in
/-- The pass and the sort agree on the greatest value, -/
theorem pass_fst_eq (z : Fin n) (hz : z.val = 0) : (pass g N).1 = f (sortedFrom (gtB f) z) := by
  refine eq_of_forall_le_iff fun x => ?_
  rw [le_pass_fst]
  constructor
  · rintro (rfl | ⟨i, -, h⟩)
    · exact bot_le
    · by_cases hi : i < n
      · obtain ⟨k, hk⟩ := sortedFrom_surjective (gtB f) ⟨i, hi⟩
        refine (h.trans (hg ⟨i, hi⟩).le).trans ?_
        rw [← hk]
        exact sortedFrom_antitone f (by rw [Fin.le_def, hz]; exact Nat.zero_le _)
      · rw [hb i (not_lt.mp hi)] at h
        exact h.trans bot_le
  · intro h
    exact Or.inr ⟨(sortedFrom (gtB f) z).val, lt_of_lt_of_le (sortedFrom (gtB f) z).isLt hN, h.trans (hg _).ge⟩

include hN hg hb in
/-- and on the second greatest. -/
theorem pass_snd_eq (z o : Fin n) (hz : z.val = 0) (ho : o.val = 1) : (pass g N).2 = f (sortedFrom (gtB f) o) := by
  refine eq_of_forall_le_iff fun x => ?_
  rw [le_pass_snd]
  constructor
  · rintro (rfl | ⟨j, -, i, hij, h, h'⟩)
    · exact bot_le
    · by_cases hj : j < n
      · have hi := hij.trans hj
        obtain ⟨k, hk⟩ := sortedFrom_surjective (gtB f) ⟨i, hi⟩
        obtain ⟨l, hl⟩ := sortedFrom_surjective (gtB f) ⟨j, hj⟩
        have hkl : k ≠ l := fun e => by
          rw [e, hl] at hk
          exact hij.ne (Fin.mk.inj hk).symm
        have key : ∀ (q : Fin n) (y : Fin n), sortedFrom (gtB f) q = y → 1 ≤ q.val → x ≤ f y → x ≤ f (sortedFrom (gtB f) o) :=
          fun q y e hq h => h.trans (e ▸ sortedFrom_antitone f (by rw [Fin.le_def, ho]; exact hq))
        by_cases h1 : 1 ≤ k.val
        · exact key k _ hk h1 (h.trans (hg ⟨i, hi⟩).le)
        · refine key l _ hl ?_ (h'.trans (hg ⟨j, hj⟩).le)
          by_contra h2
          exact hkl (Fin.ext (by omega))
      · rw [hb j (not_lt.mp hj)] at h'
        exact h'.trans bot_le
  · intro h
    have hzo : sortedFrom (gtB f) z ≠ sortedFrom (gtB f) o := fun e => by
      have := congrArg Fin.val (sortedFrom_injective _ e)
      omega
    have hz' : x ≤ f (sortedFrom (gtB f) z) := h.trans (sortedFrom_antitone f (by rw [Fin.le_def, hz]; exact Nat.zero_le _))
    rcases lt_or_gt_of_ne (fun e : (sortedFrom (gtB f) z).val = (sortedFrom (gtB f) o).val => hzo (Fin.ext e)) with hlt | hlt
    · exact Or.inr ⟨_, lt_of_lt_of_le (sortedFrom (gtB f) o).isLt hN, _, hlt, hz'.trans (hg _).ge, h.trans (hg _).ge⟩
    · exact Or.inr ⟨_, lt_of_lt_of_le (sortedFrom (gtB f) z).isLt hN, _, hlt, h.trans (hg _).ge, hz'.trans (hg _).ge⟩

end Cert.Ranking

end
-- ==== Proof.IndexValue.lean ====
/-
  THE FIRST CALL'S INDICES over the extended reals: each is the first place of the greatest of the products of a text row
  with the batch sums of the image rows, a number below 196.
-/
module

public import proofs.«01_k».proof.Proof.SimState
public import proofs.«01_k».proof.Proof.Ranking
public import Idealize.ShloMosaic.Lib.ValueLayout
public import Idealize.ShloMosaic.Lib.ValueLayoutCasts

@[expose] public section

set_option maxRecDepth 16384

noncomputable section

namespace Cert.KernelIdeal.SimCall

open Cert.KernelIdeal Cert.KernelIdeal.Gen
open Idealize.ShloMosaic Idealize.ShloMosaic.ValueIdx
open Cert.Ranking

/-- Minus infinity is the least extended real. -/
theorem negInf : (Scalar.ofBits .f32 0xFF800000#32 : Ideal .f32) = (⊥ : EReal) := by
  show Ideal.ofBits .f32 0xFF800000#32 = ⊥
  simp [Ideal.ofBits, Ideal.ieee]

/-- The products of text row `b` with the batch sums of the image rows. -/
def score (X : FVec Ideal S128x768 .f32) (Y : Vec Ideal S196x128x768 .f32) (b : Fin 128) (r : Fin 196) : EReal :=
  ∑ d : Fin 768, batchSum Y r.val r.isLt d * X (ix2 b d)

/-- The masked products, as the call compares them. -/
abbrev maskedScores (X : FVec Ideal S128x768 .f32) (v : Vec Ideal S216x768 .f32) : FVec Ideal S216x128 .f32 :=
  select (cmpi .slt (iota .tc S216x128 32 [0] iota_S216x128_d0_w32) (broadcast S216x128 196#32))
    (matmul dot_S216x768_S128x768_S216x128_1_1_0_0_n_n none (φ₁ := .f32) (φ₂ := .f32) v X (constant S216x128 .f32 0x00000000#32))
    (broadcast S216x128 (Scalar.ofBits .f32 0xFF800000#32 : Ideal .f32))

theorem slt_196 : ∀ r : Fin 216, IntOp.cmpi .slt (BitVec.ofNat 32 r.val) 196#32 = if r.val < 196 then 1#1 else 0#1 := by
  decide +kernel

theorem iota_0 (r : Fin 216) (b : Fin 128) : iota .tc S216x128 32 [0] iota_S216x128_d0_w32 (ix2 r b) = BitVec.ofNat 32 r.val := by
  show BitVec.ofNat 32 (0 * 216 + r.val) = _
  rw [Nat.zero_mul, Nat.zero_add]

/-- The products of the rows of `v` with the rows of `X`. -/
theorem products_apply (X : FVec Ideal S128x768 .f32) (v : Vec Ideal S216x768 .f32) (r : Fin 216) (b : Fin 128) :
    (matmul dot_S216x768_S128x768_S216x128_1_1_0_0_n_n none (φ₁ := .f32) (φ₂ := .f32) v X (constant S216x128 .f32 0x00000000#32) (ix2 r b) : EReal)
      = ∑ d : Fin 768, v (ix2 r d) * X (ix2 b d) :=
  (Ideal.matmul_transposedRhs_apply (M := 216) (K := 768) (N := 128) (φ₁ := .f32) (φ₂ := .f32) none v X
    (constant S216x128 .f32 0x00000000#32) r b).trans (by
      have h0 : (constant S216x128 .f32 0x00000000#32 (ix2 r b) : Ideal .f32) = (0 : EReal) := by
        show Ideal.ofBits .f32 0x00000000#32 = 0
        simp [Ideal.ofBits, Ideal.ieee]
      rw [h0]
      exact zero_add _)

theorem maskedScores_apply (X : FVec Ideal S128x768 .f32) (Y : Vec Ideal S196x128x768 .f32) (r : Fin 216) (b : Fin 128) :
    maskedScores X (sums Y) (ix2 r b) = if h : r.val < 196 then score X Y b ⟨r.val, h⟩ else (⊥ : EReal) := by
  have hc : cmpi .slt (iota .tc S216x128 32 [0] iota_S216x128_d0_w32) (broadcast S216x128 196#32) (ix2 r b)
      = if r.val < 196 then 1#1 else 0#1 := by
    refine Eq.trans ?_ (slt_196 r)
    show IntOp.cmpi .slt (iota .tc S216x128 32 [0] iota_S216x128_d0_w32 (ix2 r b)) 196#32 = _
    rw [iota_0]
  rw [maskedScores, select_apply, hc]
  by_cases h : r.val < 196
  · rw [if_pos h, dif_pos h]
    refine (select_one _ _).trans ((products_apply _ _ r b).trans (Finset.sum_congr rfl fun d _ => ?_))
    refine congrArg (fun z : EReal => z * X (ix2 b d)) ?_
    show (if h : r.val < 196 then batchSum Y r.val h d else (0 : EReal)) = _
    rw [dif_pos h]
  · rw [if_neg h, dif_neg h]
    exact (select_zero _ _).trans negInf

/-- Where the two arrays agree stands the row's number, elsewhere 196. -/
theorem place_apply (M B : FVec Ideal S216x128 .f32) (r : Fin 216) (b : Fin 128) :
    select (cmpf .oeq M B) (iota .tc S216x128 32 [0] iota_S216x128_d0_w32) (broadcast S216x128 196#32) (ix2 r b)
      = BitVec.ofNat 32 (if (M (ix2 r b) : EReal) = B (ix2 r b) then r.val else 196) := by
  have h : cmpf .oeq M B (ix2 r b) = BitVec.ofBool (decide ((M (ix2 r b) : EReal) = B (ix2 r b))) := rfl
  refine (select_apply _ _ _ _).trans ?_
  rw [h, iota_0]
  by_cases e : (M (ix2 r b) : EReal) = B (ix2 r b)
  · rw [decide_eq_true e, if_pos e]; exact select_one _ _
  · rw [decide_eq_false e, if_neg e]; exact select_zero _ _

/-- The index of text row `b` is the first place of its greatest score. -/
theorem indexOf_spec (X : FVec Ideal S128x768 .f32) (Y : Vec Ideal S196x128x768 .f32) (b : Fin 128) :
    ∃ i : Fin 196, indexOf X (sums Y) (ix2 (0 : Fin 1) b) = BitVec.ofNat 32 i.val ∧ IsFirstMax (score X Y b) i := by
  obtain ⟨i, hi, hf⟩ := fold_min_places (n := 216) (k := 196) (by decide) (by decide) (2 ^ 31 - 1) (by decide)
    (fun r => maskedScores X (sums Y) (ix2 r b)) (fun r hr => by
      show maskedScores X (sums Y) (ix2 r b) = _
      rw [maskedScores_apply, dif_neg (not_lt.mpr hr)])
  refine ⟨i, ?_, ?_⟩
  · rw [← hi, ← (fold_minsi Finset.univ (2 ^ 31 - 1) (by decide) _ (fun r => by have := r.isLt; split <;> omega)).1]
    unfold indexOf k0_pay5
    dsimp only
    refine (shapeCast_a_1a_apply _ _ _ _).trans ?_
    refine (multiReductionI_eq_fold _ _ _ _ _ _).trans ?_
    refine (Shape.Reduces.fold_filter_drop_single _ _ _ _ _).trans ?_
    refine Finset.fold_congr fun r _ => ?_
    have hl : (reduces_S216x128_S128 : Shape.Reduces S216x128 [0] S128).lift (ValueIdx.ix1 b) r = ix2 r b := by
      funext a; refine Fin.ext ?_; fin_cases a <;> rfl
    refine (congrArg _ hl).trans ?_
    have hM : broadcastTo S216x128 (shapeCast S1x128 (multiReduction (F := Ideal) (φ := .f32) .maximumf [0] S128 (maskedScores X (sums Y)) 0xFF800000#32 reduces_S216x128_S128 (.inl rfl) rfl)
          shapeCasts_S128_S1x128) broadcasts_S1x128_S216x128 (ix2 r b)
        = Finset.univ.fold max ⊥ (fun r => maskedScores X (sums Y) (ix2 r b)) := by
      refine (broadcastTo_1b_ab_apply _ _ _ _).trans ((shapeCast_a_1a_apply _ _ _ _).trans ((Ideal.multiReduction_maximumf_single _ _ _ _ _ _).trans ?_))
      rw [negInf]
      refine Finset.fold_congr fun k _ => congrArg (maskedScores X (sums Y)) ?_
      funext a; refine Fin.ext ?_; fin_cases a <;> rfl
    refine (place_apply (maskedScores X (sums Y)) _ r b).trans ?_
    exact congrArg (fun z : EReal => BitVec.ofNat 32 (if (maskedScores X (sums Y) (ix2 r b) : EReal) = z then r.val else 196)) hM
  · have e : (fun r : Fin 196 => maskedScores X (sums Y) (ix2 (r.castLE (by decide : 196 ≤ 216)) b)) = score X Y b := by
      funext r
      rw [maskedScores_apply]
      exact dif_pos r.isLt
    rw [← e]; exact hf

end Cert.KernelIdeal.SimCall

end
-- ==== Proof.KernelResult.lean ====
/-
  WHAT THE WHOLE PROGRAM LEAVES: the contents after the two calls written out, and the run ending with the loss and with
  the rows that the indices name.
-/
module

public import proofs.«01_k».proof.Proof.KernelRun
public import proofs.«01_k».proof.Proof.IndexValue

@[expose] public section

set_option maxRecDepth 16384

noncomputable section

namespace Cert.KernelIdeal.Run

open Cert.KernelIdeal Cert.KernelIdeal.Gen Cert.Ranking
open Idealize.ShloMosaic Idealize.ShloMosaic.TcCoe
open Idealize.SL.Sem

variable (m : (ℓ : Loc nD τ sig) → Buf (Elt Ideal) ℓ) (ρ : Dev nD → PrngReg)

/-- The loss and the indices that the first call leaves. -/
def lossT (c : Dev nD) : Vec Ideal S1x1 .f32 := SimCall.lossOf (SimCall.pairAt (lanT m c) (visT m c) 216)
def indexT (c : Dev nD) : Vec Ideal S1x128 .i32 := SimCall.indexOf (lanT m c) (SimCall.sums (visT m c))

/-- The indices as the flat table that the second call reads. -/
def flat (c : Dev nD) : Vec Ideal S128 .i32 := shapeCast S128 (indexT m c) shapeCasts_S1x128_S128

theorem flat_apply (c : Dev nD) (b : Fin 128) : flat m c (ValueIdx.ix1 b) = indexT m c (ValueIdx.ix2 (0 : Fin 1) b) :=
  ValueIdx.shapeCast_1a_a_apply _ _ _

theorem flat_lt (c : Dev nD) (j : S128.Idx) : (flat m c j).toNat < 196 := by
  obtain ⟨b, rfl⟩ : ∃ b : Fin 128, j = ValueIdx.ix1 b := ⟨j 0, ValueIdx.eq_ix1 j⟩
  obtain ⟨i, hi, -⟩ := SimCall.indexOf_spec (lanT m c) (visT m c) b
  rw [flat_apply, indexT, hi, BitVec.toNat_ofNat]
  have := i.isLt
  omega

/-- The rows that the second call leaves. -/
def rowsT (c : Dev nD) : Vec Ideal S128x1x768 .f32 := GatherCall.gathered (flat m c) (flat_lt m c) (visT m c)

/-- What the two calls leave, by call and buffer. -/
def left : Outs (F := Ideal) := fun n r c =>
  (if n = 2 then Function.update (Function.update (V1 m c) main_v2_0 (lossT m c)) main_v2_1 (indexT m c)
    else Function.update (V1 m c) main_v4 (rowsT m c) : Valuation τ sig (Elt Ideal)) r

theorem left_loss (c : Dev nD) : left m 2 main_v2_0 c = lossT m c := by
  unfold left
  rw [if_pos rfl, Function.update_of_ne (StableHlo.devRef_ne_of_ne (by decide)), Function.update_self]
theorem left_index (c : Dev nD) : left m 2 main_v2_1 c = indexT m c := by
  unfold left
  rw [if_pos rfl, Function.update_self]
theorem left_rows (c : Dev nD) : left m 4 main_v4 c = rowsT m c := by
  unfold left
  rw [if_neg (by decide), Function.update_self]
theorem left_vis (c : Dev nD) : left m 4 main_v0 c = visT m c := by
  unfold left
  rw [if_neg (by decide), Function.update_of_ne (StableHlo.devRef_ne_of_ne (by decide))]

theorem V3_table (outs : Outs (F := Ideal)) (c : Dev nD) :
    V3 m outs c main_v3 = shapeCast S128 (V2 m outs c main_v2_1 : Vec Ideal S1x128 .i32) shapeCasts_S1x128_S128 := by
  unfold V3 hostOps1
  generalize V2 m outs c = V
  after_results_simp <;> rfl

theorem V5_loss (outs : Outs (F := Ideal)) (c : Dev nD) :
    V5 m outs c main_v5 = shapeCast S_ (V4 m outs c main_v2_0 : Vec Ideal S1x1 .f32) shapeCasts_S1x1_S_ := by
  unfold V5 hostOps2
  generalize V4 m outs c = V
  after_results_simp <;> rfl

theorem left_table (c : Dev nD) : V3 m (left m) c main_v3 = flat m c :=
  (V3_table m (left m) c).trans
    (congrArg (fun z => shapeCast S128 z shapeCasts_S1x128_S128) ((V2_index c).trans (left_index m c)))

/-- All cores being one, a table is every core's. -/
theorem leaves (c : Dev nD) : Leaves m (left m) (flat m c) (flat_lt m c) where
  loss c' := left_loss m c'
  index c' := left_index m c'
  rows c' := by rw [Subsingleton.elim c' c]; exact left_rows m c
  vis c' := left_vis m c'
  table c' := by rw [Subsingleton.elim c' c]; exact left_table m c

/-- The loss without its unit axes. -/
def resLoss (c : Dev nD) : Vec Ideal S_ .f32 := shapeCast S_ (lossT m c) shapeCasts_S1x1_S_

theorem last_loss (c : Dev nD) : V5 m (left m) c main_v5 = resLoss m c := by
  refine (V5_loss m (left m) c).trans (congrArg (fun z => shapeCast S_ z shapeCasts_S1x1_S_) ?_)
  exact (V4_of m (left m) c main_v2_0 (by decide)).trans ((V3_of m (left m) c main_v2_0 (by decide)).trans
    ((V2_loss c).trans (left_loss m c)))

theorem last_rows (c : Dev nD) : V5 m (left m) c main_v4 = rowsT m c :=
  (V5_of m (left m) c main_v4 (by decide)).trans ((V4_rows c).trans (left_rows m c))

/-- Every execution of the whole program ends, with the loss and the rows of its two calls, the arguments unchanged and
    every counter at zero. -/
theorem run_value : θ_run defs (onTc (τ := τ) (main (F := Ideal))) ⟨m, fun _ => 0, ρ⟩ (fun r => (∀ c : Dev nD,
      r.2.mem ((c.tc : Thread nD τ).loc main_v5) = resLoss m c
      ∧ r.2.mem ((c.tc : Thread nD τ).loc main_v4) = rowsT m c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c).1.trans (last_loss m c), (h.1 c).2.1.trans (last_rows m c), (h.1 c).2.2⟩, h.2⟩)
    (ends m ρ (left m) (flat m 0) (flat_lt m 0) (leaves m 0))

/-- The first call's operands: the first argument with its axes exchanged, and the second without its unit axis. -/
theorem visT_apply (c : Dev nD) (v : Fin 196) (a : Fin 128) (d : Fin 768) :
    visT m c (ValueIdx.ix3 v a d) = (m ((c.tc : Thread nD τ).loc main_arg0) : Vec Ideal S128x196x768 .f32) (ValueIdx.ix3 a v d) := by
  unfold visT V1 hostOps0
  generalize e : V0 m c = V
  after_results_simp
  subst e
  refine congrArg (m ((c.tc : Thread nD τ).loc main_arg0) : Vec Ideal S128x196x768 .f32) (funext fun k => Fin.ext ?_)
  fin_cases k <;> rfl
theorem lanT_eq (c : Dev nD) :
    lanT m c = shapeCast S128x768 (m ((c.tc : Thread nD τ).loc main_arg1) : Vec Ideal S128x1x768 .f32) shapeCasts_S128x1x768_S128x768 := by
  unfold lanT V1 hostOps0
  generalize e : V0 m c = V
  after_results_simp
  subst e
  rfl

end Cert.KernelIdeal.Run

end
-- ==== Proof.LossMath.lean ====
/-
  ONE ROW OF THE LOSS over extended reals: the log-sum-exp of a row's best products and second-best products without its
  own second best, less its own best product — computed by subtracting the own term, or by a logit of minus infinity.
-/
module

public import Mathlib.Analysis.SpecialFunctions.Log.Basic
public import Idealize.ShloMosaic.PureOps.Ideal.Laws

@[expose] public section

noncomputable section

namespace Cert.LossMath

open Idealize.ShloMosaic

theorem fold_max_le {n : ℕ} (f : Fin n → EReal) (c : EReal) (h : ∀ j, f j ≤ c) : Finset.univ.fold max ⊥ f ≤ c :=
  (Finset.fold_max_le c).mpr ⟨bot_le, fun j _ => h j⟩

theorem le_fold_max {n : ℕ} (f : Fin n → EReal) (i : Fin n) : f i ≤ Finset.univ.fold max ⊥ f :=
  (Finset.le_fold_max (f i)).mpr (.inr ⟨i, Finset.mem_univ i, le_rfl⟩)

theorem coe_sum {n : ℕ} (f : Fin n → ℝ) : ∑ i, ((f i : ℝ) : EReal) = ((∑ i, f i : ℝ) : EReal) := by
  induction n with
  | zero => simp
  | succ n ih => rw [Fin.sum_univ_castSucc, Fin.sum_univ_castSucc, ih, EReal.coe_add]

/-- The exponential of a value less a bound of it is a real number, at infinite values as well. -/
theorem exp_sub_real {x μ : EReal} (h : x ≤ μ) : ∃ r : ℝ, Ideal.exp (x - μ) = (r : EReal) := by
  induction μ with
  | top => exact ⟨0, by rw [EReal.sub_top]; rfl⟩
  | bot => exact ⟨0, by rw [le_bot_iff.mp h, EReal.bot_sub]; rfl⟩
  | coe m =>
    induction x with
    | top => exact absurd (top_le_iff.mp h) (EReal.coe_ne_top m)
    | bot => exact ⟨0, by rw [EReal.bot_sub]; rfl⟩
    | coe a => exact ⟨Real.exp (a - m), by rw [← EReal.coe_sub]; rfl⟩

variable (B S : Fin 128 → EReal) (b : Fin 128)

/-- The greatest of a row's products. -/
def peak : EReal := max (Finset.univ.fold max ⊥ B) (Finset.univ.fold max ⊥ S)

/-- The sum of a row's exponentials: the best products' and the second-best ones' but its own. -/
def mass (μ : EReal) : EReal := ∑ a, Ideal.exp (B a - μ) + ∑ a, (if b = a then 0 else Ideal.exp (S a - μ))

/-- The row's loss. -/
def rowLoss : EReal := Ideal.log (mass B S b (peak B S)) + peak B S - B b

variable {B S} (hS : ∀ a, S a ≤ B a)

theorem le_peak (a : Fin 128) : B a ≤ peak B S := (le_fold_max B a).trans (le_max_left _ _)

include hS in
/-- The own second best, summed with the others and subtracted again. -/
theorem mass_of_difference {μ : EReal} (hμ : ∀ a, B a ≤ μ) :
    (∑ a, Ideal.exp (B a - μ) + ∑ a, Ideal.exp (S a - μ)) - ∑ a, (if b = a then Ideal.exp (S a - μ) else 0)
      = mass B S b μ := by
  choose e he using fun a => exp_sub_real (hμ a)
  choose t ht using fun a => exp_sub_real ((hS a).trans (hμ a))
  unfold mass
  rw [Finset.sum_ite_eq, if_pos (Finset.mem_univ _)]
  have e' : ∀ a, (if b = a then (0 : EReal) else (t a : EReal)) = ((if b = a then 0 else t a : ℝ) : EReal) := fun a => by
    split <;> rfl
  simp only [he, ht, e', coe_sum, ← EReal.coe_add, ← EReal.coe_sub]
  have h := Finset.sum_ite_eq Finset.univ b t
  rw [if_pos (Finset.mem_univ _)] at h
  have : ∑ a, t a = t b + ∑ a, (if b = a then 0 else t a) := by
    rw [← h, ← Finset.sum_add_distrib]
    exact Finset.sum_congr rfl fun a _ => by split <;> simp
  refine congrArg (fun r : ℝ => (r : EReal)) ?_
  rw [this]
  ring

/-- A row's logits: the best products, then the second-best ones with minus infinity at its own. -/
def logit (B S : Fin 128 → EReal) (b : Fin 128) (k : Fin 256) : EReal :=
  if h : k.val < 128 then B ⟨k.val, h⟩ else if b.val = k.val - 128 then ⊥ else S ⟨k.val - 128, by omega⟩

theorem logit_left (a : Fin 128) : logit B S b ⟨a.val, by omega⟩ = B a := dif_pos a.isLt
theorem logit_right (a : Fin 128) : logit B S b ⟨128 + a.val, by omega⟩ = if b = a then ⊥ else S a := by
  unfold logit
  rw [dif_neg (by simp)]
  simp only [Nat.add_sub_cancel_left, Fin.ext_iff]

include hS in
theorem logit_peak : Finset.univ.fold max ⊥ (logit B S b) = peak B S := by
  have hl : ∀ a, B a ≤ Finset.univ.fold max ⊥ (logit B S b) := fun a =>
    (logit_left b a).ge.trans (le_fold_max (logit B S b) _)
  refine le_antisymm (fold_max_le _ _ fun k => ?_)
    (max_le (fold_max_le _ _ hl) (fold_max_le _ _ fun a => (hS a).trans (hl a)))
  unfold logit
  split
  · exact le_peak _
  · split
    · exact bot_le
    · exact (hS _).trans (le_peak _)

theorem logit_mass (μ : EReal) : ∑ k, Ideal.exp (logit B S b k - μ) = mass B S b μ := by
  refine (Fin.sum_univ_add (a := 128) (b := 128) fun k => Ideal.exp (logit B S b k - μ)).trans ?_
  unfold mass
  refine congrArg₂ (· + ·) (Finset.sum_congr rfl fun a _ => ?_) (Finset.sum_congr rfl fun a _ => ?_)
  · rw [show logit B S b (Fin.castAdd 128 a) = B a from logit_left b a]
  · rw [show logit B S b (Fin.natAdd 128 a) = if b = a then ⊥ else S a from logit_right b a]
    by_cases h : b = a
    · rw [if_pos h, if_pos h, EReal.bot_sub]
      rfl
    · rw [if_neg h, if_neg h]

include hS in
/-- A row by sum and difference. -/
theorem kernel_row :
    Ideal.log ((∑ a, Ideal.exp (B a - peak B S) + ∑ a, Ideal.exp (S a - peak B S))
        - ∑ a, (if b = a then Ideal.exp (S a - peak B S) else 0))
      + peak B S - ∑ a, (if b = a then B a else 0) = rowLoss B S b := by
  rw [mass_of_difference b hS le_peak, Finset.sum_ite_eq, if_pos (Finset.mem_univ _)]
  rfl

include hS in
/-- A row from its logits. -/
theorem reference_row :
    Ideal.log (∑ k, Ideal.exp (logit B S b k - Finset.univ.fold max ⊥ (logit B S b)))
      + Finset.univ.fold max ⊥ (logit B S b) - B b = rowLoss B S b := by
  rw [logit_peak b hS, logit_mass]
  rfl

/-- A mean by the factor 1/128 and by the divisor 128. -/
theorem mean_eq (x : EReal) : x * ((1 / 128 : ℝ) : EReal) = Ideal.div x ((128 : ℝ) : EReal) := by
  unfold Ideal.div
  rw [if_neg (by norm_num), ← EReal.coe_inv]
  norm_num

end Cert.LossMath

end
-- ==== Proof.KernelLoss.lean ====
/-
  THE FIRST CALL'S LOSS READ OFF ITS RUNNING MAXIMA: after all image rows, the running maxima hold the two greatest
  products of each text row with the rows of each image, and the loss computed from them is the mean of the rows' losses.
-/
module

public import proofs.«01_k».proof.Proof.IndexValue
public import proofs.«01_k».proof.Proof.LossMath

@[expose] public section

set_option maxRecDepth 16384

noncomputable section

namespace Cert.KernelIdeal.SimCall

open Cert.KernelIdeal Cert.KernelIdeal.Gen Cert.Ranking Cert.LossMath
open Idealize.ShloMosaic Idealize.ShloMosaic.ValueIdx

variable (X : FVec Ideal S128x768 .f32) (Y : Vec Ideal S196x128x768 .f32)

/-- The product of text row `b` with row `r` of image `a`. -/
def product (b a : Fin 128) (r : Fin 196) : EReal := ∑ d : Fin 768, Y (ix3 r a d) * X (ix2 b d)

/-- The products in the order they are taken, minus infinity past the last row. -/
def entering (b a : Fin 128) (n : ℕ) : EReal := if h : n < 196 then product X Y b a ⟨n, h⟩ else ⊥

theorem zeros : (Scalar.ofBits .f32 0x00000000#32 : Ideal .f32) = (0 : EReal) := by
  show Ideal.ofBits .f32 0x00000000#32 = 0
  simp [Ideal.ofBits, Ideal.ieee]

theorem taken_apply (n : ℕ) (a b : Fin 128) : (taken X Y n (ix2 a b) : EReal) = entering X Y b a n := by
  unfold taken entering
  by_cases h : n < 196
  · rw [if_pos h, dif_pos h]
    refine (Ideal.matmul_transposedRhs_apply (M := 128) (K := 768) (N := 128) (φ₁ := .f32) (φ₂ := .f32) none (visRow Y n) X
      (constant S128x128 .f32 0x00000000#32) a b).trans ((congrArg (fun z : EReal => z + _) zeros).trans ((zero_add _).trans ?_))
    refine Finset.sum_congr rfl fun d _ => congrArg (fun z : EReal => z * X (ix2 b d)) ?_
    exact dif_pos h
  · rw [if_neg h, dif_neg h]
    exact negInf

/-- The running maxima are the pass over the products. -/
theorem pairAt_apply (a b : Fin 128) : ∀ n, (((pairAt X Y n).1 (ix2 a b), (pairAt X Y n).2 (ix2 a b)) : EReal × EReal) = pass (entering X Y b a) n
  | 0 => Prod.ext negInf negInf
  | n + 1 => by
    have ih := pairAt_apply a b n
    have h1 := congrArg Prod.fst ih
    have h2 := congrArg Prod.snd ih
    dsimp only at h1 h2
    have ht := taken_apply X Y n a b
    show ((max ((pairAt X Y n).1 (ix2 a b) : EReal) (taken X Y n (ix2 a b)),
      max ((pairAt X Y n).2 (ix2 a b) : EReal) (min ((pairAt X Y n).1 (ix2 a b) : EReal) (taken X Y n (ix2 a b)))) : EReal × EReal) = _
    rw [h1, h2, ht]
    rfl

/-- The final running maxima are the first two of the products in descending order. -/
theorem pair_fst (a b : Fin 128) : ((pairAt X Y 216).1 (ix2 a b) : EReal) = product X Y b a (sortedFrom (gtB (product X Y b a)) (0 : Fin 196)) :=
  (congrArg Prod.fst (pairAt_apply X Y a b 216)).trans
    (pass_fst_eq (product X Y b a) (entering X Y b a) 216 (by decide) (fun r => dif_pos r.isLt) (fun r hr => dif_neg (not_lt.mpr hr)) 0 rfl)
theorem pair_snd (a b : Fin 128) : ((pairAt X Y 216).2 (ix2 a b) : EReal) = product X Y b a (sortedFrom (gtB (product X Y b a)) (1 : Fin 196)) :=
  (congrArg Prod.snd (pairAt_apply X Y a b 216)).trans
    (pass_snd_eq (product X Y b a) (entering X Y b a) 216 (by decide) (fun r => dif_pos r.isLt) (fun r hr => dif_neg (not_lt.mpr hr)) 0 1 rfl rfl)

/-! ## The loss from the running maxima -/

/-- The sum and the maximum down a column. -/
theorem column_sum (v : FVec Ideal S128x128 .f32) (b : Fin 128) :
    (multiReduction .add [0] S128 v 0x00000000#32 reduces_S128x128_S128 (.inl rfl) rfl (ValueIdx.ix1 b) : EReal) = ∑ a, v (ix2 a b) := by
  refine (Ideal.multiReduction_add_single _ _ _ _ _ _).trans ?_
  refine Finset.sum_congr rfl fun a _ => congrArg v (funext fun x => Fin.ext ?_)
  fin_cases x <;> rfl
theorem column_max (v : FVec Ideal S128x128 .f32) (b : Fin 128) :
    (multiReduction .maximumf [0] S128 v 0xFF800000#32 reduces_S128x128_S128 (.inl rfl) rfl (ValueIdx.ix1 b) : EReal)
      = Finset.univ.fold max ⊥ fun a => (v (ix2 a b) : EReal) := by
  refine (Ideal.multiReduction_maximumf_single _ _ _ _ _ _).trans ?_
  rw [negInf]
  refine Finset.fold_congr fun a _ => congrArg v (funext fun x => Fin.ext ?_)
  fin_cases x <;> rfl

variable (p q : FVec Ideal S128x128 .f32)

theorem peak_apply (u : Fin 1) (b : Fin 128) : (k0_pay6 (F := Ideal) p q (ix2 u b) : EReal) = peak (fun a => p (ix2 a b)) (fun a => q (ix2 a b)) := by
  unfold k0_pay6
  dsimp only
  refine congrArg₂ (max : EReal → EReal → EReal) ?_ ?_
  · exact (shapeCast_a_1a_apply _ _ _ _).trans (column_max p b)
  · exact (shapeCast_a_1a_apply _ _ _ _).trans (column_max q b)

/-- The diagonal's mask. -/
theorem diagonal_apply (v : FVec Ideal S128x128 .f32) (a b : Fin 128) :
    (select k0_pay7 v (broadcast S128x128 (Scalar.ofBits .f32 0x00000000#32 : Ideal .f32)) (ix2 a b) : EReal)
      = if b = a then (v (ix2 a b) : EReal) else 0 := by
  have hc : k0_pay7 (ix2 a b) = BitVec.ofBool (decide (b = a)) := by
    show IntOp.cmpi .eq (BitVec.ofNat 32 (0 * 128 + b.val)) (BitVec.ofNat 32 (0 * 128 + a.val)) = _
    rw [Nat.zero_mul, Nat.zero_add, Nat.zero_add, WordCmp.cmpi_eq_eq]
    refine congrArg BitVec.ofBool (decide_eq_decide.mpr ?_)
    rw [← BitVec.toNat_inj, BitVec.toNat_ofNat, BitVec.toNat_ofNat, Nat.mod_eq_of_lt (by omega), Nat.mod_eq_of_lt (by omega), Fin.ext_iff]
  refine (select_apply _ _ _ _).trans ?_
  rw [hc, WordCmp.select_decide]
  exact if_congr Iff.rfl rfl zeros

theorem exps_apply (v : FVec Ideal S128x128 .f32) (m : FVec Ideal S1x128 .f32) (a b : Fin 128) :
    (exp (subf v (broadcastTo S128x128 m broadcasts_S1x128_S128x128)) (ix2 a b) : EReal) = Ideal.exp (v (ix2 a b) - m (ix2 (0 : Fin 1) b)) :=
  congrArg (fun z : EReal => Ideal.exp (v (ix2 a b) - z)) (broadcastTo_1b_ab_apply _ _ _ _)

theorem mass_apply (b : Fin 128) : (k0_pay8 (F := Ideal) p q (ValueIdx.ix1 b) : EReal) =
    (∑ a, Ideal.exp (p (ix2 a b) - peak (fun a => p (ix2 a b)) (fun a => q (ix2 a b)))
        + ∑ a, Ideal.exp (q (ix2 a b) - peak (fun a => p (ix2 a b)) (fun a => q (ix2 a b))))
      - ∑ a, (if b = a then Ideal.exp (q (ix2 a b) - peak (fun a => p (ix2 a b)) (fun a => q (ix2 a b))) else 0) := by
  unfold k0_pay8
  dsimp only
  refine congrArg₂ (fun x y : EReal => x - y) (congrArg₂ (fun x y : EReal => x + y) ?_ ?_) ?_
  · refine (column_sum _ b).trans (Finset.sum_congr rfl fun a _ => ?_)
    rw [exps_apply, peak_apply]
  · refine (column_sum _ b).trans (Finset.sum_congr rfl fun a _ => ?_)
    rw [exps_apply, peak_apply]
  · refine (column_sum _ b).trans (Finset.sum_congr rfl fun a _ => ?_)
    rw [diagonal_apply, exps_apply, peak_apply]

/-- The loss of running maxima whose second ones are below the first ones: the mean of the columns' losses. -/
theorem lossOf_apply (h : ∀ a b : Fin 128, (q (ix2 a b) : EReal) ≤ p (ix2 a b)) (j : S1x1.Idx) :
    (lossOf (p, q) j : EReal) = Ideal.div (∑ b : Fin 128, rowLoss (fun a => p (ix2 a b)) (fun a => q (ix2 a b)) b) ((128 : ℝ) : EReal) := by
  rw [← mean_eq]
  unfold lossOf k0_pay4
  dsimp only
  refine congrArg₂ (fun x y : EReal => x * y) ?_ ?_
  · refine (shapeCast_apply _ shapeCasts_S1_S1x1 _ (ValueIdx.ix1 (0 : Fin 1)) (by rw [Shape.rowMajor_val_one, Shape.rowMajor_val_two]; rfl)).trans ?_
    refine (Ideal.multiReduction_add_single _ _ _ _ _ _).trans ?_
    refine Finset.sum_congr rfl fun b _ => ?_
    have hl : (reduces_S1x128_S1 : Shape.Reduces S1x128 [1] S1).lift (ValueIdx.ix1 (0 : Fin 1)) b = ix2 (0 : Fin 1) (⟨b.val, b.isLt⟩ : Fin 128) :=
      funext fun i => Fin.ext (by fin_cases i <;> rfl)
    rw [hl]
    refine (shapeCast_a_1a_apply _ _ _ _).trans (Eq.trans ?_ (kernel_row b fun a => h a b))
    refine congrArg₂ (fun x y : EReal => x - y) (congrArg₂ (fun x y : EReal => Ideal.log x + y) (mass_apply p q b) ?_) ?_
    · exact (shapeCast_1a_a_apply _ _ _).trans (peak_apply p q 0 b)
    · exact (column_sum _ b).trans (Finset.sum_congr rfl fun a _ => diagonal_apply p a b)
  · show Ideal.ofBits .f32 0x3C000000#32 = _
    simp [Ideal.ofBits, Ideal.ieee, -EReal.coe_mul]; norm_num

end Cert.KernelIdeal.SimCall

end
-- ==== Proof.RefStages.lean ====
/-
  THE REFERENCE IN STAGES: its two results as compositions of named arrays, each read at an index — the products, the
  two greatest products of each pair, the logits, the loss, and the rows picked by the greatest anchor score.
-/
module

public import proofs.«01_k».proof.Proof.Gen.ReferenceIdeal.Run
public import proofs.«01_k».proof.Proof.Ranking
public import proofs.«01_k».proof.Proof.LossMath
public import Idealize.ShloMosaic.Lib.ValueLayout
public import Idealize.ShloMosaic.Lib.ValueLayoutCasts
public import Idealize.ShloMosaic.Lib.WordCmp

@[expose] public section

set_option maxRecDepth 8192

noncomputable section

namespace Cert.ReferenceIdeal.Stages

open Cert.ReferenceIdeal Cert.ReferenceIdeal.Gen Cert.Ranking Cert.LossMath
open Idealize.ShloMosaic Idealize.ShloMosaic.TcCoe Idealize.ShloMosaic.ValueIdx Idealize.SL.Sem

variable (V : FVec Ideal S128x196x768 .f32) (L : FVec Ideal S128x1x768 .f32)

/-- The text rows, the products with every image row, and each pair's two greatest products. -/
def lan : FVec Ideal S128x768 .f32 := shapeCast S128x768 L shapeCasts_S128x1x768_S128x768
def simMap : FVec Ideal S128x128x196 .f32 := Host.dotGeneral dot_S128x768_S128x196x768_S128x128x196_1_2_0_01_n_n none (lan L) V
def ranked : FVec Ideal S128x128x2 .f32 := (Host.topK S128x128x2 2 (FloatOps.cmpfTotal .gt) (simMap V L) sliceFits_S128x128x196_S128x128x2).1
def best : FVec Ideal S128x128 .f32 :=
  shapeCast S128x128 (extractStridedSlice S128x128x1 ![0, 0, 0] (ranked V L) slices_S128x128x2_S128x128x1_0_0_0) shapeCasts_S128x128x1_S128x128
def second : FVec Ideal S128x128 .f32 :=
  shapeCast S128x128 (extractStridedSlice S128x128x1 ![0, 0, 1] (ranked V L) slices_S128x128x2_S128x128x1_0_0_1) shapeCasts_S128x128x1_S128x128

/-- The second-best products with minus infinity on the diagonal; the logits; their maxima; their log-sum-exps. -/
def others : FVec Ideal S128x128 .f32 :=
  select (cmpi .eq (addi (iotaInDim S128x128 32 0) (broadcastInDim S128x128 ![] bcast_S_S128x128 (constantI S_ 32 0#32))) (iotaInDim S128x128 32 1))
    (broadcastInDim S128x128 ![] bcast_S_S128x128 (id (constant S_ .f32 0xFF800000#32))) (second V L)
def logits : FVec Ideal S128x256 .f32 :=
  concatenate S128x256 1 [⟨S128x128, best V L⟩, ⟨S128x128, others V L⟩] concatenates_S128x128_S128x128_S128x256_d1
def peaks : FVec Ideal S128 .f32 :=
  Host.reduce FloatOps.maximumf (logits V L) (constant S_ .f32 0xFF800000#32) reducesTo_S128x256_S128_d1 h_S_
def shifted : FVec Ideal S128x256 .f32 :=
  Host.exp (subf (logits V L) (broadcastInDim S128x256 ![0, 1] bcast_S128x1_S128x256_0_1 (broadcastInDim S128x1 ![0] bcast_S128_S128x1_0 (peaks V L))))
def logz : FVec Ideal S128 .f32 :=
  addf (Host.log (Host.reduceAdd (shifted V L) (constant S_ .f32 0x00000000#32) reducesTo_S128x256_S128_d1 h_S_)) (peaks V L)

/-- The words 0 to 127 as an index column, as written for indices that may be negative. -/
def counted : IVec S128 32 :=
  select (cmpi .slt (iotaInDim S128 32 0) (broadcastInDim S128 ![] bcast_S_S128 (constantI S_ 32 0#32)))
    (addi (iotaInDim S128 32 0) (broadcastInDim S128 ![] bcast_S_S128 (constantI S_ 32 128#32))) (iotaInDim S128 32 0)
def column (x : IVec S128 32) : IVec S128x1 32 := broadcastInDim S128x1 ![0] bcast_S128_S128x1_0 x
def pairs (x y : IVec S128 32) : IVec S128x2 32 :=
  concatenate S128x2 1 [⟨S128x1, column x⟩, ⟨S128x1, column y⟩] concatenates_S128x1_S128x1_S128x2_d1
def own : FVec Ideal S128 .f32 := Host.gather gather_S128x128_S128x2_S128_n_01_n_n_01_1_11 (best V L) (pairs counted counted)
def loss : FVec Ideal S_ .f32 :=
  Host.divf (Host.reduceAdd (subf (logz V L) (own V L)) (constant S_ .f32 0x00000000#32) reducesTo_S128_S_d0 h_S_) (constant S_ .f32 0x43000000#32)

/-- The anchor scores over the batch sums, the first place of the greatest, and the rows at these places. -/
def anchor : FVec Ideal S128x196 .f32 :=
  Host.dotGeneral dot_S128x768_S196x768_S128x196_1_1_0_0_n_n none (lan L)
    (Host.reduceAdd V (constant S_ .f32 0x00000000#32) reducesTo_S128x196x768_S196x768_d0 h_S_)
def place : IVec S128 32 :=
  shapeCast S128 (Host.topK S128x1 1 (FloatOps.cmpfTotal .gt) (anchor V L) sliceFits_S128x196_S128x1).2 shapeCasts_S128x1_S128
def placed : IVec S128 32 :=
  select (cmpi .slt (place V L) (broadcastInDim S128 ![] bcast_S_S128 (constantI S_ 32 0#32)))
    (addi (place V L) (broadcastInDim S128 ![] bcast_S_S128 (constantI S_ 32 196#32))) (place V L)
def rows : FVec Ideal S128x1x768 .f32 :=
  broadcastInDim S128x1x768 ![0, 2] bcast_S128x768_S128x1x768_0_2
    (Host.gather gather_S128x196x768_S128x2_S128x768_1_01_n_n_01_1_11768 V (pairs counted (placed V L)))

/-- Every execution of the reference ends with these two results and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v58) = loss (m ((c.tc : Thread nD τ).loc main_arg0)) (m ((c.tc : Thread nD τ).loc main_arg1))
      ∧ r.2.mem ((c.tc : Thread nD τ).loc main_v20) = rows (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans rfl, (h c).2.1.trans rfl, (h c).2.2⟩) (Value.run (F := Ideal) m ρ)

end Cert.ReferenceIdeal.Stages

end
-- ==== Proof.RefValue.lean ====
/-
  THE REFERENCE READ AT AN INDEX: the products, their two greatest, the logits, the loss as a mean of rows' losses, and
  the rows picked.
-/
module

public import proofs.«01_k».proof.Proof.RefStages
public import Idealize.ShloMosaic.Lib.WordCmp

@[expose] public section

set_option maxRecDepth 8192

noncomputable section

namespace Cert.ReferenceIdeal.Stages

open Cert.ReferenceIdeal Cert.ReferenceIdeal.Gen Cert.Ranking Cert.LossMath
open Idealize.ShloMosaic Idealize.ShloMosaic.TcCoe Idealize.ShloMosaic.ValueIdx

variable (V : FVec Ideal S128x196x768 .f32) (L : FVec Ideal S128x1x768 .f32)

theorem zero_word : (FloatOps.ofBits (F := Ideal) FTy.f32 0x00000000#32 : EReal) = 0 := by
  show Ideal.ofBits .f32 0x00000000#32 = 0
  simp [Ideal.ofBits, Ideal.ieee]
theorem negInf_word : (FloatOps.ofBits (F := Ideal) FTy.f32 0xFF800000#32 : EReal) = ⊥ := by
  show Ideal.ofBits .f32 0xFF800000#32 = ⊥
  simp [Ideal.ofBits, Ideal.ieee]
theorem count_word : (FloatOps.ofBits (F := Ideal) FTy.f32 0x43000000#32 : EReal) = ((128 : ℝ) : EReal) := by
  show Ideal.ofBits .f32 0x43000000#32 = _
  simp [Ideal.ofBits, Ideal.ieee, -EReal.coe_mul]
  norm_num

/-- The product of text row `b` with row `v` of image `a`. -/
def dotAt (b a : Fin 128) (v : Fin 196) : EReal := ∑ d : Fin 768, lan L (ix2 b d) * V (ix3 a v d)

theorem simMap_apply (b a : Fin 128) (v : Fin 196) : simMap V L (ix3 b a v) = dotAt V L b a v := by
  refine (Ideal.dotGeneral_apply _ _ _ _ _ _).trans ?_
  refine ((contrEquiv1 dot_S128x768_S128x196x768_S128x128x196_1_2_0_01_n_n 768 rfl rfl).symm.sum_comp _).symm.trans ?_
  refine Finset.sum_congr rfl fun d _ => congrArg₂ (fun x y : EReal => x * y) (congrArg (lan L) ?_) (congrArg V ?_) <;>
    (funext k; refine Fin.ext ?_; fin_cases k <;> rfl)

/-- The score of image row `v` against text row `b`: summed over the images first. -/
def anchorAt (b : Fin 128) (v : Fin 196) : EReal := ∑ d : Fin 768, lan L (ix2 b d) * ∑ a : Fin 128, V (ix3 a v d)

theorem anchor_apply (b : Fin 128) (v : Fin 196) : anchor V L (ix2 b v) = anchorAt V L b v := by
  refine (Ideal.dotGeneral_apply _ _ _ _ _ _).trans ?_
  refine ((contrEquiv1 dot_S128x768_S196x768_S128x196_1_1_0_0_n_n 768 rfl rfl).symm.sum_comp _).symm.trans ?_
  refine Finset.sum_congr rfl fun d _ => congrArg₂ (fun x y : EReal => x * y) (congrArg (lan L) ?_) ?_
  · funext k; refine Fin.ext ?_; fin_cases k <;> rfl
  · refine (Ideal.hostReduceAdd_single (reducesTo_S128x196x768_S196x768_d0) (by decide : Shape.Reduces S128x196x768 [0] S196x768) V _ _).trans ?_
    refine (congrArg (fun z : EReal => z + _) zero_word).trans ((zero_add _).trans ?_)
    refine Finset.sum_congr rfl fun a _ => congrArg V ?_
    funext k; refine Fin.ext ?_; fin_cases k <;> rfl

/-- The comparison of a descending sort. -/
theorem gt_eq {n : ℕ} (f : Fin n → EReal) :
    (fun k k' => ((FloatOps.cmpfTotal (F := Ideal) (φ := .f32) .gt (f k) (f k') : BitVec 1) == 1#1)) = gtB f := by
  funext k k'
  show (BitVec.ofBool (decide (f k' < f k)) == 1#1) = decide (f k' < f k)
  by_cases h : f k' < f k
  · rw [decide_eq_true h]; rfl
  · rw [decide_eq_false h]; rfl

/-- A top-k read at an index: the operand, and the place, that a stable descending sort puts there. -/
theorem topK_apply {s t : Shape} (d : Fin s.rank) (x : s.Idx → EReal) (h : s.Slices (fun _ => 0) t) (j : t.Idx) (i : s.Idx)
    (hi : ∀ a, (i a).val = (j (a.cast h.1.symm)).val) (f : Fin (s.size d) → EReal) (hf : ∀ k, x (i.along d k) = f k) :
    (Host.topK t d.val (FloatOps.cmpfTotal (F := Ideal) (φ := .f32) .gt) x h).1 j = f (sortedFrom (gtB f) (i d))
      ∧ (Host.topK t d.val (FloatOps.cmpfTotal (F := Ideal) (φ := .f32) .gt) x h).2 j
        = BitVec.ofNat 32 (sortedFrom (gtB f) (i d)).val := by
  obtain rfl : (fun k => x (i.along d k)) = f := funext hf
  have e : (fun a => ⟨0 + (j (a.cast h.1.symm)).val, Nat.lt_of_lt_of_le (Nat.add_lt_add_left (j _).isLt _) (h.2 a)⟩ : s.Idx) = i :=
    funext fun a => Fin.ext ((Nat.zero_add _).trans (hi a).symm)
  unfold Host.topK Host.sort2 extractStridedSlice
  simp only [dif_pos d.isLt]
  rw [e]
  rw [← gt_eq fun k => x (i.along d k)]
  have ed := congrFun e d
  refine ⟨congrArg (fun z => x (i.along d (sortedFrom (fun k k' => FloatOps.cmpfTotal (F := Ideal) (φ := .f32) .gt (x (i.along d k)) (x (i.along d k')) == 1#1) z))) ed, ?_⟩
  refine Eq.trans ?_ (congrArg (fun z => BitVec.ofNat 32 (sortedFrom (fun k k' => FloatOps.cmpfTotal (F := Ideal) (φ := .f32) .gt (x (i.along d k)) (x (i.along d k')) == 1#1) z).val) ed)
  show BitVec.ofNat 32 ((i.along d _) d).val = _
  unfold Shape.Idx.along
  rw [Function.update_self]

theorem ranked_apply (b a : Fin 128) (k : Fin 2) :
    ranked V L (ix3 b a k) = dotAt V L b a (sortedFrom (gtB (dotAt V L b a)) ⟨k.val, by omega⟩) := by
  refine (topK_apply (s := S128x128x196) (2 : Fin 3) (simMap V L) _ (ix3 b a k) (ix3 b a (⟨k.val, by omega⟩ : Fin 196))
    (fun i => by fin_cases i <;> rfl) (dotAt V L b a) fun v => ?_).1
  refine Eq.trans (congrArg (simMap V L) ?_) (simMap_apply V L b a v)
  funext i; refine Fin.ext ?_; fin_cases i <;> rfl

theorem best_apply (b a : Fin 128) : best V L (ix2 b a) = dotAt V L b a (sortedFrom (gtB (dotAt V L b a)) (0 : Fin 196)) := by
  refine Eq.trans ?_ (ranked_apply V L b a 0)
  refine (shapeCast_apply _ shapeCasts_S128x128x1_S128x128 (ix2 b a) (ix3 b a (0 : Fin 1)) ?_).trans ?_
  · rw [Shape.rowMajor_val_three, Shape.rowMajor_val_two]; exact Nat.mul_one _
  · refine congrArg (ranked V L) (funext fun i => Fin.ext ?_)
    fin_cases i <;> exact Nat.zero_add _

theorem second_apply (b a : Fin 128) : second V L (ix2 b a) = dotAt V L b a (sortedFrom (gtB (dotAt V L b a)) (1 : Fin 196)) := by
  refine Eq.trans ?_ (ranked_apply V L b a 1)
  refine (shapeCast_apply _ shapeCasts_S128x128x1_S128x128 (ix2 b a) (ix3 b a (0 : Fin 1)) ?_).trans ?_
  · rw [Shape.rowMajor_val_three, Shape.rowMajor_val_two]; exact Nat.mul_one _
  · refine congrArg (ranked V L) (funext fun i => Fin.ext ?_)
    fin_cases i <;> first | exact Nat.zero_add _ | rfl

/-- Row b of the best and of the second-best products. -/
def bestRow (b a : Fin 128) : EReal := best V L (ix2 b a)
def secondRow (b a : Fin 128) : EReal := second V L (ix2 b a)

theorem second_le_best (b a : Fin 128) : secondRow V L b a ≤ bestRow V L b a := by
  unfold secondRow bestRow
  rw [best_apply, second_apply]
  exact (sortedFrom_first (dotAt V L b a) 0 rfl).1 _

theorem word_eq_iff (a b : Fin 128) : BitVec.ofNat 32 a.val = BitVec.ofNat 32 b.val ↔ a = b := by
  rw [← BitVec.toNat_inj, BitVec.toNat_ofNat, BitVec.toNat_ofNat, Nat.mod_eq_of_lt (by omega), Nat.mod_eq_of_lt (by omega), Fin.ext_iff]

theorem others_apply (b a : Fin 128) : others V L (ix2 b a) = if b = a then ⊥ else secondRow V L b a := by
  show Scalar.select (IntOp.cmpi .eq (BitVec.ofNat 32 b.val + 0#32) (BitVec.ofNat 32 a.val)) _ _ = _
  rw [WordCmp.cmpi_eq_eq, WordCmp.select_decide]
  refine if_congr ?_ negInf_word rfl
  rw [BitVec.add_zero, word_eq_iff]

theorem logits_apply (b : Fin 128) (k : Fin 256) : logits V L (ix2 b k) = logit (bestRow V L b) (secondRow V L b) b k := by
  by_cases hk : k.val < 128
  · obtain ⟨a, rfl⟩ : ∃ a : Fin 128, k = (⟨a.val, a.isLt.trans (by decide)⟩ : Fin 256) := ⟨⟨k.val, hk⟩, rfl⟩
    rw [logit_left]
    exact concatenate_pair_apply_left _ _ _ concatenates_S128x128_S128x128_S128x256_d1 _ rfl (ix2 b a) fun i => by fin_cases i <;> rfl
  · obtain ⟨a, rfl⟩ : ∃ a : Fin 128, k = (⟨128 + a.val, Nat.add_lt_add_left a.isLt 128⟩ : Fin 256) := ⟨⟨k.val - 128, by omega⟩, Fin.ext (by simp; omega)⟩
    rw [logit_right, ← others_apply]
    refine concatenate_pair_apply_right _ _ _ concatenates_S128x128_S128x128_S128x256_d1 _ rfl rfl (ix2 b a) (fun i hi => ?_) ?_
    · fin_cases i
      · rfl
      · exact absurd rfl hi
    · exact Nat.add_comm _ _

theorem lift_row (h : S128x256.Reduces [1] S128) (b : Fin 128) (k : Fin (S128x256.size 1)) : h.lift (ix1 b) k = ix2 b (⟨k.val, k.isLt⟩ : Fin 256) :=
  funext fun i => Fin.ext (by fin_cases i <;> rfl)

theorem peaks_apply (b : Fin 128) : peaks V L (ix1 b) = Finset.univ.fold max ⊥ (logit (bestRow V L b) (secondRow V L b) b) := by
  refine (Host.reduce_eq_fold_single FloatOps.maximumf (logits V L) _ reducesTo_S128x256_S128_d1 (by decide : S128x256.Reduces [1] S128) h_S_ (ix1 b)).trans ?_
  have hf : (logits V L ∘ (by decide : S128x256.Reduces [1] S128).lift (ix1 b)) = logit (bestRow V L b) (secondRow V L b) b :=
    funext fun k => (congrArg (logits V L) (lift_row _ b k)).trans (logits_apply V L b _)
  refine (congrArg (fun f => Finset.fold max (FloatOps.ofBits (F := Ideal) FTy.f32 0xFF800000#32 : EReal) f (Finset.univ : Finset (Fin 256))) hf).trans ?_
  rw [negInf_word]

theorem shifted_apply (b : Fin 128) (k : Fin 256) :
    shifted V L (ix2 b k) = Ideal.exp (logit (bestRow V L b) (secondRow V L b) b k - peaks V L (ix1 b)) := by
  rw [← logits_apply]
  unfold shifted
  generalize logits V L = x
  generalize peaks V L = y
  refine congrArg (fun z : EReal => Ideal.exp (x (ix2 b k) - z)) (congrArg y (funext fun i => Fin.ext ?_))
  fin_cases i; rfl

theorem logz_apply (b : Fin 128) : logz V L (ix1 b) =
    Ideal.log (∑ k, Ideal.exp (logit (bestRow V L b) (secondRow V L b) b k - peaks V L (ix1 b))) + peaks V L (ix1 b) := by
  have hs : Host.reduceAdd (shifted V L) (constant (F := Ideal) S_ .f32 0x00000000#32) reducesTo_S128x256_S128_d1 h_S_ (ix1 b)
      = ∑ k, Ideal.exp (logit (bestRow V L b) (secondRow V L b) b k - peaks V L (ix1 b)) := by
    refine (Ideal.hostReduceAdd_single reducesTo_S128x256_S128_d1 (by decide : S128x256.Reduces [1] S128) (shifted V L) _ _).trans ?_
    refine (congrArg (fun z : EReal => z + _) zero_word).trans ((zero_add _).trans ?_)
    exact Finset.sum_congr rfl fun k _ => (congrArg (shifted V L) (lift_row _ b k)).trans (shifted_apply V L b _)
  exact congrArg (fun z : EReal => Ideal.log z + peaks V L (ix1 b)) hs

theorem place_apply (b : Fin 128) : ∃ i : Fin 196, place V L (ix1 b) = BitVec.ofNat 32 i.val ∧ IsFirstMax (anchorAt V L b) i := by
  refine ⟨sortedFrom (gtB (anchorAt V L b)) 0, ?_, sortedFrom_first _ _ rfl⟩
  refine Eq.trans ?_ (topK_apply (s := S128x196) (1 : Fin 2) (anchor V L) sliceFits_S128x196_S128x1 (ix2 b (0 : Fin 1)) (ix2 b (0 : Fin 196))
    (fun i => by fin_cases i <;> rfl) (anchorAt V L b) fun v => ?_).2
  · exact shapeCast_apply _ shapeCasts_S128x1_S128 (ix1 b) (ix2 b (0 : Fin 1)) (by
      rw [Shape.rowMajor_val_two, Shape.rowMajor_val_one]; exact Nat.mul_one _)
  refine Eq.trans (congrArg (anchor V L) ?_) (anchor_apply V L b v)
  funext i; refine Fin.ext ?_; fin_cases i <;> rfl

end Cert.ReferenceIdeal.Stages

end
-- ==== Proof.RefResults.lean ====
/-
  THE REFERENCE'S TWO RESULTS READ AT AN INDEX: the loss as the mean of the rows' losses, and each batch's picked row.
-/
module

public import proofs.«01_k».proof.Proof.RefValue
public import Idealize.ShloMosaic.Lib.ValueIdxRank1

@[expose] public section

set_option maxRecDepth 8192

noncomputable section

namespace Cert.ReferenceIdeal.Stages

open Cert.ReferenceIdeal Cert.ReferenceIdeal.Gen Cert.Ranking Cert.LossMath
open Idealize.ShloMosaic Idealize.ShloMosaic.TcCoe Idealize.ShloMosaic.ValueIdx

variable (V : FVec Ideal S128x196x768 .f32) (L : FVec Ideal S128x1x768 .f32)

/-- An index below 2^31 is kept by the choice that corrects negative ones. -/
theorem kept_word (w y : BitVec 32) (h : w.toNat < 2 ^ 31) : Scalar.select (IntOp.cmpi .slt w 0#32) y w = w := by
  rw [WordCmp.cmpi_slt_of_lt h (by decide), WordCmp.select_decide, if_neg (by simp)]

theorem index_word {n : ℕ} (h : n < 2 ^ 31) : (BitVec.ofNat 32 n).toNat = n := by
  rw [BitVec.toNat_ofNat, Nat.mod_eq_of_lt (by omega)]

theorem signed_word {n : ℕ} (h : n < 2 ^ 31) : (BitVec.ofNat 32 n).toInt.toNat = n := by
  rw [BitVec.toInt_eq_toNat_of_lt (by rw [index_word h]; omega), index_word h]; rfl

theorem counted_apply (b : Fin 128) : counted (ix1 b) = BitVec.ofNat 32 b.val :=
  kept_word (BitVec.ofNat 32 b.val) _ (by rw [index_word] <;> omega)

theorem pairs_left (x y : IVec S128 32) (b : Fin 128) : pairs x y (ix2 b (0 : Fin 2)) = x (ix1 b) := by
  refine (concatenate_pair_apply_left (t := S128x2) (s₁ := S128x1) (s₂ := S128x1) _ _ _ concatenates_S128x1_S128x1_S128x2_d1 _ rfl (ix2 b (0 : Fin 1))
    fun i => by fin_cases i <;> rfl).trans ?_
  exact congrArg x (funext fun i => Fin.ext (by fin_cases i; rfl))

theorem pairs_right (x y : IVec S128 32) (b : Fin 128) : pairs x y (ix2 b (1 : Fin 2)) = y (ix1 b) := by
  refine (concatenate_pair_apply_right (t := S128x2) (s₁ := S128x1) (s₂ := S128x1) _ _ _ concatenates_S128x1_S128x1_S128x2_d1 _ rfl rfl (ix2 b (0 : Fin 1))
    (fun i hi => ?_) rfl).trans ?_
  · fin_cases i
    · rfl
    · exact absurd rfl hi
  exact congrArg y (funext fun i => Fin.ext (by fin_cases i; rfl))

/-- A gather of single entries at index pairs, and one of whole rows at index pairs. -/
theorem entry_apply (x : FVec Ideal S128x128 .f32) (p : IVec S128x2 32) (b i j : Fin 128)
    (hi : (p (ix2 b (0 : Fin 2))).toInt.toNat = i.val) (hj : (p (ix2 b (1 : Fin 2))).toInt.toNat = j.val) :
    Host.gather gather_S128x128_S128x2_S128_n_01_n_n_01_1_11 x p (ix1 b) = x (ix2 i j) := by
  refine congrArg x (funext fun a => Fin.ext ?_)
  fin_cases a
  · refine Eq.trans (b := min (p (ix2 b (0 : Fin 2))).toInt.toNat 127 + 0 + 0) ?_ (show _ = i.val by omega)
    refine congrArg (fun q => min (p q).toInt.toNat 127 + 0 + 0) (funext fun k => Fin.ext ?_)
    fin_cases k <;> rfl
  · refine Eq.trans (b := min (p (ix2 b (1 : Fin 2))).toInt.toNat 127 + 0 + 0) ?_ (show _ = j.val by omega)
    refine congrArg (fun q => min (p q).toInt.toNat 127 + 0 + 0) (funext fun k => Fin.ext ?_)
    fin_cases k <;> rfl

theorem row_apply (x : FVec Ideal S128x196x768 .f32) (p : IVec S128x2 32) (b i : Fin 128) (v : Fin 196) (d : Fin 768)
    (hi : (p (ix2 b (0 : Fin 2))).toInt.toNat = i.val) (hv : (p (ix2 b (1 : Fin 2))).toInt.toNat = v.val) :
    Host.gather gather_S128x196x768_S128x2_S128x768_1_01_n_n_01_1_11768 x p (ix2 b d) = x (ix3 i v d) := by
  refine congrArg x (funext fun a => Fin.ext ?_)
  fin_cases a
  · refine Eq.trans (b := min (p (ix2 b (0 : Fin 2))).toInt.toNat 127 + 0 + 0) ?_ (show _ = i.val by omega)
    refine congrArg (fun q => min (p q).toInt.toNat 127 + 0 + 0) (funext fun k => Fin.ext ?_)
    fin_cases k <;> rfl
  · refine Eq.trans (b := min (p (ix2 b (1 : Fin 2))).toInt.toNat 195 + 0 + 0) ?_ (show _ = v.val by omega)
    refine congrArg (fun q => min (p q).toInt.toNat 195 + 0 + 0) (funext fun k => Fin.ext ?_)
    fin_cases k <;> rfl
  · exact Nat.zero_add _

theorem own_apply (b : Fin 128) : own V L (ix1 b) = bestRow V L b b :=
  entry_apply _ _ b b b (by rw [pairs_left, counted_apply, signed_word (by omega)]) (by rw [pairs_right, counted_apply, signed_word (by omega)])

/-- The reference's loss: the mean over the 128 texts of their rows' losses. -/
theorem loss_apply (j : S_.Idx) : loss V L j = Ideal.div (∑ b, rowLoss (bestRow V L b) (secondRow V L b) b) ((128 : ℝ) : EReal) := by
  have hs : Host.reduceAdd (subf (logz V L) (own V L)) (constant (F := Ideal) S_ .f32 0x00000000#32) reducesTo_S128_S_d0 h_S_ j
      = ∑ b, rowLoss (bestRow V L b) (secondRow V L b) b := by
    refine (Ideal.hostReduceAdd_total reducesTo_S128_S_d0 (fun a => a.elim0) (subf (logz V L) (own V L)) _ j).trans ?_
    refine (congrArg (fun z : EReal => z + _) zero_word).trans ((zero_add _).trans ?_)
    refine ((idxEquiv1 (n := 128)).symm.sum_comp _).symm.trans ?_
    refine Finset.sum_congr rfl fun b _ => ?_
    refine Eq.trans ?_ (reference_row _ (second_le_best V L _))
    show logz V L (ix1 b) - own V L (ix1 b) = _
    rw [logz_apply, own_apply, peaks_apply]
  exact (congrArg₂ Ideal.div hs count_word)

/-- The reference's rows: batch b's image row at the first place of its greatest anchor score. -/
theorem rows_apply (b : Fin 128) (u : Fin 1) (d : Fin 768) :
    ∃ i : Fin 196, IsFirstMax (anchorAt V L b) i ∧ rows V L (ix3 b u d) = V (ix3 b i d) := by
  obtain ⟨i, hp, hi⟩ := place_apply V L b
  refine ⟨i, hi, ?_⟩
  have hq : placed V L (ix1 b) = BitVec.ofNat 32 i.val := by
    unfold placed
    generalize place V L = w at hp
    rw [← hp]
    exact kept_word (w (ix1 b)) _ (by rw [hp, index_word] <;> omega)
  refine Eq.trans ?_ (row_apply V (pairs counted (placed V L)) b b i d (by rw [pairs_left, counted_apply, signed_word (by omega)]) (by rw [pairs_right, hq, signed_word (by omega)]))
  unfold rows
  generalize Host.gather gather_S128x196x768_S128x2_S128x768_1_01_n_n_01_1_11768 V (pairs counted (placed V L)) = x
  exact congrArg x (funext fun k => Fin.ext (by fin_cases k <;> rfl))

end Cert.ReferenceIdeal.Stages

end
-- ==== Proof.Equal.lean ====
/-
  THE KERNEL'S RESULTS AND THE REFERENCE'S ARE EQUAL, element by element over the extended reals.
-/
module

public import proofs.«01_k».proof.Proof.KernelResult
public import proofs.«01_k».proof.Proof.KernelLoss
public import proofs.«01_k».proof.Proof.RefResults

@[expose] public section

set_option maxRecDepth 16384

noncomputable section

namespace Cert.Equal

open Cert.KernelIdeal (nD τ sig S128x196x768 S128x1x768 S_ main_arg0 main_arg1)
open Cert.KernelIdeal.Run (lanT visT rowsT resLoss)
open Cert.ReferenceIdeal.Stages (dotAt anchorAt bestRow secondRow)
open Cert.KernelIdeal.SimCall (product score batchSum pairAt)
open Cert.Ranking Cert.LossMath
open Idealize.ShloMosaic Idealize.ShloMosaic.TcCoe

variable (m : (ℓ : Loc nD τ sig) → Buf (Elt Ideal) ℓ) (c : Dev nD)

/-- The two arguments: the image rows and the text rows. -/
abbrev vis : FVec Ideal S128x196x768 .f32 := m ((c.tc : Thread nD τ).loc main_arg0)
abbrev txt : FVec Ideal S128x1x768 .f32 := m ((c.tc : Thread nD τ).loc main_arg1)

/-- Both programs compare the same products, -/
theorem product_eq (b a : Fin 128) : product (lanT m c) (visT m c) b a = dotAt (vis m c) (txt m c) b a := by
  funext r
  refine Finset.sum_congr rfl fun d _ => ?_
  rw [Cert.KernelIdeal.Run.visT_apply, Cert.KernelIdeal.Run.lanT_eq]
  exact mul_comm (G := EReal) _ _

/-- and the same anchor scores. -/
theorem score_eq (b : Fin 128) : score (lanT m c) (visT m c) b = anchorAt (vis m c) (txt m c) b := by
  funext r
  refine Finset.sum_congr rfl fun d _ => ?_
  rw [Cert.KernelIdeal.Run.lanT_eq]
  refine (mul_comm (G := EReal) _ _).trans (congrArg (fun z : EReal => _ * z) ?_)
  exact Finset.sum_congr rfl fun a _ => Cert.KernelIdeal.Run.visT_apply m c _ a d

/-- The final running maxima are the reference's best and second-best products. -/
theorem first_eq (b a : Fin 128) : ((pairAt (lanT m c) (visT m c) 216).1 (ValueIdx.ix2 a b) : EReal) = bestRow (vis m c) (txt m c) b a := by
  rw [Cert.KernelIdeal.SimCall.pair_fst, product_eq]
  exact (Cert.ReferenceIdeal.Stages.best_apply _ _ b a).symm
theorem second_eq (b a : Fin 128) : ((pairAt (lanT m c) (visT m c) 216).2 (ValueIdx.ix2 a b) : EReal) = secondRow (vis m c) (txt m c) b a := by
  rw [Cert.KernelIdeal.SimCall.pair_snd, product_eq]
  exact (Cert.ReferenceIdeal.Stages.second_apply _ _ b a).symm

/-- The losses are equal. -/
theorem loss_eq : resLoss m c = Cert.ReferenceIdeal.Stages.loss (vis m c) (txt m c) := by
  funext j
  refine Eq.trans ?_ (Cert.ReferenceIdeal.Stages.loss_apply (vis m c) (txt m c) j).symm
  obtain ⟨k, hk⟩ : ∃ k, resLoss m c j = Cert.KernelIdeal.Run.lossT m c k := by
    unfold resLoss shapeCast
    exact ⟨_, rfl⟩
  rw [hk]
  refine (Cert.KernelIdeal.SimCall.lossOf_apply (pairAt (lanT m c) (visT m c) 216).1 (pairAt (lanT m c) (visT m c) 216).2 (fun a b => ?_) k).trans ?_
  · rw [first_eq, second_eq]
    exact Cert.ReferenceIdeal.Stages.second_le_best _ _ b a
  · refine congrArg (fun z : EReal => Ideal.div z ((128 : ℝ) : EReal)) (Finset.sum_congr rfl fun b _ => ?_)
    exact congrArg₂ (fun x y => rowLoss x y b) (funext fun a => first_eq m c b a) (funext fun a => second_eq m c b a)

/-- The rows picked are equal. -/
theorem rows_eq : rowsT m c = Cert.ReferenceIdeal.Stages.rows (vis m c) (txt m c) := by
  funext j
  obtain ⟨b, u, d, rfl⟩ : ∃ (b : Fin 128) (u : Fin 1) (d : Fin 768), j = ValueIdx.ix3 b u d := ⟨j 0, j 1, j 2, ValueIdx.eq_ix3 j⟩
  obtain ⟨i, hi, hr⟩ := Cert.ReferenceIdeal.Stages.rows_apply (vis m c) (txt m c) b u d
  obtain ⟨k, hk, hf⟩ := Cert.KernelIdeal.SimCall.indexOf_spec (lanT m c) (visT m c) b
  rw [score_eq] at hf
  obtain rfl := hf.unique hi
  refine Eq.trans ?_ hr.symm
  have e : Cert.KernelIdeal.Run.flat m c (Cert.KernelIdeal.GatherCall.at' b) = BitVec.ofNat 32 k.val := by
    refine Eq.trans (congrArg (Cert.KernelIdeal.Run.flat m c) (funext fun x => ?_)) ((Cert.KernelIdeal.Run.flat_apply m c b).trans hk)
    fin_cases x; rfl
  have en : (Cert.KernelIdeal.Run.flat m c (Cert.KernelIdeal.GatherCall.at' b)).toNat = k.val := by
    rw [e, BitVec.toNat_ofNat]
    have := k.isLt
    omega
  generalize hz : Cert.KernelIdeal.Run.flat m c = X at e en
  have hX : ∀ j, (X j).toNat < 196 := by rw [← hz]; exact Cert.KernelIdeal.Run.flat_lt m c
  have hg : rowsT m c (ValueIdx.ix3 b u d) = visT m c (ValueIdx.ix3 ⟨(X (Cert.KernelIdeal.GatherCall.at' b)).toNat, hX _⟩ b d) := by
    subst hz; rfl
  have ez : (⟨(X (Cert.KernelIdeal.GatherCall.at' b)).toNat, hX _⟩ : Fin 196) = k := Fin.ext en
  rw [hg, ez]
  exact Cert.KernelIdeal.Run.visT_apply m c k b d

end Cert.Equal

end
-- ==== Proof.lean ====
/-
  The certificate of the statement: the claims, each from the modules under `Proof/`.

  * `Proof/SimBody`, `SimState`, `SimRegion`, `GatherBody`, `GatherBlock`, `GatherRegion`: the two calls' bodies and
    regions over the extended reals; `Regions`, `KernelRun`: the whole kernel's run; `Ranking`, `IndexValue`,
    `KernelResult`, `KernelLoss`: what its two results are.
  * `Proof/RefStages`, `RefValue`, `RefResults`: the reference's run and its two results.
  * `Proof/LossMath`, `Equal`: the mathematics, and that the results are the same.
  * `Proof/SimBodyBits`, `SimFrame`, `GatherBodyBits`, `GatherBlockBits`, `GatherRegionBits`, `GatherFrame`: each call as
    a program of its own, as printed.
-/
module

public import proofs.«01_k».proof.Defs
public import proofs.«01_k».proof.Proof.Gen.Sim
public import proofs.«01_k».proof.Proof.Gen.Gather
public import proofs.«01_k».proof.Proof.Gen.KernelIdeal
public import proofs.«01_k».proof.Proof.Gen.ReferenceIdeal
public import proofs.«01_k».proof.Proof.Gen.Pre_named_rows
public import proofs.«01_k».proof.Proof.SimFrame
public import proofs.«01_k».proof.Proof.GatherFrame
public import proofs.«01_k».proof.Proof.Equal
public import Idealize.ShloMosaic.Lib.WordCmp
public import Idealize.ShloMosaic.Adequacy
public import Idealize.ShloMosaic.Init

@[expose] public section

noncomputable section

namespace Cert.Proof

open Idealize.ShloMosaic Idealize.SL.Sem

/-- Indices of which the precondition holds name rows of the array. -/
theorem lt_of_named_rows {F : FTy → Type} [FloatOps F] (i : IVec Cert.Pre_named_rows.S128 32)
    (x : FVec F Cert.Pre_named_rows.S128x196x768 .f32) (h : Cert.Pre_named_rows.fn i x = fun _ => 1#1)
    (j : Cert.Pre_named_rows.S128.Idx) : (i j).toNat < 196 :=
  (WordCmp.ofBool_decide_eq_one_iff _).mp
    ((WordCmp.andi_sge_zero_slt_ofNat (w := 32) (k := 196) (by decide) (i j)).symm.trans (congrFun h j))

/-- The first call as a program of its own, as printed: it ends, arguments unchanged, every semaphore zero. -/
theorem frame_sim : Cert.quiescent_Sim := fun m ρ _ => Cert.Sim.SimCall.frame_all m ρ

/-- The second call as a program of its own, as printed, at indices that name rows: likewise. -/
theorem frame_gather : Cert.quiescent_Gather := fun m ρ h =>
  Cert.Gather.GatherCall.frame_named m ρ fun c => lt_of_named_rows _ _ (h c)

/-- The whole kernel over the extended reals: likewise, at any arguments. -/
theorem frame_kernel : Cert.quiescent_KernelIdeal := fun m ρ _ =>
  (θ_run Cert.KernelIdeal.defs _ _).mono (fun _ h => ⟨fun c => (h.1 c).2.2, h.2⟩) (Cert.KernelIdeal.Run.run_value m ρ)

/-- The reference over the extended reals: likewise. -/
theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Stages.run m ρ)

/-- Over the extended reals the kernel and the reference end with the same loss and the same selected rows. -/
theorem same_results : Cert.algebraic_KernelIdeal_ReferenceIdeal := fun m ρ m' ρ' _ hargs =>
  ⟨Cert.KernelIdeal.Run.resLoss m, Cert.KernelIdeal.Run.rowsT m,
    (θ_run Cert.KernelIdeal.defs _ _).mono (fun _ h => h.1) (Cert.KernelIdeal.Run.run_value m ρ),
    (θ_run Cert.ReferenceIdeal.defs _ _).mono
      (fun _ h c => ⟨(h c).1.trans ((congrArg₂ Cert.ReferenceIdeal.Stages.loss (hargs c).1 (hargs c).2).trans (Cert.Equal.loss_eq m c).symm),
        (h c).2.1.trans ((congrArg₂ Cert.ReferenceIdeal.Stages.rows (hargs c).1 (hargs c).2).trans (Cert.Equal.rows_eq m c).symm),
        (h c).2.2⟩)
      (Cert.ReferenceIdeal.Stages.run m' ρ')⟩

/-- Everything claimed. -/
theorem claim : Cert.Claim :=
  ⟨Cert.Sim.Gen.facts, Cert.Gather.Gen.facts, Cert.KernelIdeal.Gen.facts, Cert.ReferenceIdeal.Gen.facts,
    Cert.Pre_named_rows.Gen.facts, frame_sim, frame_gather, frame_kernel, frame_reference, same_results⟩

end Cert.Proof

end
